-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)) (v5 : (c : Dev Cert.KernelIdeal.nD) → Buf (Elt Ideal) ((c.tc : Thread Cert.KernelIdeal.nD Cert.KernelIdeal.τ).loc Cert.KernelIdeal.main_v19_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_v19_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v237) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_v241) = v2 c
          ∧ r.2.mem ((c.tc : Thread Cert.ReferenceIdeal.nD Cert.ReferenceIdeal.τ).loc Cert.ReferenceIdeal.main_v243) = v3 c
          ∧ r.2.mem ((c.tc : Thread Cert.ReferenceIdeal.nD Cert.ReferenceIdeal.τ).loc Cert.ReferenceIdeal.main_v245) = v4 c
          ∧ r.2.mem ((c.tc : Thread Cert.ReferenceIdeal.nD Cert.ReferenceIdeal.τ).loc Cert.ReferenceIdeal.main_v247) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v6) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v20) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v57) = v0 c
          ∧ r.2.mem ((c.tc : Thread Cert.Reference15Ideal.nD Cert.Reference15Ideal.τ).loc Cert.Reference15Ideal.main_v74) = v1 c
          ∧ r.2.mem ((c.tc : Thread Cert.Reference15Ideal.nD Cert.Reference15Ideal.τ).loc Cert.Reference15Ideal.main_v75) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v11) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v26) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_v8) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v11) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v57) = v0 c
          ∧ r.2.mem ((c.tc : Thread Cert.Reference21Ideal.nD Cert.Reference21Ideal.τ).loc Cert.Reference21Ideal.main_v62) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_v25) = v1 c
          ∧ r.2.mem ((c.tc : Thread Cert.Reference24Ideal.nD Cert.Reference24Ideal.τ).loc Cert.Reference24Ideal.main_v6) = v2 c
          ∧ r.2.mem ((c.tc : Thread Cert.Reference24Ideal.nD Cert.Reference24Ideal.τ).loc Cert.Reference24Ideal.main_v12) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v17) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S32x8192x64 : Shape := ⟨3, ![32, 8192, 64]⟩
abbrev S4x8192x64 : Shape := ⟨3, ![4, 8192, 64]⟩
abbrev S1x64 : Shape := ⟨2, ![1, 64]⟩
abbrev S1x32 : Shape := ⟨2, ![1, 32]⟩
abbrev S_ : Shape := ⟨0, ![]⟩

class Facts : Prop where
  bcast_S_S32x8192x64 : S_.BroadcastsInDim S32x8192x64 (![] : Fin 0 → Fin S32x8192x64.rank)
  bcast_S_S4x8192x64 : S_.BroadcastsInDim S4x8192x64 (![] : Fin 0 → Fin S4x8192x64.rank)
  bitsLt_bf16_f32 : FTy.bits .bf16 < FTy.bits .f32
  bcast_S_S1x64 : S_.BroadcastsInDim S1x64 (![] : Fin 0 → Fin S1x64.rank)
  bcast_S_S1x32 : S_.BroadcastsInDim S1x32 (![] : Fin 0 → Fin S1x32.rank)

variable [Facts]

def fn_part1 {F : FTy → Type} [FloatOps F] (main_arg6 : FVec F S1x32 .f32) (main_v2 : IVec S32x8192x64 1) (main_v5 : IVec S4x8192x64 1) (main_v8 : IVec S4x8192x64 1) (main_v12 : IVec S32x8192x64 1) (main_v15 : IVec S1x64 1) (main_v16 : FVec F S1x64 .f32) (main_v17 : FVec F S1x64 .f32) : IVec S32x8192x64 1 × IVec S4x8192x64 1 × IVec S4x8192x64 1 × IVec S32x8192x64 1 × IVec S1x64 1 × IVec S1x64 1 × IVec S1x32 1 :=
  let main_v18 : IVec S1x64 1 := cmpf .olt main_v16 main_v17
  let main_v19 : FVec F S1x32 .f32 := Host.absf main_arg6
  let main_cst_5 : FVec F S_ .f32 := constant S_ .f32 0x7F800000#32
  let main_v20 : FVec F S1x32 .f32 := broadcastInDim S1x32 ![] bcast_S_S1x32 main_cst_5
  let main_v21 : IVec S1x32 1 := cmpf .olt main_v19 main_v20
  (main_v2, main_v5, main_v8, main_v12, main_v15, main_v18, main_v21)

def fn {F : FTy → Type} [FloatOps F] (main_arg0 : FVec F S32x8192x64 .f32) (main_arg1 : FVec F S4x8192x64 .f32) (main_arg2 : FVec F S4x8192x64 .f32) (main_arg3 : FVec F S32x8192x64 .bf16) (main_arg4 : FVec F S1x64 .f32) (main_arg5 : FVec F S1x64 .f32) (main_arg6 : FVec F S1x32 .f32) : IVec S32x8192x64 1 × IVec S4x8192x64 1 × IVec S4x8192x64 1 × IVec S32x8192x64 1 × IVec S1x64 1 × IVec S1x64 1 × IVec S1x32 1 :=
  let main_v0 : FVec F S32x8192x64 .f32 := Host.absf main_arg0
  let main_cst : FVec F S_ .f32 := constant S_ .f32 0x7F800000#32
  let main_v1 : FVec F S32x8192x64 .f32 := broadcastInDim S32x8192x64 ![] bcast_S_S32x8192x64 main_cst
  let main_v2 : IVec S32x8192x64 1 := cmpf .olt main_v0 main_v1
  let main_v3 : FVec F S4x8192x64 .f32 := Host.absf main_arg1
  let main_cst_0 : FVec F S_ .f32 := constant S_ .f32 0x7F800000#32
  let main_v4 : FVec F S4x8192x64 .f32 := broadcastInDim S4x8192x64 ![] bcast_S_S4x8192x64 main_cst_0
  let main_v5 : IVec S4x8192x64 1 := cmpf .olt main_v3 main_v4
  let main_v6 : FVec F S4x8192x64 .f32 := Host.absf main_arg2
  let main_cst_1 : FVec F S_ .f32 := constant S_ .f32 0x7F800000#32
  let main_v7 : FVec F S4x8192x64 .f32 := broadcastInDim S4x8192x64 ![] bcast_S_S4x8192x64 main_cst_1
  let main_v8 : IVec S4x8192x64 1 := cmpf .olt main_v6 main_v7
  let main_v9 : FVec F S32x8192x64 .f32 := (extf .f32 · bitsLt_bf16_f32) main_arg3
  let main_v10 : FVec F S32x8192x64 .f32 := Host.absf main_v9
  let main_cst_2 : FVec F S_ .f32 := constant S_ .f32 0x7F800000#32
  let main_v11 : FVec F S32x8192x64 .f32 := broadcastInDim S32x8192x64 ![] bcast_S_S32x8192x64 main_cst_2
  let main_v12 : IVec S32x8192x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  let main_v16 : FVec F S1x64 .f32 := Host.absf main_arg5
  let main_cst_4 : FVec F S_ .f32 := constant S_ .f32 0x7F800000#32
  let main_v17 : FVec F S1x64 .f32 := broadcastInDim S1x64 ![] bcast_S_S1x64 main_cst_4
  fn_part1 (F := F) main_arg6 main_v2 main_v5 main_v8 main_v12 main_v15 main_v16 main_v17
-- ==== Kernel.lean ====
abbrev S32x8192x64 : Shape := ⟨3, ![32, 8192, 64]⟩
abbrev S4x8192x64 : Shape := ⟨3, ![4, 8192, 64]⟩
abbrev S1x64 : Shape := ⟨2, ![1, 64]⟩
abbrev S1x32 : Shape := ⟨2, ![1, 32]⟩
abbrev S32 : Shape := ⟨1, ![32]⟩
abbrev S_ : Shape := ⟨0, ![]⟩
abbrev S4x8 : Shape := ⟨2, ![4, 8]⟩
abbrev S4x8x128 : Shape := ⟨3, ![4, 8, 128]⟩
abbrev S4x1024 : Shape := ⟨2, ![4, 1024]⟩
abbrev S4x1024x1 : Shape := ⟨3, ![4, 1024, 1]⟩
abbrev S8x64 : Shape := ⟨2, ![8, 64]⟩
abbrev S32x128 : Shape := ⟨2, ![32, 128]⟩
abbrev S32x128x64 : Shape := ⟨3, ![32, 128, 64]⟩
abbrev S4x128x64 : Shape := ⟨3, ![4, 128, 64]⟩
abbrev S4x2x128x64 : Shape := ⟨4, ![4, 2, 128, 64]⟩
abbrev S8x128x64 : Shape := ⟨3, ![8, 128, 64]⟩
abbrev S1024x64 : Shape := ⟨2, ![1024, 64]⟩
abbrev S1024 : Shape := ⟨1, ![1024]⟩
abbrev S1024x1 : Shape := ⟨2, ![1024, 1]⟩
abbrev S1x128x64 : Shape := ⟨3, ![1, 128, 64]⟩
abbrev S128x64 : Shape := ⟨2, ![128, 64]⟩
abbrev S256x64 : Shape := ⟨2, ![256, 64]⟩
abbrev S256 : Shape := ⟨1, ![256]⟩
abbrev S256x1 : Shape := ⟨2, ![256, 1]⟩
abbrev S1024x256 : Shape := ⟨2, ![1024, 256]⟩
abbrev S1x1024x1 : Shape := ⟨3, ![1, 1024, 1]⟩
abbrev S64 : Shape := ⟨1, ![64]⟩
abbrev S1x1x128x64 : Shape := ⟨4, ![1, 1, 128, 64]⟩
abbrev S1x128x1 : Shape := ⟨3, ![1, 128, 1]⟩
abbrev S128x1 : Shape := ⟨2, ![128, 1]⟩
abbrev S1 : Shape := ⟨1, ![1]⟩
abbrev S1x1 : Shape := ⟨2, ![1, 1]⟩
abbrev S1x128 : Shape := ⟨2, ![1, 128]⟩

abbrev nBuf : Space → Nat
  | .hbm => 36
  | .vmem => 27
  | .smem => 0
  | _ => 0

abbrev bufTy : (tb : Table) → Fin (tcTables nBuf tb) → BufTy
  | .hbm, ⟨0, _⟩ => ⟨S32x8192x64, .f32⟩
  | .hbm, ⟨1, _⟩ => ⟨S4x8192x64, .f32⟩
  | .hbm, ⟨2, _⟩ => ⟨S4x8192x64, .f32⟩
  | .hbm, ⟨3, _⟩ => ⟨S32x8192x64, .bf16⟩
  | .hbm, ⟨4, _⟩ => ⟨S1x64, .f32⟩
  | .hbm, ⟨5, _⟩ => ⟨S1x64, .f32⟩
  | .hbm, ⟨6, _⟩ => ⟨S1x32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S4x8, .f32⟩
  | .hbm, ⟨23, _⟩ => ⟨S4x8x128, .f32⟩
  | .hbm, ⟨24, _⟩ => ⟨S4x1024, .f32⟩
  | .hbm, ⟨25, _⟩ => ⟨S4x1024x1, .f32⟩
  | .hbm, ⟨26, _⟩ => ⟨S4x8, .f32⟩
  | .hbm, ⟨27, _⟩ => ⟨S4x8x128, .f32⟩
  | .hbm, ⟨28, _⟩ => ⟨S4x1024, .f32⟩
  | .hbm, ⟨29, _⟩ => ⟨S4x1024x1, .f32⟩
  | .hbm, ⟨30, _⟩ => ⟨S32x8192x64, .bf16⟩
  | .hbm, ⟨31, _⟩ => ⟨S4x8192x64, .bf16⟩
  | .hbm, ⟨32, _⟩ => ⟨S4x8192x64, .bf16⟩
  | .hbm, ⟨33, _⟩ => ⟨S8x64, .f32⟩
  | .hbm, ⟨34, _⟩ => ⟨S8x64, .f32⟩
  | .hbm, ⟨35, _⟩ => ⟨S32x128, .f32⟩
  | .local _ .vmem, ⟨0, _⟩ => ⟨S32x128x64, .f32⟩
  | .local _ .vmem, ⟨1, _⟩ => ⟨S32x128x64, .f32⟩
  | .local _ .vmem, ⟨2, _⟩ => ⟨S4x128x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S32x128x64, .bf16⟩
  | .local _ .vmem, ⟨11, _⟩ => ⟨S32x128x64, .bf16⟩
  | .local _ .vmem, ⟨12, _⟩ => ⟨S1x64, .f32⟩
  | .local _ .vmem, ⟨13, _⟩ => ⟨S1x64, .f32⟩
  | .local _ .vmem, ⟨14, _⟩ => ⟨S4x1024x1, .f32⟩
  | .local _ .vmem, ⟨15, _⟩ => ⟨S4x1024x1, .f32⟩
  | .local _ .vmem, ⟨16, _⟩ => ⟨S32x128x64, .bf16⟩
  | .local _ .vmem, ⟨17, _⟩ => ⟨S32x128x64, .bf16⟩
  | .local _ .vmem, ⟨18, _⟩ => ⟨S4x128x64, .bf16⟩
  | .local _ .vmem, ⟨19, _⟩ => ⟨S4x128x64, .bf16⟩
  | .local _ .vmem, ⟨20, _⟩ => ⟨S4x128x64, .bf16⟩
  | .local _ .vmem, ⟨21, _⟩ => ⟨S4x128x64, .bf16⟩
  | .local _ .vmem, ⟨22, _⟩ => ⟨S8x64, .f32⟩
  | .local _ .vmem, ⟨23, _⟩ => ⟨S8x64, .f32⟩
  | .local _ .vmem, ⟨24, _⟩ => ⟨S32x128, .f32⟩
  | .local _ .vmem, ⟨25, _⟩ => ⟨S4x2x128x64, .f32⟩
  | .local _ .vmem, ⟨26, _⟩ => ⟨S4x1024x1, .f32⟩
  | _, _ => ⟨S32x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev main_v19_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32_375 : BitVec 32 := 63#32
  let v722 : BitVec 1 := Scalar.cmpi .eq arg0 c63_i32_375
  let v723 : BitVec 32 := Scalar.extui v722
  let c0_i32_376 : BitVec 32 := 0#32
  let v724 : BitVec 1 := Scalar.cmpi .ne v723 c0_i32_376
  v724

def cc0_transform_0 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c62_i32 : BitVec 32 := 62#32
  let v0 : BitVec 32 := Scalar.subi c62_i32 arg0
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x128x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S32x8192x64 : Shape := ⟨3, ![32, 8192, 64]⟩
abbrev S4x8192x64 : Shape := ⟨3, ![4, 8192, 64]⟩
abbrev S1x64 : Shape := ⟨2, ![1, 64]⟩
abbrev S1x32 : Shape := ⟨2, ![1, 32]⟩
abbrev S8192x32x64 : Shape := ⟨3, ![8192, 32, 64]⟩
abbrev S8192x4x64 : Shape := ⟨3, ![8192, 4, 64]⟩
abbrev S64 : Shape := ⟨1, ![64]⟩
abbrev S32 : Shape := ⟨1, ![32]⟩
abbrev S_ : Shape := ⟨0, ![]⟩
abbrev S8192x32 : Shape := ⟨2, ![8192, 32]⟩
abbrev S8192x32x1 : Shape := ⟨3, ![8192, 32, 1]⟩
abbrev S1x1x64 : Shape := ⟨3, ![1, 1, 64]⟩
abbrev S8192x4 : Shape := ⟨2, ![8192, 4]⟩
abbrev S8192x4x1 : Shape := ⟨3, ![8192, 4, 1]⟩
abbrev S64x128x4x8x64 : Shape := ⟨5, ![64, 128, 4, 8, 64]⟩
abbrev S128x4x64 : Shape := ⟨3, ![128, 4, 64]⟩
abbrev S8320x4x64 : Shape := ⟨3, ![8320, 4, 64]⟩
abbrev S65x128x4x64 : Shape := ⟨4, ![65, 128, 4, 64]⟩
abbrev S64x128x4x64 : Shape := ⟨4, ![64, 128, 4, 64]⟩
abbrev S64x256x4x64 : Shape := ⟨4, ![64, 256, 4, 64]⟩
abbrev S64x4x256x128x8 : Shape := ⟨5, ![64, 4, 256, 128, 8]⟩
abbrev S64x4x8x128x256 : Shape := ⟨5, ![64, 4, 8, 128, 256]⟩
abbrev S256 : Shape := ⟨1, ![256]⟩
abbrev S128 : Shape := ⟨1, ![128]⟩
abbrev S128x1 : Shape := ⟨2, ![128, 1]⟩
abbrev S1x256 : Shape := ⟨2, ![1, 256]⟩
abbrev S128x256 : Shape := ⟨2, ![128, 256]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x8 : Shape := ⟨2, ![4, 8]⟩
abbrev S4x8x1x1 : Shape := ⟨4, ![4, 8, 1, 1]⟩
abbrev S1x1x128x256 : Shape := ⟨4, ![1, 1, 128, 256]⟩
abbrev S4x8x128x256 : Shape := ⟨4, ![4, 8, 128, 256]⟩
abbrev S64x1x1x128x256 : Shape := ⟨5, ![64, 1, 1, 128, 256]⟩
abbrev S1x4x8x128x256 : Shape := ⟨5, ![1, 4, 8, 128, 256]⟩
abbrev S1x4x8x1x1 : Shape := ⟨5, ![1, 4, 8, 1, 1]⟩
abbrev S64x4x8x128x1 : Shape := ⟨5, ![64, 4, 8, 128, 1]⟩
abbrev S64x4x8x128x257 : Shape := ⟨5, ![64, 4, 8, 128, 257]⟩
abbrev S64x4x8x128 : Shape := ⟨4, ![64, 4, 8, 128]⟩
abbrev S64x4x64x8x128 : Shape := ⟨5, ![64, 4, 64, 8, 128]⟩
abbrev S64x4x64x256 : Shape := ⟨4, ![64, 4, 64, 256]⟩
abbrev S64x4x128x8x64 : Shape := ⟨5, ![64, 4, 128, 8, 64]⟩
abbrev S64x4x256x64 : Shape := ⟨4, ![64, 4, 256, 64]⟩
abbrev S8x64 : Shape := ⟨2, ![8, 64]⟩
abbrev S32x1 : Shape := ⟨2, ![32, 1]⟩
abbrev S32x128 : Shape := ⟨2, ![32, 128]⟩

abbrev nBuf : Space → Nat
  | .hbm => 319
  | .vmem => 0
  | .smem => 0
  | _ => 0

abbrev hbmTy0_0 (i : Nat) : BufTy := match i % 128 with
  | 0 => ⟨S32x8192x64, .f32⟩
  | 1 => ⟨S4x8192x64, .f32⟩
  | 2 => ⟨S4x8192x64, .f32⟩
  | 3 => ⟨S32x8192x64, .bf16⟩
  | 4 => ⟨S1x64, .f32⟩
  | 5 => ⟨S1x64, .f32⟩
  | 6 => ⟨S1x32, .f32⟩
  | 7 => ⟨S8192x32x64, .f32⟩
  | 8 => ⟨S8192x4x64, .f32⟩
  | 9 => ⟨S8192x4x64, .f32⟩
  | 10 => ⟨S64, .f32⟩
  | 11 => ⟨S64, .f32⟩
  | 12 => ⟨S32, .f32⟩
  | 13 => ⟨S8192x32x64, .f32⟩
  | 14 => ⟨S_, .f32⟩
  | 15 => ⟨S8192x32, .f32⟩
  | 16 => ⟨S8192x32x1, .f32⟩
  | 17 => ⟨S_, .f32⟩
  | 18 => ⟨S8192x32x1, .f32⟩
  | 19 => ⟨S8192x32x1, .f32⟩
  | 20 => ⟨S_, .f32⟩
  | 21 => ⟨S8192x32x1, .f32⟩
  | 22 => ⟨S8192x32x1, .f32⟩
  | 23 => ⟨S8192x32x1, .f32⟩
  | 24 => ⟨S8192x32x1, .f32⟩
  | 25 => ⟨S_, .f32⟩
  | 26 => ⟨S8192x32x1, .f32⟩
  | 27 => ⟨S8192x32x1, .f32⟩
  | 28 => ⟨S8192x32x64, .f32⟩
  | 29 => ⟨S8192x32x64, .f32⟩
  | 30 => ⟨S1x1x64, .f32⟩
  | 31 => ⟨S8192x32x64, .f32⟩
  | 32 => ⟨S8192x32x64, .f32⟩
  | 33 => ⟨S8192x4x64, .f32⟩
  | 34 => ⟨S_, .f32⟩
  | 35 => ⟨S8192x4, .f32⟩
  | 36 => ⟨S8192x4x1, .f32⟩
  | 37 => ⟨S_, .f32⟩
  | 38 => ⟨S8192x4x1, .f32⟩
  | 39 => ⟨S8192x4x1, .f32⟩
  | 40 => ⟨S_, .f32⟩
  | 41 => ⟨S8192x4x1, .f32⟩
  | 42 => ⟨S8192x4x1, .f32⟩
  | 43 => ⟨S8192x4x1, .f32⟩
  | 44 => ⟨S8192x4x1, .f32⟩
  | 45 => ⟨S_, .f32⟩
  | 46 => ⟨S8192x4x1, .f32⟩
  | 47 => ⟨S8192x4x1, .f32⟩
  | 48 => ⟨S8192x4x64, .f32⟩
  | 49 => ⟨S8192x4x64, .f32⟩
  | 50 => ⟨S1x1x64, .f32⟩
  | 51 => ⟨S8192x4x64, .f32⟩
  | 52 => ⟨S8192x4x64, .f32⟩
  | 53 => ⟨S64x128x4x8x64, .f32⟩
  | 54 => ⟨S_, .f32⟩
  | 55 => ⟨S128x4x64, .f32⟩
  | 56 => ⟨S8320x4x64, .f32⟩
  | 57 => ⟨S_, .f32⟩
  | 58 => ⟨S128x4x64, .f32⟩
  | 59 => ⟨S65x128x4x64, .f32⟩
  | 60 => ⟨S64x128x4x64, .f32⟩
  | 61 => ⟨S64x128x4x64, .f32⟩
  | 62 => ⟨S64x256x4x64, .f32⟩
  | 63 => ⟨S_, .f32⟩
  | 64 => ⟨S128x4x64, .f32⟩
  | 65 => ⟨S8320x4x64, .f32⟩
  | 66 => ⟨S_, .f32⟩
  | 67 => ⟨S128x4x64, .f32⟩
  | 68 => ⟨S65x128x4x64, .f32⟩
  | 69 => ⟨S64x128x4x64, .f32⟩
  | 70 => ⟨S64x128x4x64, .f32⟩
  | 71 => ⟨S64x256x4x64, .f32⟩
  | 72 => ⟨S64x4x256x128x8, .f32⟩
  | 73 => ⟨S64x4x8x128x256, .f32⟩
  | 74 => ⟨S_, .f32⟩
  | 75 => ⟨S64x4x8x128x256, .f32⟩
  | 76 => ⟨S64x4x8x128x256, .f32⟩
  | 77 => ⟨S256, .i32⟩
  | 78 => ⟨S128, .i32⟩
  | 79 => ⟨S_, .i32⟩
  | 80 => ⟨S128, .i32⟩
  | 81 => ⟨S128, .i32⟩
  | 82 => ⟨S128x1, .i32⟩
  | 83 => ⟨S1x256, .i32⟩
  | 84 => ⟨S128x256, .i32⟩
  | 85 => ⟨S128x256, .i32⟩
  | 86 => ⟨S128x256, .i32⟩
  | 87 => ⟨S_, .i32⟩
  | 88 => ⟨S128x256, .i32⟩
  | 89 => ⟨S128x256, .i1⟩
  | 90 => ⟨S_, .i32⟩
  | 91 => ⟨S128x256, .i32⟩
  | 92 => ⟨S128x256, .i1⟩
  | 93 => ⟨S128x256, .i1⟩
  | 94 => ⟨S64, .i32⟩
  | 95 => ⟨S_, .i32⟩
  | 96 => ⟨S64, .i32⟩
  | 97 => ⟨S64, .i32⟩
  | 98 => ⟨S_, .i32⟩
  | 99 => ⟨S64, .i32⟩
  | 100 => ⟨S64, .i32⟩
  | 101 => ⟨S64x1x1, .i32⟩
  | 102 => ⟨S1x1x256, .i32⟩
  | 103 => ⟨S64x1x256, .i32⟩
  | 104 => ⟨S64x1x256, .i32⟩
  | 105 => ⟨S64x1x256, .i32⟩
  | 106 => ⟨S1x128x256, .i1⟩
  | 107 => ⟨S_, .i32⟩
  | 108 => ⟨S64x1x256, .i32⟩
  | 109 => ⟨S64x1x256, .i1⟩
  | 110 => ⟨S64x128x256, .i1⟩
  | 111 => ⟨S64x128x256, .i1⟩
  | 112 => ⟨S64x128x256, .i1⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S32, .f32⟩
  | 127 => ⟨S4x8, .f32⟩
  | _ => ⟨S32x8192x64, .f32⟩

abbrev hbmTy0_1 (i : Nat) : BufTy := match i % 128 with
  | 0 => ⟨S4x8x1x1, .f32⟩
  | 1 => ⟨S4x8x1x1, .f32⟩
  | 2 => ⟨S128x256, .i32⟩
  | 3 => ⟨S128x256, .f32⟩
  | 4 => ⟨S1x1x128x256, .f32⟩
  | 5 => ⟨S4x8x128x256, .f32⟩
  | 6 => ⟨S4x8x128x256, .f32⟩
  | 7 => ⟨S4x8x128x256, .f32⟩
  | 8 => ⟨S64x1x1x128x256, .i1⟩
  | 9 => ⟨S1x4x8x128x256, .f32⟩
  | 10 => ⟨S64x4x8x128x256, .f32⟩
  | 11 => ⟨S64x4x8x128x256, .f32⟩
  | 12 => ⟨S_, .f32⟩
  | 13 => ⟨S_, .f32⟩
  | 14 => ⟨S64x4x8x128x256, .i1⟩
  | 15 => ⟨S64x4x8x128x256, .f32⟩
  | 16 => ⟨S64x4x8x128x256, .f32⟩
  | 17 => ⟨S_, .f32⟩
  | 18 => ⟨S64x4x8x128x256, .f32⟩
  | 19 => ⟨S1x4x8x1x1, .f32⟩
  | 20 => ⟨S64x4x8x128x1, .f32⟩
  | 21 => ⟨S64x4x8x128x257, .f32⟩
  | 22 => ⟨S_, .f32⟩
  | 23 => ⟨S64x4x8x128, .f32⟩
  | 24 => ⟨S64x4x8x128x1, .f32⟩
  | 25 => ⟨S64x4x8x128x257, .f32⟩
  | 26 => ⟨S64x4x8x128x257, .i1⟩
  | 27 => ⟨S64x4x8x128x257, .f32⟩
  | 28 => ⟨S_, .f32⟩
  | 29 => ⟨S64x4x8x128, .f32⟩
  | 30 => ⟨S_, .f32⟩
  | 31 => ⟨S64x4x8x128, .f32⟩
  | 32 => ⟨S64x4x8x128, .f32⟩
  | 33 => ⟨S_, .f32⟩
  | 34 => ⟨S64x4x8x128, .f32⟩
  | 35 => ⟨S64x4x8x128, .i1⟩
  | 36 => ⟨S_, .f32⟩
  | 37 => ⟨S64x4x8x128, .f32⟩
  | 38 => ⟨S64x4x8x128, .i1⟩
  | 39 => ⟨S_, .f32⟩
  | 40 => ⟨S64x4x8x128, .f32⟩
  | 41 => ⟨S_, .f32⟩
  | 42 => ⟨S64x4x8x128, .f32⟩
  | 43 => ⟨S_, .f32⟩
  | 44 => ⟨S64x4x8x128, .f32⟩
  | 45 => ⟨S64x4x8x128, .f32⟩
  | 46 => ⟨S64x4x8x128, .f32⟩
  | 47 => ⟨S64x4x8x128x1, .f32⟩
  | 48 => ⟨S64x4x8x128x257, .f32⟩
  | 49 => ⟨S64x4x8x128x257, .f32⟩
  | 50 => ⟨S64x4x8x128x257, .f32⟩
  | 51 => ⟨S_, .f32⟩
  | 52 => ⟨S64x4x8x128, .f32⟩
  | 53 => ⟨S64x4x8x128x1, .f32⟩
  | 54 => ⟨S64x4x8x128x257, .f32⟩
  | 55 => ⟨S64x4x8x128x257, .f32⟩
  | 56 => ⟨S64x4x8x128x1, .f32⟩
  | 57 => ⟨S_, .f32⟩
  | 58 => ⟨S64x4x8x128x1, .f32⟩
  | 59 => ⟨S64x4x8x128x1, .f32⟩
  | 60 => ⟨S64x4x8x128x256, .f32⟩
  | 61 => ⟨S64x4x64x8x128, .f32⟩
  | 62 => ⟨S64x128x4x8x64, .f32⟩
  | 63 => ⟨S8192x32x64, .f32⟩
  | 64 => ⟨S32x8192x64, .f32⟩
  | 65 => ⟨S8192x32x64, .f32⟩
  | 66 => ⟨S64x128x4x8x64, .f32⟩
  | 67 => ⟨S64x4x64x8x128, .f32⟩
  | 68 => ⟨S64x4x8x128x256, .f32⟩
  | 69 => ⟨S64x4x64x256, .f32⟩
  | 70 => ⟨S64x256x4x64, .f32⟩
  | 71 => ⟨S_, .f32⟩
  | 72 => ⟨S64x4x8x128x257, .f32⟩
  | 73 => ⟨S64x4x8x128x257, .f32⟩
  | 74 => ⟨S64x4x8x128x257, .f32⟩
  | 75 => ⟨S64x4x8x128x257, .f32⟩
  | 76 => ⟨S_, .f32⟩
  | 77 => ⟨S64x4x8x128, .f32⟩
  | 78 => ⟨S64x4x8x128x1, .f32⟩
  | 79 => ⟨S64x4x8x128x1, .f32⟩
  | 80 => ⟨S64x4x8x128x257, .f32⟩
  | 81 => ⟨S64x4x8x128x257, .f32⟩
  | 82 => ⟨S_, .f32⟩
  | 83 => ⟨S64x4x8x128, .f32⟩
  | 84 => ⟨S64x4x8x128x257, .f32⟩
  | 85 => ⟨S64x4x8x128x257, .f32⟩
  | 86 => ⟨S64x4x8x128x257, .f32⟩
  | 87 => ⟨S64x4x8x128x256, .f32⟩
  | 88 => ⟨S64x4x8x128x1, .f32⟩
  | 89 => ⟨S_, .f32⟩
  | 90 => ⟨S4x8, .f32⟩
  | 91 => ⟨S1x4x8x1x1, .f32⟩
  | 92 => ⟨S32, .f32⟩
  | 93 => ⟨S_, .f32⟩
  | 94 => ⟨S64x4x8x128x256, .f32⟩
  | 95 => ⟨S64x4x8x128x256, .f32⟩
  | 96 => ⟨S_, .f32⟩
  | 97 => ⟨S64x4x8x128x256, .f32⟩
  | 98 => ⟨S64x4x8x128x256, .f32⟩
  | 99 => ⟨S64x4x256x128x8, .f32⟩
  | 100 => ⟨S64x4x128x8x64, .f32⟩
  | 101 => ⟨S64x128x4x8x64, .f32⟩
  | 102 => ⟨S64x4x256x64, .f32⟩
  | 103 => ⟨S64x256x4x64, .f32⟩
  | 104 => ⟨S64x128x4x64, .f32⟩
  | 105 => ⟨S64x128x4x64, .f32⟩
  | 106 => ⟨S_, .f32⟩
  | 107 => ⟨S65x128x4x64, .f32⟩
  | 108 => ⟨S_, .f32⟩
  | 109 => ⟨S65x128x4x64, .f32⟩
  | 110 => ⟨S65x128x4x64, .f32⟩
  | 111 => ⟨S8320x4x64, .f32⟩
  | 112 => ⟨S128x4x64, .f32⟩
  | 113 => ⟨S8192x4x64, .f32⟩
  | 114 => ⟨S64x128x4x64, .f32⟩
  | 115 => ⟨S64x128x4x64, .f32⟩
  | 116 => ⟨S_, .f32⟩
  | 117 => ⟨S65x128x4x64, .f32⟩
  | 118 => ⟨S_, .f32⟩
  | 119 => ⟨S65x128x4x64, .f32⟩
  | 120 => ⟨S65x128x4x64, .f32⟩
  | 121 => ⟨S8320x4x64, .f32⟩
  | 122 => ⟨S128x4x64, .f32⟩
  | 123 => ⟨S8192x4x64, .f32⟩
  | 124 => ⟨S8192x32x64, .f32⟩
  | 125 => ⟨S8192x4x64, .f32⟩
  | 126 => ⟨S_, .f32⟩
  | 127 => ⟨S64, .f32⟩
  | _ => ⟨S32x8192x64, .f32⟩

abbrev hbmTy0_2 (i : Nat) : BufTy := match i % 128 with
  | 0 => ⟨S1x1x64, .f32⟩
  | 1 => ⟨S8192x4x64, .f32⟩
  | 2 => ⟨S8192x4x64, .f32⟩
  | 3 => ⟨S_, .f32⟩
  | 4 => ⟨S64, .f32⟩
  | 5 => ⟨S8192x4x64, .f32⟩
  | 6 => ⟨S_, .f32⟩
  | 7 => ⟨S8192x4, .f32⟩
  | 8 => ⟨S8192x4x1, .f32⟩
  | 9 => ⟨S8192x4x64, .f32⟩
  | 10 => ⟨S8192x4x64, .f32⟩
  | 11 => ⟨S8192x4x1, .f32⟩
  | 12 => ⟨S_, .f32⟩
  | 13 => ⟨S8192x4x1, .f32⟩
  | 14 => ⟨S8192x4x1, .f32⟩
  | 15 => ⟨S_, .f32⟩
  | 16 => ⟨S8192x4, .f32⟩
  | 17 => ⟨S8192x4x64, .f32⟩
  | 18 => ⟨S8192x4x64, .f32⟩
  | 19 => ⟨S8192x4x64, .f32⟩
  | 20 => ⟨S8192x4x64, .f32⟩
  | 21 => ⟨S8192x4x64, .f32⟩
  | 22 => ⟨S8192x32x64, .f32⟩
  | 23 => ⟨S_, .f32⟩
  | 24 => ⟨S64, .f32⟩
  | 25 => ⟨S1x1x64, .f32⟩
  | 26 => ⟨S8192x32x64, .f32⟩
  | 27 => ⟨S8192x32x64, .f32⟩
  | 28 => ⟨S_, .f32⟩
  | 29 => ⟨S64, .f32⟩
  | 30 => ⟨S8192x32x64, .f32⟩
  | 31 => ⟨S_, .f32⟩
  | 32 => ⟨S8192x32, .f32⟩
  | 33 => ⟨S8192x32x1, .f32⟩
  | 34 => ⟨S8192x32x64, .f32⟩
  | 35 => ⟨S8192x32x64, .f32⟩
  | 36 => ⟨S8192x32x1, .f32⟩
  | 37 => ⟨S_, .f32⟩
  | 38 => ⟨S8192x32x1, .f32⟩
  | 39 => ⟨S8192x32x1, .f32⟩
  | 40 => ⟨S_, .f32⟩
  | 41 => ⟨S8192x32, .f32⟩
  | 42 => ⟨S8192x32x64, .f32⟩
  | 43 => ⟨S8192x32x64, .f32⟩
  | 44 => ⟨S8192x32x64, .f32⟩
  | 45 => ⟨S8192x32x64, .f32⟩
  | 46 => ⟨S8192x32x64, .f32⟩
  | 47 => ⟨S32x8192x64, .f32⟩
  | 48 => ⟨S32x8192x64, .bf16⟩
  | 49 => ⟨S4x8192x64, .f32⟩
  | 50 => ⟨S4x8192x64, .bf16⟩
  | 51 => ⟨S4x8192x64, .f32⟩
  | 52 => ⟨S4x8192x64, .bf16⟩
  | 53 => ⟨S1x64, .f32⟩
  | 54 => ⟨S_, .i32⟩
  | 55 => ⟨S_, .f32⟩
  | 56 => ⟨S8x64, .f32⟩
  | 57 => ⟨S1x64, .f32⟩
  | 58 => ⟨S_, .i32⟩
  | 59 => ⟨S_, .f32⟩
  | 60 => ⟨S8x64, .f32⟩
  | 61 => ⟨S32x1, .f32⟩
  | 62 => ⟨S32x128, .f32⟩
  | _ => ⟨S32x8192x64, .f32⟩

abbrev hbmTy (i : Nat) : BufTy := match i / 128 with
  | 0 => hbmTy0_0 i
  | 1 => hbmTy0_1 i
  | 2 => hbmTy0_2 i
  | _ => ⟨S32x8192x64, .f32⟩

abbrev bufTy : (tb : Table) → Fin (tcTables nBuf tb) → BufTy
  | .hbm, ⟨i, _⟩ => hbmTy i
  | _, _ => ⟨S32x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_12 : Ref sig .tc := ⟨.hbm, 87, rfl⟩
abbrev main_v66 : Ref sig .tc := ⟨.hbm, 88, rfl⟩
abbrev main_v67 : Ref sig .tc := ⟨.hbm, 89, rfl⟩
abbrev main_c_13 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_14 : Ref sig .tc := ⟨.hbm, 95, rfl⟩
abbrev main_v72 : Ref sig .tc := ⟨.hbm, 96, rfl⟩
abbrev main_v73 : Ref sig .tc := ⟨.hbm, 97, rfl⟩
abbrev main_c_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_16 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_cst_20 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_21 : Ref sig .tc := ⟨.hbm, 140, rfl⟩
abbrev main_call0_v0 : Ref sig .tc := ⟨.hbm, 141, rfl⟩
abbrev main_v110_1 : Ref sig .tc := ⟨.hbm, 142, rfl⟩
abbrev main_call0_v2 : Ref sig .tc := ⟨.hbm, 143, rfl⟩
abbrev main_v110_0 : Ref sig .tc := ⟨.hbm, 144, rfl⟩
abbrev main_call0_cst : Ref sig .tc := ⟨.hbm, 145, rfl⟩
abbrev main_v110_2 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_22 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_23 : Ref sig .tc := ⟨.hbm, 156, rfl⟩
abbrev main_v119 : Ref sig .tc := ⟨.hbm, 157, rfl⟩
abbrev main_cst_24 : Ref sig .tc := ⟨.hbm, 158, rfl⟩
abbrev main_v120 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_v123 : Ref sig .tc := ⟨.hbm, 163, rfl⟩
abbrev main_cst_26 : Ref sig .tc := ⟨.hbm, 164, rfl⟩
abbrev main_v124 : Ref sig .tc := ⟨.hbm, 165, rfl⟩
abbrev main_v125 : Ref sig .tc := ⟨.hbm, 166, rfl⟩
abbrev main_cst_27 : Ref sig .tc := ⟨.hbm, 167, rfl⟩
abbrev main_v126 : Ref sig .tc := ⟨.hbm, 168, rfl⟩
abbrev main_cst_28 : Ref sig .tc := ⟨.hbm, 169, rfl⟩
abbrev main_v127 : Ref sig .tc := ⟨.hbm, 170, rfl⟩
abbrev main_cst_29 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_30 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_31 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_32 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_33 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_34 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_cst_35 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_call1_cst : Ref sig .tc := ⟨.hbm, 221, rfl⟩
abbrev main_call1_v0 : Ref sig .tc := ⟨.hbm, 222, rfl⟩
abbrev main_v171 : Ref sig .tc := ⟨.hbm, 223, rfl⟩
abbrev main_cst_36 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_37 : Ref sig .tc := ⟨.hbm, 234, rfl⟩
abbrev main_v181 : Ref sig .tc := ⟨.hbm, 235, rfl⟩
abbrev main_cst_38 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_cst_39 : Ref sig .tc := ⟨.hbm, 244, rfl⟩
abbrev main_v189 : Ref sig .tc := ⟨.hbm, 245, rfl⟩
abbrev main_cst_40 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_cst_41 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_cst_42 : Ref sig .tc := ⟨.hbm, 259, rfl⟩
abbrev main_v201 : Ref sig .tc := ⟨.hbm, 260, rfl⟩
abbrev main_v202 : Ref sig .tc := ⟨.hbm, 261, rfl⟩
abbrev main_cst_43 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_cst_44 : Ref sig .tc := ⟨.hbm, 268, rfl⟩
abbrev main_v208 : Ref sig .tc := ⟨.hbm, 269, rfl⟩
abbrev main_v209 : Ref sig .tc := ⟨.hbm, 270, rfl⟩
abbrev main_cst_45 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_cst_46 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_cst_47 : Ref sig .tc := ⟨.hbm, 284, rfl⟩
abbrev main_v221 : Ref sig .tc := ⟨.hbm, 285, rfl⟩
abbrev main_v222 : Ref sig .tc := ⟨.hbm, 286, rfl⟩
abbrev main_cst_48 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_cst_49 : Ref sig .tc := ⟨.hbm, 293, rfl⟩
abbrev main_v228 : Ref sig .tc := ⟨.hbm, 294, rfl⟩
abbrev main_v229 : Ref sig .tc := ⟨.hbm, 295, rfl⟩
abbrev main_cst_50 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_c_51 : Ref sig .tc := ⟨.hbm, 310, rfl⟩
abbrev main_call2_v0 : Ref sig .tc := ⟨.hbm, 311, rfl⟩
abbrev main_v243 : Ref sig .tc := ⟨.hbm, 312, rfl⟩
abbrev main_v244 : Ref sig .tc := ⟨.hbm, 313, rfl⟩
abbrev main_c_52 : Ref sig .tc := ⟨.hbm, 314, rfl⟩
abbrev main_call3_v0 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x2048 : Shape := ⟨2, ![2048, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x8192, .f32⟩
  | .hbm, ⟨10, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S8192x8192 : Shape := ⟨2, ![8192, 8192]⟩
abbrev S8192x2048 : Shape := ⟨2, ![8192, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x2048 : Shape := ⟨2, ![8192, 2048]⟩
abbrev S8192x8192 : Shape := ⟨2, ![8192, 8192]⟩
abbrev S_ : Shape := ⟨0, ![]⟩
abbrev S1024x2048 : Shape := ⟨2, ![1024, 2048]⟩
abbrev S2048x2048 : Shape := ⟨2, ![2048, 2048]⟩

abbrev nBuf : Space → Nat
  | .hbm => 10
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .f32⟩
  | .hbm, ⟨8, _⟩ => ⟨S8192x8192, .bf16⟩
  | .hbm, ⟨9, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S2048x8192, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel5.lean ====
abbrev S8192x8192 : Shape := ⟨2, ![8192, 8192]⟩
abbrev S8192x2048 : Shape := ⟨2, ![8192, 2048]⟩
abbrev S_ : Shape := ⟨0, ![]⟩
abbrev S2048x2048 : Shape := ⟨2, ![2048, 2048]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .bf16⟩
  | .hbm, ⟨6, _⟩ => ⟨S8192x8192, .f32⟩
  | .hbm, ⟨7, _⟩ => ⟨S8192x8192, .bf16⟩
  | .hbm, ⟨8, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S2048x8192, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x2048, .bf16⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel6.lean ====
abbrev S8192x8192 : Shape := ⟨2, ![8192, 8192]⟩
abbrev S2048x8192 : Shape := ⟨2, ![2048, 8192]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x2048 : Shape := ⟨2, ![8192, 2048]⟩
abbrev S8192x8192 : Shape := ⟨2, ![8192, 8192]⟩
abbrev S2048x8192 : Shape := ⟨2, ![2048, 8192]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S8192x2048, .f32⟩
  | .hbm, ⟨10, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4x8192x2048 : Shape := ⟨3, ![4, 8192, 2048]⟩
abbrev S2048x8192 : Shape := ⟨2, ![2048, 8192]⟩
abbrev S8192x2048 : Shape := ⟨2, ![8192, 2048]⟩
abbrev S1x1024x2048 : Shape := ⟨3, ![1, 1024, 2048]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x2048, .bf16⟩
  | .hbm, ⟨1, _⟩ => ⟨S2048x8192, .bf16⟩
  | .hbm, ⟨2, _⟩ => ⟨S8192x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4x8192x2048 : Shape := ⟨3, ![4, 8192, 2048]⟩
abbrev S2048x8192 : Shape := ⟨2, ![2048, 8192]⟩
abbrev S_ : Shape := ⟨0, ![]⟩
abbrev S8192x2048 : Shape := ⟨2, ![8192, 2048]⟩
abbrev S8192x8192 : Shape := ⟨2, ![8192, 8192]⟩
abbrev S1x8192x2048 : Shape := ⟨3, ![1, 8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x2048, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S4x8192x2048, .f32⟩
  | .hbm, ⟨11, _⟩ => ⟨S1x8192x2048, .f32⟩
  | .hbm, ⟨12, _⟩ => ⟨S8192x2048, .f32⟩
  | .hbm, ⟨13, _⟩ => ⟨S1x8192x2048, .f32⟩
  | .hbm, ⟨14, _⟩ => ⟨S8192x2048, .f32⟩
  | .hbm, ⟨15, _⟩ => ⟨S1x8192x2048, .f32⟩
  | .hbm, ⟨16, _⟩ => ⟨S8192x2048, .f32⟩
  | .hbm, ⟨17, _⟩ => ⟨S1x8192x2048, .f32⟩
  | .hbm, ⟨18, _⟩ => ⟨S8192x2048, .f32⟩
  | .hbm, ⟨19, _⟩ => ⟨S8192x8192, .f32⟩
  | .hbm, ⟨20, _⟩ => ⟨S8192x2048, .f32⟩
  | .hbm, ⟨21, _⟩ => ⟨S2048x8192, .f32⟩
  | .hbm, ⟨22, _⟩ => ⟨S8192x2048, .f32⟩
  | .hbm, ⟨23, _⟩ => ⟨S8192x2048, .bf16⟩
  | _, _ => ⟨S4x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Kernel13.lean ====
abbrev S8192x2048 : Shape := ⟨2, ![8192, 2048]⟩
abbrev S4x8192x2048 : Shape := ⟨3, ![4, 8192, 2048]⟩
abbrev S2048x8192 : Shape := ⟨2, ![2048, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S2048x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S4x8192x2048 : Shape := ⟨3, ![4, 8192, 2048]⟩
abbrev S_ : Shape := ⟨0, ![]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x8192x2048, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S4x8192x2048, .f32⟩
  | .hbm, ⟨11, _⟩ => ⟨S1x8192x2048, .f32⟩
  | .hbm, ⟨12, _⟩ => ⟨S8192x2048, .f32⟩
  | .hbm, ⟨13, _⟩ => ⟨S1x8192x2048, .f32⟩
  | .hbm, ⟨14, _⟩ => ⟨S8192x2048, .f32⟩
  | .hbm, ⟨15, _⟩ => ⟨S1x8192x2048, .f32⟩
  | .hbm, ⟨16, _⟩ => ⟨S8192x2048, .f32⟩
  | .hbm, ⟨17, _⟩ => ⟨S1x8192x2048, .f32⟩
  | .hbm, ⟨18, _⟩ => ⟨S8192x2048, .f32⟩
  | .hbm, ⟨19, _⟩ => ⟨S8192x8192, .f32⟩
  | .hbm, ⟨20, _⟩ => ⟨S8192x2048, .f32⟩
  | .hbm, ⟨21, _⟩ => ⟨S2048x8192, .f32⟩
  | .hbm, ⟨22, _⟩ => ⟨S8192x2048, .f32⟩
  | .hbm, ⟨23, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== Kernel14.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel15.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .bf16⟩
  | .hbm, ⟨6, _⟩ => ⟨S1x2048, .f32⟩
  | .hbm, ⟨7, _⟩ => ⟨S8192x2048, .f32⟩
  | .hbm, ⟨8, _⟩ => ⟨S8x2048, .f32⟩
  | .hbm, ⟨9, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S8x2048, .f32⟩
  | .local _ .vmem, ⟨14, _⟩ => ⟨S256x2048, .bf16⟩
  | .local _ .vmem, ⟨15, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference15Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩
abbrev S4x2048 : Shape := ⟨2, ![4, 2048]⟩
abbrev S8x2048 : Shape := ⟨2, ![8, 2048]⟩

abbrev nBuf : Space → Nat
  | .hbm => 101
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .bf16⟩
  | .hbm, ⟨6, _⟩ => ⟨S1x2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S_, .f32⟩
  | .hbm, ⟨45, _⟩ => ⟨S2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S2048, .f32⟩
  | .hbm, ⟨62, _⟩ => ⟨S8192x2048, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S2048, .f32⟩
  | .hbm, ⟨82, _⟩ => ⟨S1x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S_, .f32⟩
  | .hbm, ⟨89, _⟩ => ⟨S2048, .f32⟩
  | .hbm, ⟨90, _⟩ => ⟨S1x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S1x2048, .f32⟩
  | .hbm, ⟨95, _⟩ => ⟨S1x2048, .f32⟩
  | .hbm, ⟨96, _⟩ => ⟨S1x2048, .f32⟩
  | .hbm, ⟨97, _⟩ => ⟨S_, .f32⟩
  | .hbm, ⟨98, _⟩ => ⟨S4x2048, .f32⟩
  | .hbm, ⟨99, _⟩ => ⟨S8x2048, .f32⟩
  | .hbm, ⟨100, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Kernel16.lean ====
abbrev S32x8192x64 : Shape := ⟨3, ![32, 8192, 64]⟩
abbrev S8192x2048 : Shape := ⟨2, ![8192, 2048]⟩
abbrev S2048x2048 : Shape := ⟨2, ![2048, 2048]⟩
abbrev S16x2048x64 : Shape := ⟨3, ![16, 2048, 64]⟩
abbrev S2048x1024 : Shape := ⟨2, ![2048, 1024]⟩
abbrev S1024x1024 : Shape := ⟨2, ![1024, 1024]⟩
abbrev S1x2048x64 : Shape := ⟨3, ![1, 2048, 64]⟩
abbrev S2048x64 : Shape := ⟨2, ![2048, 64]⟩

abbrev nBuf : Space → Nat
  | .hbm => 3
  | .vmem => 7
  | .smem => 0
  | _ => 0

abbrev bufTy : (tb : Table) → Fin (tcTables nBuf tb) → BufTy
  | .hbm, ⟨0, _⟩ => ⟨S32x8192x64, .bf16⟩
  | .hbm, ⟨1, _⟩ => ⟨S8192x2048, .bf16⟩
  | .hbm, ⟨2, _⟩ => ⟨S2048x2048, .bf16⟩
  | .local _ .vmem, ⟨0, _⟩ => ⟨S16x2048x64, .bf16⟩
  | .local _ .vmem, ⟨1, _⟩ => ⟨S16x2048x64, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S32x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_39 : BitVec 32 := 0#32
  let v45 : BitVec 1 := Scalar.cmpi .ne v44 c0_i32_39
  v45

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S32x8192x64 : Shape := ⟨3, ![32, 8192, 64]⟩
abbrev S8192x2048 : Shape := ⟨2, ![8192, 2048]⟩
abbrev S_ : Shape := ⟨0, ![]⟩
abbrev S2048x2048 : Shape := ⟨2, ![2048, 2048]⟩
abbrev S8192x32x64 : Shape := ⟨3, ![8192, 32, 64]⟩

abbrev nBuf : Space → Nat
  | .hbm => 15
  | .vmem => 0
  | .smem => 0
  | _ => 0

abbrev bufTy : (tb : Table) → Fin (tcTables nBuf tb) → BufTy
  | .hbm, ⟨0, _⟩ => ⟨S32x8192x64, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S32x8192x64, .f32⟩
  | .hbm, ⟨5, _⟩ => ⟨S8192x32x64, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x32x64, .f32⟩
  | .hbm, ⟨13, _⟩ => ⟨S32x8192x64, .f32⟩
  | .hbm, ⟨14, _⟩ => ⟨S2048x2048, .bf16⟩
  | _, _ => ⟨S32x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel17.lean ====
abbrev S40x8192x64 : Shape := ⟨3, ![40, 8192, 64]⟩
abbrev S2048x2560 : Shape := ⟨2, ![2048, 2560]⟩
abbrev S8192x2048 : Shape := ⟨2, ![8192, 2048]⟩
abbrev S40x1024x64 : Shape := ⟨3, ![40, 1024, 64]⟩
abbrev S1024x2560 : Shape := ⟨2, ![1024, 2560]⟩
abbrev S1024x1024 : Shape := ⟨2, ![1024, 1024]⟩
abbrev S1x1024x64 : Shape := ⟨3, ![1, 1024, 64]⟩
abbrev S1024x64 : Shape := ⟨2, ![1024, 64]⟩

abbrev nBuf : Space → Nat
  | .hbm => 3
  | .vmem => 7
  | .smem => 0
  | _ => 0

abbrev bufTy : (tb : Table) → Fin (tcTables nBuf tb) → BufTy
  | .hbm, ⟨0, _⟩ => ⟨S40x8192x64, .bf16⟩
  | .hbm, ⟨1, _⟩ => ⟨S2048x2560, .bf16⟩
  | .hbm, ⟨2, _⟩ => ⟨S8192x2048, .bf16⟩
  | .local _ .vmem, ⟨0, _⟩ => ⟨S40x1024x64, .bf16⟩
  | .local _ .vmem, ⟨1, _⟩ => ⟨S40x1024x64, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S40x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_87 : BitVec 32 := 0#32
  let v91 : BitVec 1 := Scalar.cmpi .eq arg2 c0_i32_87
  let v92 : BitVec 32 := Scalar.extui v91
  let c0_i32_88 : BitVec 32 := 0#32
  let v93 : BitVec 1 := Scalar.cmpi .ne v92 c0_i32_88
  v93

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S40x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S40x8192x64 : Shape := ⟨3, ![40, 8192, 64]⟩
abbrev S2048x2560 : Shape := ⟨2, ![2048, 2560]⟩
abbrev S_ : Shape := ⟨0, ![]⟩
abbrev S8192x2048 : Shape := ⟨2, ![8192, 2048]⟩
abbrev S8192x2560 : Shape := ⟨2, ![8192, 2560]⟩
abbrev S8192x256 : Shape := ⟨2, ![8192, 256]⟩
abbrev S8192x32x64 : Shape := ⟨3, ![8192, 32, 64]⟩
abbrev S32x8192x64 : Shape := ⟨3, ![32, 8192, 64]⟩
abbrev S8192x4x64 : Shape := ⟨3, ![8192, 4, 64]⟩
abbrev S4x8192x64 : Shape := ⟨3, ![4, 8192, 64]⟩
abbrev S2560x2048 : Shape := ⟨2, ![2560, 2048]⟩

abbrev nBuf : Space → Nat
  | .hbm => 30
  | .vmem => 0
  | .smem => 0
  | _ => 0

abbrev bufTy : (tb : Table) → Fin (tcTables nBuf tb) → BufTy
  | .hbm, ⟨0, _⟩ => ⟨S40x8192x64, .bf16⟩
  | .hbm, ⟨1, _⟩ => ⟨S2048x2560, .bf16⟩
  | .hbm, ⟨2, _⟩ => ⟨S_, .f32⟩
  | .hbm, ⟨3, _⟩ => ⟨S8192x2048, .f32⟩
  | .hbm, ⟨4, _⟩ => ⟨S2048x2560, .f32⟩
  | .hbm, ⟨5, _⟩ => ⟨S8192x2560, .f32⟩
  | .hbm, ⟨6, _⟩ => ⟨S8192x2048, .f32⟩
  | .hbm, ⟨7, _⟩ => ⟨S8192x256, .f32⟩
  | .hbm, ⟨8, _⟩ => ⟨S8192x256, .f32⟩
  | .hbm, ⟨9, _⟩ => ⟨S8192x32x64, .f32⟩
  | .hbm, ⟨10, _⟩ => ⟨S32x8192x64, .f32⟩
  | .hbm, ⟨11, _⟩ => ⟨S8192x4x64, .f32⟩
  | .hbm, ⟨12, _⟩ => ⟨S4x8192x64, .f32⟩
  | .hbm, ⟨13, _⟩ => ⟨S8192x4x64, .f32⟩
  | .hbm, ⟨14, _⟩ => ⟨S4x8192x64, .f32⟩
  | .hbm, ⟨15, _⟩ => ⟨S40x8192x64, .f32⟩
  | .hbm, ⟨16, _⟩ => ⟨S32x8192x64, .f32⟩
  | .hbm, ⟨17, _⟩ => ⟨S4x8192x64, .f32⟩
  | .hbm, ⟨18, _⟩ => ⟨S4x8192x64, .f32⟩
  | .hbm, ⟨19, _⟩ => ⟨S8192x4x64, .f32⟩
  | .hbm, ⟨20, _⟩ => ⟨S8192x256, .f32⟩
  | .hbm, ⟨21, _⟩ => ⟨S8192x4x64, .f32⟩
  | .hbm, ⟨22, _⟩ => ⟨S8192x256, .f32⟩
  | .hbm, ⟨23, _⟩ => ⟨S8192x32x64, .f32⟩
  | .hbm, ⟨24, _⟩ => ⟨S8192x2048, .f32⟩
  | .hbm, ⟨25, _⟩ => ⟨S8192x2560, .f32⟩
  | .hbm, ⟨26, _⟩ => ⟨S2560x2048, .f32⟩
  | .hbm, ⟨27, _⟩ => ⟨S2048x2560, .f32⟩
  | .hbm, ⟨28, _⟩ => ⟨S8192x2048, .f32⟩
  | .hbm, ⟨29, _⟩ => ⟨S8192x2048, .bf16⟩
  | _, _ => ⟨S40x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Kernel18.lean ====
abbrev S8192x2048 : Shape := ⟨2, ![8192, 2048]⟩
abbrev S40x8192x64 : Shape := ⟨3, ![40, 8192, 64]⟩
abbrev S2048x2560 : Shape := ⟨2, ![2048, 2560]⟩
abbrev S2048x2048 : Shape := ⟨2, ![2048, 2048]⟩
abbrev S10x2048x64 : Shape := ⟨3, ![10, 2048, 64]⟩
abbrev S2048x640 : Shape := ⟨2, ![2048, 640]⟩
abbrev S1x2048x64 : Shape := ⟨3, ![1, 2048, 64]⟩
abbrev S2048x64 : Shape := ⟨2, ![2048, 64]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S40x8192x64, .bf16⟩
  | .hbm, ⟨2, _⟩ => ⟨S2048x2560, .bf16⟩
  | .local _ .vmem, ⟨0, _⟩ => ⟨S2048x2048, .bf16⟩
  | .local _ .vmem, ⟨1, _⟩ => ⟨S2048x2048, .bf16⟩
  | .local _ .vmem, ⟨2, _⟩ => ⟨S10x2048x64, .bf16⟩
  | .local _ .vmem, ⟨3, _⟩ => ⟨S10x2048x64, .bf16⟩
  | .local _ .vmem, ⟨4, _⟩ => ⟨S2048x640, .bf16⟩
  | .local _ .vmem, ⟨5, _⟩ => ⟨S2048x640, .bf16⟩
  | .local _ .vmem, ⟨6, _⟩ => ⟨S2048x640, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_27 : BitVec 32 := 0#32
  let v33 : BitVec 1 := Scalar.cmpi .ne v32 c0_i32_27
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S10x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S40x8192x64 : Shape := ⟨3, ![40, 8192, 64]⟩
abbrev S_ : Shape := ⟨0, ![]⟩
abbrev S2048x2560 : Shape := ⟨2, ![2048, 2560]⟩
abbrev S8192x2560 : Shape := ⟨2, ![8192, 2560]⟩
abbrev S8192x256 : Shape := ⟨2, ![8192, 256]⟩
abbrev S8192x32x64 : Shape := ⟨3, ![8192, 32, 64]⟩
abbrev S32x8192x64 : Shape := ⟨3, ![32, 8192, 64]⟩
abbrev S8192x4x64 : Shape := ⟨3, ![8192, 4, 64]⟩
abbrev S4x8192x64 : Shape := ⟨3, ![4, 8192, 64]⟩
abbrev S2560x2048 : Shape := ⟨2, ![2560, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S40x8192x64, .bf16⟩
  | .hbm, ⟨2, _⟩ => ⟨S_, .f32⟩
  | .hbm, ⟨3, _⟩ => ⟨S2048x2560, .f32⟩
  | .hbm, ⟨4, _⟩ => ⟨S8192x2048, .f32⟩
  | .hbm, ⟨5, _⟩ => ⟨S8192x2560, .f32⟩
  | .hbm, ⟨6, _⟩ => ⟨S8192x2048, .f32⟩
  | .hbm, ⟨7, _⟩ => ⟨S8192x256, .f32⟩
  | .hbm, ⟨8, _⟩ => ⟨S8192x256, .f32⟩
  | .hbm, ⟨9, _⟩ => ⟨S8192x32x64, .f32⟩
  | .hbm, ⟨10, _⟩ => ⟨S32x8192x64, .f32⟩
  | .hbm, ⟨11, _⟩ => ⟨S8192x4x64, .f32⟩
  | .hbm, ⟨12, _⟩ => ⟨S4x8192x64, .f32⟩
  | .hbm, ⟨13, _⟩ => ⟨S8192x4x64, .f32⟩
  | .hbm, ⟨14, _⟩ => ⟨S4x8192x64, .f32⟩
  | .hbm, ⟨15, _⟩ => ⟨S40x8192x64, .f32⟩
  | .hbm, ⟨16, _⟩ => ⟨S32x8192x64, .f32⟩
  | .hbm, ⟨17, _⟩ => ⟨S4x8192x64, .f32⟩
  | .hbm, ⟨18, _⟩ => ⟨S4x8192x64, .f32⟩
  | .hbm, ⟨19, _⟩ => ⟨S8192x4x64, .f32⟩
  | .hbm, ⟨20, _⟩ => ⟨S8192x256, .f32⟩
  | .hbm, ⟨21, _⟩ => ⟨S8192x4x64, .f32⟩
  | .hbm, ⟨22, _⟩ => ⟨S8192x256, .f32⟩
  | .hbm, ⟨23, _⟩ => ⟨S8192x32x64, .f32⟩
  | .hbm, ⟨24, _⟩ => ⟨S8192x2048, .f32⟩
  | .hbm, ⟨25, _⟩ => ⟨S8192x2560, .f32⟩
  | .hbm, ⟨26, _⟩ => ⟨S2560x2048, .f32⟩
  | .hbm, ⟨27, _⟩ => ⟨S2048x2560, .f32⟩
  | .hbm, ⟨28, _⟩ => ⟨S8192x2048, .f32⟩
  | .hbm, ⟨29, _⟩ => ⟨S2048x2560, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== Kernel19.lean ====
abbrev S32x8192x64 : Shape := ⟨3, ![32, 8192, 64]⟩
abbrev S2048x2048 : Shape := ⟨2, ![2048, 2048]⟩
abbrev S8192x2048 : Shape := ⟨2, ![8192, 2048]⟩
abbrev S1x2048 : Shape := ⟨2, ![1, 2048]⟩
abbrev S32x1024x64 : Shape := ⟨3, ![32, 1024, 64]⟩
abbrev S2048x1024 : Shape := ⟨2, ![2048, 1024]⟩
abbrev S1024x1024 : Shape := ⟨2, ![1024, 1024]⟩
abbrev S1x1024 : Shape := ⟨2, ![1, 1024]⟩
abbrev S1x1024x64 : Shape := ⟨3, ![1, 1024, 64]⟩
abbrev S1024x64 : Shape := ⟨2, ![1024, 64]⟩
abbrev S1024x2048 : Shape := ⟨2, ![1024, 2048]⟩

abbrev nBuf : Space → Nat
  | .hbm => 6
  | .vmem => 13
  | .smem => 0
  | _ => 0

abbrev bufTy : (tb : Table) → Fin (tcTables nBuf tb) → BufTy
  | .hbm, ⟨0, _⟩ => ⟨S32x8192x64, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S8192x2048, .f32⟩
  | .local _ .vmem, ⟨0, _⟩ => ⟨S32x1024x64, .bf16⟩
  | .local _ .vmem, ⟨1, _⟩ => ⟨S32x1024x64, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S32x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_71 : BitVec 32 := 0#32
  let v75 : BitVec 1 := Scalar.cmpi .eq arg2 c0_i32_71
  let v76 : BitVec 32 := Scalar.extui v75
  let c0_i32_72 : BitVec 32 := 0#32
  let v77 : BitVec 1 := Scalar.cmpi .ne v76 c0_i32_72
  v77

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S32x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference19Ideal.lean ====
abbrev S32x8192x64 : Shape := ⟨3, ![32, 8192, 64]⟩
abbrev S2048x2048 : Shape := ⟨2, ![2048, 2048]⟩
abbrev S8192x2048 : Shape := ⟨2, ![8192, 2048]⟩
abbrev S1x2048 : Shape := ⟨2, ![1, 2048]⟩
abbrev S8192x32x64 : Shape := ⟨3, ![8192, 32, 64]⟩

abbrev nBuf : Space → Nat
  | .hbm => 13
  | .vmem => 0
  | .smem => 0
  | _ => 0

abbrev bufTy : (tb : Table) → Fin (tcTables nBuf tb) → BufTy
  | .hbm, ⟨0, _⟩ => ⟨S32x8192x64, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S32x8192x64, .f32⟩
  | .hbm, ⟨5, _⟩ => ⟨S2048x2048, .f32⟩
  | .hbm, ⟨6, _⟩ => ⟨S8192x32x64, .f32⟩
  | .hbm, ⟨7, _⟩ => ⟨S8192x2048, .f32⟩
  | .hbm, ⟨8, _⟩ => ⟨S8192x2048, .f32⟩
  | .hbm, ⟨9, _⟩ => ⟨S8192x2048, .bf16⟩
  | .hbm, ⟨10, _⟩ => ⟨S8192x2048, .f32⟩
  | .hbm, ⟨11, _⟩ => ⟨S8192x2048, .f32⟩
  | .hbm, ⟨12, _⟩ => ⟨S8192x2048, .f32⟩
  | _, _ => ⟨S32x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel20.lean ====
abbrev S8192x2048 : Shape := ⟨2, ![8192, 2048]⟩
abbrev S2048x2048 : Shape := ⟨2, ![2048, 2048]⟩
abbrev S32x8192x64 : Shape := ⟨3, ![32, 8192, 64]⟩
abbrev S1024x2048 : Shape := ⟨2, ![1024, 2048]⟩
abbrev S512x2048 : Shape := ⟨2, ![512, 2048]⟩
abbrev S8x1024x64 : Shape := ⟨3, ![8, 1024, 64]⟩
abbrev S1024x512 : Shape := ⟨2, ![1024, 512]⟩
abbrev S1024x64 : Shape := ⟨2, ![1024, 64]⟩
abbrev S1x1024x64 : Shape := ⟨3, ![1, 1024, 64]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S32x8192x64, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S8x1024x64, .bf16⟩
  | .local _ .vmem, ⟨5, _⟩ => ⟨S8x1024x64, .bf16⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let arg1 : BitVec 32 := BitVec.ofNat 32 (i 1).val
  let c4_i32 : BitVec 32 := 4#32
  let v12 : BitVec 1 := Scalar.cmpi .slt arg1 c4_i32
  let v13 : BitVec 1 := Scalar.andi v11 v12
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  let c0_i32_0 : BitVec 32 := 0#32
  ![v0.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x2048 : Shape := ⟨2, ![2048, 2048]⟩
abbrev S_ : Shape := ⟨0, ![]⟩
abbrev S32x8192x64 : Shape := ⟨3, ![32, 8192, 64]⟩
abbrev S8192x32x64 : Shape := ⟨3, ![8192, 32, 64]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S32x8192x64, .f32⟩
  | .hbm, ⟨4, _⟩ => ⟨S2048x2048, .f32⟩
  | .hbm, ⟨5, _⟩ => ⟨S8192x32x64, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S8192x2048, .f32⟩
  | .hbm, ⟨12, _⟩ => ⟨S8192x32x64, .f32⟩
  | .hbm, ⟨13, _⟩ => ⟨S32x8192x64, .f32⟩
  | .hbm, ⟨14, _⟩ => ⟨S32x8192x64, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel21.lean ====
abbrev S8192x2048 : Shape := ⟨2, ![8192, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩
abbrev S5x2048 : Shape := ⟨2, ![5, 2048]⟩
abbrev S8x2048 : Shape := ⟨2, ![8, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S2048, .f32⟩
  | .hbm, ⟨41, _⟩ => ⟨S1x2048, .f32⟩
  | .hbm, ⟨42, _⟩ => ⟨S_, .f32⟩
  | .hbm, ⟨43, _⟩ => ⟨S2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S1x2048, .f32⟩
  | .hbm, ⟨79, _⟩ => ⟨S1x2048, .f32⟩
  | .hbm, ⟨80, _⟩ => ⟨S1x2048, .f32⟩
  | .hbm, ⟨81, _⟩ => ⟨S_, .f32⟩
  | .hbm, ⟨82, _⟩ => ⟨S5x2048, .f32⟩
  | .hbm, ⟨83, _⟩ => ⟨S8x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel22.lean ====
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S8x2048x1024 : Shape := ⟨3, ![8, 2048, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x2048x1024 : Shape := ⟨3, ![8, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S8x2048x320 : Shape := ⟨3, ![8, 2048, 320]⟩
abbrev S2048x320 : Shape := ⟨2, ![2048, 320]⟩
abbrev S8x1024x320 : Shape := ⟨3, ![8, 1024, 320]⟩
abbrev S1024x320 : Shape := ⟨2, ![1024, 320]⟩
abbrev S1x1024x320 : Shape := ⟨3, ![1, 1024, 320]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x320, .bf16⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S2048x320, .f32⟩
  | .hbm, ⟨5, _⟩ => ⟨S2048x320, .f32⟩
  | .hbm, ⟨6, _⟩ => ⟨S2048x320, .f32⟩
  | .hbm, ⟨7, _⟩ => ⟨S2048x320, .f32⟩
  | .local _ .vmem, ⟨0, _⟩ => ⟨S8x1024x320, .bf16⟩
  | .local _ .vmem, ⟨1, _⟩ => ⟨S8x1024x320, .bf16⟩
  | .local _ .vmem, ⟨2, _⟩ => ⟨S1024x320, .f32⟩
  | .local _ .vmem, ⟨3, _⟩ => ⟨S1024x320, .f32⟩
  | .local _ .vmem, ⟨4, _⟩ => ⟨S1024x320, .f32⟩
  | .local _ .vmem, ⟨5, _⟩ => ⟨S1024x320, .f32⟩
  | .local _ .vmem, ⟨6, _⟩ => ⟨S1024x320, .f32⟩
  | .local _ .vmem, ⟨7, _⟩ => ⟨S1024x320, .f32⟩
  | .local _ .vmem, ⟨8, _⟩ => ⟨S1024x320, .f32⟩
  | .local _ .vmem, ⟨9, _⟩ => ⟨S1024x320, .f32⟩
  | .local _ .vmem, ⟨10, _⟩ => ⟨S1024x320, .f32⟩
  | .local _ .vmem, ⟨11, _⟩ => ⟨S1024x320, .f32⟩
  | .local _ .vmem, ⟨12, _⟩ => ⟨S1024x320, .f32⟩
  | .local _ .vmem, ⟨13, _⟩ => ⟨S1024x320, .f32⟩
  | .local _ .vmem, ⟨14, _⟩ => ⟨S1024x320, .f32⟩
  | .local _ .vmem, ⟨15, _⟩ => ⟨S1024x320, .f32⟩
  | _, _ => ⟨S8x2048x320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x320 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S8x2048x320 : Shape := ⟨3, ![8, 2048, 320]⟩
abbrev S2048x320 : Shape := ⟨2, ![2048, 320]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x320, .bf16⟩
  | .hbm, ⟨1, _⟩ => ⟨S2048x320, .f32⟩
  | .hbm, ⟨2, _⟩ => ⟨S2048x320, .f32⟩
  | .hbm, ⟨3, _⟩ => ⟨S2048x320, .f32⟩
  | .hbm, ⟨4, _⟩ => ⟨S8x2048x320, .f32⟩
  | .hbm, ⟨5, _⟩ => ⟨S_, .f32⟩
  | .hbm, ⟨6, _⟩ => ⟨S2048x320, .f32⟩
  | .hbm, ⟨7, _⟩ => ⟨S_, .f32⟩
  | .hbm, ⟨8, _⟩ => ⟨S2048x320, .f32⟩
  | .hbm, ⟨9, _⟩ => ⟨S2048x320, .f32⟩
  | .hbm, ⟨10, _⟩ => ⟨S_, .f32⟩
  | .hbm, ⟨11, _⟩ => ⟨S2048x320, .f32⟩
  | .hbm, ⟨12, _⟩ => ⟨S2048x320, .f32⟩
  | .hbm, ⟨13, _⟩ => ⟨S2048x320, .f32⟩
  | .hbm, ⟨14, _⟩ => ⟨S_, .f32⟩
  | .hbm, ⟨15, _⟩ => ⟨S2048x320, .f32⟩
  | .hbm, ⟨16, _⟩ => ⟨S2048x320, .f32⟩
  | .hbm, ⟨17, _⟩ => ⟨S2048x320, .f32⟩
  | .hbm, ⟨18, _⟩ => ⟨S_, .f32⟩
  | .hbm, ⟨19, _⟩ => ⟨S2048x320, .f32⟩
  | .hbm, ⟨20, _⟩ => ⟨S2048x320, .f32⟩
  | .hbm, ⟨21, _⟩ => ⟨S2048x320, .f32⟩
  | .hbm, ⟨22, _⟩ => ⟨S_, .f32⟩
  | .hbm, ⟨23, _⟩ => ⟨S2048x320, .f32⟩
  | .hbm, ⟨24, _⟩ => ⟨S2048x320, .f32⟩
  | .hbm, ⟨25, _⟩ => ⟨S_, .f32⟩
  | .hbm, ⟨26, _⟩ => ⟨S2048x320, .f32⟩
  | .hbm, ⟨27, _⟩ => ⟨S2048x320, .f32⟩
  | .hbm, ⟨28, _⟩ => ⟨S2048x320, .f32⟩
  | .hbm, ⟨29, _⟩ => ⟨S_, .f32⟩
  | .hbm, ⟨30, _⟩ => ⟨S2048x320, .f32⟩
  | .hbm, ⟨31, _⟩ => ⟨S2048x320, .f32⟩
  | .hbm, ⟨32, _⟩ => ⟨S2048x320, .f32⟩
  | .hbm, ⟨33, _⟩ => ⟨S_, .f32⟩
  | .hbm, ⟨34, _⟩ => ⟨S2048x320, .f32⟩
  | .hbm, ⟨35, _⟩ => ⟨S2048x320, .f32⟩
  | .hbm, ⟨36, _⟩ => ⟨S2048x320, .f32⟩
  | .hbm, ⟨37, _⟩ => ⟨S_, .f32⟩
  | .hbm, ⟨38, _⟩ => ⟨S2048x320, .f32⟩
  | .hbm, ⟨39, _⟩ => ⟨S2048x320, .f32⟩
  | _, _ => ⟨S8x2048x320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel25.lean ====
abbrev S8x2048 : Shape := ⟨2, ![8, 2048]⟩
abbrev S2x2048x1536 : Shape := ⟨3, ![2, 2048, 1536]⟩
abbrev S2x1x1536 : Shape := ⟨3, ![2, 1, 1536]⟩
abbrev S2x8x1536 : Shape := ⟨3, ![2, 8, 1536]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x1536, .f32⟩
  | .hbm, ⟨2, _⟩ => ⟨S2x1x1536, .f32⟩
  | .hbm, ⟨3, _⟩ => ⟨S2x8x1536, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference25Ideal.lean ====
abbrev S8x2048 : Shape := ⟨2, ![8, 2048]⟩
abbrev S2x2048x1536 : Shape := ⟨3, ![2, 2048, 1536]⟩
abbrev S2x1x1536 : Shape := ⟨3, ![2, 1, 1536]⟩
abbrev S_ : Shape := ⟨0, ![]⟩
abbrev S1x2048x1536 : Shape := ⟨3, ![1, 2048, 1536]⟩
abbrev S2048x1536 : Shape := ⟨2, ![2048, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S2x8x1536 : Shape := ⟨3, ![2, 8, 1536]⟩

abbrev nBuf : Space → Nat
  | .hbm => 29
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x1536, .f32⟩
  | .hbm, ⟨2, _⟩ => ⟨S2x1x1536, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x1536, .f32⟩
  | .hbm, ⟨13, _⟩ => ⟨S2048x1536, .f32⟩
  | .hbm, ⟨14, _⟩ => ⟨S8x1536, .f32⟩
  | .hbm, ⟨15, _⟩ => ⟨S1x1x1536, .f32⟩
  | .hbm, ⟨16, _⟩ => ⟨S1x1536, .f32⟩
  | .hbm, ⟨17, _⟩ => ⟨S8x1536, .f32⟩
  | .hbm, ⟨18, _⟩ => ⟨S8x1536, .f32⟩
  | .hbm, ⟨19, _⟩ => ⟨S1x2048x1536, .f32⟩
  | .hbm, ⟨20, _⟩ => ⟨S2048x1536, .f32⟩
  | .hbm, ⟨21, _⟩ => ⟨S8x1536, .f32⟩
  | .hbm, ⟨22, _⟩ => ⟨S1x1x1536, .f32⟩
  | .hbm, ⟨23, _⟩ => ⟨S1x1536, .f32⟩
  | .hbm, ⟨24, _⟩ => ⟨S8x1536, .f32⟩
  | .hbm, ⟨25, _⟩ => ⟨S8x1536, .f32⟩
  | .hbm, ⟨26, _⟩ => ⟨S1x8x1536, .f32⟩
  | .hbm, ⟨27, _⟩ => ⟨S1x8x1536, .f32⟩
  | .hbm, ⟨28, _⟩ => ⟨S2x8x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Region.lean ====
/- What the attention-gradient kernel leaves after each grid point, and its run: the outputs' staging buffers and the two
   scratch buffers it carries, point by point, the body's triple over them, the launch, and the arrays after the launch.
   The grid walks the 64 blocks from the last to the first: the first point (`runA`) starts the sums, the last (`runC`)
   also stores the sinks' gradient. -/
module

public import proofs.«01_k».proof.Proof.Gen.KernelIdeal.Frame.RunC
public import Idealize.ShloMosaic.Lib.Claim
public import Idealize.ShloMosaic.Lib.Pipeline.Value

@[expose] public section

-- the pieces' rectangles have long axes, and a membership check recurses once per coordinate
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 64 := lt_of_lt_of_eq t.isLt N_0

/-- What a grid point leaves: the six results' staging buffers, the key and value gradients carried to the next point,
    and the running sum of the sinks' gradient. -/
structure Left (F : FTy → Type) [FloatOps F] where
  dq : Vec F S32x128x64 .bf16
  dk : Vec F S4x128x64 .bf16
  dv : Vec F S4x128x64 .bf16
  dgq : Vec F S8x64 .f32
  dgk : Vec F S8x64 .f32
  dsk : Vec F S32x128 .f32
  carry : Vec F S4x2x128x64 .f32
  acc : Vec F S4x1024x1 .f32

/-- The body's run at the first point: its stores, as pieces, with its triple. -/
def runA (c : Dev nD) (t : Fin cfg0.N) (ht : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _)
    ((hcond0_0 t).mpr (by omega)) (fun h => by have h2 := (hcond0_1 t).mp h; omega)
    (iblk m c 0 t) (iblk m c 1 t) (iblk m c 2 t) (iblk m c 3 t) (iblk m c 4 t) (iblk m c 5 t) (iblk m c 6 t) (iblk m c 7 t) (iblk m c 8 t) (iblk m c 9 t)

/-- The stores of `dq` at the first point cover it. -/
theorem coverA_dq (c : Dev nD) (t : Fin cfg0.N) (ht : t.val = 0) (y : S32x128x64.Idx) :
    ∃ pc ∈ (runA m c t ht).1, y ∈ pc.1.set :=
  View.cover_of_tiledL (runA m c t ht).1 S8x128x64.size (by sl_kernel_rfl) y

/-- The stores of `dk` at the first point cover it. -/
theorem coverA_dk (c : Dev nD) (t : Fin cfg0.N) (ht : t.val = 0) (y : S4x128x64.Idx) :
    ∃ pc ∈ (runA m c t ht).2.1, y ∈ pc.1.set :=
  View.cover_of_tiledL (runA m c t ht).2.1 S1x128x64.size (by sl_kernel_rfl) y

/-- The stores of `dv` at the first point cover it. -/
theorem coverA_dv (c : Dev nD) (t : Fin cfg0.N) (ht : t.val = 0) (y : S4x128x64.Idx) :
    ∃ pc ∈ (runA m c t ht).2.2.1, y ∈ pc.1.set :=
  View.cover_of_tiledL (runA m c t ht).2.2.1 S1x128x64.size (by sl_kernel_rfl) y

/-- The stores of `dgq` at the first point cover it. -/
theorem coverA_dgq (c : Dev nD) (t : Fin cfg0.N) (ht : t.val = 0) (y : S8x64.Idx) :
    ∃ pc ∈ (runA m c t ht).2.2.2.1, y ∈ pc.1.set :=
  View.cover_of_tiledBy (runA m c t ht).2.2.2.1 ![1, 64] (by sl_kernel_rfl) y

/-- The stores of `dgk` at the first point cover it. -/
theorem coverA_dgk (c : Dev nD) (t : Fin cfg0.N) (ht : t.val = 0) (y : S8x64.Idx) :
    ∃ pc ∈ (runA m c t ht).2.2.2.2.1, y ∈ pc.1.set :=
  View.cover_of_tiledBy (runA m c t ht).2.2.2.2.1 ![1, 64] (by sl_kernel_rfl) y

/-- The stores of `carry` at the first point cover it. -/
theorem coverA_carry (c : Dev nD) (t : Fin cfg0.N) (ht : t.val = 0) (y : S4x2x128x64.Idx) :
    ∃ pc ∈ (runA m c t ht).2.2.2.2.2.2.1, y ∈ pc.1.set :=
  View.cover_of_wholeMem (runA m c t ht).2.2.2.2.2.2.1 (by unfold runA; sl_whole_mem) y

/-- The stores of `acc` at the first point cover it. -/
theorem coverA_acc (c : Dev nD) (t : Fin cfg0.N) (ht : t.val = 0) (y : S4x1024x1.Idx) :
    ∃ pc ∈ (runA m c t ht).2.2.2.2.2.2.2.1, y ∈ pc.1.set :=
  View.cover_of_wholeMem (runA m c t ht).2.2.2.2.2.2.2.1 (by unfold runA; sl_whole_mem) y

/-- What the first point leaves. -/
def leftA (c : Dev nD) (t : Fin cfg0.N) (ht : t.val = 0) : Left F where
  dq := VO0_10.read (Elt F) (VO0_10.writes (Elt F) VO0_10.junk (runA m c t ht).1)
  dk := VO0_11.read (Elt F) (VO0_11.writes (Elt F) VO0_11.junk (runA m c t ht).2.1)
  dv := VO0_12.read (Elt F) (VO0_12.writes (Elt F) VO0_12.junk (runA m c t ht).2.2.1)
  dgq := VO0_13.read (Elt F) (VO0_13.writes (Elt F) VO0_13.junk (runA m c t ht).2.2.2.1)
  dgk := VO0_14.read (Elt F) (VO0_14.writes (Elt F) VO0_14.junk (runA m c t ht).2.2.2.2.1)
  dsk := VO0_15.read (Elt F) (VO0_15.writes (Elt F) VO0_15.junk (runA m c t ht).2.2.2.2.2.1)
  carry := VS0_0.read (Elt F) (VS0_0.writes (Elt F) VS0_0.junk (runA m c t ht).2.2.2.2.2.2.1)
  acc := VS0_1.read (Elt F) (VS0_1.writes (Elt F) VS0_1.junk (runA m c t ht).2.2.2.2.2.2.2.1)

/-- The body's run at a middle point: its stores, as pieces, with its triple. -/
def runB (c : Dev nD) (t : Fin cfg0.N) (ht : t.val ≠ 0 ∧ t.val ≠ 63) (x : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _)
    (fun h => ht.1 (by have h2 := (hcond0_0 t).mp h; have := lt_N t; omega)) (fun h => ht.2 (by have h2 := (hcond0_1 t).mp h; have := lt_N t; omega))
    (iblk m c 0 t) (iblk m c 1 t) (iblk m c 2 t) (iblk m c 3 t) (iblk m c 4 t) (iblk m c 5 t) (iblk m c 6 t) (iblk m c 7 t) (iblk m c 8 t) (iblk m c 9 t) x.dgq x.dgk x.carry x.acc

/-- The stores of `dq` at a middle point cover it. -/
theorem coverB_dq (c : Dev nD) (t : Fin cfg0.N) (ht : t.val ≠ 0 ∧ t.val ≠ 63) (x : Left F) (y : S32x128x64.Idx) :
    ∃ pc ∈ (runB m c t ht x).1, y ∈ pc.1.set :=
  View.cover_of_tiledL (runB m c t ht x).1 S8x128x64.size (by sl_kernel_rfl) y

/-- The stores of `dk` at a middle point cover it. -/
theorem coverB_dk (c : Dev nD) (t : Fin cfg0.N) (ht : t.val ≠ 0 ∧ t.val ≠ 63) (x : Left F) (y : S4x128x64.Idx) :
    ∃ pc ∈ (runB m c t ht x).2.1, y ∈ pc.1.set :=
  View.cover_of_tiledL (runB m c t ht x).2.1 S1x128x64.size (by sl_kernel_rfl) y

/-- The stores of `dv` at a middle point cover it. -/
theorem coverB_dv (c : Dev nD) (t : Fin cfg0.N) (ht : t.val ≠ 0 ∧ t.val ≠ 63) (x : Left F) (y : S4x128x64.Idx) :
    ∃ pc ∈ (runB m c t ht x).2.2.1, y ∈ pc.1.set :=
  View.cover_of_tiledL (runB m c t ht x).2.2.1 S1x128x64.size (by sl_kernel_rfl) y

/-- The stores of `carry` at a middle point cover it. -/
theorem coverB_carry (c : Dev nD) (t : Fin cfg0.N) (ht : t.val ≠ 0 ∧ t.val ≠ 63) (x : Left F) (y : S4x2x128x64.Idx) :
    ∃ pc ∈ (runB m c t ht x).2.2.2.2.2.2.1, y ∈ pc.1.set :=
  View.cover_of_tiledL (runB m c t ht x).2.2.2.2.2.2.1 S1x1x128x64.size (by sl_kernel_rfl) y

/-- The stores of `acc` at a middle point cover it. -/
theorem coverB_acc (c : Dev nD) (t : Fin cfg0.N) (ht : t.val ≠ 0 ∧ t.val ≠ 63) (x : Left F) (y : S4x1024x1.Idx) :
    ∃ pc ∈ (runB m c t ht x).2.2.2.2.2.2.2.1, y ∈ pc.1.set :=
  View.cover_of_tiledL (runB m c t ht x).2.2.2.2.2.2.2.1 S1x1024x1.size (by sl_kernel_rfl) y

/-- What a middle point leaves, over what the point before left. -/
def leftB (c : Dev nD) (t : Fin cfg0.N) (ht : t.val ≠ 0 ∧ t.val ≠ 63) (x : Left F) : Left F where
  dq := VO0_10.read (Elt F) (VO0_10.writes (Elt F) VO0_10.junk (runB m c t ht x).1)
  dk := VO0_11.read (Elt F) (VO0_11.writes (Elt F) VO0_11.junk (runB m c t ht x).2.1)
  dv := VO0_12.read (Elt F) (VO0_12.writes (Elt F) VO0_12.junk (runB m c t ht x).2.2.1)
  dgq := (ms0_13 t).view.read (Elt F) ((ms0_13 t).view.writes (Elt F) ((hs0_13 t).unread x.dgq) (runB m c t ht x).2.2.2.1)
  dgk := (ms0_14 t).view.read (Elt F) ((ms0_14 t).view.writes (Elt F) ((hs0_14 t).unread x.dgk) (runB m c t ht x).2.2.2.2.1)
  dsk := VO0_15.read (Elt F) (VO0_15.writes (Elt F) VO0_15.junk (runB m c t ht x).2.2.2.2.2.1)
  carry := VS0_0.read (Elt F) (VS0_0.writes (Elt F) VS0_0.junk (runB m c t ht x).2.2.2.2.2.2.1)
  acc := VS0_1.read (Elt F) (VS0_1.writes (Elt F) VS0_1.junk (runB m c t ht x).2.2.2.2.2.2.2.1)

/-- The body's run at the last point: its stores, as pieces, with its triple. -/
def runC (c : Dev nD) (t : Fin cfg0.N) (ht : t.val = 63) (x : Left F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _)
    (fun h => by have h2 := (hcond0_0 t).mp h; omega) ((hcond0_1 t).mpr (by omega))
    (iblk m c 0 t) (iblk m c 1 t) (iblk m c 2 t) (iblk m c 3 t) (iblk m c 4 t) (iblk m c 5 t) (iblk m c 6 t) (iblk m c 7 t) (iblk m c 8 t) (iblk m c 9 t) x.dgq x.dgk x.carry x.acc

/-- The stores of `dq` at the last point cover it. -/
theorem coverC_dq (c : Dev nD) (t : Fin cfg0.N) (ht : t.val = 63) (x : Left F) (y : S32x128x64.Idx) :
    ∃ pc ∈ (runC m c t ht x).1, y ∈ pc.1.set :=
  View.cover_of_tiledL (runC m c t ht x).1 S8x128x64.size (by sl_kernel_rfl) y

/-- The stores of `dk` at the last point cover it. -/
theorem coverC_dk (c : Dev nD) (t : Fin cfg0.N) (ht : t.val = 63) (x : Left F) (y : S4x128x64.Idx) :
    ∃ pc ∈ (runC m c t ht x).2.1, y ∈ pc.1.set :=
  View.cover_of_tiledL (runC m c t ht x).2.1 S1x128x64.size (by sl_kernel_rfl) y

/-- The stores of `dv` at the last point cover it. -/
theorem coverC_dv (c : Dev nD) (t : Fin cfg0.N) (ht : t.val = 63) (x : Left F) (y : S4x128x64.Idx) :
    ∃ pc ∈ (runC m c t ht x).2.2.1, y ∈ pc.1.set :=
  View.cover_of_tiledL (runC m c t ht x).2.2.1 S1x128x64.size (by sl_kernel_rfl) y

/-- The stores of `dsk` at the last point cover it. -/
theorem coverC_dsk (c : Dev nD) (t : Fin cfg0.N) (ht : t.val = 63) (x : Left F) (y : S32x128.Idx) :
    ∃ pc ∈ (runC m c t ht x).2.2.2.2.2.1, y ∈ pc.1.set :=
  View.cover_of_tiledL (runC m c t ht x).2.2.2.2.2.1 S1x128.size (by sl_kernel_rfl) y

/-- The stores of `carry` at the last point cover it. -/
theorem coverC_carry (c : Dev nD) (t : Fin cfg0.N) (ht : t.val = 63) (x : Left F) (y : S4x2x128x64.Idx) :
    ∃ pc ∈ (runC m c t ht x).2.2.2.2.2.2.1, y ∈ pc.1.set :=
  View.cover_of_tiledL (runC m c t ht x).2.2.2.2.2.2.1 S1x1x128x64.size (by sl_kernel_rfl) y

/-- The stores of `acc` at the last point cover it. -/
theorem coverC_acc (c : Dev nD) (t : Fin cfg0.N) (ht : t.val = 63) (x : Left F) (y : S4x1024x1.Idx) :
    ∃ pc ∈ (runC m c t ht x).2.2.2.2.2.2.2.1, y ∈ pc.1.set :=
  View.cover_of_tiledL (runC m c t ht x).2.2.2.2.2.2.2.1 S1x1024x1.size (by sl_kernel_rfl) y

/-- What the last point leaves, over what the point before left. -/
def leftC (c : Dev nD) (t : Fin cfg0.N) (ht : t.val = 63) (x : Left F) : Left F where
  dq := VO0_10.read (Elt F) (VO0_10.writes (Elt F) VO0_10.junk (runC m c t ht x).1)
  dk := VO0_11.read (Elt F) (VO0_11.writes (Elt F) VO0_11.junk (runC m c t ht x).2.1)
  dv := VO0_12.read (Elt F) (VO0_12.writes (Elt F) VO0_12.junk (runC m c t ht x).2.2.1)
  dgq := (ms0_13 t).view.read (Elt F) ((ms0_13 t).view.writes (Elt F) ((hs0_13 t).unread x.dgq) (runC m c t ht x).2.2.2.1)
  dgk := (ms0_14 t).view.read (Elt F) ((ms0_14 t).view.writes (Elt F) ((hs0_14 t).unread x.dgk) (runC m c t ht x).2.2.2.2.1)
  dsk := VO0_15.read (Elt F) (VO0_15.writes (Elt F) VO0_15.junk (runC m c t ht x).2.2.2.2.2.1)
  carry := VS0_0.read (Elt F) (VS0_0.writes (Elt F) VS0_0.junk (runC m c t ht x).2.2.2.2.2.2.1)
  acc := VS0_1.read (Elt F) (VS0_1.writes (Elt F) VS0_1.junk (runC m c t ht x).2.2.2.2.2.2.2.1)

/-- What the points up to the `n`-th leave. -/
def left (c : Dev nD) : (n : ℕ) → n < cfg0.N → Left F
  | 0, hn => leftA m c ⟨0, hn⟩ rfl
  | n + 1, hn =>
    if h : n + 1 = 63 then leftC m c ⟨n + 1, hn⟩ h (left c n (Nat.lt_of_succ_lt hn))
    else leftB m c ⟨n + 1, hn⟩ ⟨Nat.succ_ne_zero n, h⟩ (left c n (Nat.lt_of_succ_lt hn))

theorem pred_lt {n : ℕ} (h : n < cfg0.N) : n - 1 < cfg0.N := Nat.lt_of_le_of_lt (Nat.sub_le _ _) h

theorem left_A (c : Dev nD) (t : Fin cfg0.N) (ht : t.val = 0) : left m c t.val t.isLt = leftA m c t ht := by
  obtain ⟨n, hn⟩ := t
  obtain rfl : n = 0 := ht
  rfl

theorem left_B (c : Dev nD) (t : Fin cfg0.N) (ht : t.val ≠ 0 ∧ t.val ≠ 63) :
    left m c t.val t.isLt = leftB m c t ht (left m c (t.val - 1) (pred_lt t.isLt)) := by
  obtain ⟨n, hn⟩ := t
  cases n with
  | zero => exact absurd rfl ht.1
  | succ n => exact dif_neg ht.2

theorem left_C (c : Dev nD) (t : Fin cfg0.N) (ht : t.val = 63) :
    left m c t.val t.isLt = leftC m c t ht (left m c (t.val - 1) (pred_lt t.isLt)) := by
  obtain ⟨n, hn⟩ := t
  cases n with
  | zero => exact absurd (show 0 = 63 from ht) (by decide)
  | succ n => exact dif_pos ht

/-- The two scratch buffers at given contents, and the generator register at some state. -/
def held (c : Dev nD) (x : Left F) : sProp 𝕄 :=
  iprop(iprop(owns (c : Thread nD τ) scM0_0 fullShare x.carry ∗ owns (c : Thread nD τ) scM0_1 fullShare x.acc) ∗ (∃ r, prngReg c r))

/-- The invariant before position `n`: at first the scratch at anything, then at what the point before left. -/
def inv (c : Dev nD) : (n : ℕ) → n ≤ cfg0.N → sProp 𝕄
  | 0, _ => Pipeline.ΦA spec0 c
  | n + 1, hn => held c (left m c n hn)

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = held c (left m c (n - 1) (by omega)) := by
  cases n with
  | zero => exact absurd rfl hz
  | succ n => rfl

/-- The pipeline's proof data: each input's buffer keeps its block, each output's holds what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (left m c t.val t.isLt).dq
    | ⟨11, _⟩ => (left m c t.val t.isLt).dk
    | ⟨12, _⟩ => (left m c t.val t.isLt).dv
    | ⟨13, _⟩ => (left m c t.val t.isLt).dgq
    | ⟨14, _⟩ => (left m c t.val t.isLt).dgk
    | ⟨15, _⟩ => (left m c t.val t.isLt).dsk
    | ⟨_ + 16, h⟩ => absurd h (Nat.not_lt.2 (Nat.le_add_left _ _))
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (left m c t.val t.isLt).dq := by dsimp only [dats]
theorem after_11 (c : Dev nD) (t : Fin cfg0.N) : (dats m 0 c).after 11 t = (left m c t.val t.isLt).dk := by dsimp only [dats]
theorem after_12 (c : Dev nD) (t : Fin cfg0.N) : (dats m 0 c).after 12 t = (left m c t.val t.isLt).dv := by dsimp only [dats]
theorem after_13 (c : Dev nD) (t : Fin cfg0.N) : (dats m 0 c).after 13 t = (left m c t.val t.isLt).dgq := by dsimp only [dats]
theorem after_14 (c : Dev nD) (t : Fin cfg0.N) : (dats m 0 c).after 14 t = (left m c t.val t.isLt).dgk := by dsimp only [dats]
theorem after_15 (c : Dev nD) (t : Fin cfg0.N) : (dats m 0 c).after 15 t = (left m c t.val t.isLt).dsk := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- After the first point the `dgq` accumulator's buffer holds what the point before left. -/
theorem before_13 (c : Dev nD) (t : Fin cfg0.N) (ht : t.val ≠ 0) (d) :
    (dats m 0 c).before 13 t d = (left m c (t.val - 1) (pred_lt t.isLt)).dgq := by
  have hN := lt_N t
  rw [Dat.before_out_kept _ 13 rfl t (by omega) (Bool.eq_false_iff.mpr fun h => by have := (flush0_13 _).mp h; dsimp only at this; omega)
    (fun _ => rfl) (fun _ _ => rfl)]
  dsimp only [dats]

/-- After the first point the `dgk` accumulator's buffer holds what the point before left. -/
theorem before_14 (c : Dev nD) (t : Fin cfg0.N) (ht : t.val ≠ 0) (d) :
    (dats m 0 c).before 14 t d = (left m c (t.val - 1) (pred_lt t.isLt)).dgk := by
  have hN := lt_N t
  rw [Dat.before_out_kept _ 14 rfl t (by omega) (Bool.eq_false_iff.mpr fun h => by have := (flush0_14 _).mp h; dsimp only at this; omega)
    (fun _ => rfl) (fun _ _ => rfl)]
  dsimp only [dats]

theorem leaves_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after_0]
theorem leaves_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after_1]
theorem leaves_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after_2]
theorem leaves_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after_3]
theorem leaves_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after_4]
theorem leaves_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after_5]
theorem leaves_6 (c : Dev nD) (t : Fin cfg0.N) :
    (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
    unfold Dat.leavesExact; rw [liveAt0_6 t], after_6]
theorem leaves_7 (c : Dev nD) (t : Fin cfg0.N) :
    (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
    unfold Dat.leavesExact; rw [liveAt0_7 t], after_7]
theorem leaves_8 (c : Dev nD) (t : Fin cfg0.N) :
    (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by
    unfold Dat.leavesExact; rw [liveAt0_8 t], after_8]
theorem leaves_9 (c : Dev nD) (t : Fin cfg0.N) :
    (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by
    unfold Dat.leavesExact; rw [liveAt0_9 t], after_9]
theorem leaves_10 (c : Dev nD) (t : Fin cfg0.N) :
    (dats m 0 c).leavesExact 10 t = owns (c : Thread nD τ) (ms0_10 t) fullShare ((left m c t.val t.isLt).dq) := by
  rw [show (dats m 0 c).leavesExact 10 t = owns (c : Thread nD τ) (ms0_10 t) fullShare ((dats m 0 c).after 10 t) from by
    unfold Dat.leavesExact; rw [liveAt0_10 t], after_10]
theorem leaves_11 (c : Dev nD) (t : Fin cfg0.N) :
    (dats m 0 c).leavesExact 11 t = owns (c : Thread nD τ) (ms0_11 t) fullShare ((left m c t.val t.isLt).dk) := by
  rw [show (dats m 0 c).leavesExact 11 t = owns (c : Thread nD τ) (ms0_11 t) fullShare ((dats m 0 c).after 11 t) from by
    unfold Dat.leavesExact; rw [liveAt0_11 t], after_11]
theorem leaves_12 (c : Dev nD) (t : Fin cfg0.N) :
    (dats m 0 c).leavesExact 12 t = owns (c : Thread nD τ) (ms0_12 t) fullShare ((left m c t.val t.isLt).dv) := by
  rw [show (dats m 0 c).leavesExact 12 t = owns (c : Thread nD τ) (ms0_12 t) fullShare ((dats m 0 c).after 12 t) from by
    unfold Dat.leavesExact; rw [liveAt0_12 t], after_12]
theorem leaves_13 (c : Dev nD) (t : Fin cfg0.N) :
    (dats m 0 c).leavesExact 13 t = owns (c : Thread nD τ) (ms0_13 t) fullShare ((left m c t.val t.isLt).dgq) := by
  rw [show (dats m 0 c).leavesExact 13 t = owns (c : Thread nD τ) (ms0_13 t) fullShare ((dats m 0 c).after 13 t) from by
    unfold Dat.leavesExact; rw [liveAt0_13 t], after_13]
theorem leaves_14 (c : Dev nD) (t : Fin cfg0.N) :
    (dats m 0 c).leavesExact 14 t = owns (c : Thread nD τ) (ms0_14 t) fullShare ((left m c t.val t.isLt).dgk) := by
  rw [show (dats m 0 c).leavesExact 14 t = owns (c : Thread nD τ) (ms0_14 t) fullShare ((dats m 0 c).after 14 t) from by
    unfold Dat.leavesExact; rw [liveAt0_14 t], after_14]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 4000000 in
/-- The body at the first point. -/
theorem soundA (c : Dev nD) (t : Fin cfg0.N) (ht : t.val = 0) :
    bodyPre m c t ⊢ wp frame (wpE (defs₀ (F := F)) Variants.none c none) Set.univ (bodyAt0 t) (fun _ => bodyPost m c t) := by
  have hN := lt_N t
  have hc0 : cond0_0 (grid0.coords t) := ((hcond0_0 t).mpr (by omega))
  have hc1 : ¬cond0_1 (grid0.coords t) := (fun h => by have h2 := (hcond0_1 t).mp h; omega)
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = held c (left m c t.val t.isLt) from rfl, inv_castSucc m c t]
  rw [leaves_0, leaves_1, leaves_2, leaves_3, leaves_4, leaves_5, leaves_6, leaves_7, leaves_8, leaves_9, leaves_10, leaves_11, leaves_12, leaves_13, leaves_14]
  rw [Dat.leavesExact_idle (dats m 0 c) 15 t (idleAt0_15_A t hc0 hc1) (noFlush0_15_A t hc0 hc1)]
  rw [inv_zero m c _ _ ht, PhiA0_eq, left_A m c t ht]
  unfold held leftA; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runA m c t ht).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexact H15
  isplitl [HS0]; · iexact HS0
  isplitl [HS1]; · iexact HS1
  iintro ⟨H0, H1, H2, H3, H4, H5, H6, H7, H8, H9, ⟨%e10, H10⟩, ⟨%e11, H11⟩, ⟨%e12, H12⟩, ⟨%e13, H13⟩, ⟨%e14, H14⟩, H15, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverA_carry m c t ht)
      unfold owns; iexists _; isplitr
      swap; · iexact HS1
      ipureintro; exact View.read_writes_of_cover _ _ _ _ _ (coverA_acc m c t ht)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverA_dq m c t ht)
  isplitl [H11]
  · unfold owns; iexists _; isplitr
    swap; · iexact H11
    ipureintro; exact View.read_writes_of_cover _ _ _ _ _ (coverA_dk m c t ht)
  isplitl [H12]
  · unfold owns; iexists _; isplitr
    swap; · iexact H12
    ipureintro; exact View.read_writes_of_cover _ _ _ _ _ (coverA_dv m c t ht)
  isplitl [H13]
  · unfold owns; iexists _; isplitr
    swap; · iexact H13
    ipureintro; exact View.read_writes_of_cover _ _ _ _ _ (coverA_dgq m c t ht)
  isplitl [H14]
  · unfold owns; iexists _; isplitr
    swap; · iexact H14
    ipureintro; exact View.read_writes_of_cover _ _ _ _ _ (coverA_dgk m c t ht)
  iexists _; iexact H15

set_option maxHeartbeats 4000000 in
/-- The body at a middle point. -/
theorem soundB (c : Dev nD) (t : Fin cfg0.N) (ht : t.val ≠ 0 ∧ t.val ≠ 63) :
    bodyPre m c t ⊢ wp frame (wpE (defs₀ (F := F)) Variants.none c none) Set.univ (bodyAt0 t) (fun _ => bodyPost m c t) := by
  have hN := lt_N t
  have hc0 : ¬cond0_0 (grid0.coords t) := (fun h => ht.1 (by have h2 := (hcond0_0 t).mp h; have := lt_N t; omega))
  have hc1 : ¬cond0_1 (grid0.coords t) := (fun h => ht.2 (by have h2 := (hcond0_1 t).mp h; have := lt_N t; omega))
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = held c (left m c t.val t.isLt) from rfl, inv_castSucc m c t]
  rw [leaves_0, leaves_1, leaves_2, leaves_3, leaves_4, leaves_5, leaves_6, leaves_7, leaves_8, leaves_9, leaves_10, leaves_11, leaves_12, leaves_13, leaves_14]
  rw [Dat.leavesExact_idle (dats m 0 c) 15 t (idleAt0_15_B t hc0 hc1) (noFlush0_15_B t hc0 hc1)]
  rw [inv_pos m c _ _ ht.1, left_B m c t ht]
  simp only [before_13 m c t ht.1, before_14 m c t ht.1]
  generalize left m c (t.val - 1) _ = x
  unfold held leftB; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB m c t ht x).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [HS0]; · iexact HS0
  isplitl [HS1]; · iexact HS1
  iintro ⟨H0, H1, H2, H3, H4, H5, H6, H7, H8, H9, ⟨%e10, H10⟩, ⟨%e11, H11⟩, ⟨%e12, H12⟩, H13, H14, H15, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverB_carry m c t ht x)
      unfold owns; iexists _; isplitr
      swap; · iexact HS1
      ipureintro; exact View.read_writes_of_cover _ _ _ _ _ (coverB_acc m c t ht x)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverB_dq m c t ht x)
  isplitl [H11]
  · unfold owns; iexists _; isplitr
    swap; · iexact H11
    ipureintro; exact View.read_writes_of_cover _ _ _ _ _ (coverB_dk m c t ht x)
  isplitl [H12]
  · unfold owns; iexists _; isplitr
    swap; · iexact H12
    ipureintro; exact View.read_writes_of_cover _ _ _ _ _ (coverB_dv m c t ht x)
  isplitl [H13]
  · unfold owns; iexists _; isplitr
    swap; · iexact H13
    ipureintro; rfl
  isplitl [H14]
  · unfold owns; iexists _; isplitr
    swap; · iexact H14
    ipureintro; rfl
  iexists _; iexact H15

set_option maxHeartbeats 4000000 in
/-- The body at the last point. -/
theorem soundC (c : Dev nD) (t : Fin cfg0.N) (ht : t.val = 63) :
    bodyPre m c t ⊢ wp frame (wpE (defs₀ (F := F)) Variants.none c none) Set.univ (bodyAt0 t) (fun _ => bodyPost m c t) := by
  have hN := lt_N t
  have hc0 : ¬cond0_0 (grid0.coords t) := (fun h => by have h2 := (hcond0_0 t).mp h; omega)
  have hc1 : cond0_1 (grid0.coords t) := ((hcond0_1 t).mpr (by omega))
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = held c (left m c t.val t.isLt) from rfl, inv_castSucc m c t]
  rw [leaves_0, leaves_1, leaves_2, leaves_3, leaves_4, leaves_5, leaves_6, leaves_7, leaves_8, leaves_9, leaves_10, leaves_11, leaves_12, leaves_13, leaves_14]
  rw [show (dats m 0 c).leavesExact 15 t = owns (c : Thread nD τ) (ms0_15 t) fullShare ((dats m 0 c).after 15 t) from by
    unfold Dat.leavesExact; rw [liveAt0_15_C t hc0 hc1], after_15]
  rw [inv_pos m c _ _ (by omega), left_C m c t ht]
  simp only [before_13 m c t (by omega), before_14 m c t (by omega)]
  generalize left m c (t.val - 1) _ = x
  unfold held leftC; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runC m c t ht x).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [H15]; · iexists _; iexact H15
  isplitl [HS0]; · iexact HS0
  isplitl [HS1]; · iexact HS1
  iintro ⟨H0, H1, H2, H3, H4, H5, H6, H7, H8, H9, ⟨%e10, H10⟩, ⟨%e11, H11⟩, ⟨%e12, H12⟩, H13, H14, ⟨%e15, H15⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (coverC_carry m c t ht x)
      unfold owns; iexists _; isplitr
      swap; · iexact HS1
      ipureintro; exact View.read_writes_of_cover _ _ _ _ _ (coverC_acc m c t ht x)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverC_dq m c t ht x)
  isplitl [H11]
  · unfold owns; iexists _; isplitr
    swap; · iexact H11
    ipureintro; exact View.read_writes_of_cover _ _ _ _ _ (coverC_dk m c t ht x)
  isplitl [H12]
  · unfold owns; iexists _; isplitr
    swap; · iexact H12
    ipureintro; exact View.read_writes_of_cover _ _ _ _ _ (coverC_dv m c t ht x)
  isplitl [H13]
  · unfold owns; iexists _; isplitr
    swap; · iexact H13
    ipureintro; rfl
  isplitl [H14]
  · unfold owns; iexists _; isplitr
    swap; · iexact H14
    ipureintro; rfl
  unfold owns; iexists _; isplitr
  swap; · iexact H15
  ipureintro; exact View.read_writes_of_cover _ _ _ _ _ (coverC_dsk m c t ht x)

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact soundA m c t h0
  · by_cases h1 : t.val = 63
    · exact soundC m c t h1
    · exact soundB m c t ⟨h0, h1⟩

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem inv_out (c : Dev nD) : (dats m 0 c).Φ (Fin.last cfg0.N) ⊢ Pipeline.ΦA spec0 c := by
  have hN : cfg0.N = 64 := N_0
  rw [show (dats m 0 c).Φ (Fin.last cfg0.N) = inv m c (Fin.last cfg0.N).val (Nat.le_of_lt_succ (Fin.last cfg0.N).isLt) from rfl,
    inv_pos m c _ _ (by rw [Fin.val_last]; omega), PhiA0_eq]
  unfold held
  iintro ⟨⟨HS0, HS1⟩, Hg⟩
  isplitl [HS0 HS1]
  · isplitl [HS0]
    · iexists _; iexact HS0
    iexists _; iexact HS1
  iexact Hg

-- the launch theorem's implicit arguments are found by unifying its conclusion with this one
set_option backward.isDefEq.respectTransparency.types false in
/-- The launch: every array of the pipeline ends at what the proof data says, and every counter at zero. -/
theorem launch : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)

/-- The frame: every run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.KernelIdeal.Region

end
-- ==== Proof.KernelFrame.lean ====
/- The frame of the kernel as it is run: its text is the idealised one's with the mask's word in place of the named constant,
   so the idealised program's frame, read with that word for the name, is its frame. -/
module

public import proofs.«01_k».proof.Proof.Region
public import proofs.«01_k».proof.Proof.Gen.Kernel
public import proofs.«01_k».proof.Defs

@[expose] public section

noncomputable section

namespace Cert.Proof

open Idealize.ShloMosaic Idealize.SL.Sem

/-- A name read as the word it stands at. -/
local instance named_word : Named Bits where
  named _ _ _ bits := FloatOps.ofBits _ bits

/-- The idealised kernel's frame, at the floats' bits. -/
def FrameIdeal : Prop := ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The same for the kernel as it is run. -/
def FrameBits : Prop := ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

theorem frames_eq : FrameIdeal = FrameBits := by sl_kernel_rfl

theorem kernel_frame : Cert.quiescent_Kernel := fun m ρ _ => (frames_eq ▸ fun m ρ => Cert.KernelIdeal.Region.frame (F := Bits) m ρ : FrameBits) m ρ

end Cert.Proof

end
-- ==== Proof.Tower.lean ====
/- One key/value head's share of a grid point, as a vocabulary of arrays: the block's inputs (`Inp`), and over them what the
   kernel computes, named one by one after the mathematics. The kernel is unrolled over its four heads; every head's
   share is this one text at that head's windows (`inp`), and what a point leaves is stated in it. -/
module

public import proofs.«01_k».proof.Proof.Region
public import Idealize.ShloMosaic.Lib.Pipeline.ValueKit
public import Idealize.ShloMosaic.Lib.Pipeline.ReadBack

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-- The inputs of one head at one point: the block's number, the queries, the previous and the current block's keys and
    values, the result's gradient, the two gains, the slopes and the sinks. -/
structure Inp (F : FTy → Type) [FloatOps F] where
  n : BitVec 32
  q : Vec F S8x128x64 .f32
  kp : Vec F S1x128x64 .f32
  kc : Vec F S1x128x64 .f32
  vp : Vec F S1x128x64 .f32
  vc : Vec F S1x128x64 .f32
  o : Vec F S8x128x64 .bf16
  gq : Vec F S1x64 .f32
  gk : Vec F S1x64 .f32
  sl : Vec F S1x1024x1 .f32
  sk : Vec F S1x1024x1 .f32

namespace Inp

variable (X : Inp F)

/-- The queries' reciprocal root mean squares, the normalised queries, and those times the gain. -/
def rq := k0_pay41 X.q
def hq := k0_pay42 X.q
def qn := k0_pay43 X.gq X.q
/-- The same for the band's keys. -/
def rk := k0_pay45 X.kp X.kc
def hk := k0_pay46 X.kp X.kc
def kg := k0_pay47 X.gk
def kn := k0_pay48 X.hk X.kg
/-- The masked logits, their maximum with the sink's, the exponentials, the sink's exponential. -/
def lg := k0_pay49 X.n X.qn X.hk X.kg X.sl
def mx := k0_pay51 X.n X.qn X.hk X.kg X.sl X.sk
def e := k0_pay52 X.n X.qn X.hk X.kg X.sl X.sk
def es := k0_pay53 X.n X.qn X.hk X.kg X.sl X.sk
/-- The denominator, the weights, the sink's weight. -/
def den := k0_pay54 X.e X.es
def p := k0_pay55 X.e X.es
def ps := k0_pay56 X.e X.es
/-- The weights' gradient, its mean under the weights, the logits' gradient. -/
def dp := k0_pay58 X.vp X.vc X.o
def dl := k0_pay59 X.e X.es X.vp X.vc X.o
def ds := k0_pay60 X.e X.es X.vp X.vc X.o
/-- The gradients of the normalised queries and keys, and of the values. -/
def dqn := k0_pay61 X.kn X.e X.es X.vp X.vc X.o
def dkn := k0_pay62 X.qn X.e X.es X.vp X.vc X.o
def dv := k0_pay63 X.e X.es X.o
/-- The two terms of the queries' gradient, and the keys' gradient. -/
def a := k0_pay64 X.gq X.kn X.e X.es X.vp X.vc X.o
def b := k0_pay65 X.gq X.hq X.kn X.e X.es X.vp X.vc X.o
def dk := k0_pay66 X.gk X.rk X.hk X.dkn
/-- What is stored: the queries' gradient, a row of each gain's sum, the current block's key and value gradients over
    the carried ones, the previous block's two gradients to carry, and the sinks' sum. -/
def outQ := k0_pay67 X.rq X.a X.b
def outGq (r : Vec F S1x64 .f32) := k0_pay68 X.hq X.dqn r
def outGk (r : Vec F S1x64 .f32) := k0_pay69 X.hk X.dkn r
def outK (r : Vec F S1x1x128x64 .f32) := k0_pay71 (k0_pay70 X.gk X.rk X.hk X.dkn r)
def outV (r : Vec F S1x1x128x64 .f32) := k0_pay72 X.dv r
def outCk := k0_pay73 X.dk
def outCv := k0_pay74 X.dv
def outAcc (r : Vec F S1x1024x1 .f32) := k0_pay75 X.ps X.dl r

end Inp

variable (m : (ℓ : Loc nD τ sig) → Buf (Elt F) ℓ)

/-- Head 0's inputs at point `t`. -/
def inp0 (c : Dev nD) (t : Fin cfg0.N) : Inp F where
  n := Scalar.subi 63#32 (BitVec.ofNat 32 (grid0.coords t 0).val)
  q := View.ld (iblk m c 0 t) (Rect.unit (s := S32x128x64) ![0, 0, 0] S8x128x64.size inb_S32x128x64_S8x128x64_0_0_0)
  kp := View.ld (iblk m c 1 t) (Rect.unit (s := S4x128x64) ![0, 0, 0] S1x128x64.size inb_S4x128x64_S1x128x64_0_0_0)
  kc := View.ld (iblk m c 2 t) (Rect.unit (s := S4x128x64) ![0, 0, 0] S1x128x64.size inb_S4x128x64_S1x128x64_0_0_0)
  vp := View.ld (iblk m c 3 t) (Rect.unit (s := S4x128x64) ![0, 0, 0] S1x128x64.size inb_S4x128x64_S1x128x64_0_0_0)
  vc := View.ld (iblk m c 4 t) (Rect.unit (s := S4x128x64) ![0, 0, 0] S1x128x64.size inb_S4x128x64_S1x128x64_0_0_0)
  o := View.ld (iblk m c 5 t) (Rect.unit (s := S32x128x64) ![0, 0, 0] S8x128x64.size inb_S32x128x64_S8x128x64_0_0_0)
  gq := iblk m c 6 t
  gk := iblk m c 7 t
  sl := View.ld (iblk m c 8 t) (Rect.unit (s := S4x1024x1) ![0, 0, 0] S1x1024x1.size inb_S4x1024x1_S1x1024x1_0_0_0)
  sk := View.ld (iblk m c 9 t) (Rect.unit (s := S4x1024x1) ![0, 0, 0] S1x1024x1.size inb_S4x1024x1_S1x1024x1_0_0_0)

/-- Head 1's inputs at point `t`. -/
def inp1 (c : Dev nD) (t : Fin cfg0.N) : Inp F where
  n := Scalar.subi 63#32 (BitVec.ofNat 32 (grid0.coords t 0).val)
  q := View.ld (iblk m c 0 t) (Rect.unit (s := S32x128x64) ![8, 0, 0] S8x128x64.size inb_S32x128x64_S8x128x64_8_0_0)
  kp := View.ld (iblk m c 1 t) (Rect.unit (s := S4x128x64) ![1, 0, 0] S1x128x64.size inb_S4x128x64_S1x128x64_1_0_0)
  kc := View.ld (iblk m c 2 t) (Rect.unit (s := S4x128x64) ![1, 0, 0] S1x128x64.size inb_S4x128x64_S1x128x64_1_0_0)
  vp := View.ld (iblk m c 3 t) (Rect.unit (s := S4x128x64) ![1, 0, 0] S1x128x64.size inb_S4x128x64_S1x128x64_1_0_0)
  vc := View.ld (iblk m c 4 t) (Rect.unit (s := S4x128x64) ![1, 0, 0] S1x128x64.size inb_S4x128x64_S1x128x64_1_0_0)
  o := View.ld (iblk m c 5 t) (Rect.unit (s := S32x128x64) ![8, 0, 0] S8x128x64.size inb_S32x128x64_S8x128x64_8_0_0)
  gq := iblk m c 6 t
  gk := iblk m c 7 t
  sl := View.ld (iblk m c 8 t) (Rect.unit (s := S4x1024x1) ![1, 0, 0] S1x1024x1.size inb_S4x1024x1_S1x1024x1_1_0_0)
  sk := View.ld (iblk m c 9 t) (Rect.unit (s := S4x1024x1) ![1, 0, 0] S1x1024x1.size inb_S4x1024x1_S1x1024x1_1_0_0)

/-- Head 2's inputs at point `t`. -/
def inp2 (c : Dev nD) (t : Fin cfg0.N) : Inp F where
  n := Scalar.subi 63#32 (BitVec.ofNat 32 (grid0.coords t 0).val)
  q := View.ld (iblk m c 0 t) (Rect.unit (s := S32x128x64) ![16, 0, 0] S8x128x64.size inb_S32x128x64_S8x128x64_16_0_0)
  kp := View.ld (iblk m c 1 t) (Rect.unit (s := S4x128x64) ![2, 0, 0] S1x128x64.size inb_S4x128x64_S1x128x64_2_0_0)
  kc := View.ld (iblk m c 2 t) (Rect.unit (s := S4x128x64) ![2, 0, 0] S1x128x64.size inb_S4x128x64_S1x128x64_2_0_0)
  vp := View.ld (iblk m c 3 t) (Rect.unit (s := S4x128x64) ![2, 0, 0] S1x128x64.size inb_S4x128x64_S1x128x64_2_0_0)
  vc := View.ld (iblk m c 4 t) (Rect.unit (s := S4x128x64) ![2, 0, 0] S1x128x64.size inb_S4x128x64_S1x128x64_2_0_0)
  o := View.ld (iblk m c 5 t) (Rect.unit (s := S32x128x64) ![16, 0, 0] S8x128x64.size inb_S32x128x64_S8x128x64_16_0_0)
  gq := iblk m c 6 t
  gk := iblk m c 7 t
  sl := View.ld (iblk m c 8 t) (Rect.unit (s := S4x1024x1) ![2, 0, 0] S1x1024x1.size inb_S4x1024x1_S1x1024x1_2_0_0)
  sk := View.ld (iblk m c 9 t) (Rect.unit (s := S4x1024x1) ![2, 0, 0] S1x1024x1.size inb_S4x1024x1_S1x1024x1_2_0_0)

/-- Head 3's inputs at point `t`. -/
def inp3 (c : Dev nD) (t : Fin cfg0.N) : Inp F where
  n := Scalar.subi 63#32 (BitVec.ofNat 32 (grid0.coords t 0).val)
  q := View.ld (iblk m c 0 t) (Rect.unit (s := S32x128x64) ![24, 0, 0] S8x128x64.size inb_S32x128x64_S8x128x64_24_0_0)
  kp := View.ld (iblk m c 1 t) (Rect.unit (s := S4x128x64) ![3, 0, 0] S1x128x64.size inb_S4x128x64_S1x128x64_3_0_0)
  kc := View.ld (iblk m c 2 t) (Rect.unit (s := S4x128x64) ![3, 0, 0] S1x128x64.size inb_S4x128x64_S1x128x64_3_0_0)
  vp := View.ld (iblk m c 3 t) (Rect.unit (s := S4x128x64) ![3, 0, 0] S1x128x64.size inb_S4x128x64_S1x128x64_3_0_0)
  vc := View.ld (iblk m c 4 t) (Rect.unit (s := S4x128x64) ![3, 0, 0] S1x128x64.size inb_S4x128x64_S1x128x64_3_0_0)
  o := View.ld (iblk m c 5 t) (Rect.unit (s := S32x128x64) ![24, 0, 0] S8x128x64.size inb_S32x128x64_S8x128x64_24_0_0)
  gq := iblk m c 6 t
  gk := iblk m c 7 t
  sl := View.ld (iblk m c 8 t) (Rect.unit (s := S4x1024x1) ![3, 0, 0] S1x1024x1.size inb_S4x1024x1_S1x1024x1_3_0_0)
  sk := View.ld (iblk m c 9 t) (Rect.unit (s := S4x1024x1) ![3, 0, 0] S1x1024x1.size inb_S4x1024x1_S1x1024x1_3_0_0)

/-! What the first point leaves. -/

theorem leftA_dq (c : Dev nD) (t : Fin cfg0.N) (ht : t.val = 0) : (leftA m c t ht).dq = View.canon
     [⟨Rect.unit (s := S32x128x64) ![24, 0, 0] S8x128x64.size inb_S32x128x64_S8x128x64_24_0_0, (inp3 m c t).outQ⟩,
      ⟨Rect.unit (s := S32x128x64) ![16, 0, 0] S8x128x64.size inb_S32x128x64_S8x128x64_16_0_0, (inp2 m c t).outQ⟩,
      ⟨Rect.unit (s := S32x128x64) ![8, 0, 0] S8x128x64.size inb_S32x128x64_S8x128x64_8_0_0, (inp1 m c t).outQ⟩,
      ⟨Rect.unit (s := S32x128x64) ![0, 0, 0] S8x128x64.size inb_S32x128x64_S8x128x64_0_0_0, (inp0 m c t).outQ⟩] := by
  unfold leftA; dsimp only
  rw [View.read_writes_junk_eq_canon]
  unfold runA
  frame_open
  try simp (disch := decide) only [↓ View.readCov_skip, ↓ View.readCov_cons_toLoadRect, ↓ View.readCov_fill]
  frame_out
  try simp only [read_unread_whole]
  sl_kernel_rfl

theorem leftA_dk (c : Dev nD) (t : Fin cfg0.N) (ht : t.val = 0) : (leftA m c t ht).dk = View.canon
     [⟨Rect.unit (s := S4x128x64) ![3, 0, 0] S1x128x64.size inb_S4x128x64_S1x128x64_3_0_0, (inp3 m c t).outK (View.ld k0_pay38 (Rect.unit (s := S4x2x128x64) ![3, 0, 0, 0] S1x1x128x64.size inb_S4x2x128x64_S1x1x128x64_3_0_0_0))⟩,
      ⟨Rect.unit (s := S4x128x64) ![2, 0, 0] S1x128x64.size inb_S4x128x64_S1x128x64_2_0_0, (inp2 m c t).outK (View.ld k0_pay38 (Rect.unit (s := S4x2x128x64) ![2, 0, 0, 0] S1x1x128x64.size inb_S4x2x128x64_S1x1x128x64_2_0_0_0))⟩,
      ⟨Rect.unit (s := S4x128x64) ![1, 0, 0] S1x128x64.size inb_S4x128x64_S1x128x64_1_0_0, (inp1 m c t).outK (View.ld k0_pay38 (Rect.unit (s := S4x2x128x64) ![1, 0, 0, 0] S1x1x128x64.size inb_S4x2x128x64_S1x1x128x64_1_0_0_0))⟩,
      ⟨Rect.unit (s := S4x128x64) ![0, 0, 0] S1x128x64.size inb_S4x128x64_S1x128x64_0_0_0, (inp0 m c t).outK (View.ld k0_pay38 (Rect.unit (s := S4x2x128x64) ![0, 0, 0, 0] S1x1x128x64.size inb_S4x2x128x64_S1x1x128x64_0_0_0_0))⟩] := by
  unfold leftA; dsimp only
  rw [View.read_writes_junk_eq_canon]
  unfold runA
  frame_open
  try simp (disch := decide) only [↓ View.readCov_skip, ↓ View.readCov_cons_toLoadRect, ↓ View.readCov_fill]
  frame_out
  try simp only [read_unread_whole]
  sl_kernel_rfl

theorem leftA_dv (c : Dev nD) (t : Fin cfg0.N) (ht : t.val = 0) : (leftA m c t ht).dv = View.canon
     [⟨Rect.unit (s := S4x128x64) ![3, 0, 0] S1x128x64.size inb_S4x128x64_S1x128x64_3_0_0, (inp3 m c t).outV (View.ld k0_pay38 (Rect.unit (s := S4x2x128x64) ![3, 1, 0, 0] S1x1x128x64.size inb_S4x2x128x64_S1x1x128x64_3_1_0_0))⟩,
      ⟨Rect.unit (s := S4x128x64) ![2, 0, 0] S1x128x64.size inb_S4x128x64_S1x128x64_2_0_0, (inp2 m c t).outV (View.ld k0_pay38 (Rect.unit (s := S4x2x128x64) ![2, 1, 0, 0] S1x1x128x64.size inb_S4x2x128x64_S1x1x128x64_2_1_0_0))⟩,
      ⟨Rect.unit (s := S4x128x64) ![1, 0, 0] S1x128x64.size inb_S4x128x64_S1x128x64_1_0_0, (inp1 m c t).outV (View.ld k0_pay38 (Rect.unit (s := S4x2x128x64) ![1, 1, 0, 0] S1x1x128x64.size inb_S4x2x128x64_S1x1x128x64_1_1_0_0))⟩,
      ⟨Rect.unit (s := S4x128x64) ![0, 0, 0] S1x128x64.size inb_S4x128x64_S1x128x64_0_0_0, (inp0 m c t).outV (View.ld k0_pay38 (Rect.unit (s := S4x2x128x64) ![0, 1, 0, 0] S1x1x128x64.size inb_S4x2x128x64_S1x1x128x64_0_1_0_0))⟩] := by
  unfold leftA; dsimp only
  rw [View.read_writes_junk_eq_canon]
  unfold runA
  frame_open
  try simp (disch := decide) only [↓ View.readCov_skip, ↓ View.readCov_cons_toLoadRect, ↓ View.readCov_fill]
  frame_out
  try simp only [read_unread_whole]
  sl_kernel_rfl

theorem leftA_carry (c : Dev nD) (t : Fin cfg0.N) (ht : t.val = 0) : (leftA m c t ht).carry = View.canon
     [⟨Rect.unit (s := S4x2x128x64) ![3, 1, 0, 0] S1x1x128x64.size inb_S4x2x128x64_S1x1x128x64_3_1_0_0, (inp3 m c t).outCv⟩,
      ⟨Rect.unit (s := S4x2x128x64) ![3, 0, 0, 0] S1x1x128x64.size inb_S4x2x128x64_S1x1x128x64_3_0_0_0, (inp3 m c t).outCk⟩,
      ⟨Rect.unit (s := S4x2x128x64) ![2, 1, 0, 0] S1x1x128x64.size inb_S4x2x128x64_S1x1x128x64_2_1_0_0, (inp2 m c t).outCv⟩,
      ⟨Rect.unit (s := S4x2x128x64) ![2, 0, 0, 0] S1x1x128x64.size inb_S4x2x128x64_S1x1x128x64_2_0_0_0, (inp2 m c t).outCk⟩,
      ⟨Rect.unit (s := S4x2x128x64) ![1, 1, 0, 0] S1x1x128x64.size inb_S4x2x128x64_S1x1x128x64_1_1_0_0, (inp1 m c t).outCv⟩,
      ⟨Rect.unit (s := S4x2x128x64) ![1, 0, 0, 0] S1x1x128x64.size inb_S4x2x128x64_S1x1x128x64_1_0_0_0, (inp1 m c t).outCk⟩,
      ⟨Rect.unit (s := S4x2x128x64) ![0, 1, 0, 0] S1x1x128x64.size inb_S4x2x128x64_S1x1x128x64_0_1_0_0, (inp0 m c t).outCv⟩,
      ⟨Rect.unit (s := S4x2x128x64) ![0, 0, 0, 0] S1x1x128x64.size inb_S4x2x128x64_S1x1x128x64_0_0_0_0, (inp0 m c t).outCk⟩,
      ⟨Rect.unit (s := S4x2x128x64) ![0, 0, 0, 0] S4x2x128x64.size inb_S4x2x128x64_S4x2x128x64_0_0_0_0, k0_pay38⟩] := by
  unfold leftA; dsimp only
  rw [View.read_writes_junk_eq_canon]
  unfold runA
  frame_open
  try simp (disch := decide) only [↓ View.readCov_skip, ↓ View.readCov_cons_toLoadRect, ↓ View.readCov_fill]
  frame_out
  try simp only [read_unread_whole]
  sl_kernel_rfl

theorem leftA_acc (c : Dev nD) (t : Fin cfg0.N) (ht : t.val = 0) : (leftA m c t ht).acc = View.canon
     [⟨Rect.unit (s := S4x1024x1) ![3, 0, 0] S1x1024x1.size inb_S4x1024x1_S1x1024x1_3_0_0, (inp3 m c t).outAcc (View.ld k0_pay39 (Rect.unit (s := S4x1024x1) ![3, 0, 0] S1x1024x1.size inb_S4x1024x1_S1x1024x1_3_0_0))⟩,
      ⟨Rect.unit (s := S4x1024x1) ![2, 0, 0] S1x1024x1.size inb_S4x1024x1_S1x1024x1_2_0_0, (inp2 m c t).outAcc (View.ld k0_pay39 (Rect.unit (s := S4x1024x1) ![2, 0, 0] S1x1024x1.size inb_S4x1024x1_S1x1024x1_2_0_0))⟩,
      ⟨Rect.unit (s := S4x1024x1) ![1, 0, 0] S1x1024x1.size inb_S4x1024x1_S1x1024x1_1_0_0, (inp1 m c t).outAcc (View.ld k0_pay39 (Rect.unit (s := S4x1024x1) ![1, 0, 0] S1x1024x1.size inb_S4x1024x1_S1x1024x1_1_0_0))⟩,
      ⟨Rect.unit (s := S4x1024x1) ![0, 0, 0] S1x1024x1.size inb_S4x1024x1_S1x1024x1_0_0_0, (inp0 m c t).outAcc (View.ld k0_pay39 (Rect.unit (s := S4x1024x1) ![0, 0, 0] S1x1024x1.size inb_S4x1024x1_S1x1024x1_0_0_0))⟩,
      ⟨Rect.unit (s := S4x1024x1) ![0, 0, 0] S4x1024x1.size inb_S4x1024x1_S4x1024x1_0_0_0, k0_pay39⟩] := by
  unfold leftA; dsimp only
  rw [View.read_writes_junk_eq_canon]
  unfold runA
  frame_open
  try simp (disch := decide) only [↓ View.readCov_skip, ↓ View.readCov_cons_toLoadRect, ↓ View.readCov_fill]
  frame_out
  try simp only [read_unread_whole]
  sl_kernel_rfl

/-! What a middle point leaves. -/

theorem leftB_dq (c : Dev nD) (t : Fin cfg0.N) (ht : t.val ≠ 0 ∧ t.val ≠ 63) (x : Left F) : (leftB m c t ht x).dq = View.canon
     [⟨Rect.unit (s := S32x128x64) ![24, 0, 0] S8x128x64.size inb_S32x128x64_S8x128x64_24_0_0, (inp3 m c t).outQ⟩,
      ⟨Rect.unit (s := S32x128x64) ![16, 0, 0] S8x128x64.size inb_S32x128x64_S8x128x64_16_0_0, (inp2 m c t).outQ⟩,
      ⟨Rect.unit (s := S32x128x64) ![8, 0, 0] S8x128x64.size inb_S32x128x64_S8x128x64_8_0_0, (inp1 m c t).outQ⟩,
      ⟨Rect.unit (s := S32x128x64) ![0, 0, 0] S8x128x64.size inb_S32x128x64_S8x128x64_0_0_0, (inp0 m c t).outQ⟩] := by
  unfold leftB; dsimp only
  rw [View.read_writes_junk_eq_canon]
  unfold runB
  frame_open
  try simp (disch := decide) only [↓ View.readCov_skip, ↓ View.readCov_cons_toLoadRect, ↓ View.readCov_fill]
  frame_out
  try simp only [read_unread_whole]
  sl_kernel_rfl

theorem leftB_dk (c : Dev nD) (t : Fin cfg0.N) (ht : t.val ≠ 0 ∧ t.val ≠ 63) (x : Left F) : (leftB m c t ht x).dk = View.canon
     [⟨Rect.unit (s := S4x128x64) ![3, 0, 0] S1x128x64.size inb_S4x128x64_S1x128x64_3_0_0, (inp3 m c t).outK (View.ld x.carry (Rect.unit (s := S4x2x128x64) ![3, 0, 0, 0] S1x1x128x64.size inb_S4x2x128x64_S1x1x128x64_3_0_0_0))⟩,
      ⟨Rect.unit (s := S4x128x64) ![2, 0, 0] S1x128x64.size inb_S4x128x64_S1x128x64_2_0_0, (inp2 m c t).outK (View.ld x.carry (Rect.unit (s := S4x2x128x64) ![2, 0, 0, 0] S1x1x128x64.size inb_S4x2x128x64_S1x1x128x64_2_0_0_0))⟩,
      ⟨Rect.unit (s := S4x128x64) ![1, 0, 0] S1x128x64.size inb_S4x128x64_S1x128x64_1_0_0, (inp1 m c t).outK (View.ld x.carry (Rect.unit (s := S4x2x128x64) ![1, 0, 0, 0] S1x1x128x64.size inb_S4x2x128x64_S1x1x128x64_1_0_0_0))⟩,
      ⟨Rect.unit (s := S4x128x64) ![0, 0, 0] S1x128x64.size inb_S4x128x64_S1x128x64_0_0_0, (inp0 m c t).outK (View.ld x.carry (Rect.unit (s := S4x2x128x64) ![0, 0, 0, 0] S1x1x128x64.size inb_S4x2x128x64_S1x1x128x64_0_0_0_0))⟩] := by
  unfold leftB; dsimp only
  rw [View.read_writes_junk_eq_canon]
  unfold runB
  frame_open
  try simp (disch := decide) only [↓ View.readCov_skip, ↓ View.readCov_cons_toLoadRect, ↓ View.readCov_fill]
  frame_out
  try simp only [read_unread_whole]
  sl_kernel_rfl

theorem leftB_dv (c : Dev nD) (t : Fin cfg0.N) (ht : t.val ≠ 0 ∧ t.val ≠ 63) (x : Left F) : (leftB m c t ht x).dv = View.canon
     [⟨Rect.unit (s := S4x128x64) ![3, 0, 0] S1x128x64.size inb_S4x128x64_S1x128x64_3_0_0, (inp3 m c t).outV (View.ld x.carry (Rect.unit (s := S4x2x128x64) ![3, 1, 0, 0] S1x1x128x64.size inb_S4x2x128x64_S1x1x128x64_3_1_0_0))⟩,
      ⟨Rect.unit (s := S4x128x64) ![2, 0, 0] S1x128x64.size inb_S4x128x64_S1x128x64_2_0_0, (inp2 m c t).outV (View.ld x.carry (Rect.unit (s := S4x2x128x64) ![2, 1, 0, 0] S1x1x128x64.size inb_S4x2x128x64_S1x1x128x64_2_1_0_0))⟩,
      ⟨Rect.unit (s := S4x128x64) ![1, 0, 0] S1x128x64.size inb_S4x128x64_S1x128x64_1_0_0, (inp1 m c t).outV (View.ld x.carry (Rect.unit (s := S4x2x128x64) ![1, 1, 0, 0] S1x1x128x64.size inb_S4x2x128x64_S1x1x128x64_1_1_0_0))⟩,
      ⟨Rect.unit (s := S4x128x64) ![0, 0, 0] S1x128x64.size inb_S4x128x64_S1x128x64_0_0_0, (inp0 m c t).outV (View.ld x.carry (Rect.unit (s := S4x2x128x64) ![0, 1, 0, 0] S1x1x128x64.size inb_S4x2x128x64_S1x1x128x64_0_1_0_0))⟩] := by
  unfold leftB; dsimp only
  rw [View.read_writes_junk_eq_canon]
  unfold runB
  frame_open
  try simp (disch := decide) only [↓ View.readCov_skip, ↓ View.readCov_cons_toLoadRect, ↓ View.readCov_fill]
  frame_out
  try simp only [read_unread_whole]
  sl_kernel_rfl

theorem leftB_carry (c : Dev nD) (t : Fin cfg0.N) (ht : t.val ≠ 0 ∧ t.val ≠ 63) (x : Left F) : (leftB m c t ht x).carry = View.canon
     [⟨Rect.unit (s := S4x2x128x64) ![3, 1, 0, 0] S1x1x128x64.size inb_S4x2x128x64_S1x1x128x64_3_1_0_0, (inp3 m c t).outCv⟩,
      ⟨Rect.unit (s := S4x2x128x64) ![3, 0, 0, 0] S1x1x128x64.size inb_S4x2x128x64_S1x1x128x64_3_0_0_0, (inp3 m c t).outCk⟩,
      ⟨Rect.unit (s := S4x2x128x64) ![2, 1, 0, 0] S1x1x128x64.size inb_S4x2x128x64_S1x1x128x64_2_1_0_0, (inp2 m c t).outCv⟩,
      ⟨Rect.unit (s := S4x2x128x64) ![2, 0, 0, 0] S1x1x128x64.size inb_S4x2x128x64_S1x1x128x64_2_0_0_0, (inp2 m c t).outCk⟩,
      ⟨Rect.unit (s := S4x2x128x64) ![1, 1, 0, 0] S1x1x128x64.size inb_S4x2x128x64_S1x1x128x64_1_1_0_0, (inp1 m c t).outCv⟩,
      ⟨Rect.unit (s := S4x2x128x64) ![1, 0, 0, 0] S1x1x128x64.size inb_S4x2x128x64_S1x1x128x64_1_0_0_0, (inp1 m c t).outCk⟩,
      ⟨Rect.unit (s := S4x2x128x64) ![0, 1, 0, 0] S1x1x128x64.size inb_S4x2x128x64_S1x1x128x64_0_1_0_0, (inp0 m c t).outCv⟩,
      ⟨Rect.unit (s := S4x2x128x64) ![0, 0, 0, 0] S1x1x128x64.size inb_S4x2x128x64_S1x1x128x64_0_0_0_0, (inp0 m c t).outCk⟩] := by
  unfold leftB; dsimp only
  rw [View.read_writes_junk_eq_canon]
  unfold runB
  frame_open
  try simp (disch := decide) only [↓ View.readCov_skip, ↓ View.readCov_cons_toLoadRect, ↓ View.readCov_fill]
  frame_out
  try simp only [read_unread_whole]
  sl_kernel_rfl

theorem leftB_acc (c : Dev nD) (t : Fin cfg0.N) (ht : t.val ≠ 0 ∧ t.val ≠ 63) (x : Left F) : (leftB m c t ht x).acc = View.canon
     [⟨Rect.unit (s := S4x1024x1) ![3, 0, 0] S1x1024x1.size inb_S4x1024x1_S1x1024x1_3_0_0, (inp3 m c t).outAcc (View.ld x.acc (Rect.unit (s := S4x1024x1) ![3, 0, 0] S1x1024x1.size inb_S4x1024x1_S1x1024x1_3_0_0))⟩,
      ⟨Rect.unit (s := S4x1024x1) ![2, 0, 0] S1x1024x1.size inb_S4x1024x1_S1x1024x1_2_0_0, (inp2 m c t).outAcc (View.ld x.acc (Rect.unit (s := S4x1024x1) ![2, 0, 0] S1x1024x1.size inb_S4x1024x1_S1x1024x1_2_0_0))⟩,
      ⟨Rect.unit (s := S4x1024x1) ![1, 0, 0] S1x1024x1.size inb_S4x1024x1_S1x1024x1_1_0_0, (inp1 m c t).outAcc (View.ld x.acc (Rect.unit (s := S4x1024x1) ![1, 0, 0] S1x1024x1.size inb_S4x1024x1_S1x1024x1_1_0_0))⟩,
      ⟨Rect.unit (s := S4x1024x1) ![0, 0, 0] S1x1024x1.size inb_S4x1024x1_S1x1024x1_0_0_0, (inp0 m c t).outAcc (View.ld x.acc (Rect.unit (s := S4x1024x1) ![0, 0, 0] S1x1024x1.size inb_S4x1024x1_S1x1024x1_0_0_0))⟩] := by
  unfold leftB; dsimp only
  rw [View.read_writes_junk_eq_canon]
  unfold runB
  frame_open
  try simp (disch := decide) only [↓ View.readCov_skip, ↓ View.readCov_cons_toLoadRect, ↓ View.readCov_fill]
  frame_out
  try simp only [read_unread_whole]
  sl_kernel_rfl

/-! What the last point leaves. -/

theorem leftC_dq (c : Dev nD) (t : Fin cfg0.N) (ht : t.val = 63) (x : Left F) : (leftC m c t ht x).dq = View.canon
     [⟨Rect.unit (s := S32x128x64) ![24, 0, 0] S8x128x64.size inb_S32x128x64_S8x128x64_24_0_0, (inp3 m c t).outQ⟩,
      ⟨Rect.unit (s := S32x128x64) ![16, 0, 0] S8x128x64.size inb_S32x128x64_S8x128x64_16_0_0, (inp2 m c t).outQ⟩,
      ⟨Rect.unit (s := S32x128x64) ![8, 0, 0] S8x128x64.size inb_S32x128x64_S8x128x64_8_0_0, (inp1 m c t).outQ⟩,
      ⟨Rect.unit (s := S32x128x64) ![0, 0, 0] S8x128x64.size inb_S32x128x64_S8x128x64_0_0_0, (inp0 m c t).outQ⟩] := by
  unfold leftC; dsimp only
  rw [View.read_writes_junk_eq_canon]
  unfold runC
  frame_open
  try simp (disch := decide) only [↓ View.readCov_skip, ↓ View.readCov_cons_toLoadRect, ↓ View.readCov_fill]
  frame_out
  try simp only [read_unread_whole]
  sl_kernel_rfl

theorem leftC_dk (c : Dev nD) (t : Fin cfg0.N) (ht : t.val = 63) (x : Left F) : (leftC m c t ht x).dk = View.canon
     [⟨Rect.unit (s := S4x128x64) ![3, 0, 0] S1x128x64.size inb_S4x128x64_S1x128x64_3_0_0, (inp3 m c t).outK (View.ld x.carry (Rect.unit (s := S4x2x128x64) ![3, 0, 0, 0] S1x1x128x64.size inb_S4x2x128x64_S1x1x128x64_3_0_0_0))⟩,
      ⟨Rect.unit (s := S4x128x64) ![2, 0, 0] S1x128x64.size inb_S4x128x64_S1x128x64_2_0_0, (inp2 m c t).outK (View.ld x.carry (Rect.unit (s := S4x2x128x64) ![2, 0, 0, 0] S1x1x128x64.size inb_S4x2x128x64_S1x1x128x64_2_0_0_0))⟩,
      ⟨Rect.unit (s := S4x128x64) ![1, 0, 0] S1x128x64.size inb_S4x128x64_S1x128x64_1_0_0, (inp1 m c t).outK (View.ld x.carry (Rect.unit (s := S4x2x128x64) ![1, 0, 0, 0] S1x1x128x64.size inb_S4x2x128x64_S1x1x128x64_1_0_0_0))⟩,
      ⟨Rect.unit (s := S4x128x64) ![0, 0, 0] S1x128x64.size inb_S4x128x64_S1x128x64_0_0_0, (inp0 m c t).outK (View.ld x.carry (Rect.unit (s := S4x2x128x64) ![0, 0, 0, 0] S1x1x128x64.size inb_S4x2x128x64_S1x1x128x64_0_0_0_0))⟩] := by
  unfold leftC; dsimp only
  rw [View.read_writes_junk_eq_canon]
  unfold runC
  frame_open
  try simp (disch := decide) only [↓ View.readCov_skip, ↓ View.readCov_cons_toLoadRect, ↓ View.readCov_fill]
  frame_out
  try simp only [read_unread_whole]
  sl_kernel_rfl

theorem leftC_dv (c : Dev nD) (t : Fin cfg0.N) (ht : t.val = 63) (x : Left F) : (leftC m c t ht x).dv = View.canon
     [⟨Rect.unit (s := S4x128x64) ![3, 0, 0] S1x128x64.size inb_S4x128x64_S1x128x64_3_0_0, (inp3 m c t).outV (View.ld x.carry (Rect.unit (s := S4x2x128x64) ![3, 1, 0, 0] S1x1x128x64.size inb_S4x2x128x64_S1x1x128x64_3_1_0_0))⟩,
      ⟨Rect.unit (s := S4x128x64) ![2, 0, 0] S1x128x64.size inb_S4x128x64_S1x128x64_2_0_0, (inp2 m c t).outV (View.ld x.carry (Rect.unit (s := S4x2x128x64) ![2, 1, 0, 0] S1x1x128x64.size inb_S4x2x128x64_S1x1x128x64_2_1_0_0))⟩,
      ⟨Rect.unit (s := S4x128x64) ![1, 0, 0] S1x128x64.size inb_S4x128x64_S1x128x64_1_0_0, (inp1 m c t).outV (View.ld x.carry (Rect.unit (s := S4x2x128x64) ![1, 1, 0, 0] S1x1x128x64.size inb_S4x2x128x64_S1x1x128x64_1_1_0_0))⟩,
      ⟨Rect.unit (s := S4x128x64) ![0, 0, 0] S1x128x64.size inb_S4x128x64_S1x128x64_0_0_0, (inp0 m c t).outV (View.ld x.carry (Rect.unit (s := S4x2x128x64) ![0, 1, 0, 0] S1x1x128x64.size inb_S4x2x128x64_S1x1x128x64_0_1_0_0))⟩] := by
  unfold leftC; dsimp only
  rw [View.read_writes_junk_eq_canon]
  unfold runC
  frame_open
  try simp (disch := decide) only [↓ View.readCov_skip, ↓ View.readCov_cons_toLoadRect, ↓ View.readCov_fill]
  frame_out
  try simp only [read_unread_whole]
  sl_kernel_rfl

theorem leftC_carry (c : Dev nD) (t : Fin cfg0.N) (ht : t.val = 63) (x : Left F) : (leftC m c t ht x).carry = View.canon
     [⟨Rect.unit (s := S4x2x128x64) ![3, 1, 0, 0] S1x1x128x64.size inb_S4x2x128x64_S1x1x128x64_3_1_0_0, (inp3 m c t).outCv⟩,
      ⟨Rect.unit (s := S4x2x128x64) ![3, 0, 0, 0] S1x1x128x64.size inb_S4x2x128x64_S1x1x128x64_3_0_0_0, (inp3 m c t).outCk⟩,
      ⟨Rect.unit (s := S4x2x128x64) ![2, 1, 0, 0] S1x1x128x64.size inb_S4x2x128x64_S1x1x128x64_2_1_0_0, (inp2 m c t).outCv⟩,
      ⟨Rect.unit (s := S4x2x128x64) ![2, 0, 0, 0] S1x1x128x64.size inb_S4x2x128x64_S1x1x128x64_2_0_0_0, (inp2 m c t).outCk⟩,
      ⟨Rect.unit (s := S4x2x128x64) ![1, 1, 0, 0] S1x1x128x64.size inb_S4x2x128x64_S1x1x128x64_1_1_0_0, (inp1 m c t).outCv⟩,
      ⟨Rect.unit (s := S4x2x128x64) ![1, 0, 0, 0] S1x1x128x64.size inb_S4x2x128x64_S1x1x128x64_1_0_0_0, (inp1 m c t).outCk⟩,
      ⟨Rect.unit (s := S4x2x128x64) ![0, 1, 0, 0] S1x1x128x64.size inb_S4x2x128x64_S1x1x128x64_0_1_0_0, (inp0 m c t).outCv⟩,
      ⟨Rect.unit (s := S4x2x128x64) ![0, 0, 0, 0] S1x1x128x64.size inb_S4x2x128x64_S1x1x128x64_0_0_0_0, (inp0 m c t).outCk⟩] := by
  unfold leftC; dsimp only
  rw [View.read_writes_junk_eq_canon]
  unfold runC
  frame_open
  try simp (disch := decide) only [↓ View.readCov_skip, ↓ View.readCov_cons_toLoadRect, ↓ View.readCov_fill]
  frame_out
  try simp only [read_unread_whole]
  sl_kernel_rfl

theorem leftC_acc (c : Dev nD) (t : Fin cfg0.N) (ht : t.val = 63) (x : Left F) : (leftC m c t ht x).acc = View.canon
     [⟨Rect.unit (s := S4x1024x1) ![3, 0, 0] S1x1024x1.size inb_S4x1024x1_S1x1024x1_3_0_0, (inp3 m c t).outAcc (View.ld x.acc (Rect.unit (s := S4x1024x1) ![3, 0, 0] S1x1024x1.size inb_S4x1024x1_S1x1024x1_3_0_0))⟩,
      ⟨Rect.unit (s := S4x1024x1) ![2, 0, 0] S1x1024x1.size inb_S4x1024x1_S1x1024x1_2_0_0, (inp2 m c t).outAcc (View.ld x.acc (Rect.unit (s := S4x1024x1) ![2, 0, 0] S1x1024x1.size inb_S4x1024x1_S1x1024x1_2_0_0))⟩,
      ⟨Rect.unit (s := S4x1024x1) ![1, 0, 0] S1x1024x1.size inb_S4x1024x1_S1x1024x1_1_0_0, (inp1 m c t).outAcc (View.ld x.acc (Rect.unit (s := S4x1024x1) ![1, 0, 0] S1x1024x1.size inb_S4x1024x1_S1x1024x1_1_0_0))⟩,
      ⟨Rect.unit (s := S4x1024x1) ![0, 0, 0] S1x1024x1.size inb_S4x1024x1_S1x1024x1_0_0_0, (inp0 m c t).outAcc (View.ld x.acc (Rect.unit (s := S4x1024x1) ![0, 0, 0] S1x1024x1.size inb_S4x1024x1_S1x1024x1_0_0_0))⟩] := by
  unfold leftC; dsimp only
  rw [View.read_writes_junk_eq_canon]
  unfold runC
  frame_open
  try simp (disch := decide) only [↓ View.readCov_skip, ↓ View.readCov_cons_toLoadRect, ↓ View.readCov_fill]
  frame_out
  try simp only [read_unread_whole]
  sl_kernel_rfl

end Cert.KernelIdeal.Region

end
-- ==== Proof.TowerSums.lean ====
/- What the points leave in the two gains' accumulators and, at the last point, in the sinks' gradient. -/
module

public import proofs.«01_k».proof.Proof.Tower
public import Idealize.ShloMosaic.Lib.VecWindow

@[expose] public section

set_option maxRecDepth 16384

noncomputable section

namespace Cert.KernelIdeal.Region

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]
variable (m : (ℓ : Loc nD τ sig) → Buf (Elt F) ℓ)

theorem leftA_dgq (c : Dev nD) (t : Fin cfg0.N) (ht : t.val = 0) : (leftA m c t ht).dgq = View.canon
     [⟨Rect.unit (s := S8x64) ![0, 0] S1x64.size inb_S8x64_S1x64_0_0, ((inp3 m c t).outGq ((inp2 m c t).outGq ((inp1 m c t).outGq ((inp0 m c t).outGq (View.ld k0_pay36 (Rect.unit (s := S8x64) ![0, 0] S1x64.size inb_S8x64_S1x64_0_0))))))⟩,
      ⟨Rect.unit (s := S8x64) ![0, 0] S1x64.size inb_S8x64_S1x64_0_0, ((inp2 m c t).outGq ((inp1 m c t).outGq ((inp0 m c t).outGq (View.ld k0_pay36 (Rect.unit (s := S8x64) ![0, 0] S1x64.size inb_S8x64_S1x64_0_0)))))⟩,
      ⟨Rect.unit (s := S8x64) ![0, 0] S1x64.size inb_S8x64_S1x64_0_0, ((inp1 m c t).outGq ((inp0 m c t).outGq (View.ld k0_pay36 (Rect.unit (s := S8x64) ![0, 0] S1x64.size inb_S8x64_S1x64_0_0))))⟩,
      ⟨Rect.unit (s := S8x64) ![0, 0] S1x64.size inb_S8x64_S1x64_0_0, ((inp0 m c t).outGq (View.ld k0_pay36 (Rect.unit (s := S8x64) ![0, 0] S1x64.size inb_S8x64_S1x64_0_0)))⟩,
      ⟨Rect.unit (s := S8x64) ![0, 0] S8x64.size inb_S8x64_S8x64_0_0, k0_pay36⟩] := by
  unfold leftA; dsimp only
  rw [View.read_writes_junk_eq_canon]
  unfold runA
  frame_open
  try simp (disch := decide) only [↓ View.readCov_skip, ↓ View.readCov_cons_toLoadRect, ↓ View.readCov_fill]
  frame_out
  sl_kernel_rfl

theorem leftA_dgk (c : Dev nD) (t : Fin cfg0.N) (ht : t.val = 0) : (leftA m c t ht).dgk = View.canon
     [⟨Rect.unit (s := S8x64) ![0, 0] S1x64.size inb_S8x64_S1x64_0_0, ((inp3 m c t).outGk ((inp2 m c t).outGk ((inp1 m c t).outGk ((inp0 m c t).outGk (View.ld k0_pay37 (Rect.unit (s := S8x64) ![0, 0] S1x64.size inb_S8x64_S1x64_0_0))))))⟩,
      ⟨Rect.unit (s := S8x64) ![0, 0] S1x64.size inb_S8x64_S1x64_0_0, ((inp2 m c t).outGk ((inp1 m c t).outGk ((inp0 m c t).outGk (View.ld k0_pay37 (Rect.unit (s := S8x64) ![0, 0] S1x64.size inb_S8x64_S1x64_0_0)))))⟩,
      ⟨Rect.unit (s := S8x64) ![0, 0] S1x64.size inb_S8x64_S1x64_0_0, ((inp1 m c t).outGk ((inp0 m c t).outGk (View.ld k0_pay37 (Rect.unit (s := S8x64) ![0, 0] S1x64.size inb_S8x64_S1x64_0_0))))⟩,
      ⟨Rect.unit (s := S8x64) ![0, 0] S1x64.size inb_S8x64_S1x64_0_0, ((inp0 m c t).outGk (View.ld k0_pay37 (Rect.unit (s := S8x64) ![0, 0] S1x64.size inb_S8x64_S1x64_0_0)))⟩,
      ⟨Rect.unit (s := S8x64) ![0, 0] S8x64.size inb_S8x64_S8x64_0_0, k0_pay37⟩] := by
  unfold leftA; dsimp only
  rw [View.read_writes_junk_eq_canon]
  unfold runA
  frame_open
  try simp (disch := decide) only [↓ View.readCov_skip, ↓ View.readCov_cons_toLoadRect, ↓ View.readCov_fill]
  frame_out
  sl_kernel_rfl

theorem leftB_dgq (c : Dev nD) (t : Fin cfg0.N) (ht : t.val ≠ 0 ∧ t.val ≠ 63) (x : Left F) : (leftB m c t ht x).dgq =
    (ms0_13 t).view.read (Elt F) ((ms0_13 t).view.writes (Elt F) ((hs0_13 t).unread x.dgq)
     [⟨Rect.unit (s := S8x64) ![0, 0] S1x64.size inb_S8x64_S1x64_0_0, ((inp3 m c t).outGq ((inp2 m c t).outGq ((inp1 m c t).outGq ((inp0 m c t).outGq (View.ld x.dgq (Rect.unit (s := S8x64) ![0, 0] S1x64.size inb_S8x64_S1x64_0_0))))))⟩,
      ⟨Rect.unit (s := S8x64) ![0, 0] S1x64.size inb_S8x64_S1x64_0_0, ((inp2 m c t).outGq ((inp1 m c t).outGq ((inp0 m c t).outGq (View.ld x.dgq (Rect.unit (s := S8x64) ![0, 0] S1x64.size inb_S8x64_S1x64_0_0)))))⟩,
      ⟨Rect.unit (s := S8x64) ![0, 0] S1x64.size inb_S8x64_S1x64_0_0, ((inp1 m c t).outGq ((inp0 m c t).outGq (View.ld x.dgq (Rect.unit (s := S8x64) ![0, 0] S1x64.size inb_S8x64_S1x64_0_0))))⟩,
      ⟨Rect.unit (s := S8x64) ![0, 0] S1x64.size inb_S8x64_S1x64_0_0, ((inp0 m c t).outGq (View.ld x.dgq (Rect.unit (s := S8x64) ![0, 0] S1x64.size inb_S8x64_S1x64_0_0)))⟩]) := by
  unfold leftB; dsimp only
  unfold runB
  frame_open
  try simp (disch := decide) only [↓ View.readCov_skip, ↓ View.readCov_cons_toLoadRect, ↓ View.readCov_fill]
  frame_out
  sl_kernel_rfl

theorem leftB_dgk (c : Dev nD) (t : Fin cfg0.N) (ht : t.val ≠ 0 ∧ t.val ≠ 63) (x : Left F) : (leftB m c t ht x).dgk =
    (ms0_14 t).view.read (Elt F) ((ms0_14 t).view.writes (Elt F) ((hs0_14 t).unread x.dgk)
     [⟨Rect.unit (s := S8x64) ![0, 0] S1x64.size inb_S8x64_S1x64_0_0, ((inp3 m c t).outGk ((inp2 m c t).outGk ((inp1 m c t).outGk ((inp0 m c t).outGk (View.ld x.dgk (Rect.unit (s := S8x64) ![0, 0] S1x64.size inb_S8x64_S1x64_0_0))))))⟩,
      ⟨Rect.unit (s := S8x64) ![0, 0] S1x64.size inb_S8x64_S1x64_0_0, ((inp2 m c t).outGk ((inp1 m c t).outGk ((inp0 m c t).outGk (View.ld x.dgk (Rect.unit (s := S8x64) ![0, 0] S1x64.size inb_S8x64_S1x64_0_0)))))⟩,
      ⟨Rect.unit (s := S8x64) ![0, 0] S1x64.size inb_S8x64_S1x64_0_0, ((inp1 m c t).outGk ((inp0 m c t).outGk (View.ld x.dgk (Rect.unit (s := S8x64) ![0, 0] S1x64.size inb_S8x64_S1x64_0_0))))⟩,
      ⟨Rect.unit (s := S8x64) ![0, 0] S1x64.size inb_S8x64_S1x64_0_0, ((inp0 m c t).outGk (View.ld x.dgk (Rect.unit (s := S8x64) ![0, 0] S1x64.size inb_S8x64_S1x64_0_0)))⟩]) := by
  unfold leftB; dsimp only
  unfold runB
  frame_open
  try simp (disch := decide) only [↓ View.readCov_skip, ↓ View.readCov_cons_toLoadRect, ↓ View.readCov_fill]
  frame_out
  sl_kernel_rfl

theorem leftC_dgq (c : Dev nD) (t : Fin cfg0.N) (ht : t.val = 63) (x : Left F) : (leftC m c t ht x).dgq =
    (ms0_13 t).view.read (Elt F) ((ms0_13 t).view.writes (Elt F) ((hs0_13 t).unread x.dgq)
     [⟨Rect.unit (s := S8x64) ![0, 0] S1x64.size inb_S8x64_S1x64_0_0, ((inp3 m c t).outGq ((inp2 m c t).outGq ((inp1 m c t).outGq ((inp0 m c t).outGq (View.ld x.dgq (Rect.unit (s := S8x64) ![0, 0] S1x64.size inb_S8x64_S1x64_0_0))))))⟩,
      ⟨Rect.unit (s := S8x64) ![0, 0] S1x64.size inb_S8x64_S1x64_0_0, ((inp2 m c t).outGq ((inp1 m c t).outGq ((inp0 m c t).outGq (View.ld x.dgq (Rect.unit (s := S8x64) ![0, 0] S1x64.size inb_S8x64_S1x64_0_0)))))⟩,
      ⟨Rect.unit (s := S8x64) ![0, 0] S1x64.size inb_S8x64_S1x64_0_0, ((inp1 m c t).outGq ((inp0 m c t).outGq (View.ld x.dgq (Rect.unit (s := S8x64) ![0, 0] S1x64.size inb_S8x64_S1x64_0_0))))⟩,
      ⟨Rect.unit (s := S8x64) ![0, 0] S1x64.size inb_S8x64_S1x64_0_0, ((inp0 m c t).outGq (View.ld x.dgq (Rect.unit (s := S8x64) ![0, 0] S1x64.size inb_S8x64_S1x64_0_0)))⟩]) := by
  unfold leftC; dsimp only
  unfold runC
  frame_open
  try simp (disch := decide) only [↓ View.readCov_skip, ↓ View.readCov_cons_toLoadRect, ↓ View.readCov_fill]
  frame_out
  sl_kernel_rfl

theorem leftC_dgk (c : Dev nD) (t : Fin cfg0.N) (ht : t.val = 63) (x : Left F) : (leftC m c t ht x).dgk =
    (ms0_14 t).view.read (Elt F) ((ms0_14 t).view.writes (Elt F) ((hs0_14 t).unread x.dgk)
     [⟨Rect.unit (s := S8x64) ![0, 0] S1x64.size inb_S8x64_S1x64_0_0, ((inp3 m c t).outGk ((inp2 m c t).outGk ((inp1 m c t).outGk ((inp0 m c t).outGk (View.ld x.dgk (Rect.unit (s := S8x64) ![0, 0] S1x64.size inb_S8x64_S1x64_0_0))))))⟩,
      ⟨Rect.unit (s := S8x64) ![0, 0] S1x64.size inb_S8x64_S1x64_0_0, ((inp2 m c t).outGk ((inp1 m c t).outGk ((inp0 m c t).outGk (View.ld x.dgk (Rect.unit (s := S8x64) ![0, 0] S1x64.size inb_S8x64_S1x64_0_0)))))⟩,
      ⟨Rect.unit (s := S8x64) ![0, 0] S1x64.size inb_S8x64_S1x64_0_0, ((inp1 m c t).outGk ((inp0 m c t).outGk (View.ld x.dgk (Rect.unit (s := S8x64) ![0, 0] S1x64.size inb_S8x64_S1x64_0_0))))⟩,
      ⟨Rect.unit (s := S8x64) ![0, 0] S1x64.size inb_S8x64_S1x64_0_0, ((inp0 m c t).outGk (View.ld x.dgk (Rect.unit (s := S8x64) ![0, 0] S1x64.size inb_S8x64_S1x64_0_0)))⟩]) := by
  unfold leftC; dsimp only
  unfold runC
  frame_open
  try simp (disch := decide) only [↓ View.readCov_skip, ↓ View.readCov_cons_toLoadRect, ↓ View.readCov_fill]
  frame_out
  sl_kernel_rfl

theorem leftC_dsk (c : Dev nD) (t : Fin cfg0.N) (ht : t.val = 63) (x : Left F) : (leftC m c t ht x).dsk = View.canon
     [⟨Rect.unit (s := S32x128) ![31, 0] S1x128.size inb_S32x128_S1x128_31_0, k0_pay2 (View.ld (leftC m c t ht x).acc (Rect.unit (s := S4x1024x1) ![3, 896, 0] S1x128x1.size inb_S4x1024x1_S1x128x1_3_896_0))⟩, ⟨Rect.unit (s := S32x128) ![30, 0] S1x128.size inb_S32x128_S1x128_30_0, k0_pay2 (View.ld (leftC m c t ht x).acc (Rect.unit (s := S4x1024x1) ![3, 768, 0] S1x128x1.size inb_S4x1024x1_S1x128x1_3_768_0))⟩, ⟨Rect.unit (s := S32x128) ![29, 0] S1x128.size inb_S32x128_S1x128_29_0, k0_pay2 (View.ld (leftC m c t ht x).acc (Rect.unit (s := S4x1024x1) ![3, 640, 0] S1x128x1.size inb_S4x1024x1_S1x128x1_3_640_0))⟩, ⟨Rect.unit (s := S32x128) ![28, 0] S1x128.size inb_S32x128_S1x128_28_0, k0_pay2 (View.ld (leftC m c t ht x).acc (Rect.unit (s := S4x1024x1) ![3, 512, 0] S1x128x1.size inb_S4x1024x1_S1x128x1_3_512_0))⟩, ⟨Rect.unit (s := S32x128) ![27, 0] S1x128.size inb_S32x128_S1x128_27_0, k0_pay2 (View.ld (leftC m c t ht x).acc (Rect.unit (s := S4x1024x1) ![3, 384, 0] S1x128x1.size inb_S4x1024x1_S1x128x1_3_384_0))⟩, ⟨Rect.unit (s := S32x128) ![26, 0] S1x128.size inb_S32x128_S1x128_26_0, k0_pay2 (View.ld (leftC m c t ht x).acc (Rect.unit (s := S4x1024x1) ![3, 256, 0] S1x128x1.size inb_S4x1024x1_S1x128x1_3_256_0))⟩, ⟨Rect.unit (s := S32x128) ![25, 0] S1x128.size inb_S32x128_S1x128_25_0, k0_pay2 (View.ld (leftC m c t ht x).acc (Rect.unit (s := S4x1024x1) ![3, 128, 0] S1x128x1.size inb_S4x1024x1_S1x128x1_3_128_0))⟩, ⟨Rect.unit (s := S32x128) ![24, 0] S1x128.size inb_S32x128_S1x128_24_0, k0_pay2 (View.ld (leftC m c t ht x).acc (Rect.unit (s := S4x1024x1) ![3, 0, 0] S1x128x1.size inb_S4x1024x1_S1x128x1_3_0_0))⟩, ⟨Rect.unit (s := S32x128) ![23, 0] S1x128.size inb_S32x128_S1x128_23_0, k0_pay2 (View.ld (leftC m c t ht x).acc (Rect.unit (s := S4x1024x1) ![2, 896, 0] S1x128x1.size inb_S4x1024x1_S1x128x1_2_896_0))⟩, ⟨Rect.unit (s := S32x128) ![22, 0] S1x128.size inb_S32x128_S1x128_22_0, k0_pay2 (View.ld (leftC m c t ht x).acc (Rect.unit (s := S4x1024x1) ![2, 768, 0] S1x128x1.size inb_S4x1024x1_S1x128x1_2_768_0))⟩, ⟨Rect.unit (s := S32x128) ![21, 0] S1x128.size inb_S32x128_S1x128_21_0, k0_pay2 (View.ld (leftC m c t ht x).acc (Rect.unit (s := S4x1024x1) ![2, 640, 0] S1x128x1.size inb_S4x1024x1_S1x128x1_2_640_0))⟩, ⟨Rect.unit (s := S32x128) ![20, 0] S1x128.size inb_S32x128_S1x128_20_0, k0_pay2 (View.ld (leftC m c t ht x).acc (Rect.unit (s := S4x1024x1) ![2, 512, 0] S1x128x1.size inb_S4x1024x1_S1x128x1_2_512_0))⟩, ⟨Rect.unit (s := S32x128) ![19, 0] S1x128.size inb_S32x128_S1x128_19_0, k0_pay2 (View.ld (leftC m c t ht x).acc (Rect.unit (s := S4x1024x1) ![2, 384, 0] S1x128x1.size inb_S4x1024x1_S1x128x1_2_384_0))⟩, ⟨Rect.unit (s := S32x128) ![18, 0] S1x128.size inb_S32x128_S1x128_18_0, k0_pay2 (View.ld (leftC m c t ht x).acc (Rect.unit (s := S4x1024x1) ![2, 256, 0] S1x128x1.size inb_S4x1024x1_S1x128x1_2_256_0))⟩, ⟨Rect.unit (s := S32x128) ![17, 0] S1x128.size inb_S32x128_S1x128_17_0, k0_pay2 (View.ld (leftC m c t ht x).acc (Rect.unit (s := S4x1024x1) ![2, 128, 0] S1x128x1.size inb_S4x1024x1_S1x128x1_2_128_0))⟩, ⟨Rect.unit (s := S32x128) ![16, 0] S1x128.size inb_S32x128_S1x128_16_0, k0_pay2 (View.ld (leftC m c t ht x).acc (Rect.unit (s := S4x1024x1) ![2, 0, 0] S1x128x1.size inb_S4x1024x1_S1x128x1_2_0_0))⟩, ⟨Rect.unit (s := S32x128) ![15, 0] S1x128.size inb_S32x128_S1x128_15_0, k0_pay2 (View.ld (leftC m c t ht x).acc (Rect.unit (s := S4x1024x1) ![1, 896, 0] S1x128x1.size inb_S4x1024x1_S1x128x1_1_896_0))⟩, ⟨Rect.unit (s := S32x128) ![14, 0] S1x128.size inb_S32x128_S1x128_14_0, k0_pay2 (View.ld (leftC m c t ht x).acc (Rect.unit (s := S4x1024x1) ![1, 768, 0] S1x128x1.size inb_S4x1024x1_S1x128x1_1_768_0))⟩, ⟨Rect.unit (s := S32x128) ![13, 0] S1x128.size inb_S32x128_S1x128_13_0, k0_pay2 (View.ld (leftC m c t ht x).acc (Rect.unit (s := S4x1024x1) ![1, 640, 0] S1x128x1.size inb_S4x1024x1_S1x128x1_1_640_0))⟩, ⟨Rect.unit (s := S32x128) ![12, 0] S1x128.size inb_S32x128_S1x128_12_0, k0_pay2 (View.ld (leftC m c t ht x).acc (Rect.unit (s := S4x1024x1) ![1, 512, 0] S1x128x1.size inb_S4x1024x1_S1x128x1_1_512_0))⟩, ⟨Rect.unit (s := S32x128) ![11, 0] S1x128.size inb_S32x128_S1x128_11_0, k0_pay2 (View.ld (leftC m c t ht x).acc (Rect.unit (s := S4x1024x1) ![1, 384, 0] S1x128x1.size inb_S4x1024x1_S1x128x1_1_384_0))⟩, ⟨Rect.unit (s := S32x128) ![10, 0] S1x128.size inb_S32x128_S1x128_10_0, k0_pay2 (View.ld (leftC m c t ht x).acc (Rect.unit (s := S4x1024x1) ![1, 256, 0] S1x128x1.size inb_S4x1024x1_S1x128x1_1_256_0))⟩, ⟨Rect.unit (s := S32x128) ![9, 0] S1x128.size inb_S32x128_S1x128_9_0, k0_pay2 (View.ld (leftC m c t ht x).acc (Rect.unit (s := S4x1024x1) ![1, 128, 0] S1x128x1.size inb_S4x1024x1_S1x128x1_1_128_0))⟩, ⟨Rect.unit (s := S32x128) ![8, 0] S1x128.size inb_S32x128_S1x128_8_0, k0_pay2 (View.ld (leftC m c t ht x).acc (Rect.unit (s := S4x1024x1) ![1, 0, 0] S1x128x1.size inb_S4x1024x1_S1x128x1_1_0_0))⟩, ⟨Rect.unit (s := S32x128) ![7, 0] S1x128.size inb_S32x128_S1x128_7_0, k0_pay2 (View.ld (leftC m c t ht x).acc (Rect.unit (s := S4x1024x1) ![0, 896, 0] S1x128x1.size inb_S4x1024x1_S1x128x1_0_896_0))⟩, ⟨Rect.unit (s := S32x128) ![6, 0] S1x128.size inb_S32x128_S1x128_6_0, k0_pay2 (View.ld (leftC m c t ht x).acc (Rect.unit (s := S4x1024x1) ![0, 768, 0] S1x128x1.size inb_S4x1024x1_S1x128x1_0_768_0))⟩, ⟨Rect.unit (s := S32x128) ![5, 0] S1x128.size inb_S32x128_S1x128_5_0, k0_pay2 (View.ld (leftC m c t ht x).acc (Rect.unit (s := S4x1024x1) ![0, 640, 0] S1x128x1.size inb_S4x1024x1_S1x128x1_0_640_0))⟩, ⟨Rect.unit (s := S32x128) ![4, 0] S1x128.size inb_S32x128_S1x128_4_0, k0_pay2 (View.ld (leftC m c t ht x).acc (Rect.unit (s := S4x1024x1) ![0, 512, 0] S1x128x1.size inb_S4x1024x1_S1x128x1_0_512_0))⟩, ⟨Rect.unit (s := S32x128) ![3, 0] S1x128.size inb_S32x128_S1x128_3_0, k0_pay2 (View.ld (leftC m c t ht x).acc (Rect.unit (s := S4x1024x1) ![0, 384, 0] S1x128x1.size inb_S4x1024x1_S1x128x1_0_384_0))⟩, ⟨Rect.unit (s := S32x128) ![2, 0] S1x128.size inb_S32x128_S1x128_2_0, k0_pay2 (View.ld (leftC m c t ht x).acc (Rect.unit (s := S4x1024x1) ![0, 256, 0] S1x128x1.size inb_S4x1024x1_S1x128x1_0_256_0))⟩, ⟨Rect.unit (s := S32x128) ![1, 0] S1x128.size inb_S32x128_S1x128_1_0, k0_pay2 (View.ld (leftC m c t ht x).acc (Rect.unit (s := S4x1024x1) ![0, 128, 0] S1x128x1.size inb_S4x1024x1_S1x128x1_0_128_0))⟩, ⟨Rect.unit (s := S32x128) ![0, 0] S1x128.size inb_S32x128_S1x128_0_0, k0_pay2 (View.ld (leftC m c t ht x).acc (Rect.unit (s := S4x1024x1) ![0, 0, 0] S1x128x1.size inb_S4x1024x1_S1x128x1_0_0_0))⟩] := by
  rw [leftC_acc]
  unfold leftC; dsimp only
  rw [View.read_writes_junk_eq_canon]
  unfold runC
  frame_open
  frame_out
  try simp only [read_unread_whole]
  simp only [View.readCov_eq_canon']
  sl_kernel_rfl

end Cert.KernelIdeal.Region

end
-- ==== Proof.Lift.lean ====
/- Real numbers inside the extended reals: sums, quotients, reciprocal roots and exponentials of real numbers are the
   real ones, and what the float words of the two programs are worth. -/
module

public import Idealize.ShloMosaic.Lib.Pointwise

@[expose] public section

noncomputable section

namespace Cert.Proof

open Idealize.ShloMosaic

/-- A finite sum of real numbers, read in the extended reals, is the sum of its terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers by a nonzero one. -/
theorem div_real (x : ℝ) {y : ℝ} (h : y ≠ 0) : Ideal.div (x : EReal) (y : EReal) = ((x / y : ℝ) : EReal) := by
  rw [Ideal.div_coe h, ← EReal.coe_mul, mul_one_div]

/-- The reciprocal root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- What is neither of the two infinities is a real number. -/
theorem exists_real {x : EReal} (h : x ≠ ⊥) (h' : x ≠ ⊤) : ∃ r : ℝ, x = (r : EReal) :=
  ⟨x.toReal, (EReal.coe_toReal h' h).symm⟩

/-- The word that the programs add to a mean square: a small positive real number. -/
def eps : ℝ := (Ideal.ofBits .f32 0x358637BD#32).toReal

theorem word_eps : Ideal.ofBits .f32 0x358637BD#32 = (eps : EReal) ∧ 0 < eps := by
  have h : Ideal.ofBits .f32 0x358637BD#32 = ((8796093 / 8796093022208 : ℝ) : EReal) := by
    simp [Ideal.ofBits, Ideal.ieee, -EReal.coe_mul]
    norm_num
  have he : eps = 8796093 / 8796093022208 := by rw [eps, h, EReal.toReal_coe]
  exact ⟨by rw [he, h], by rw [he]; norm_num⟩

theorem word_64 : Ideal.ofBits .f32 0x42800000#32 = ((64 : ℝ) : EReal) := by
  simp [Ideal.ofBits, Ideal.ieee, -EReal.coe_mul]
  norm_num

theorem word_eighth : Ideal.ofBits .f32 0x3E000000#32 = ((1 / 8 : ℝ) : EReal) := by
  simp [Ideal.ofBits, Ideal.ieee, -EReal.coe_mul]
  norm_num

theorem word_neg_half : Ideal.ofBits .f32 0xBF000000#32 = ((-(1 / 2) : ℝ) : EReal) := by
  simp [Ideal.ofBits, Ideal.ieee, -EReal.coe_mul, -EReal.coe_neg]
  norm_num

theorem word_bot : Ideal.ofBits .f32 0xFF800000#32 = ⊥ := by
  simp [Ideal.ofBits, Ideal.ieee]

theorem word_one : Ideal.ofBits .f32 0x3F800000#32 = ((1 : ℝ) : EReal) := by
  rw [Ideal.ofBits_one_f32, EReal.coe_one]

end Cert.Proof

end
-- ==== Proof.Spec.lean ====
/- The attention block's backward pass over the real numbers: one block of 128 positions of one key/value head against its
   band of 256 keys (the previous block's 128 and its own), its query rows indexed by any finite type. -/
module

public import proofs.«01_k».proof.Proof.Lift

@[expose] public section

noncomputable section

namespace Cert.Proof

/-- The reciprocal root mean square of a head vector. -/
def rinv (x : Fin 64 → ℝ) : ℝ := (Real.sqrt ((∑ d, x d * x d) / 64 + eps))⁻¹

/-- The normalised vector. -/
def hat (x : Fin 64 → ℝ) (d : Fin 64) : ℝ := x d * rinv x

/-- The gradient that goes back through the normalisation with gain `g`, of the gradient `y`. -/
def back (x g y : Fin 64 → ℝ) (d : Fin 64) : ℝ :=
  rinv x * (y d * g d - hat x d * ((∑ e, y e * g e * hat x e) / 64))

theorem mean_pos (x : Fin 64 → ℝ) : 0 < (∑ d, x d * x d) / 64 + eps :=
  add_pos_of_nonneg_of_pos (div_nonneg (Finset.sum_nonneg fun d _ => mul_self_nonneg (x d)) (by norm_num)) word_eps.2

theorem rinv_pos (x : Fin 64 → ℝ) : 0 < rinv x := inv_pos.mpr (Real.sqrt_pos.mpr (mean_pos x))

/-- A block: its number, each row's position, queries, result gradient, slope and sink, the band's keys and values, and
    the two gains. -/
structure Blk (ρ : Type) where
  n : ℕ
  pos : ρ → Fin 128
  q : ρ → Fin 64 → ℝ
  o : ρ → Fin 64 → ℝ
  sl : ρ → ℝ
  sk : ρ → ℝ
  k : Fin 256 → Fin 64 → ℝ
  v : Fin 256 → Fin 64 → ℝ
  gq : Fin 64 → ℝ
  gk : Fin 64 → ℝ

namespace Blk

variable {ρ : Type} [Fintype ρ] (B : Blk ρ)

/-- Row `R` sees key `j` of the band: no later than itself, fewer than 128 positions back, and not before the start. -/
def ok (R : ρ) (j : Fin 256) : Prop :=
  (B.pos R).val < j.val ∧ j.val ≤ (B.pos R).val + 128 ∧ (0 < B.n ∨ 128 ≤ j.val)

instance (R : ρ) (j : Fin 256) : Decidable (B.ok R j) := by unfold ok; infer_instance

/-- How far apart row `R` and key `j` are. -/
def dist (R : ρ) (j : Fin 256) : ℝ := ((|((B.pos R).val : ℤ) + 128 - (j.val : ℤ)| : ℤ) : ℝ)

def qn (R : ρ) (d : Fin 64) : ℝ := hat (B.q R) d * B.gq d
def kn (j : Fin 256) (d : Fin 64) : ℝ := hat (B.k j) d * B.gk d
/-- The logit, its weight before the quotient, and the softmax with the sink. -/
def s (R : ρ) (j : Fin 256) : ℝ := (∑ d, B.qn R d * B.kn j d) * (1 / 8) - B.sl R * B.dist R j
def w (R : ρ) (j : Fin 256) : ℝ := if B.ok R j then Real.exp (B.s R j) else 0
def den (R : ρ) : ℝ := (∑ j, B.w R j) + Real.exp (B.sk R)
def p (R : ρ) (j : Fin 256) : ℝ := B.w R j / B.den R
def ps (R : ρ) : ℝ := Real.exp (B.sk R) / B.den R
/-- The weights' gradient, its mean, and the logits' gradient. -/
def dp (R : ρ) (j : Fin 256) : ℝ := ∑ d, B.o R d * B.v j d
def dl (R : ρ) : ℝ := ∑ j, B.p R j * B.dp R j
def ds (R : ρ) (j : Fin 256) : ℝ := B.p R j * (B.dp R j - B.dl R)
/-- The gradients: normalised queries and keys, values, queries, keys, the sink's. -/
def dqn (R : ρ) (d : Fin 64) : ℝ := (∑ j, B.ds R j * B.kn j d) * (1 / 8)
def dkn (j : Fin 256) (d : Fin 64) : ℝ := (∑ R, B.ds R j * B.qn R d) * (1 / 8)
def dv (j : Fin 256) (d : Fin 64) : ℝ := ∑ R, B.p R j * B.o R d
def dq (R : ρ) (d : Fin 64) : ℝ := back (B.q R) B.gq (B.dqn R) d
def dk (j : Fin 256) (d : Fin 64) : ℝ := back (B.k j) B.gk (B.dkn j) d
def dsk (R : ρ) : ℝ := -B.ps R * B.dl R
/-- What the block adds to the two gains' gradients. -/
def dgq (d : Fin 64) : ℝ := ∑ R, B.dqn R d * hat (B.q R) d
def dgk (d : Fin 64) : ℝ := ∑ j, B.dkn j d * hat (B.k j) d

theorem w_nonneg (R : ρ) (j : Fin 256) : 0 ≤ B.w R j := by
  unfold w; split
  · exact (Real.exp_pos _).le
  · exact le_rfl

theorem den_pos (R : ρ) : 0 < B.den R :=
  add_pos_of_nonneg_of_pos (Finset.sum_nonneg fun j _ => B.w_nonneg R j) (Real.exp_pos _)

/-- A key that no row sees takes no gradient. -/
theorem p_zero {R : ρ} {j : Fin 256} (h : ¬B.ok R j) : B.p R j = 0 := by
  rw [p, w, if_neg h, zero_div]

end Blk

end Cert.Proof

end
-- ==== Proof.Words.lean ====
/- The mask's integer words: what the kernel's position arithmetic on 32-bit words says of row position `i`, key `j` and block
   number `n`. -/
module

public import proofs.«01_k».proof.Proof.Spec

@[expose] public section

noncomputable section

namespace Cert.Proof

open Idealize.ShloMosaic

/-- The distance word of row position `i` and key `j`. -/
def distWord (i j : ℕ) : BitVec 32 := IntOp.subi (IntOp.addi (BitVec.ofNat 32 i) 128#32) (BitVec.ofNat 32 j)

/-- The low seven bits of a row's number are its position. -/
theorem and_pos : ∀ R : Fin 1024, IntOp.andi (BitVec.ofNat 32 R.val) 127#32 = BitVec.ofNat 32 (R.val % 128) := by
  decide +kernel

theorem dist_ge : ∀ (i : Fin 128) (j : Fin 256),
    IntOp.cmpi .sge (distWord i.val j.val) 0#32 = if j.val ≤ i.val + 128 then 1#1 else 0#1 := by
  decide +kernel

theorem dist_lt : ∀ (i : Fin 128) (j : Fin 256),
    IntOp.cmpi .slt (distWord i.val j.val) 128#32 = if i.val < j.val then 1#1 else 0#1 := by
  decide +kernel

theorem dist_abs : ∀ (i : Fin 128) (j : Fin 256),
    (IntOp.absi (distWord i.val j.val)).toInt = |(i.val : ℤ) + 128 - (j.val : ℤ)| := by
  decide +kernel

theorem first_ge : ∀ (n : Fin 64) (j : Fin 256),
    IntOp.cmpi .sge (BitVec.ofNat 32 j.val) (Scalar.select (Scalar.cmpi .sgt (BitVec.ofNat 32 n.val) 0#32) 0#32 128#32)
      = if 0 < n.val ∨ 128 ≤ j.val then 1#1 else 0#1 := by
  decide +kernel

/-- A choice by the conjunction of three truth words. -/
theorem select_and {α : Type} (P Q S : Prop) [Decidable P] [Decidable Q] [Decidable S] (x y : α) :
    Scalar.select (IntOp.andi (IntOp.andi (if P then 1#1 else 0#1) (if Q then 1#1 else 0#1)) (if S then 1#1 else 0#1)) x y
      = if Q ∧ P ∧ S then x else y := by
  by_cases hP : P <;> by_cases hQ : Q <;> by_cases hS : S <;> simp [hP, hQ, hS, Scalar.select, IntOp.andi]

end Cert.Proof

end
-- ==== Proof.Block.lean ====
/- One head's share of a grid point over the real numbers: where the inputs hold real numbers (`Rep`), every array the kernel
   computes holds the block's (`Spec`). The kernel shifts its exponentials by the row's maximum, which the quotients drop. -/
module

public import proofs.«01_k».proof.Proof.TowerSums
public import proofs.«01_k».proof.Proof.Words

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

/-- The inputs `X` hold the block `B`, its 1024 rows eight heads of 128 positions. -/
structure Rep (X : Inp Ideal) (B : Blk (Fin 1024)) : Prop where
  lt : B.n < 64
  n : X.n = BitVec.ofNat 32 B.n
  pos : ∀ R, (B.pos R).val = R.val % 128
  q : ∀ (g : Fin 8) (i : Fin 128) (R : Fin 1024) d, R.val = g.val * 128 + i.val → X.q (ix3 g i d) = (B.q R d : EReal)
  o : ∀ (g : Fin 8) (i : Fin 128) (R : Fin 1024) d, R.val = g.val * 128 + i.val → X.o (ix3 g i d) = (B.o R d : EReal)
  kp : ∀ (j : Fin 128) d, X.kp (ix3 0 j d) = (B.k ⟨j.val, by omega⟩ d : EReal)
  kc : ∀ (j : Fin 128) d, X.kc (ix3 0 j d) = (B.k ⟨128 + j.val, by omega⟩ d : EReal)
  vp : ∀ (j : Fin 128) d, X.vp (ix3 0 j d) = (B.v ⟨j.val, by omega⟩ d : EReal)
  vc : ∀ (j : Fin 128) d, X.vc (ix3 0 j d) = (B.v ⟨128 + j.val, by omega⟩ d : EReal)
  gq : ∀ d, X.gq (ix2 0 d) = (B.gq d : EReal)
  gk : ∀ d, X.gk (ix2 0 d) = (B.gk d : EReal)
  sl : ∀ R, X.sl (ix3 0 R 0) = (B.sl R : EReal)
  sk : ∀ R, X.sk (ix3 0 R 0) = (B.sk R : EReal)

namespace Rep

variable {X : Inp Ideal} {B : Blk (Fin 1024)} (h : Rep X B)

include h

theorem q_row (R : Fin 1024) (d : Fin 64) (h₁ h₂) : X.q (ix3 ⟨R.val / 128, h₁⟩ ⟨R.val % 128, h₂⟩ d) = (B.q R d : EReal) :=
  h.q _ _ R d (by dsimp only; omega)

theorem o_row (R : Fin 1024) (d : Fin 64) (h₁ h₂) : X.o (ix3 ⟨R.val / 128, h₁⟩ ⟨R.val % 128, h₂⟩ d) = (B.o R d : EReal) :=
  h.o _ _ R d (by dsimp only; omega)

theorem k_band (j : Fin 256) (d : Fin 64) :
    (if hj : j.val < 128 then X.kp (ix3 0 ⟨j.val, hj⟩ d) else X.kc (ix3 0 ⟨j.val - 128, by omega⟩ d)) = (B.k j d : EReal) := by
  split
  · exact h.kp _ d
  · rw [h.kc _ d, show (⟨128 + (j.val - 128), by omega⟩ : Fin 256) = j from Fin.ext (by dsimp only; omega)]

theorem v_band (j : Fin 256) (d : Fin 64) :
    (if hj : j.val < 128 then X.vp (ix3 0 ⟨j.val, hj⟩ d) else X.vc (ix3 0 ⟨j.val - 128, by omega⟩ d)) = (B.v j d : EReal) := by
  split
  · exact h.vp _ d
  · rw [h.vc _ d, show (⟨128 + (j.val - 128), by omega⟩ : Fin 256) = j from Fin.ext (by dsimp only; omega)]

theorem rq (R : Fin 1024) : X.rq (ix2 R 0) = (rinv (B.q R) : EReal) := by
  unfold Inp.rq
  pointwise [k0_pay41, k0_pay40]
  simp only [h.q_row]
  simp only [← EReal.coe_mul, ← coe_sum]
  rw [word_64, word_eps.1, div_real _ (by norm_num), ← EReal.coe_add, rsqrt_real (mean_pos _)]
  rfl

theorem hq (R : Fin 1024) (d : Fin 64) : X.hq (ix2 R d) = (hat (B.q R) d : EReal) := by
  have hr : k0_pay41 X.q (ix2 R 0) = _ := h.rq R
  unfold Inp.hq
  pointwise [k0_pay42, k0_pay40]
  rw [h.q_row, hr, ← EReal.coe_mul]
  rfl

theorem qn (R : Fin 1024) (d : Fin 64) : X.qn (ix2 R d) = (B.qn R d : EReal) := by
  have hr : k0_pay42 X.q (ix2 R d) = _ := h.hq R d
  unfold Inp.qn
  pointwise [k0_pay43]
  rw [hr, h.gq, ← EReal.coe_mul]
  rfl

theorem rk (j : Fin 256) : X.rk (ix2 j 0) = (rinv (B.k j) : EReal) := by
  unfold Inp.rk
  pointwise [k0_pay45, k0_pay44]
  simp only [h.k_band]
  simp only [← EReal.coe_mul, ← coe_sum]
  rw [word_64, word_eps.1, div_real _ (by norm_num), ← EReal.coe_add, rsqrt_real (mean_pos _)]
  rfl

theorem hk (j : Fin 256) (d : Fin 64) : X.hk (ix2 j d) = (hat (B.k j) d : EReal) := by
  have hr : k0_pay45 X.kp X.kc (ix2 j 0) = _ := h.rk j
  unfold Inp.hk
  pointwise [k0_pay46, k0_pay44]
  rw [h.k_band, hr, ← EReal.coe_mul]
  rfl

theorem kn (j : Fin 256) (d : Fin 64) : X.kn (ix2 j d) = (B.kn j d : EReal) := by
  unfold Inp.kn Inp.kg
  pointwise [k0_pay48, k0_pay47]
  rw [h.hk, h.gk, ← EReal.coe_mul]
  rfl

theorem lg (R : Fin 1024) (j : Fin 256) : X.lg (ix2 R j) = if B.ok R j then (B.s R j : EReal) else ⊥ := by
  have hk : ∀ d, k0_pay48 X.hk X.kg (ix2 j d) = _ := fun d => h.kn j d
  have hp := h.pos R
  have hm : (⟨R.val % 128, Nat.mod_lt _ (by norm_num)⟩ : Fin 128) = B.pos R := Fin.ext hp.symm
  unfold Inp.lg
  pointwise [k0_pay49, dot_S1024x64_S256x64_S1024x256_1_1_0_0_n_n]
  rw [and_pos R, ← hp, h.n]
  have e1 := dist_ge (B.pos R) j
  have e2 := dist_lt (B.pos R) j
  have e3 := dist_abs (B.pos R) j
  have e4 := first_ge ⟨B.n, h.lt⟩ j
  unfold distWord at e1 e2 e3
  dsimp only at e4
  rw [e1, e2, e4]
  have hs : FloatOps.sitofp (F := Ideal) FTy.f32 (IntOp.absi (IntOp.subi (IntOp.addi (BitVec.ofNat 32 (B.pos R).val) 128#32) (BitVec.ofNat 32 j.val)))
      = ((B.dist R j : ℝ) : EReal) := by
    show (((IntOp.absi (IntOp.subi (IntOp.addi (BitVec.ofNat 32 (B.pos R).val) 128#32) (BitVec.ofNat 32 j.val))).toInt : ℝ) : EReal) = _
    rw [e3]; rfl
  rw [hs, h.sl, word_eighth]
  simp only [h.qn, hk]
  simp only [← EReal.coe_mul, ← coe_sum, ← EReal.coe_sub]
  rw [show Named.named (F := Ideal) κ "mask" (φ := .f32) 4048155338#32 = (⊥ : EReal) from rfl]
  rw [select_and]
  exact if_congr Iff.rfl rfl rfl

/-- The row's maximum, with the sink's logit, is a real number. -/
theorem mx (R : Fin 1024) : ∃ M : ℝ, X.mx (ix2 R 0) = (M : EReal) := by
  have hl : ∀ j, k0_pay49 X.n X.qn X.hk X.kg X.sl (ix2 R j) = _ := fun j => h.lg R j
  unfold Inp.mx
  pointwise [k0_pay51, k0_pay50]
  simp only [hl]
  rw [h.sk, word_bot]
  apply exists_real
  · exact ne_of_gt (lt_of_lt_of_le (EReal.bot_lt_coe _) (le_max_right _ _))
  · refine ne_of_lt (max_lt ?_ (EReal.coe_lt_top _))
    rw [Finset.fold_max_lt]
    refine ⟨bot_lt_top, fun j _ => ?_⟩
    split
    · exact EReal.coe_lt_top _
    · exact bot_lt_top

/-- The exponentials, all shifted by one real number. -/
theorem exps (R : Fin 1024) : ∃ c : ℝ, 0 < c ∧ (∀ j, X.e (ix2 R j) = ((B.w R j * c : ℝ) : EReal))
    ∧ X.es (ix2 R 0) = ((Real.exp (B.sk R) * c : ℝ) : EReal) := by
  obtain ⟨M, hM⟩ := h.mx R
  have hM' : k0_pay51 X.n X.qn X.hk X.kg X.sl X.sk (ix2 R 0) = _ := hM
  refine ⟨Real.exp (-M), Real.exp_pos _, fun j => ?_, ?_⟩
  · have hl : k0_pay49 X.n X.qn X.hk X.kg X.sl (ix2 R j) = _ := h.lg R j
    unfold Inp.e
    pointwise [k0_pay52]
    rw [hl, hM']
    unfold Blk.w
    split
    · rw [← EReal.coe_sub, Ideal.exp_coe, sub_eq_add_neg, Real.exp_add]
    · rw [EReal.bot_sub, zero_mul, EReal.coe_zero]; exact Ideal.exp_bot
  · unfold Inp.es
    pointwise [k0_pay53, k0_pay50]
    rw [hM', h.sk, ← EReal.coe_sub, Ideal.exp_coe, sub_eq_add_neg, Real.exp_add]

theorem ratio (R : Fin 1024) : (∀ j, X.p (ix2 R j) = (B.p R j : EReal)) ∧ X.ps (ix2 R 0) = (B.ps R : EReal) := by
  obtain ⟨c, hc, he, hs⟩ := h.exps R
  have hd : k0_pay54 X.e X.es (ix2 R 0) = ((B.den R * c : ℝ) : EReal) := by
    pointwise [k0_pay54]
    simp only [he, hs]
    rw [← coe_sum, ← EReal.coe_add, ← Finset.sum_mul, ← add_mul]
    rfl
  have hn : B.den R * c ≠ 0 := (mul_pos (B.den_pos R) hc).ne'
  refine ⟨fun j => ?_, ?_⟩
  · unfold Inp.p
    pointwise [k0_pay55]
    rw [he, hd, div_real _ hn, mul_div_mul_right _ _ hc.ne']
    rfl
  · unfold Inp.ps
    pointwise [k0_pay56]
    rw [hs, hd, div_real _ hn, mul_div_mul_right _ _ hc.ne']
    rfl

theorem p (R : Fin 1024) (j : Fin 256) : k0_pay55 X.e X.es (ix2 R j) = (B.p R j : EReal) := (h.ratio R).1 j

theorem dp (R : Fin 1024) (j : Fin 256) : k0_pay58 X.vp X.vc X.o (ix2 R j) = (B.dp R j : EReal) := by
  pointwise [k0_pay58, k0_pay57, dot_S1024x64_S256x64_S1024x256_1_1_0_0_n_n]
  simp only [h.o_row, h.v_band]
  simp only [← EReal.coe_mul, ← coe_sum]
  rfl

theorem dl (R : Fin 1024) : k0_pay59 X.e X.es X.vp X.vc X.o (ix2 R 0) = (B.dl R : EReal) := by
  pointwise [k0_pay59]
  simp only [h.p, h.dp]
  simp only [← EReal.coe_mul, ← coe_sum]
  rfl

theorem ds (R : Fin 1024) (j : Fin 256) : k0_pay60 X.e X.es X.vp X.vc X.o (ix2 R j) = (B.ds R j : EReal) := by
  pointwise [k0_pay60]
  rw [h.p, h.dp, h.dl, ← EReal.coe_sub, ← EReal.coe_mul]
  rfl

theorem dqn (R : Fin 1024) (d : Fin 64) : k0_pay61 X.kn X.e X.es X.vp X.vc X.o (ix2 R d) = (B.dqn R d : EReal) := by
  pointwise [k0_pay61, dot_S1024x256_S256x64_S1024x64_1_0_0_1_n_n]
  simp only [h.ds, h.kn]
  simp only [← EReal.coe_mul, ← coe_sum]
  rw [word_eighth, ← EReal.coe_mul]
  rfl

theorem dkn (j : Fin 256) (d : Fin 64) : X.dkn (ix2 j d) = (B.dkn j d : EReal) := by
  unfold Inp.dkn
  pointwise [k0_pay62, dot_S1024x256_S1024x64_S256x64_0_0_1_1_n_n]
  simp only [h.ds, h.qn]
  simp only [← EReal.coe_mul, ← coe_sum]
  rw [word_eighth, ← EReal.coe_mul]
  rfl

theorem dv (j : Fin 256) (d : Fin 64) : X.dv (ix2 j d) = (B.dv j d : EReal) := by
  unfold Inp.dv
  pointwise [k0_pay63, k0_pay57, dot_S1024x256_S1024x64_S256x64_0_0_1_1_n_n]
  simp only [h.p, h.o_row]
  simp only [← EReal.coe_mul, ← coe_sum]
  rfl

theorem a (R : Fin 1024) (d : Fin 64) : k0_pay64 X.gq X.kn X.e X.es X.vp X.vc X.o (ix2 R d) = ((B.dqn R d * B.gq d : ℝ) : EReal) := by
  pointwise [k0_pay64]
  rw [h.dqn, h.gq, ← EReal.coe_mul]

theorem b (R : Fin 1024) (d : Fin 64) :
    X.b (ix2 R d) = ((hat (B.q R) d * ((∑ e, B.dqn R e * B.gq e * hat (B.q R) e) / 64) : ℝ) : EReal) := by
  unfold Inp.b
  pointwise [k0_pay65]
  simp only [h.a, h.hq]
  simp only [← EReal.coe_mul, ← coe_sum]
  rw [word_64, div_real _ (by norm_num), ← EReal.coe_mul]

theorem dk (j : Fin 256) (d : Fin 64) : k0_pay66 X.gk X.rk X.hk X.dkn (ix2 j d) = (B.dk j d : EReal) := by
  pointwise [k0_pay66]
  simp only [h.dkn, h.hk, h.gk, h.rk]
  simp only [← EReal.coe_mul, ← coe_sum]
  rw [word_64, div_real _ (by norm_num), ← EReal.coe_mul, ← EReal.coe_sub, ← EReal.coe_mul]
  rfl

/-! What the point stores. -/

theorem outQ (g : Fin 8) (i : Fin 128) (d : Fin 64) (R : Fin 1024) (hR : R.val = g.val * 128 + i.val) :
    X.outQ (ix3 g i d) = (B.dq R d : EReal) := by
  have hR' : (⟨g.val * 128 + i.val, by omega⟩ : Fin 1024) = R := Fin.ext hR.symm
  have ha : ∀ (R : Fin 1024) (d : Fin 64), X.a (ix2 R d) = _ := h.a
  unfold Inp.outQ
  pointwise [k0_pay67]
  rw [hR']
  simp only [h.rq, ha, h.b]
  simp only [← EReal.coe_mul, ← EReal.coe_sub]
  rfl

theorem outGq (r : Vec Ideal S1x64 .f32) (d : Fin 64) : X.outGq r (ix2 0 d) = r (ix2 0 d) + (B.dgq d : EReal) := by
  have hd : ∀ R, X.dqn (ix2 R d) = _ := fun R => h.dqn R d
  unfold Inp.outGq
  pointwise [k0_pay68]
  simp only [hd, h.hq]
  simp only [← EReal.coe_mul, ← coe_sum]
  rfl

theorem outGk (r : Vec Ideal S1x64 .f32) (d : Fin 64) : X.outGk r (ix2 0 d) = r (ix2 0 d) + (B.dgk d : EReal) := by
  unfold Inp.outGk
  pointwise [k0_pay69]
  simp only [h.dkn, h.hk]
  simp only [← EReal.coe_mul, ← coe_sum]
  rfl

theorem outK (r : Vec Ideal S1x1x128x64 .f32) (i : Fin 128) (d : Fin 64) :
    X.outK r (ix3 0 i d) = (B.dk ⟨128 + i.val, by omega⟩ d : EReal) + r (ix4 0 0 i d) := by
  unfold Inp.outK
  pointwise [k0_pay70, k0_pay71]
  rw [h.dk]

theorem outV (r : Vec Ideal S1x1x128x64 .f32) (i : Fin 128) (d : Fin 64) :
    X.outV r (ix3 0 i d) = (B.dv ⟨128 + i.val, by omega⟩ d : EReal) + r (ix4 0 0 i d) := by
  unfold Inp.outV
  pointwise [k0_pay72]
  rw [h.dv]

theorem outCk (i : Fin 128) (d : Fin 64) : X.outCk (ix4 0 0 i d) = (B.dk ⟨i.val, by omega⟩ d : EReal) := by
  have hd : ∀ j d, X.dk (ix2 j d) = _ := h.dk
  unfold Inp.outCk
  pointwise [k0_pay73]
  simp only [hd, Nat.zero_add]

theorem outCv (i : Fin 128) (d : Fin 64) : X.outCv (ix4 0 0 i d) = (B.dv ⟨i.val, by omega⟩ d : EReal) := by
  unfold Inp.outCv
  pointwise [k0_pay74]
  simp only [h.dv, Nat.zero_add]

theorem outAcc (r : Vec Ideal S1x1024x1 .f32) (R : Fin 1024) :
    X.outAcc r (ix3 0 R 0) = r (ix3 0 R 0) + (B.dsk R : EReal) := by
  have hd : X.dl (ix2 R 0) = _ := h.dl R
  unfold Inp.outAcc
  pointwise [k0_pay75]
  rw [(h.ratio R).2, hd, ← EReal.coe_zero, ← EReal.coe_sub, ← EReal.coe_mul, zero_sub]
  rfl

end Rep

end Cert.KernelIdeal.Region

end
-- ==== Proof.Points.lean ====
/- What a grid point leaves, read at an index: each store's share of the buffer it goes to. -/
module

public import proofs.«01_k».proof.Proof.Block

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

variable {F : FTy → Type} [FloatOps F] [Named F]
variable (m : (ℓ : Loc nD τ sig) → Buf (Elt F) ℓ)

/-- The inputs of the four heads of keys and values. -/
def inp (c : Dev nD) (t : Fin cfg0.N) : Fin 4 → Inp F
  | 0 => inp0 m c t
  | 1 => inp1 m c t
  | 2 => inp2 m c t
  | 3 => inp3 m c t

/-- A head's row of the carried gradients: of the keys (`s = 0`), of the values (`s = 1`). -/
def carried (x : Vec F S4x2x128x64 .f32) (k : Fin 4) (s : Fin 2) : Vec F S1x1x128x64 .f32 := fun y => x (ix4 k s (y 2) (y 3))

/-- A head's row of the sinks' accumulator. -/
def accRow (x : Vec F S4x1024x1 .f32) (k : Fin 4) : Vec F S1x1024x1 .f32 := fun y => x (ix3 k (y 1) (y 2))

/-- The first row of a gain's accumulator. -/
def gainRow (x : Vec F S8x64 .f32) : Vec F S1x64 .f32 := fun y => x (ix2 0 (y 1))

theorem carried_eq (x : Vec F S4x2x128x64 .f32) (k : Fin 4) (s : Fin 2) (a b : ℕ) (ha : a = k.val) (hb : b = s.val) (h) :
    View.ld x (Rect.unit (s := S4x2x128x64) ![a, b, 0, 0] S1x1x128x64.size h) = carried x k s := by
  funext y
  refine congrArg x ?_
  have h0 : (y 0).val < 1 := (y 0).isLt
  have h1 : (y 1).val < 1 := (y 1).isLt
  funext e
  match e with
  | ⟨0, _⟩ => exact Fin.ext (show a + 1 * (y 0).val = k.val by omega)
  | ⟨1, _⟩ => exact Fin.ext (show b + 1 * (y 1).val = s.val by omega)
  | ⟨2, _⟩ => exact Fin.ext (show 0 + 1 * (y 2).val = (y 2).val by omega)
  | ⟨3, _⟩ => exact Fin.ext (show 0 + 1 * (y 3).val = (y 3).val by omega)

theorem accRow_eq (x : Vec F S4x1024x1 .f32) (k : Fin 4) (a : ℕ) (ha : a = k.val) (h) :
    View.ld x (Rect.unit (s := S4x1024x1) ![a, 0, 0] S1x1024x1.size h) = accRow x k := by
  funext y
  refine congrArg x ?_
  have h0 : (y 0).val < 1 := (y 0).isLt
  funext e
  match e with
  | ⟨0, _⟩ => exact Fin.ext (show a + 1 * (y 0).val = k.val by omega)
  | ⟨1, _⟩ => exact Fin.ext (show 0 + 1 * (y 1).val = (y 1).val by omega)
  | ⟨2, _⟩ => exact Fin.ext (show 0 + 1 * (y 2).val = (y 2).val by omega)

theorem gainRow_eq (x : Vec F S8x64 .f32) (h) :
    View.ld x (Rect.unit (s := S8x64) ![0, 0] S1x64.size h) = gainRow x := by
  funext y
  refine congrArg x ?_
  have h0 : (y 0).val < 1 := (y 0).isLt
  funext e
  match e with
  | ⟨0, _⟩ => exact Fin.ext (show 0 + 1 * (y 0).val = 0 by omega)
  | ⟨1, _⟩ => exact Fin.ext (show 0 + 1 * (y 1).val = (y 1).val by omega)

/-- The place of a head's element in S32x128x64. -/
theorem quadQ_at (P : Fin 4 → Vec F S8x128x64 .bf16) (k : Fin 4) (o : ℕ) (ho : o = 8 * k.val) (h)
    (y : (Rect.unit (s := S32x128x64) ![o, 0, 0] S8x128x64.size h).shape.Idx) :
    P k y = (fun z : S32x128x64.Idx => P ⟨(z 0).val / 8, by have : (z 0).val < 32 := (z 0).isLt; omega⟩ (ix3 ⟨(z 0).val % 8, Nat.mod_lt _ (by decide)⟩ (z 1) (z 2))) ((Rect.unit (s := S32x128x64) ![o, 0, 0] S8x128x64.size h).emb y) := by
  have h0 : (y 0).val < 8 := (y 0).isLt
  have hk : (⟨(o + 1 * (y 0).val) / 8, by omega⟩ : Fin 4) = k := Fin.ext (by dsimp only; omega)
  have hy : (ix3 ⟨(o + 1 * (y 0).val) % 8, Nat.mod_lt _ (by decide)⟩ ⟨0 + 1 * (y 1).val, by have : (y 1).val < 128 := (y 1).isLt; omega⟩ ⟨0 + 1 * (y 2).val, by have : (y 2).val < 64 := (y 2).isLt; omega⟩ : S8x128x64.Idx) = y := by
    funext e
    match e with
    | ⟨0, _⟩ => exact Fin.ext (show (o + 1 * (y 0).val) % 8 = (y 0).val by omega)
    | ⟨1, _⟩ => exact Fin.ext (show 0 + 1 * (y 1).val = (y 1).val by omega)
    | ⟨2, _⟩ => exact Fin.ext (show 0 + 1 * (y 2).val = (y 2).val by omega)
  show P k y = P ⟨(o + 1 * (y 0).val) / 8, by omega⟩ (ix3 ⟨(o + 1 * (y 0).val) % 8, Nat.mod_lt _ (by decide)⟩ ⟨0 + 1 * (y 1).val, _⟩ ⟨0 + 1 * (y 2).val, _⟩)
  rw [hk, hy]

/-- The stores of the heads, read at a head's element. -/
theorem quadQ (P : Fin 4 → Vec F S8x128x64 .bf16) (L : List (View.Piece (Elt F) S32x128x64 .bf16)) (y : S32x128x64.Idx) :
    View.canon ([⟨Rect.unit (s := S32x128x64) ![24, 0, 0] S8x128x64.size inb_S32x128x64_S8x128x64_24_0_0, P 3⟩,
      ⟨Rect.unit (s := S32x128x64) ![16, 0, 0] S8x128x64.size inb_S32x128x64_S8x128x64_16_0_0, P 2⟩,
      ⟨Rect.unit (s := S32x128x64) ![8, 0, 0] S8x128x64.size inb_S32x128x64_S8x128x64_8_0_0, P 1⟩,
      ⟨Rect.unit (s := S32x128x64) ![0, 0, 0] S8x128x64.size inb_S32x128x64_S8x128x64_0_0_0, P 0⟩] ++ L) y
    = P ⟨(y 0).val / 8, by have : (y 0).val < 32 := (y 0).isLt; omega⟩ (ix3 ⟨(y 0).val % 8, Nat.mod_lt _ (by decide)⟩ (y 1) (y 2)) := by
  refine View.canon_append_of_pieces (fun z : S32x128x64.Idx => P ⟨(z 0).val / 8, by have : (z 0).val < 32 := (z 0).isLt; omega⟩ (ix3 ⟨(z 0).val % 8, Nat.mod_lt _ (by decide)⟩ (z 1) (z 2))) L _ ?_ y ?_
  · simp only [List.forall_mem_cons]
    exact ⟨quadQ_at P 3 24 rfl _, quadQ_at P 2 16 rfl _, quadQ_at P 1 8 rfl _, quadQ_at P 0 0 rfl _, fun _ h => absurd h List.not_mem_nil⟩
  · exact View.cover_of_tiledL (s := S32x128x64) _ S8x128x64.size (by sl_kernel_rfl) y

/-- The place of a head's element in S4x128x64. -/
theorem quadK_at (P : Fin 4 → Vec F S1x128x64 .bf16) (k : Fin 4) (o : ℕ) (ho : o = 1 * k.val) (h)
    (y : (Rect.unit (s := S4x128x64) ![o, 0, 0] S1x128x64.size h).shape.Idx) :
    P k y = (fun z : S4x128x64.Idx => P (z 0) (ix3 0 (z 1) (z 2))) ((Rect.unit (s := S4x128x64) ![o, 0, 0] S1x128x64.size h).emb y) := by
  have h0 : (y 0).val < 1 := (y 0).isLt
  have hk : (⟨o + 1 * (y 0).val, by have := k.isLt; omega⟩ : Fin 4) = k := Fin.ext (by dsimp only; omega)
  have hy : (ix3 0 ⟨0 + 1 * (y 1).val, by have : (y 1).val < 128 := (y 1).isLt; omega⟩ ⟨0 + 1 * (y 2).val, by have : (y 2).val < 64 := (y 2).isLt; omega⟩ : S1x128x64.Idx) = y := by
    funext e
    match e with
    | ⟨0, _⟩ => exact Fin.ext (show 0 = (y 0).val by omega)
    | ⟨1, _⟩ => exact Fin.ext (show 0 + 1 * (y 1).val = (y 1).val by omega)
    | ⟨2, _⟩ => exact Fin.ext (show 0 + 1 * (y 2).val = (y 2).val by omega)
  show P k y = P ⟨o + 1 * (y 0).val, by have := k.isLt; omega⟩ (ix3 0 ⟨0 + 1 * (y 1).val, _⟩ ⟨0 + 1 * (y 2).val, _⟩)
  rw [hk, hy]

/-- The stores of the heads, read at a head's element. -/
theorem quadK (P : Fin 4 → Vec F S1x128x64 .bf16) (L : List (View.Piece (Elt F) S4x128x64 .bf16)) (y : S4x128x64.Idx) :
    View.canon ([⟨Rect.unit (s := S4x128x64) ![3, 0, 0] S1x128x64.size inb_S4x128x64_S1x128x64_3_0_0, P 3⟩,
      ⟨Rect.unit (s := S4x128x64) ![2, 0, 0] S1x128x64.size inb_S4x128x64_S1x128x64_2_0_0, P 2⟩,
      ⟨Rect.unit (s := S4x128x64) ![1, 0, 0] S1x128x64.size inb_S4x128x64_S1x128x64_1_0_0, P 1⟩,
      ⟨Rect.unit (s := S4x128x64) ![0, 0, 0] S1x128x64.size inb_S4x128x64_S1x128x64_0_0_0, P 0⟩] ++ L) y
    = P (y 0) (ix3 0 (y 1) (y 2)) := by
  refine View.canon_append_of_pieces (fun z : S4x128x64.Idx => P (z 0) (ix3 0 (z 1) (z 2))) L _ ?_ y ?_
  · simp only [List.forall_mem_cons]
    exact ⟨quadK_at P 3 3 rfl _, quadK_at P 2 2 rfl _, quadK_at P 1 1 rfl _, quadK_at P 0 0 rfl _, fun _ h => absurd h List.not_mem_nil⟩
  · exact View.cover_of_tiledL (s := S4x128x64) _ S1x128x64.size (by sl_kernel_rfl) y

/-- The place of a head's element in S4x1024x1. -/
theorem quadA_at (P : Fin 4 → Vec F S1x1024x1 .f32) (k : Fin 4) (o : ℕ) (ho : o = 1 * k.val) (h)
    (y : (Rect.unit (s := S4x1024x1) ![o, 0, 0] S1x1024x1.size h).shape.Idx) :
    P k y = (fun z : S4x1024x1.Idx => P (z 0) (ix3 0 (z 1) (z 2))) ((Rect.unit (s := S4x1024x1) ![o, 0, 0] S1x1024x1.size h).emb y) := by
  have h0 : (y 0).val < 1 := (y 0).isLt
  have hk : (⟨o + 1 * (y 0).val, by have := k.isLt; omega⟩ : Fin 4) = k := Fin.ext (by dsimp only; omega)
  have hy : (ix3 0 ⟨0 + 1 * (y 1).val, by have : (y 1).val < 1024 := (y 1).isLt; omega⟩ ⟨0 + 1 * (y 2).val, by have : (y 2).val < 1 := (y 2).isLt; omega⟩ : S1x1024x1.Idx) = y := by
    funext e
    match e with
    | ⟨0, _⟩ => exact Fin.ext (show 0 = (y 0).val by omega)
    | ⟨1, _⟩ => exact Fin.ext (show 0 + 1 * (y 1).val = (y 1).val by omega)
    | ⟨2, _⟩ => exact Fin.ext (show 0 + 1 * (y 2).val = (y 2).val by omega)
  show P k y = P ⟨o + 1 * (y 0).val, by have := k.isLt; omega⟩ (ix3 0 ⟨0 + 1 * (y 1).val, _⟩ ⟨0 + 1 * (y 2).val, _⟩)
  rw [hk, hy]

/-- The stores of the heads, read at a head's element. -/
theorem quadA (P : Fin 4 → Vec F S1x1024x1 .f32) (L : List (View.Piece (Elt F) S4x1024x1 .f32)) (y : S4x1024x1.Idx) :
    View.canon ([⟨Rect.unit (s := S4x1024x1) ![3, 0, 0] S1x1024x1.size inb_S4x1024x1_S1x1024x1_3_0_0, P 3⟩,
      ⟨Rect.unit (s := S4x1024x1) ![2, 0, 0] S1x1024x1.size inb_S4x1024x1_S1x1024x1_2_0_0, P 2⟩,
      ⟨Rect.unit (s := S4x1024x1) ![1, 0, 0] S1x1024x1.size inb_S4x1024x1_S1x1024x1_1_0_0, P 1⟩,
      ⟨Rect.unit (s := S4x1024x1) ![0, 0, 0] S1x1024x1.size inb_S4x1024x1_S1x1024x1_0_0_0, P 0⟩] ++ L) y
    = P (y 0) (ix3 0 (y 1) (y 2)) := by
  refine View.canon_append_of_pieces (fun z : S4x1024x1.Idx => P (z 0) (ix3 0 (z 1) (z 2))) L _ ?_ y ?_
  · simp only [List.forall_mem_cons]
    exact ⟨quadA_at P 3 3 rfl _, quadA_at P 2 2 rfl _, quadA_at P 1 1 rfl _, quadA_at P 0 0 rfl _, fun _ h => absurd h List.not_mem_nil⟩
  · exact View.cover_of_tiledL (s := S4x1024x1) _ S1x1024x1.size (by sl_kernel_rfl) y

/-- The place of a head's element in S32x128. -/
theorem quadS_at (P : Fin 32 → Vec F S1x128 .f32) (k : Fin 32) (o : ℕ) (ho : o = 1 * k.val) (h)
    (y : (Rect.unit (s := S32x128) ![o, 0] S1x128.size h).shape.Idx) :
    P k y = (fun z : S32x128.Idx => P (z 0) (ix2 0 (z 1))) ((Rect.unit (s := S32x128) ![o, 0] S1x128.size h).emb y) := by
  have h0 : (y 0).val < 1 := (y 0).isLt
  have hk : (⟨o + 1 * (y 0).val, by have := k.isLt; omega⟩ : Fin 32) = k := Fin.ext (by dsimp only; omega)
  have hy : (ix2 0 ⟨0 + 1 * (y 1).val, by have : (y 1).val < 128 := (y 1).isLt; omega⟩ : S1x128.Idx) = y := by
    funext e
    match e with
    | ⟨0, _⟩ => exact Fin.ext (show 0 = (y 0).val by omega)
    | ⟨1, _⟩ => exact Fin.ext (show 0 + 1 * (y 1).val = (y 1).val by omega)
  show P k y = P ⟨o + 1 * (y 0).val, by have := k.isLt; omega⟩ (ix2 0 ⟨0 + 1 * (y 1).val, _⟩)
  rw [hk, hy]

/-- The stores of the heads, read at a head's element. -/
theorem quadS (P : Fin 32 → Vec F S1x128 .f32) (L : List (View.Piece (Elt F) S32x128 .f32)) (y : S32x128.Idx) :
    View.canon ([⟨Rect.unit (s := S32x128) ![31, 0] S1x128.size inb_S32x128_S1x128_31_0, P 31⟩,
      ⟨Rect.unit (s := S32x128) ![30, 0] S1x128.size inb_S32x128_S1x128_30_0, P 30⟩,
      ⟨Rect.unit (s := S32x128) ![29, 0] S1x128.size inb_S32x128_S1x128_29_0, P 29⟩,
      ⟨Rect.unit (s := S32x128) ![28, 0] S1x128.size inb_S32x128_S1x128_28_0, P 28⟩,
      ⟨Rect.unit (s := S32x128) ![27, 0] S1x128.size inb_S32x128_S1x128_27_0, P 27⟩,
      ⟨Rect.unit (s := S32x128) ![26, 0] S1x128.size inb_S32x128_S1x128_26_0, P 26⟩,
      ⟨Rect.unit (s := S32x128) ![25, 0] S1x128.size inb_S32x128_S1x128_25_0, P 25⟩,
      ⟨Rect.unit (s := S32x128) ![24, 0] S1x128.size inb_S32x128_S1x128_24_0, P 24⟩,
      ⟨Rect.unit (s := S32x128) ![23, 0] S1x128.size inb_S32x128_S1x128_23_0, P 23⟩,
      ⟨Rect.unit (s := S32x128) ![22, 0] S1x128.size inb_S32x128_S1x128_22_0, P 22⟩,
      ⟨Rect.unit (s := S32x128) ![21, 0] S1x128.size inb_S32x128_S1x128_21_0, P 21⟩,
      ⟨Rect.unit (s := S32x128) ![20, 0] S1x128.size inb_S32x128_S1x128_20_0, P 20⟩,
      ⟨Rect.unit (s := S32x128) ![19, 0] S1x128.size inb_S32x128_S1x128_19_0, P 19⟩,
      ⟨Rect.unit (s := S32x128) ![18, 0] S1x128.size inb_S32x128_S1x128_18_0, P 18⟩,
      ⟨Rect.unit (s := S32x128) ![17, 0] S1x128.size inb_S32x128_S1x128_17_0, P 17⟩,
      ⟨Rect.unit (s := S32x128) ![16, 0] S1x128.size inb_S32x128_S1x128_16_0, P 16⟩,
      ⟨Rect.unit (s := S32x128) ![15, 0] S1x128.size inb_S32x128_S1x128_15_0, P 15⟩,
      ⟨Rect.unit (s := S32x128) ![14, 0] S1x128.size inb_S32x128_S1x128_14_0, P 14⟩,
      ⟨Rect.unit (s := S32x128) ![13, 0] S1x128.size inb_S32x128_S1x128_13_0, P 13⟩,
      ⟨Rect.unit (s := S32x128) ![12, 0] S1x128.size inb_S32x128_S1x128_12_0, P 12⟩,
      ⟨Rect.unit (s := S32x128) ![11, 0] S1x128.size inb_S32x128_S1x128_11_0, P 11⟩,
      ⟨Rect.unit (s := S32x128) ![10, 0] S1x128.size inb_S32x128_S1x128_10_0, P 10⟩,
      ⟨Rect.unit (s := S32x128) ![9, 0] S1x128.size inb_S32x128_S1x128_9_0, P 9⟩,
      ⟨Rect.unit (s := S32x128) ![8, 0] S1x128.size inb_S32x128_S1x128_8_0, P 8⟩,
      ⟨Rect.unit (s := S32x128) ![7, 0] S1x128.size inb_S32x128_S1x128_7_0, P 7⟩,
      ⟨Rect.unit (s := S32x128) ![6, 0] S1x128.size inb_S32x128_S1x128_6_0, P 6⟩,
      ⟨Rect.unit (s := S32x128) ![5, 0] S1x128.size inb_S32x128_S1x128_5_0, P 5⟩,
      ⟨Rect.unit (s := S32x128) ![4, 0] S1x128.size inb_S32x128_S1x128_4_0, P 4⟩,
      ⟨Rect.unit (s := S32x128) ![3, 0] S1x128.size inb_S32x128_S1x128_3_0, P 3⟩,
      ⟨Rect.unit (s := S32x128) ![2, 0] S1x128.size inb_S32x128_S1x128_2_0, P 2⟩,
      ⟨Rect.unit (s := S32x128) ![1, 0] S1x128.size inb_S32x128_S1x128_1_0, P 1⟩,
      ⟨Rect.unit (s := S32x128) ![0, 0] S1x128.size inb_S32x128_S1x128_0_0, P 0⟩] ++ L) y
    = P (y 0) (ix2 0 (y 1)) := by
  refine View.canon_append_of_pieces (fun z : S32x128.Idx => P (z 0) (ix2 0 (z 1))) L _ ?_ y ?_
  · simp only [List.forall_mem_cons]
    exact ⟨quadS_at P 31 31 rfl _, quadS_at P 30 30 rfl _, quadS_at P 29 29 rfl _, quadS_at P 28 28 rfl _, quadS_at P 27 27 rfl _, quadS_at P 26 26 rfl _, quadS_at P 25 25 rfl _, quadS_at P 24 24 rfl _, quadS_at P 23 23 rfl _, quadS_at P 22 22 rfl _, quadS_at P 21 21 rfl _, quadS_at P 20 20 rfl _, quadS_at P 19 19 rfl _, quadS_at P 18 18 rfl _, quadS_at P 17 17 rfl _, quadS_at P 16 16 rfl _, quadS_at P 15 15 rfl _, quadS_at P 14 14 rfl _, quadS_at P 13 13 rfl _, quadS_at P 12 12 rfl _, quadS_at P 11 11 rfl _, quadS_at P 10 10 rfl _, quadS_at P 9 9 rfl _, quadS_at P 8 8 rfl _, quadS_at P 7 7 rfl _, quadS_at P 6 6 rfl _, quadS_at P 5 5 rfl _, quadS_at P 4 4 rfl _, quadS_at P 3 3 rfl _, quadS_at P 2 2 rfl _, quadS_at P 1 1 rfl _, quadS_at P 0 0 rfl _, fun _ h => absurd h List.not_mem_nil⟩
  · exact View.cover_of_tiledL (s := S32x128) _ S1x128.size (by sl_kernel_rfl) y

/-- The stores of the carried gradients, read at a head's element. -/
theorem octC_at (P : Fin 4 → Fin 2 → Vec F S1x1x128x64 .f32) (k : Fin 4) (s : Fin 2) (a b : ℕ) (ha : a = k.val) (hb : b = s.val) (h)
    (y : (Rect.unit (s := S4x2x128x64) ![a, b, 0, 0] S1x1x128x64.size h).shape.Idx) :
    P k s y = (fun z : S4x2x128x64.Idx => P (z 0) (z 1) (ix4 0 0 (z 2) (z 3))) ((Rect.unit (s := S4x2x128x64) ![a, b, 0, 0] S1x1x128x64.size h).emb y) := by
  have h0 : (y 0).val < 1 := (y 0).isLt
  have h1 : (y 1).val < 1 := (y 1).isLt
  have hk : (⟨a + 1 * (y 0).val, by have := k.isLt; omega⟩ : Fin 4) = k := Fin.ext (by dsimp only; omega)
  have hs : (⟨b + 1 * (y 1).val, by have := s.isLt; omega⟩ : Fin 2) = s := Fin.ext (by dsimp only; omega)
  have hy : (ix4 0 0 ⟨0 + 1 * (y 2).val, by have : (y 2).val < 128 := (y 2).isLt; omega⟩ ⟨0 + 1 * (y 3).val, by have : (y 3).val < 64 := (y 3).isLt; omega⟩ : S1x1x128x64.Idx) = y := by
    funext e
    match e with
    | ⟨0, _⟩ => exact Fin.ext (show 0 = (y 0).val by omega)
    | ⟨1, _⟩ => exact Fin.ext (show 0 = (y 1).val by omega)
    | ⟨2, _⟩ => exact Fin.ext (show 0 + 1 * (y 2).val = (y 2).val by omega)
    | ⟨3, _⟩ => exact Fin.ext (show 0 + 1 * (y 3).val = (y 3).val by omega)
  show P k s y = P ⟨a + 1 * (y 0).val, _⟩ ⟨b + 1 * (y 1).val, _⟩ (ix4 0 0 ⟨0 + 1 * (y 2).val, _⟩ ⟨0 + 1 * (y 3).val, _⟩)
  rw [hk, hs, hy]

theorem octC (P : Fin 4 → Fin 2 → Vec F S1x1x128x64 .f32) (L : List (View.Piece (Elt F) S4x2x128x64 .f32)) (y : S4x2x128x64.Idx) :
    View.canon ([⟨Rect.unit (s := S4x2x128x64) ![3, 1, 0, 0] S1x1x128x64.size inb_S4x2x128x64_S1x1x128x64_3_1_0_0, P 3 1⟩,
      ⟨Rect.unit (s := S4x2x128x64) ![3, 0, 0, 0] S1x1x128x64.size inb_S4x2x128x64_S1x1x128x64_3_0_0_0, P 3 0⟩,
      ⟨Rect.unit (s := S4x2x128x64) ![2, 1, 0, 0] S1x1x128x64.size inb_S4x2x128x64_S1x1x128x64_2_1_0_0, P 2 1⟩,
      ⟨Rect.unit (s := S4x2x128x64) ![2, 0, 0, 0] S1x1x128x64.size inb_S4x2x128x64_S1x1x128x64_2_0_0_0, P 2 0⟩,
      ⟨Rect.unit (s := S4x2x128x64) ![1, 1, 0, 0] S1x1x128x64.size inb_S4x2x128x64_S1x1x128x64_1_1_0_0, P 1 1⟩,
      ⟨Rect.unit (s := S4x2x128x64) ![1, 0, 0, 0] S1x1x128x64.size inb_S4x2x128x64_S1x1x128x64_1_0_0_0, P 1 0⟩,
      ⟨Rect.unit (s := S4x2x128x64) ![0, 1, 0, 0] S1x1x128x64.size inb_S4x2x128x64_S1x1x128x64_0_1_0_0, P 0 1⟩,
      ⟨Rect.unit (s := S4x2x128x64) ![0, 0, 0, 0] S1x1x128x64.size inb_S4x2x128x64_S1x1x128x64_0_0_0_0, P 0 0⟩] ++ L) y = P (y 0) (y 1) (ix4 0 0 (y 2) (y 3)) := by
  refine View.canon_append_of_pieces (fun z : S4x2x128x64.Idx => P (z 0) (z 1) (ix4 0 0 (z 2) (z 3))) L _ ?_ y ?_
  · simp only [List.forall_mem_cons]
    exact ⟨octC_at P 3 1 3 1 rfl rfl _, octC_at P 3 0 3 0 rfl rfl _, octC_at P 2 1 2 1 rfl rfl _, octC_at P 2 0 2 0 rfl rfl _, octC_at P 1 1 1 1 rfl rfl _, octC_at P 1 0 1 0 rfl rfl _, octC_at P 0 1 0 1 rfl rfl _, octC_at P 0 0 0 0 rfl rfl _, fun _ h => absurd h List.not_mem_nil⟩
  · exact View.cover_of_tiledL (s := S4x2x128x64) _ S1x1x128x64.size (by sl_kernel_rfl) y

/-- Stores into the first row: the last stands. -/
theorem row_put {κ : Kind} {sp : Space} (v : View sig κ sp S8x64 .f32) (f : v.ty.Contents (Elt F)) (w₃ w₂ w₁ w₀ : Vec F S1x64 .f32) (L : List (View.Piece (Elt F) S8x64 .f32)) (r : Fin 8) (d : Fin 64) :
    v.read (Elt F) (v.writes (Elt F) f (⟨Rect.unit (s := S8x64) ![0, 0] S1x64.size inb_S8x64_S1x64_0_0, w₃⟩ :: ⟨Rect.unit (s := S8x64) ![0, 0] S1x64.size inb_S8x64_S1x64_0_0, w₂⟩ ::
      ⟨Rect.unit (s := S8x64) ![0, 0] S1x64.size inb_S8x64_S1x64_0_0, w₁⟩ :: ⟨Rect.unit (s := S8x64) ![0, 0] S1x64.size inb_S8x64_S1x64_0_0, w₀⟩ :: L)) (ix2 r d)
    = if r = 0 then w₃ (ix2 0 d) else v.read (Elt F) (v.writes (Elt F) f L) (ix2 r d) := by
  split
  · next h =>
    subst h
    exact View.read_writes_cons_unit_of_mem v f _ _ _ _ (ix2 0 d) rfl fun a => match a with
      | ⟨0, _⟩ => rfl
      | ⟨1, _⟩ => (Nat.zero_add _).symm
  · next h =>
    have h' : 0 + 1 ≤ r.val := Nat.pos_of_ne_zero fun e => h (Fin.ext e)
    rw [View.read_writes_cons_unit_of_not_mem v f _ _ _ _ rfl 0 (.inr h'), View.read_writes_cons_unit_of_not_mem v f _ _ _ _ rfl 0 (.inr h'),
      View.read_writes_cons_unit_of_not_mem v f _ _ _ _ rfl 0 (.inr h'), View.read_writes_cons_unit_of_not_mem v f _ _ _ _ rfl 0 (.inr h')]

end Cert.KernelIdeal.Region
-- ==== Proof.Steps.lean ====
/- What each kind of grid point leaves of what it finds, index by index. -/
module

public import proofs.«01_k».proof.Proof.Points

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

variable {F : FTy → Type} [FloatOps F] [Named F]
variable (m : (ℓ : Loc nD τ sig) → Buf (Elt F) ℓ)

/-- What a point with the inputs `X` leaves (`y`) of what it finds (`x`), index by index. -/
structure Step (X : Fin 4 → Inp F) (x y : Left F) : Prop where
  dq : ∀ i, y.dq i = (X ⟨(i 0).val / 8, by have : (i 0).val < 32 := (i 0).isLt; omega⟩).outQ (ix3 ⟨(i 0).val % 8, Nat.mod_lt _ (by decide)⟩ (i 1) (i 2))
  dk : ∀ (k : Fin 4) i d, y.dk (ix3 k i d) = (X k).outK (carried x.carry k 0) (ix3 0 i d)
  dv : ∀ (k : Fin 4) i d, y.dv (ix3 k i d) = (X k).outV (carried x.carry k 1) (ix3 0 i d)
  ck : ∀ (k : Fin 4) i d, y.carry (ix4 k 0 i d) = (X k).outCk (ix4 0 0 i d)
  cv : ∀ (k : Fin 4) i d, y.carry (ix4 k 1 i d) = (X k).outCv (ix4 0 0 i d)
  acc : ∀ (k : Fin 4) i d, y.acc (ix3 k i d) = (X k).outAcc (accRow x.acc k) (ix3 0 i d)
  dgq : ∀ (r : Fin 8) d, y.dgq (ix2 r d) = if r = 0 then ((X 3).outGq ((X 2).outGq ((X 1).outGq ((X 0).outGq (gainRow x.dgq))))) (ix2 0 d) else x.dgq (ix2 r d)
  dgk : ∀ (r : Fin 8) d, y.dgk (ix2 r d) = if r = 0 then ((X 3).outGk ((X 2).outGk ((X 1).outGk ((X 0).outGk (gainRow x.dgk))))) (ix2 0 d) else x.dgk (ix2 r d)

/-- What the first point finds after its fills. -/
def zeros (x : Left F) : Left F where
  dq := x.dq
  dk := x.dk
  dv := x.dv
  dgq := k0_pay36
  dgk := k0_pay37
  dsk := x.dsk
  carry := k0_pay38
  acc := k0_pay39

theorem stepA (c : Dev nD) (t : Fin cfg0.N) (ht : t.val = 0) : Step (inp m c t) (zeros (leftA m c t ht)) (leftA m c t ht) where
  dq i := by
    rw [leftA_dq]
    refine Eq.trans ?_ (quadQ (fun k => (inp m c t k).outQ) [] i)
    sl_kernel_rfl
  dk k i d := by
    rw [leftA_dk, carried_eq _ 3 0 3 0 rfl rfl, carried_eq _ 2 0 2 0 rfl rfl, carried_eq _ 1 0 1 0 rfl rfl, carried_eq _ 0 0 0 0 rfl rfl]
    refine Eq.trans ?_ (quadK (fun k => (inp m c t k).outK (carried (zeros (leftA m c t ht)).carry k 0)) [] (ix3 k i d))
    sl_kernel_rfl
  dv k i d := by
    rw [leftA_dv, carried_eq _ 3 1 3 1 rfl rfl, carried_eq _ 2 1 2 1 rfl rfl, carried_eq _ 1 1 1 1 rfl rfl, carried_eq _ 0 1 0 1 rfl rfl]
    refine Eq.trans ?_ (quadK (fun k => (inp m c t k).outV (carried (zeros (leftA m c t ht)).carry k 1)) [] (ix3 k i d))
    sl_kernel_rfl
  ck k i d := by
    rw [leftA_carry]
    refine Eq.trans ?_ (octC (fun k => ![(inp m c t k).outCk, (inp m c t k).outCv]) [⟨Rect.unit (s := S4x2x128x64) ![0, 0, 0, 0] S4x2x128x64.size inb_S4x2x128x64_S4x2x128x64_0_0_0_0, k0_pay38⟩] (ix4 k 0 i d))
    sl_kernel_rfl
  cv k i d := by
    rw [leftA_carry]
    refine Eq.trans ?_ (octC (fun k => ![(inp m c t k).outCk, (inp m c t k).outCv]) [⟨Rect.unit (s := S4x2x128x64) ![0, 0, 0, 0] S4x2x128x64.size inb_S4x2x128x64_S4x2x128x64_0_0_0_0, k0_pay38⟩] (ix4 k 1 i d))
    sl_kernel_rfl
  acc k i d := by
    rw [leftA_acc, accRow_eq _ 3 3 rfl, accRow_eq _ 2 2 rfl, accRow_eq _ 1 1 rfl, accRow_eq _ 0 0 rfl]
    refine Eq.trans ?_ (quadA (fun k => (inp m c t k).outAcc (accRow (zeros (leftA m c t ht)).acc k)) [⟨Rect.unit (s := S4x1024x1) ![0, 0, 0] S4x1024x1.size inb_S4x1024x1_S4x1024x1_0_0_0, k0_pay39⟩] (ix3 k i d))
    sl_kernel_rfl
  dgq r d := by
    rw [leftA_dgq, gainRow_eq]
    rw [← View.read_writes_junk_eq_canon (v := VO0_13), row_put]
    refine if_congr Iff.rfl (by sl_kernel_rfl) ?_
    rw [View.read_writes_junk_eq_canon]
    exact congrFun (View.canon_cons_unit_lit _ _ _ (by decide)) _
  dgk r d := by
    rw [leftA_dgk, gainRow_eq]
    rw [← View.read_writes_junk_eq_canon (v := VO0_14), row_put]
    refine if_congr Iff.rfl (by sl_kernel_rfl) ?_
    rw [View.read_writes_junk_eq_canon]
    exact congrFun (View.canon_cons_unit_lit _ _ _ (by decide)) _

theorem stepB (c : Dev nD) (t : Fin cfg0.N) (ht : t.val ≠ 0 ∧ t.val ≠ 63) (x : Left F) : Step (inp m c t) x (leftB m c t ht x) where
  dq i := by
    rw [leftB_dq]
    refine Eq.trans ?_ (quadQ (fun k => (inp m c t k).outQ) [] i)
    sl_kernel_rfl
  dk k i d := by
    rw [leftB_dk, carried_eq _ 3 0 3 0 rfl rfl, carried_eq _ 2 0 2 0 rfl rfl, carried_eq _ 1 0 1 0 rfl rfl, carried_eq _ 0 0 0 0 rfl rfl]
    refine Eq.trans ?_ (quadK (fun k => (inp m c t k).outK (carried x.carry k 0)) [] (ix3 k i d))
    sl_kernel_rfl
  dv k i d := by
    rw [leftB_dv, carried_eq _ 3 1 3 1 rfl rfl, carried_eq _ 2 1 2 1 rfl rfl, carried_eq _ 1 1 1 1 rfl rfl, carried_eq _ 0 1 0 1 rfl rfl]
    refine Eq.trans ?_ (quadK (fun k => (inp m c t k).outV (carried x.carry k 1)) [] (ix3 k i d))
    sl_kernel_rfl
  ck k i d := by
    rw [leftB_carry]
    refine Eq.trans ?_ (octC (fun k => ![(inp m c t k).outCk, (inp m c t k).outCv]) [] (ix4 k 0 i d))
    sl_kernel_rfl
  cv k i d := by
    rw [leftB_carry]
    refine Eq.trans ?_ (octC (fun k => ![(inp m c t k).outCk, (inp m c t k).outCv]) [] (ix4 k 1 i d))
    sl_kernel_rfl
  acc k i d := by
    rw [leftB_acc, accRow_eq _ 3 3 rfl, accRow_eq _ 2 2 rfl, accRow_eq _ 1 1 rfl, accRow_eq _ 0 0 rfl]
    refine Eq.trans ?_ (quadA (fun k => (inp m c t k).outAcc (accRow x.acc k)) [] (ix3 k i d))
    sl_kernel_rfl
  dgq r d := by
    rw [leftB_dgq, gainRow_eq]
    rw [row_put]
    refine if_congr Iff.rfl (by sl_kernel_rfl) ?_
    rw [View.writes, (hs0_13 t).read_unread]
  dgk r d := by
    rw [leftB_dgk, gainRow_eq]
    rw [row_put]
    refine if_congr Iff.rfl (by sl_kernel_rfl) ?_
    rw [View.writes, (hs0_14 t).read_unread]

theorem stepC (c : Dev nD) (t : Fin cfg0.N) (ht : t.val = 63) (x : Left F) : Step (inp m c t) x (leftC m c t ht x) where
  dq i := by
    rw [leftC_dq]
    refine Eq.trans ?_ (quadQ (fun k => (inp m c t k).outQ) [] i)
    sl_kernel_rfl
  dk k i d := by
    rw [leftC_dk, carried_eq _ 3 0 3 0 rfl rfl, carried_eq _ 2 0 2 0 rfl rfl, carried_eq _ 1 0 1 0 rfl rfl, carried_eq _ 0 0 0 0 rfl rfl]
    refine Eq.trans ?_ (quadK (fun k => (inp m c t k).outK (carried x.carry k 0)) [] (ix3 k i d))
    sl_kernel_rfl
  dv k i d := by
    rw [leftC_dv, carried_eq _ 3 1 3 1 rfl rfl, carried_eq _ 2 1 2 1 rfl rfl, carried_eq _ 1 1 1 1 rfl rfl, carried_eq _ 0 1 0 1 rfl rfl]
    refine Eq.trans ?_ (quadK (fun k => (inp m c t k).outV (carried x.carry k 1)) [] (ix3 k i d))
    sl_kernel_rfl
  ck k i d := by
    rw [leftC_carry]
    refine Eq.trans ?_ (octC (fun k => ![(inp m c t k).outCk, (inp m c t k).outCv]) [] (ix4 k 0 i d))
    sl_kernel_rfl
  cv k i d := by
    rw [leftC_carry]
    refine Eq.trans ?_ (octC (fun k => ![(inp m c t k).outCk, (inp m c t k).outCv]) [] (ix4 k 1 i d))
    sl_kernel_rfl
  acc k i d := by
    rw [leftC_acc, accRow_eq _ 3 3 rfl, accRow_eq _ 2 2 rfl, accRow_eq _ 1 1 rfl, accRow_eq _ 0 0 rfl]
    refine Eq.trans ?_ (quadA (fun k => (inp m c t k).outAcc (accRow x.acc k)) [] (ix3 k i d))
    sl_kernel_rfl
  dgq r d := by
    rw [leftC_dgq, gainRow_eq]
    rw [row_put]
    refine if_congr Iff.rfl (by sl_kernel_rfl) ?_
    rw [View.writes, (hs0_13 t).read_unread]
  dgk r d := by
    rw [leftC_dgk, gainRow_eq]
    rw [row_put]
    refine if_congr Iff.rfl (by sl_kernel_rfl) ?_
    rw [View.writes, (hs0_14 t).read_unread]

end Cert.KernelIdeal.Region
-- ==== Proof.Problem.lean ====
/- The whole problem over the real numbers: the arguments, the blocks the sequence is cut into, and the six gradients as sums over blocks. -/
module

public import proofs.«01_k».proof.Proof.Spec

@[expose] public section

noncomputable section

namespace Cert.Proof

open Idealize.ShloMosaic

/-- The arguments: queries and the gradient of the attention's result per head, keys and values per head of keys, the two gains, the sinks. -/
structure Args where
  q : Fin 32 → Fin 8192 → Fin 64 → ℝ
  o : Fin 32 → Fin 8192 → Fin 64 → ℝ
  k : Fin 4 → Fin 8192 → Fin 64 → ℝ
  v : Fin 4 → Fin 8192 → Fin 64 → ℝ
  gq : Fin 64 → ℝ
  gk : Fin 64 → ℝ
  sk : Fin 32 → ℝ

/-- The real value of an f32 word. -/
def word (b : BitVec 32) : ℝ := (Ideal.ofBits .f32 b).toReal

/-- A head's slope: `2 ^ (-8 (h + 1) / 32)`, the logarithm of two as its f32 word. -/
def slope (h : Fin 32) : ℝ := Real.exp (word 0x3F317218#32 * (-8 * (1 + (h.val : ℝ)) / 32))

theorem word_ln2 : Ideal.ofBits .f32 0x3F317218#32 = (word 0x3F317218#32 : EReal) := by
  have h : Ideal.ofBits .f32 0x3F317218#32 = ((1453635 / 2097152 : ℝ) : EReal) := by
    simp [Ideal.ofBits, Ideal.ieee, -EReal.coe_mul]
    norm_num
  rw [word, h, EReal.toReal_coe]

theorem word_neg_8 : Ideal.ofBits .f32 0xC1000000#32 = ((-8 : ℝ) : EReal) := by
  simp [Ideal.ofBits, Ideal.ieee, -EReal.coe_mul, -EReal.coe_neg]
  norm_num

theorem word_32 : Ideal.ofBits .f32 0x42000000#32 = ((32 : ℝ) : EReal) := by
  simp [Ideal.ofBits, Ideal.ieee, -EReal.coe_mul]
  norm_num

theorem index_word : ∀ h : Fin 32, (BitVec.ofNat 32 h.val).toInt = h.val := by decide

/-- The slope as the programs compute it. -/
theorem slope_eq (h : Fin 32) :
    Ideal.exp (Ideal.ofBits .f32 0x3F317218#32
      * Ideal.div (Ideal.ofBits .f32 0xC1000000#32 * (1 + (((BitVec.ofNat 32 h.val).toInt : ℝ) : EReal))) (Ideal.ofBits .f32 0x42000000#32))
    = (slope h : EReal) := by
  rw [word_ln2, word_neg_8, word_32, index_word, ← EReal.coe_one, ← EReal.coe_add, ← EReal.coe_mul, div_real _ (by norm_num),
    ← EReal.coe_mul, Ideal.exp_coe]
  rfl

namespace Args

variable (A : Args)

/-- Row `R` of a block's head of keys `kv`: the head `8 kv + R / 128`. -/
def head (kv : Fin 4) (R : Fin 1024) : Fin 32 := ⟨kv.val * 8 + R.val / 128, by omega⟩

/-- The token at row `R` of block `n`. -/
def tok (n : Fin 64) (R : Fin 1024) : Fin 8192 := ⟨n.val * 128 + R.val % 128, by omega⟩

/-- The token at place `j` of block `n`'s band: the block before, then the block itself. -/
def band (n : Fin 64) (j : Fin 256) : Fin 8192 :=
  if j.val < 128 then ⟨(n.val - 1) * 128 + j.val, by omega⟩ else ⟨n.val * 128 + (j.val - 128), by omega⟩

/-- Block `n` of the heads that share the keys `kv`. -/
def blk (n : Fin 64) (kv : Fin 4) : Blk (Fin 1024) where
  n := n.val
  pos R := ⟨R.val % 128, by omega⟩
  q R := A.q (head kv R) (tok n R)
  o R := A.o (head kv R) (tok n R)
  sl R := slope (head kv R)
  sk R := A.sk (head kv R)
  k j := A.k kv (band n j)
  v j := A.v kv (band n j)
  gq := A.gq
  gk := A.gk

/-- A token's block. -/
def blkOf (s : Fin 8192) : Fin 64 := ⟨s.val / 128, by omega⟩

/-- The gradient of the queries. -/
def dq (h : Fin 32) (s : Fin 8192) (d : Fin 64) : ℝ :=
  (A.blk (blkOf s) ⟨h.val / 8, by omega⟩).dq ⟨h.val % 8 * 128 + s.val % 128, by omega⟩ d

/-- The gradient of the keys: what the token's own block sends, and the block after it. -/
def dk (kv : Fin 4) (s : Fin 8192) (d : Fin 64) : ℝ :=
  (A.blk (blkOf s) kv).dk ⟨128 + s.val % 128, by omega⟩ d
    + if h : s.val / 128 + 1 < 64 then (A.blk ⟨s.val / 128 + 1, h⟩ kv).dk ⟨s.val % 128, by omega⟩ d else 0

/-- The gradient of the values. -/
def dv (kv : Fin 4) (s : Fin 8192) (d : Fin 64) : ℝ :=
  (A.blk (blkOf s) kv).dv ⟨128 + s.val % 128, by omega⟩ d
    + if h : s.val / 128 + 1 < 64 then (A.blk ⟨s.val / 128 + 1, h⟩ kv).dv ⟨s.val % 128, by omega⟩ d else 0

/-- The gradient of the queries' gain. -/
def dgq (d : Fin 64) : ℝ := ∑ n, ∑ kv, (A.blk n kv).dgq d

/-- The gradient of the keys' gain. -/
def dgk (d : Fin 64) : ℝ := ∑ n, ∑ kv, (A.blk n kv).dgk d

/-- The gradient of a head's sink. -/
def dsk (h : Fin 32) : ℝ :=
  ∑ n, ∑ i : Fin 128, (A.blk n ⟨h.val / 8, by omega⟩).dsk ⟨h.val % 8 * 128 + i.val, by omega⟩

end Args

end Cert.Proof
-- ==== Proof.Inputs.lean ====
/- What the kernel's windows hold at a grid point: the point `t` works on the block `63 - t`. -/
module

public import proofs.«01_k».proof.Proof.Points
public import proofs.«01_k».proof.Proof.Problem

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

/-- Every window's block at a grid point. -/
theorem idx : ∀ t : Fin cfg0.N, win0_0.index t = ![0, 63 - t.val, 0] ∧ win0_1.index t = ![0, 63 - t.val - 1, 0]
    ∧ win0_2.index t = ![0, 63 - t.val, 0] ∧ win0_3.index t = ![0, 63 - t.val - 1, 0] ∧ win0_4.index t = ![0, 63 - t.val, 0]
    ∧ win0_5.index t = ![0, 63 - t.val, 0] ∧ win0_6.index t = ![0, 0] ∧ win0_7.index t = ![0, 0]
    ∧ win0_8.index t = ![0, 0, 0] ∧ win0_9.index t = ![0, 0, 0] :=
  (by decide +kernel : ∀ t : Fin grid0.N, _)

theorem count : ∀ t : Fin cfg0.N, Scalar.subi 63#32 (BitVec.ofNat 32 (grid0.coords t 0).val) = BitVec.ofNat 32 (63 - t.val) :=
  (by decide +kernel : ∀ t : Fin grid0.N, _)

/-- The block a grid point works on. -/
def blkAt (t : Fin cfg0.N) : Fin 64 := ⟨63 - t.val, by omega⟩

variable {F : FTy → Type} [FloatOps F] [Named F]
variable (m : (ℓ : Loc nD τ sig) → Buf (Elt F) ℓ)

theorem q_at (c : Dev nD) (t : Fin cfg0.N) (h : Fin 32) (i : Fin 128) (d : Fin 64) :
    iblk m c 0 t (ix3 h i d) = m ((c : Thread nD τ).loc main_arg0) (ix3 h ⟨(63 - t.val) * 128 + i.val, by omega⟩ d) := by
  blk_ext! [iblk, V, idx t]

theorem kp_at (c : Dev nD) (t : Fin cfg0.N) (h : Fin 4) (i : Fin 128) (d : Fin 64) :
    iblk m c 1 t (ix3 h i d) = m ((c : Thread nD τ).loc main_arg1) (ix3 h ⟨(63 - t.val - 1) * 128 + i.val, by omega⟩ d) := by
  blk_ext! [iblk, V, idx t]

theorem kc_at (c : Dev nD) (t : Fin cfg0.N) (h : Fin 4) (i : Fin 128) (d : Fin 64) :
    iblk m c 2 t (ix3 h i d) = m ((c : Thread nD τ).loc main_arg1) (ix3 h ⟨(63 - t.val) * 128 + i.val, by omega⟩ d) := by
  blk_ext! [iblk, V, idx t]

theorem vp_at (c : Dev nD) (t : Fin cfg0.N) (h : Fin 4) (i : Fin 128) (d : Fin 64) :
    iblk m c 3 t (ix3 h i d) = m ((c : Thread nD τ).loc main_arg2) (ix3 h ⟨(63 - t.val - 1) * 128 + i.val, by omega⟩ d) := by
  blk_ext! [iblk, V, idx t]

theorem vc_at (c : Dev nD) (t : Fin cfg0.N) (h : Fin 4) (i : Fin 128) (d : Fin 64) :
    iblk m c 4 t (ix3 h i d) = m ((c : Thread nD τ).loc main_arg2) (ix3 h ⟨(63 - t.val) * 128 + i.val, by omega⟩ d) := by
  blk_ext! [iblk, V, idx t]

theorem o_at (c : Dev nD) (t : Fin cfg0.N) (h : Fin 32) (i : Fin 128) (d : Fin 64) :
    iblk m c 5 t (ix3 h i d) = m ((c : Thread nD τ).loc main_arg3) (ix3 h ⟨(63 - t.val) * 128 + i.val, by omega⟩ d) := by
  blk_ext! [iblk, V, idx t]

theorem gq_at (c : Dev nD) (t : Fin cfg0.N) (d : Fin 64) :
    iblk m c 6 t (ix2 0 d) = m ((c : Thread nD τ).loc main_arg4) (ix2 0 d) := by
  blk_ext! [iblk, V, idx t]

theorem gk_at (c : Dev nD) (t : Fin cfg0.N) (d : Fin 64) :
    iblk m c 7 t (ix2 0 d) = m ((c : Thread nD τ).loc main_arg5) (ix2 0 d) := by
  blk_ext! [iblk, V, idx t]

theorem sl_at (c : Dev nD) (t : Fin cfg0.N) (k : Fin 4) (R : Fin 1024) :
    iblk m c 8 t (ix3 k R 0) = V m c main_v14 (ix3 k R 0) := by
  blk_ext [iblk, idx t]

theorem sk_at (c : Dev nD) (t : Fin cfg0.N) (k : Fin 4) (R : Fin 1024) :
    iblk m c 9 t (ix3 k R 0) = V m c main_v18 (ix3 k R 0) := by
  blk_ext [iblk, idx t]

/-- The column of sinks: each head's sink at its 128 rows. -/
theorem sinks (c : Dev nD) (k : Fin 4) (R : Fin 1024) :
    V m c main_v18 (ix3 k R 0) = m ((c : Thread nD τ).loc main_arg6) (ix2 0 ⟨k.val * 8 + R.val / 128, by omega⟩) := by
  entry_read
  pointwise

end Cert.KernelIdeal.Region

namespace Cert.KernelIdeal.Region

open Cert.KernelIdeal Cert.KernelIdeal.Gen Cert.Proof
open Idealize.ShloMosaic Idealize.ShloMosaic.TcCoe Idealize.ShloMosaic.Tactic

variable (m : (ℓ : Loc nD τ sig) → Buf (Elt Ideal) ℓ)

/-- The column of slopes. -/
theorem slopes (c : Dev nD) (k : Fin 4) (R : Fin 1024) :
    V m c main_v14 (ix3 k R 0) = (slope ⟨k.val * 8 + R.val / 128, by omega⟩ : EReal) := by
  entry_read
  pointwise
  exact slope_eq ⟨k.val * 8 + R.val / 128, by omega⟩

/-- The core's arguments hold the real numbers `A`. -/
structure Holds (A : Args) (c : Dev nD) : Prop where
  q : ∀ h s d, m ((c : Thread nD τ).loc main_arg0) (ix3 h s d) = (A.q h s d : EReal)
  k : ∀ h s d, m ((c : Thread nD τ).loc main_arg1) (ix3 h s d) = (A.k h s d : EReal)
  v : ∀ h s d, m ((c : Thread nD τ).loc main_arg2) (ix3 h s d) = (A.v h s d : EReal)
  o : ∀ h s d, m ((c : Thread nD τ).loc main_arg3) (ix3 h s d) = (A.o h s d : EReal)
  gq : ∀ d, m ((c : Thread nD τ).loc main_arg4) (ix2 0 d) = (A.gq d : EReal)
  gk : ∀ d, m ((c : Thread nD τ).loc main_arg5) (ix2 0 d) = (A.gk d : EReal)
  sk : ∀ h, m ((c : Thread nD τ).loc main_arg6) (ix2 0 h) = (A.sk h : EReal)

theorem ld8 {e : EltTy} (x : S32x128x64.Idx → Elt Ideal e) (k : Fin 4) (a : ℕ) (ha : a = 8 * k.val) (h) (g : Fin 8) (i : Fin 128) (d : Fin 64) :
    View.ld x (Rect.unit (s := S32x128x64) ![a, 0, 0] S8x128x64.size h) (ix3 g i d) = x (ix3 ⟨8 * k.val + g.val, by omega⟩ i d) := by
  refine congrArg x ?_
  funext e
  match e with
  | ⟨0, _⟩ => exact Fin.ext (show a + 1 * g.val = 8 * k.val + g.val by omega)
  | ⟨1, _⟩ => exact Fin.ext (show 0 + 1 * i.val = i.val by omega)
  | ⟨2, _⟩ => exact Fin.ext (show 0 + 1 * d.val = d.val by omega)

theorem ld1 {e : EltTy} (x : S4x128x64.Idx → Elt Ideal e) (k : Fin 4) (a : ℕ) (ha : a = k.val) (h) (i : Fin 128) (d : Fin 64) :
    View.ld x (Rect.unit (s := S4x128x64) ![a, 0, 0] S1x128x64.size h) (ix3 0 i d) = x (ix3 k i d) := by
  refine congrArg x ?_
  funext e
  match e with
  | ⟨0, _⟩ => exact Fin.ext (show a + 1 * 0 = k.val by omega)
  | ⟨1, _⟩ => exact Fin.ext (show 0 + 1 * i.val = i.val by omega)
  | ⟨2, _⟩ => exact Fin.ext (show 0 + 1 * d.val = d.val by omega)

theorem ldc {e : EltTy} (x : S4x1024x1.Idx → Elt Ideal e) (k : Fin 4) (a : ℕ) (ha : a = k.val) (h) (R : Fin 1024) :
    View.ld x (Rect.unit (s := S4x1024x1) ![a, 0, 0] S1x1024x1.size h) (ix3 0 R 0) = x (ix3 k R 0) := by
  refine congrArg x ?_
  funext e
  match e with
  | ⟨0, _⟩ => exact Fin.ext (show a + 1 * 0 = k.val by omega)
  | ⟨1, _⟩ => exact Fin.ext (show 0 + 1 * R.val = R.val by omega)
  | ⟨2, _⟩ => exact Fin.ext (show 0 + 1 * 0 = 0 by omega)

variable {m}

theorem rep_of (A : Args) (c : Dev nD) (H : Holds m A c) (t : Fin cfg0.N) (k : Fin 4) (X : Inp Ideal)
    (hn : X.n = BitVec.ofNat 32 (63 - t.val))
    (hq : ∀ g i d, X.q (ix3 g i d) = iblk m c 0 t (ix3 ⟨8 * k.val + g.val, by omega⟩ i d))
    (hkp : ∀ i d, X.kp (ix3 0 i d) = iblk m c 1 t (ix3 k i d)) (hkc : ∀ i d, X.kc (ix3 0 i d) = iblk m c 2 t (ix3 k i d))
    (hvp : ∀ i d, X.vp (ix3 0 i d) = iblk m c 3 t (ix3 k i d)) (hvc : ∀ i d, X.vc (ix3 0 i d) = iblk m c 4 t (ix3 k i d))
    (ho : ∀ g i d, X.o (ix3 g i d) = iblk m c 5 t (ix3 ⟨8 * k.val + g.val, by omega⟩ i d))
    (hgq : ∀ d, X.gq (ix2 0 d) = iblk m c 6 t (ix2 0 d)) (hgk : ∀ d, X.gk (ix2 0 d) = iblk m c 7 t (ix2 0 d))
    (hsl : ∀ R, X.sl (ix3 0 R 0) = iblk m c 8 t (ix3 k R 0)) (hsk : ∀ R, X.sk (ix3 0 R 0) = iblk m c 9 t (ix3 k R 0)) :
    Rep X (A.blk (blkAt t) k) where
  lt := (blkAt t).isLt
  n := hn
  pos _ := rfl
  q g i R d hR := by
    rw [hq, q_at, H.q]
    have h1 : (⟨8 * k.val + g.val, by omega⟩ : Fin 32) = Args.head k R := Fin.ext (show 8 * k.val + g.val = k.val * 8 + R.val / 128 by omega)
    have h2 : (⟨(63 - t.val) * 128 + i.val, by omega⟩ : Fin 8192) = Args.tok (blkAt t) R :=
      Fin.ext (show (63 - t.val) * 128 + i.val = (63 - t.val) * 128 + R.val % 128 by omega)
    rw [h1, h2]; rfl
  o g i R d hR := by
    rw [ho, o_at, H.o]
    have h1 : (⟨8 * k.val + g.val, by omega⟩ : Fin 32) = Args.head k R := Fin.ext (show 8 * k.val + g.val = k.val * 8 + R.val / 128 by omega)
    have h2 : (⟨(63 - t.val) * 128 + i.val, by omega⟩ : Fin 8192) = Args.tok (blkAt t) R :=
      Fin.ext (show (63 - t.val) * 128 + i.val = (63 - t.val) * 128 + R.val % 128 by omega)
    rw [h1, h2]; rfl
  kp j d := by
    rw [hkp, kp_at, H.k]
    show _ = ((A.k k (Args.band (blkAt t) ⟨j.val, by omega⟩) d : ℝ) : EReal)
    rw [Args.band, if_pos j.isLt]; rfl
  kc j d := by
    rw [hkc, kc_at, H.k]
    have e : (⟨(63 - t.val) * 128 + j.val, by omega⟩ : Fin 8192) = Args.band (blkAt t) ⟨128 + j.val, by omega⟩ := by
      rw [Args.band, if_neg (by simp)]
      exact Fin.ext (show (63 - t.val) * 128 + j.val = (63 - t.val) * 128 + (128 + j.val - 128) by omega)
    rw [e]; rfl
  vp j d := by
    rw [hvp, vp_at, H.v]
    show _ = ((A.v k (Args.band (blkAt t) ⟨j.val, by omega⟩) d : ℝ) : EReal)
    rw [Args.band, if_pos j.isLt]; rfl
  vc j d := by
    rw [hvc, vc_at, H.v]
    have e : (⟨(63 - t.val) * 128 + j.val, by omega⟩ : Fin 8192) = Args.band (blkAt t) ⟨128 + j.val, by omega⟩ := by
      rw [Args.band, if_neg (by simp)]
      exact Fin.ext (show (63 - t.val) * 128 + j.val = (63 - t.val) * 128 + (128 + j.val - 128) by omega)
    rw [e]; rfl
  gq d := by rw [hgq, gq_at, H.gq]; rfl
  gk d := by rw [hgk, gk_at, H.gk]; rfl
  sl R := by rw [hsl, sl_at, slopes]; rfl
  sk R := by rw [hsk, sk_at, sinks, H.sk]; rfl

theorem rep0 (A : Args) (c : Dev nD) (H : Holds m A c) (t : Fin cfg0.N) : Rep (inp0 m c t) (A.blk (blkAt t) 0) := by
  refine rep_of A c H t 0 (inp0 m c t) (count t) ?_ ?_ ?_ ?_ ?_ ?_ ?_ ?_ ?_ ?_
  · intro g i d; exact ld8 (iblk m c 0 t) 0 0 rfl _ g i d
  · intro i d; exact ld1 (iblk m c 1 t) 0 0 rfl _ i d
  · intro i d; exact ld1 (iblk m c 2 t) 0 0 rfl _ i d
  · intro i d; exact ld1 (iblk m c 3 t) 0 0 rfl _ i d
  · intro i d; exact ld1 (iblk m c 4 t) 0 0 rfl _ i d
  · intro g i d; exact ld8 (iblk m c 5 t) 0 0 rfl _ g i d
  · intro d; rfl
  · intro d; rfl
  · intro R; exact ldc (iblk m c 8 t) 0 0 rfl _ R
  · intro R; exact ldc (iblk m c 9 t) 0 0 rfl _ R

theorem rep1 (A : Args) (c : Dev nD) (H : Holds m A c) (t : Fin cfg0.N) : Rep (inp1 m c t) (A.blk (blkAt t) 1) := by
  refine rep_of A c H t 1 (inp1 m c t) (count t) ?_ ?_ ?_ ?_ ?_ ?_ ?_ ?_ ?_ ?_
  · intro g i d; exact ld8 (iblk m c 0 t) 1 8 rfl _ g i d
  · intro i d; exact ld1 (iblk m c 1 t) 1 1 rfl _ i d
  · intro i d; exact ld1 (iblk m c 2 t) 1 1 rfl _ i d
  · intro i d; exact ld1 (iblk m c 3 t) 1 1 rfl _ i d
  · intro i d; exact ld1 (iblk m c 4 t) 1 1 rfl _ i d
  · intro g i d; exact ld8 (iblk m c 5 t) 1 8 rfl _ g i d
  · intro d; rfl
  · intro d; rfl
  · intro R; exact ldc (iblk m c 8 t) 1 1 rfl _ R
  · intro R; exact ldc (iblk m c 9 t) 1 1 rfl _ R

theorem rep2 (A : Args) (c : Dev nD) (H : Holds m A c) (t : Fin cfg0.N) : Rep (inp2 m c t) (A.blk (blkAt t) 2) := by
  refine rep_of A c H t 2 (inp2 m c t) (count t) ?_ ?_ ?_ ?_ ?_ ?_ ?_ ?_ ?_ ?_
  · intro g i d; exact ld8 (iblk m c 0 t) 2 16 rfl _ g i d
  · intro i d; exact ld1 (iblk m c 1 t) 2 2 rfl _ i d
  · intro i d; exact ld1 (iblk m c 2 t) 2 2 rfl _ i d
  · intro i d; exact ld1 (iblk m c 3 t) 2 2 rfl _ i d
  · intro i d; exact ld1 (iblk m c 4 t) 2 2 rfl _ i d
  · intro g i d; exact ld8 (iblk m c 5 t) 2 16 rfl _ g i d
  · intro d; rfl
  · intro d; rfl
  · intro R; exact ldc (iblk m c 8 t) 2 2 rfl _ R
  · intro R; exact ldc (iblk m c 9 t) 2 2 rfl _ R

theorem rep3 (A : Args) (c : Dev nD) (H : Holds m A c) (t : Fin cfg0.N) : Rep (inp3 m c t) (A.blk (blkAt t) 3) := by
  refine rep_of A c H t 3 (inp3 m c t) (count t) ?_ ?_ ?_ ?_ ?_ ?_ ?_ ?_ ?_ ?_
  · intro g i d; exact ld8 (iblk m c 0 t) 3 24 rfl _ g i d
  · intro i d; exact ld1 (iblk m c 1 t) 3 3 rfl _ i d
  · intro i d; exact ld1 (iblk m c 2 t) 3 3 rfl _ i d
  · intro i d; exact ld1 (iblk m c 3 t) 3 3 rfl _ i d
  · intro i d; exact ld1 (iblk m c 4 t) 3 3 rfl _ i d
  · intro g i d; exact ld8 (iblk m c 5 t) 3 24 rfl _ g i d
  · intro d; rfl
  · intro d; rfl
  · intro R; exact ldc (iblk m c 8 t) 3 3 rfl _ R
  · intro R; exact ldc (iblk m c 9 t) 3 3 rfl _ R

/-- At a grid point the four heads' inputs hold the four blocks. -/
theorem rep (A : Args) (c : Dev nD) (H : Holds m A c) (t : Fin cfg0.N) : ∀ k : Fin 4, Rep (inp m c t k) (A.blk (blkAt t) k)
  | 0 => rep0 A c H t
  | 1 => rep1 A c H t
  | 2 => rep2 A c H t
  | 3 => rep3 A c H t

end Cert.KernelIdeal.Region
-- ==== Proof.Sinks.lean ====
/- The sinks' gradient at the last point: each head's row holds the sum over its 128 rows of the accumulator. -/
module

public import proofs.«01_k».proof.Proof.Points

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

variable {F : FTy → Type} [FloatOps F] [Named F]
variable (m : (ℓ : Loc nD τ sig) → Buf (Elt F) ℓ)

/-- A head's 128 rows of the sinks' accumulator. -/
def accHead (x : Vec F S4x1024x1 .f32) (h : Fin 32) : Vec F S1x128x1 .f32 := fun y =>
  x (ix3 ⟨h.val / 8, by omega⟩ ⟨128 * (h.val % 8) + (y 1).val, by have : (y 1).val < 128 := (y 1).isLt; omega⟩ (y 2))

theorem accHead_eq (x : Vec F S4x1024x1 .f32) (h : Fin 32) (a b : ℕ) (ha : a = h.val / 8) (hb : b = 128 * (h.val % 8)) (w) :
    View.ld x (Rect.unit (s := S4x1024x1) ![a, b, 0] S1x128x1.size w) = accHead x h := by
  funext y
  refine congrArg x ?_
  have h0 : (y 0).val < 1 := (y 0).isLt
  funext e
  match e with
  | ⟨0, _⟩ => exact Fin.ext (show a + 1 * (y 0).val = h.val / 8 by omega)
  | ⟨1, _⟩ => exact Fin.ext (show b + 1 * (y 1).val = 128 * (h.val % 8) + (y 1).val by omega)
  | ⟨2, _⟩ => exact Fin.ext (show 0 + 1 * (y 2).val = (y 2).val by omega)

theorem leftC_dsk_at (c : Dev nD) (t : Fin cfg0.N) (ht : t.val = 63) (x : Left F) (h : Fin 32) (l : Fin 128) :
    (leftC m c t ht x).dsk (ix2 h l) = k0_pay2 (accHead (leftC m c t ht x).acc h) (ix2 0 l) := by
  rw [leftC_dsk, accHead_eq _ 31 3 896 rfl rfl, accHead_eq _ 30 3 768 rfl rfl, accHead_eq _ 29 3 640 rfl rfl, accHead_eq _ 28 3 512 rfl rfl, accHead_eq _ 27 3 384 rfl rfl, accHead_eq _ 26 3 256 rfl rfl, accHead_eq _ 25 3 128 rfl rfl, accHead_eq _ 24 3 0 rfl rfl, accHead_eq _ 23 2 896 rfl rfl, accHead_eq _ 22 2 768 rfl rfl, accHead_eq _ 21 2 640 rfl rfl, accHead_eq _ 20 2 512 rfl rfl, accHead_eq _ 19 2 384 rfl rfl, accHead_eq _ 18 2 256 rfl rfl, accHead_eq _ 17 2 128 rfl rfl, accHead_eq _ 16 2 0 rfl rfl, accHead_eq _ 15 1 896 rfl rfl, accHead_eq _ 14 1 768 rfl rfl, accHead_eq _ 13 1 640 rfl rfl, accHead_eq _ 12 1 512 rfl rfl, accHead_eq _ 11 1 384 rfl rfl, accHead_eq _ 10 1 256 rfl rfl, accHead_eq _ 9 1 128 rfl rfl, accHead_eq _ 8 1 0 rfl rfl, accHead_eq _ 7 0 896 rfl rfl, accHead_eq _ 6 0 768 rfl rfl, accHead_eq _ 5 0 640 rfl rfl, accHead_eq _ 4 0 512 rfl rfl, accHead_eq _ 3 0 384 rfl rfl, accHead_eq _ 2 0 256 rfl rfl, accHead_eq _ 1 0 128 rfl rfl, accHead_eq _ 0 0 0 rfl rfl]
  refine Eq.trans ?_ (quadS (fun h => k0_pay2 (accHead (leftC m c t ht x).acc h)) [] (ix2 h l))
  sl_kernel_rfl

theorem sum_head (x : Vec Ideal S4x1024x1 .f32) (h : Fin 32) (l : Fin 128) : k0_pay2 (accHead x h) (ix2 0 l)
    = ∑ i : Fin 128, x (ix3 ⟨h.val / 8, by omega⟩ ⟨128 * (h.val % 8) + i.val, by omega⟩ 0) := by
  pointwise [k0_pay2]
  rfl

end Cert.KernelIdeal.Region
-- ==== Proof.Walk.lean ====
/- The walk over the grid points: what each leaves, as the problem's numbers. The blocks are walked from the last to the first,
   each leaving for the next the gradients that it sends to the block before it. -/
module

public import proofs.«01_k».proof.Proof.Steps
public import proofs.«01_k».proof.Proof.Inputs
public import proofs.«01_k».proof.Proof.Sinks

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

variable {m : (ℓ : Loc nD τ sig) → Buf (Elt Ideal) ℓ}

/-- The block that the point `u` works on. -/
def nth (u : ℕ) : Fin 64 := ⟨63 - u, by omega⟩

section Step

variable {A : Args} {c : Dev nD} (H : Holds m A c) {t : Fin cfg0.N} {x y : Left Ideal} (S : Step (inp m c t) x y)

include H S

theorem step_dq (h : Fin 32) (i : Fin 128) (d : Fin 64) :
    y.dq (ix3 h i d) = ((A.blk (nth t.val) ⟨h.val / 8, by omega⟩).dq ⟨h.val % 8 * 128 + i.val, by omega⟩ d : EReal) :=
  (S.dq _).trans ((rep A c H t ⟨h.val / 8, by omega⟩).outQ ⟨h.val % 8, by omega⟩ i d ⟨h.val % 8 * 128 + i.val, by omega⟩ rfl)

theorem step_dk (k : Fin 4) (i : Fin 128) (d : Fin 64) :
    y.dk (ix3 k i d) = ((A.blk (nth t.val) k).dk ⟨128 + i.val, by omega⟩ d : EReal) + x.carry (ix4 k 0 i d) :=
  (S.dk k i d).trans ((rep A c H t k).outK _ i d)

theorem step_dv (k : Fin 4) (i : Fin 128) (d : Fin 64) :
    y.dv (ix3 k i d) = ((A.blk (nth t.val) k).dv ⟨128 + i.val, by omega⟩ d : EReal) + x.carry (ix4 k 1 i d) :=
  (S.dv k i d).trans ((rep A c H t k).outV _ i d)

theorem step_ck (k : Fin 4) (i : Fin 128) (d : Fin 64) :
    y.carry (ix4 k 0 i d) = ((A.blk (nth t.val) k).dk ⟨i.val, by omega⟩ d : EReal) :=
  (S.ck k i d).trans ((rep A c H t k).outCk i d)

theorem step_cv (k : Fin 4) (i : Fin 128) (d : Fin 64) :
    y.carry (ix4 k 1 i d) = ((A.blk (nth t.val) k).dv ⟨i.val, by omega⟩ d : EReal) :=
  (S.cv k i d).trans ((rep A c H t k).outCv i d)

theorem step_acc (k : Fin 4) (R : Fin 1024) :
    y.acc (ix3 k R 0) = x.acc (ix3 k R 0) + ((A.blk (nth t.val) k).dsk R : EReal) :=
  (S.acc k R 0).trans ((rep A c H t k).outAcc _ R)

theorem step_dgq (r : Fin 8) (d : Fin 64) :
    y.dgq (ix2 r d) = if r = 0 then x.dgq (ix2 0 d) + ((∑ k, (A.blk (nth t.val) k).dgq d : ℝ) : EReal) else x.dgq (ix2 r d) := by
  rw [S.dgq, (rep A c H t 3).outGq, (rep A c H t 2).outGq, (rep A c H t 1).outGq, (rep A c H t 0).outGq, Fin.sum_univ_four,
    EReal.coe_add, EReal.coe_add, EReal.coe_add, ← add_assoc, ← add_assoc, ← add_assoc]
  rfl

theorem step_dgk (r : Fin 8) (d : Fin 64) :
    y.dgk (ix2 r d) = if r = 0 then x.dgk (ix2 0 d) + ((∑ k, (A.blk (nth t.val) k).dgk d : ℝ) : EReal) else x.dgk (ix2 r d) := by
  rw [S.dgk, (rep A c H t 3).outGk, (rep A c H t 2).outGk, (rep A c H t 1).outGk, (rep A c H t 0).outGk, Fin.sum_univ_four,
    EReal.coe_add, EReal.coe_add, EReal.coe_add, ← add_assoc, ← add_assoc, ← add_assoc]
  rfl

end Step

theorem zero_word : Ideal.ofBits .f32 0x00000000#32 = 0 := by simp [Ideal.ofBits, Ideal.ieee]

theorem zero_carry (k : Fin 4) (s : Fin 2) (i : Fin 128) (d : Fin 64) : k0_pay38 (F := Ideal) (ix4 k s i d) = 0 := by
  pointwise [k0_pay38]

theorem zero_acc (k : Fin 4) (R : Fin 1024) : k0_pay39 (F := Ideal) (ix3 k R 0) = 0 := by
  pointwise [k0_pay39]

theorem zero_dgq (r : Fin 8) (d : Fin 64) : k0_pay36 (F := Ideal) (ix2 r d) = 0 := by
  pointwise [k0_pay36]

theorem zero_dgk (r : Fin 8) (d : Fin 64) : k0_pay37 (F := Ideal) (ix2 r d) = 0 := by
  pointwise [k0_pay37]

/-- What the point before leaves for the point `u`, and the first finds: no gradient, sums over no block. -/
structure Found (A : Args) (u : ℕ) (x : Left Ideal) : Prop where
  ck : ∀ k i d, x.carry (ix4 k 0 i d) = ((if 0 < u then (A.blk (nth (u - 1)) k).dk ⟨i.val, by omega⟩ d else 0 : ℝ) : EReal)
  cv : ∀ k i d, x.carry (ix4 k 1 i d) = ((if 0 < u then (A.blk (nth (u - 1)) k).dv ⟨i.val, by omega⟩ d else 0 : ℝ) : EReal)
  acc : ∀ k R, x.acc (ix3 k R 0) = ((∑ w ∈ Finset.range u, (A.blk (nth w) k).dsk R : ℝ) : EReal)
  dgq : ∀ r d, x.dgq (ix2 r d) = ((if r = 0 then ∑ w ∈ Finset.range u, ∑ k, (A.blk (nth w) k).dgq d else 0 : ℝ) : EReal)
  dgk : ∀ r d, x.dgk (ix2 r d) = ((if r = 0 then ∑ w ∈ Finset.range u, ∑ k, (A.blk (nth w) k).dgk d else 0 : ℝ) : EReal)

theorem found_zeros (A : Args) (x : Left Ideal) : Found A 0 (zeros x) where
  ck k i d := (zero_carry k 0 i d).trans (by simp)
  cv k i d := (zero_carry k 1 i d).trans (by simp)
  acc k R := (zero_acc k R).trans (by simp)
  dgq r d := (zero_dgq r d).trans (by simp)
  dgk r d := (zero_dgk r d).trans (by simp)

/-- A point passes on what the next is to find. -/
theorem Found.next {A : Args} {c : Dev nD} (H : Holds m A c) {t : Fin cfg0.N} {x y : Left Ideal} (S : Step (inp m c t) x y)
    (h : Found A t.val x) : Found A (t.val + 1) y where
  ck k i d := by rw [step_ck H S, if_pos (Nat.succ_pos _)]; rfl
  cv k i d := by rw [step_cv H S, if_pos (Nat.succ_pos _)]; rfl
  acc k R := by rw [step_acc H S, h.acc, ← EReal.coe_add, Finset.sum_range_succ]
  dgq r d := by
    rw [step_dgq H S]
    split
    · next e => rw [h.dgq, if_pos rfl, ← EReal.coe_add, Finset.sum_range_succ]
    · next e => rw [h.dgq, if_neg e]
  dgk r d := by
    rw [step_dgk H S]
    split
    · next e => rw [h.dgk, if_pos rfl, ← EReal.coe_add, Finset.sum_range_succ]
    · next e => rw [h.dgk, if_neg e]

/-- What the point `n` finds, and what kind of step it takes. -/
theorem walk {A : Args} {c : Dev nD} (H : Holds m A c) : ∀ (n : ℕ) (hn : n < cfg0.N),
    ∃ x, Found A n x ∧ Step (inp m c ⟨n, hn⟩) x (left m c n hn)
  | 0, hn => ⟨_, found_zeros A _, stepA m c ⟨0, hn⟩ rfl⟩
  | n + 1, hn => by
    obtain ⟨x, hx, S⟩ := walk H n (Nat.lt_of_succ_lt hn)
    refine ⟨left m c n (Nat.lt_of_succ_lt hn), Found.next H S hx, ?_⟩
    by_cases h : n + 1 = 63
    · have e := left_C m c ⟨n + 1, hn⟩ h
      rw [show left m c (n + 1) hn = _ from e]
      exact stepC m c ⟨n + 1, hn⟩ h _
    · have e := left_B m c ⟨n + 1, hn⟩ ⟨Nat.succ_ne_zero n, h⟩
      rw [show left m c (n + 1) hn = _ from e]
      exact stepB m c ⟨n + 1, hn⟩ ⟨Nat.succ_ne_zero n, h⟩ _

/-- A sum over the points is the sum over the blocks. -/
theorem sum_points (f : Fin 64 → ℝ) : ∑ w ∈ Finset.range 64, f (nth w) = ∑ n, f n := by
  rw [Finset.sum_range, ← Equiv.sum_comp Fin.revPerm]
  refine Finset.sum_congr rfl fun w _ => congrArg f (Fin.ext ?_)
  show 63 - (Fin.rev w).val = w.val
  rw [Fin.val_rev]; omega

section Left

variable {A : Args} {c : Dev nD} (H : Holds m A c) (t : Fin cfg0.N)

include H

theorem left_dq (h : Fin 32) (i : Fin 128) (d : Fin 64) : (left m c t.val t.isLt).dq (ix3 h i d)
    = ((A.blk (nth t.val) ⟨h.val / 8, by omega⟩).dq ⟨h.val % 8 * 128 + i.val, by omega⟩ d : EReal) := by
  obtain ⟨x, hx, S⟩ := walk H t.val t.isLt
  exact step_dq H S h i d

theorem left_dk (k : Fin 4) (i : Fin 128) (d : Fin 64) : (left m c t.val t.isLt).dk (ix3 k i d)
    = (((A.blk (nth t.val) k).dk ⟨128 + i.val, by omega⟩ d
        + if 0 < t.val then (A.blk (nth (t.val - 1)) k).dk ⟨i.val, by omega⟩ d else 0 : ℝ) : EReal) := by
  obtain ⟨x, hx, S⟩ := walk H t.val t.isLt
  rw [step_dk H S, hx.ck, ← EReal.coe_add]

theorem left_dv (k : Fin 4) (i : Fin 128) (d : Fin 64) : (left m c t.val t.isLt).dv (ix3 k i d)
    = (((A.blk (nth t.val) k).dv ⟨128 + i.val, by omega⟩ d
        + if 0 < t.val then (A.blk (nth (t.val - 1)) k).dv ⟨i.val, by omega⟩ d else 0 : ℝ) : EReal) := by
  obtain ⟨x, hx, S⟩ := walk H t.val t.isLt
  rw [step_dv H S, hx.cv, ← EReal.coe_add]

theorem left_acc (ht : t.val = 63) (k : Fin 4) (R : Fin 1024) : (left m c t.val t.isLt).acc (ix3 k R 0)
    = ((∑ n, (A.blk n k).dsk R : ℝ) : EReal) := by
  obtain ⟨x, hx, S⟩ := walk H t.val t.isLt
  rw [(hx.next H S).acc, ht, sum_points fun n => (A.blk n k).dsk R]

/-- The sinks' gradient, a head's along its row. -/
theorem left_dsk (ht : t.val = 63) (h : Fin 32) (l : Fin 128) : (left m c t.val t.isLt).dsk (ix2 h l) = (A.dsk h : EReal) := by
  have e := left_C m c t ht
  have ha := left_acc H t ht
  rw [e] at ha ⊢
  rw [leftC_dsk_at]
  generalize (leftC m c t ht (left m c (t.val - 1) (pred_lt t.isLt))).acc = z at ha ⊢
  refine (sum_head z h l).trans ?_
  simp only [ha]
  rw [← coe_sum, Finset.sum_comm]
  unfold Args.dsk
  refine congrArg _ (Finset.sum_congr rfl fun n _ => Finset.sum_congr rfl fun i _ => congrArg _ (Fin.ext ?_))
  show 128 * (h.val % 8) + i.val = h.val % 8 * 128 + i.val
  omega

theorem left_dgq (ht : t.val = 63) (r : Fin 8) (d : Fin 64) : (left m c t.val t.isLt).dgq (ix2 r d)
    = ((if r = 0 then A.dgq d else 0 : ℝ) : EReal) := by
  obtain ⟨x, hx, S⟩ := walk H t.val t.isLt
  rw [(hx.next H S).dgq, ht, sum_points fun n => ∑ k, (A.blk n k).dgq d]
  rfl

theorem left_dgk (ht : t.val = 63) (r : Fin 8) (d : Fin 64) : (left m c t.val t.isLt).dgk (ix2 r d)
    = ((if r = 0 then A.dgk d else 0 : ℝ) : EReal) := by
  obtain ⟨x, hx, S⟩ := walk H t.val t.isLt
  rw [(hx.next H S).dgk, ht, sum_points fun n => ∑ k, (A.blk n k).dgk d]
  rfl

end Left

end Cert.KernelIdeal.Region
-- ==== Proof.Arrays.lean ====
/- The six result arrays after the launch, as the problem's gradients. -/
module

public import proofs.«01_k».proof.Proof.Walk

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

variable {m : (ℓ : Loc nD τ sig) → Buf (Elt Ideal) ℓ}

/-- Every result window's block at a grid point. -/
theorem idxo : ∀ t : Fin cfg0.N, win0_10.index t = ![0, 63 - t.val, 0] ∧ win0_11.index t = ![0, 63 - t.val, 0]
    ∧ win0_12.index t = ![0, 63 - t.val, 0] ∧ win0_13.index t = ![0, 0] ∧ win0_14.index t = ![0, 0] ∧ win0_15.index t = ![0, 0] :=
  (by decide +kernel : ∀ t : Fin grid0.N, _)

theorem dq_at (A : Args) {t : ℕ} (ht : t < 64) (h : Fin 32) (i : Fin 128) (d : Fin 64) (h' : Fin 32) (s : Fin 8192) (d' : Fin 64)
    (eh : h'.val = h.val) (es : s.val = (63 - t) * 128 + i.val) (ed : d'.val = d.val) :
    A.dq h' s d' = (A.blk (nth t) ⟨h.val / 8, by omega⟩).dq ⟨h.val % 8 * 128 + i.val, by omega⟩ d := by
  obtain rfl := Fin.ext eh
  obtain rfl := Fin.ext ed
  have e1 : Args.blkOf s = nth t := Fin.ext (show s.val / 128 = 63 - t by omega)
  have e2 : s.val % 128 = i.val := by omega
  unfold Args.dq
  rw [e1]
  congr 1
  exact Fin.ext (show h'.val % 8 * 128 + s.val % 128 = h'.val % 8 * 128 + i.val by rw [e2])

theorem dk_at (A : Args) {t : ℕ} (ht : t < 64) (k : Fin 4) (i : Fin 128) (d : Fin 64) (k' : Fin 4) (s : Fin 8192) (d' : Fin 64)
    (ek : k'.val = k.val) (es : s.val = (63 - t) * 128 + i.val) (ed : d'.val = d.val) :
    A.dk k' s d' = (A.blk (nth t) k).dk ⟨128 + i.val, by omega⟩ d
      + if 0 < t then (A.blk (nth (t - 1)) k).dk ⟨i.val, by omega⟩ d else 0 := by
  obtain rfl := Fin.ext ek
  obtain rfl := Fin.ext ed
  have e1 : Args.blkOf s = nth t := Fin.ext (show s.val / 128 = 63 - t by omega)
  have e2 : (⟨128 + s.val % 128, by omega⟩ : Fin 256) = ⟨128 + i.val, by omega⟩ := Fin.ext (by dsimp only; omega)
  have e3 : (⟨s.val % 128, by omega⟩ : Fin 256) = ⟨i.val, by omega⟩ := Fin.ext (by dsimp only; omega)
  unfold Args.dk
  rw [e1, e2, e3]
  congr 1
  by_cases h : 0 < t
  · rw [if_pos h, dif_pos (show s.val / 128 + 1 < 64 by omega)]
    rw [show (⟨s.val / 128 + 1, by omega⟩ : Fin 64) = nth (t - 1) from Fin.ext (show s.val / 128 + 1 = 63 - (t - 1) by omega)]
  · rw [if_neg h, dif_neg (show ¬ s.val / 128 + 1 < 64 by omega)]

theorem dv_at (A : Args) {t : ℕ} (ht : t < 64) (k : Fin 4) (i : Fin 128) (d : Fin 64) (k' : Fin 4) (s : Fin 8192) (d' : Fin 64)
    (ek : k'.val = k.val) (es : s.val = (63 - t) * 128 + i.val) (ed : d'.val = d.val) :
    A.dv k' s d' = (A.blk (nth t) k).dv ⟨128 + i.val, by omega⟩ d
      + if 0 < t then (A.blk (nth (t - 1)) k).dv ⟨i.val, by omega⟩ d else 0 := by
  obtain rfl := Fin.ext ek
  obtain rfl := Fin.ext ed
  have e1 : Args.blkOf s = nth t := Fin.ext (show s.val / 128 = 63 - t by omega)
  have e2 : (⟨128 + s.val % 128, by omega⟩ : Fin 256) = ⟨128 + i.val, by omega⟩ := Fin.ext (by dsimp only; omega)
  have e3 : (⟨s.val % 128, by omega⟩ : Fin 256) = ⟨i.val, by omega⟩ := Fin.ext (by dsimp only; omega)
  unfold Args.dv
  rw [e1, e2, e3]
  congr 1
  by_cases h : 0 < t
  · rw [if_pos h, dif_pos (show s.val / 128 + 1 < 64 by omega)]
    rw [show (⟨s.val / 128 + 1, by omega⟩ : Fin 64) = nth (t - 1) from Fin.ext (show s.val / 128 + 1 = 63 - (t - 1) by omega)]
  · rw [if_neg h, dif_neg (show ¬ s.val / 128 + 1 < 64 by omega)]

theorem arr_dq {A : Args} {c : Dev nD} (H : Holds m A c) :
    (dats m 0 c).arrAt 10 cfg0.N = fun i : S32x8192x64.Idx => (A.dq (i 0) (i 1) (i 2) : EReal) := by
  refine (dats m 0 c).arrAt_eq_of_covers 10 _ (by decide +kernel) fun t hf y => ?_
  have e0 : (((win0_10.blk t).view.emb y) 0 : ℕ) = (y 0).val := by blk_simp [idxo t]; try omega
  have e1 : (((win0_10.blk t).view.emb y) 1 : ℕ) = (63 - t.val) * 128 + (y 1).val := by blk_simp [idxo t]; try omega
  have e2 : (((win0_10.blk t).view.emb y) 2 : ℕ) = (y 2).val := by blk_simp [idxo t]; try omega
  blk_simp
  rw [after_10, dq_at A t.isLt (y 0) (y 1) (y 2) _ _ _ e0 e1 e2]
  refine (congrArg (left m c t.val t.isLt).dq (eq_ix3 (n0 := 32) (n1 := 128) (n2 := 64) y)).trans ?_
  exact left_dq H t (y 0) (y 1) (y 2)

theorem arr_dk {A : Args} {c : Dev nD} (H : Holds m A c) :
    (dats m 0 c).arrAt 11 cfg0.N = fun i : S4x8192x64.Idx => (A.dk (i 0) (i 1) (i 2) : EReal) := by
  refine (dats m 0 c).arrAt_eq_of_covers 11 _ (by decide +kernel) fun t hf y => ?_
  have e0 : (((win0_11.blk t).view.emb y) 0 : ℕ) = (y 0).val := by blk_simp [idxo t]; try omega
  have e1 : (((win0_11.blk t).view.emb y) 1 : ℕ) = (63 - t.val) * 128 + (y 1).val := by blk_simp [idxo t]; try omega
  have e2 : (((win0_11.blk t).view.emb y) 2 : ℕ) = (y 2).val := by blk_simp [idxo t]; try omega
  blk_simp
  rw [after_11, dk_at A t.isLt (y 0) (y 1) (y 2) _ _ _ e0 e1 e2]
  refine (congrArg (left m c t.val t.isLt).dk (eq_ix3 (n0 := 4) (n1 := 128) (n2 := 64) y)).trans ?_
  exact left_dk H t (y 0) (y 1) (y 2)

theorem arr_dv {A : Args} {c : Dev nD} (H : Holds m A c) :
    (dats m 0 c).arrAt 12 cfg0.N = fun i : S4x8192x64.Idx => (A.dv (i 0) (i 1) (i 2) : EReal) := by
  refine (dats m 0 c).arrAt_eq_of_covers 12 _ (by decide +kernel) fun t hf y => ?_
  have e0 : (((win0_12.blk t).view.emb y) 0 : ℕ) = (y 0).val := by blk_simp [idxo t]; try omega
  have e1 : (((win0_12.blk t).view.emb y) 1 : ℕ) = (63 - t.val) * 128 + (y 1).val := by blk_simp [idxo t]; try omega
  have e2 : (((win0_12.blk t).view.emb y) 2 : ℕ) = (y 2).val := by blk_simp [idxo t]; try omega
  blk_simp
  rw [after_12, dv_at A t.isLt (y 0) (y 1) (y 2) _ _ _ e0 e1 e2]
  refine (congrArg (left m c t.val t.isLt).dv (eq_ix3 (n0 := 4) (n1 := 128) (n2 := 64) y)).trans ?_
  exact left_dv H t (y 0) (y 1) (y 2)

theorem if_row (r : Fin 8) (x : ℝ) : (if r = 0 then x else 0) = if r.val = 0 then x else 0 := if_congr Fin.ext_iff rfl rfl

theorem last_13 : ∀ t : Fin cfg0.N, win0_13.flush t = true → t.val = 63 :=
  (by decide +kernel : ∀ t : Fin grid0.N, _)

theorem last_14 : ∀ t : Fin cfg0.N, win0_14.flush t = true → t.val = 63 :=
  (by decide +kernel : ∀ t : Fin grid0.N, _)

theorem last_15 : ∀ t : Fin cfg0.N, win0_15.flush t = true → t.val = 63 :=
  (by decide +kernel : ∀ t : Fin grid0.N, _)

theorem arr_dgq {A : Args} {c : Dev nD} (H : Holds m A c) :
    (dats m 0 c).arrAt 13 cfg0.N = fun i : S8x64.Idx => ((if (i 0).val = 0 then A.dgq (i 1) else 0 : ℝ) : EReal) := by
  refine (dats m 0 c).arrAt_eq_of_covers 13 _ (by decide +kernel) fun t hf y => ?_
  have ht : t.val = 63 := last_13 t hf
  have e0 : win0_13.index t 0 = 0 := congrFun (idxo t).2.2.2.1 0
  have e1 : ((win0_13.blk t).view.emb y) 1 = y 1 := Fin.ext (by blk_simp [idxo t]; try omega)
  blk_simp
  rw [after_13, e0, zero_mul, zero_add, e1]
  refine (congrArg (left m c t.val t.isLt).dgq (eq_ix2 (n0 := 8) (n1 := 64) y)).trans ?_
  refine (left_dgq H t ht (y 0) (y 1)).trans ?_
  exact congrArg _ (if_row (y 0) _)

theorem arr_dgk {A : Args} {c : Dev nD} (H : Holds m A c) :
    (dats m 0 c).arrAt 14 cfg0.N = fun i : S8x64.Idx => ((if (i 0).val = 0 then A.dgk (i 1) else 0 : ℝ) : EReal) := by
  refine (dats m 0 c).arrAt_eq_of_covers 14 _ (by decide +kernel) fun t hf y => ?_
  have ht : t.val = 63 := last_14 t hf
  have e0 : win0_14.index t 0 = 0 := congrFun (idxo t).2.2.2.2.1 0
  have e1 : ((win0_14.blk t).view.emb y) 1 = y 1 := Fin.ext (by blk_simp [idxo t]; try omega)
  blk_simp
  rw [after_14, e0, zero_mul, zero_add, e1]
  refine (congrArg (left m c t.val t.isLt).dgk (eq_ix2 (n0 := 8) (n1 := 64) y)).trans ?_
  refine (left_dgk H t ht (y 0) (y 1)).trans ?_
  exact congrArg _ (if_row (y 0) _)

theorem arr_dsk {A : Args} {c : Dev nD} (H : Holds m A c) :
    (dats m 0 c).arrAt 15 cfg0.N = fun i : S32x128.Idx => (A.dsk (i 0) : EReal) := by
  refine (dats m 0 c).arrAt_eq_of_covers 15 _ (by decide +kernel) fun t hf y => ?_
  have ht : t.val = 63 := last_15 t hf
  have e0 : ((win0_15.blk t).view.emb y) 0 = y 0 := Fin.ext (by blk_simp [idxo t]; try omega)
  blk_simp
  rw [after_15, e0]
  refine (congrArg (left m c t.val t.isLt).dsk (eq_ix2 (n0 := 32) (n1 := 128) y)).trans ?_
  exact left_dsk H t ht (y 0) (y 1)

end Cert.KernelIdeal.Region
-- ==== Proof.KernelValue.lean ====
/- The kernel's run over the extended reals: its six results are the problem's gradients, its arguments stay. -/
module

public import proofs.«01_k».proof.Proof.Arrays

@[expose] public section

set_option maxRecDepth 16384

noncomputable section

namespace Cert.KernelIdeal.Region

open Cert.KernelIdeal Cert.KernelIdeal.Gen Cert.Proof
open Idealize.ShloMosaic Idealize.ShloMosaic.TcCoe Idealize.ShloMosaic.Tactic

variable {m : (ℓ : Loc nD τ sig) → Buf (Elt Ideal) ℓ}

theorem values (ρ : Dev nD → PrngReg) (A : Dev nD → Args) (H : ∀ c, Holds m (A c) c) :
    θ_run defs (onTc (τ := τ) (main (F := Ideal))) ⟨m, fun _ => 0, ρ⟩ (fun r => ∀ c : Dev nD,
      r.2.mem ((c.tc : Thread nD τ).loc main_v19_0) = (fun i : S32x8192x64.Idx => ((A c).dq (i 0) (i 1) (i 2) : EReal))
      ∧ r.2.mem ((c.tc : Thread nD τ).loc main_v19_1) = (fun i : S4x8192x64.Idx => ((A c).dk (i 0) (i 1) (i 2) : EReal))
      ∧ r.2.mem ((c.tc : Thread nD τ).loc main_v19_2) = (fun i : S4x8192x64.Idx => ((A c).dv (i 0) (i 1) (i 2) : EReal))
      ∧ r.2.mem ((c.tc : Thread nD τ).loc main_v19_3) = (fun i : S8x64.Idx => ((if (i 0).val = 0 then (A c).dgq (i 1) else 0 : ℝ) : EReal))
      ∧ r.2.mem ((c.tc : Thread nD τ).loc main_v19_4) = (fun i : S8x64.Idx => ((if (i 0).val = 0 then (A c).dgk (i 1) else 0 : ℝ) : EReal))
      ∧ r.2.mem ((c.tc : Thread nD τ).loc main_v19_5) = (fun i : S32x128.Idx => ((A c).dsk (i 0) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h.1.1 c).1 10).trans (arr_dq (H c)), ((h.1.1 c).1 11).trans (arr_dk (H c)), ((h.1.1 c).1 12).trans (arr_dv (H c)),
      ((h.1.1 c).1 13).trans (arr_dgq (H c)), ((h.1.1 c).1 14).trans (arr_dgk (H c)), ((h.1.1 c).1 15).trans (arr_dsk (H c)), h.2.1 c⟩)
    (θ_run_and (launch m ρ) (frame m ρ))

end Cert.KernelIdeal.Region
-- ==== Proof.Finite.lean ====
/- The precondition: finite arguments hold real numbers. -/
module

public import proofs.«01_k».proof.Defs
public import proofs.«01_k».proof.Proof.Inputs

@[expose] public section

set_option maxRecDepth 16384

noncomputable section

namespace Cert.Proof

open Idealize.ShloMosaic Idealize.ShloMosaic.TcCoe Idealize.ShloMosaic.Tactic

theorem finite_facts : Cert.Pre_finite.Facts where
  bcast_S_S32x8192x64 := by decide
  bcast_S_S4x8192x64 := by decide
  bitsLt_bf16_f32 := by decide
  bcast_S_S1x64 := by decide
  bcast_S_S1x32 := by decide

theorem word_top : Ideal.ofBits .f32 0x7F800000#32 = ⊤ := by
  simp [Ideal.ofBits, Ideal.ieee]

/-- A number whose magnitude is below plus infinity is real. -/
theorem real_of_lt {x : EReal} (h : Ideal.cmp .olt (max x (-x)) (Ideal.ofBits .f32 0x7F800000#32) = 1#1) : x = ((x.toReal : ℝ) : EReal) := by
  rw [word_top] at h
  refine (EReal.coe_toReal ?_ ?_).symm
  · rintro rfl
    simp [Ideal.cmp] at h
  · rintro rfl
    simp [Ideal.cmp] at h

open Cert.KernelIdeal in
/-- The real numbers in a device's arguments. -/
def args (m : (ℓ : Loc nD τ sig) → Buf (Elt Ideal) ℓ) (c : Dev nD) : Args where
  q h s d := EReal.toReal (m ((c : Thread nD τ).loc main_arg0) (ix3 h s d))
  k h s d := EReal.toReal (m ((c : Thread nD τ).loc main_arg1) (ix3 h s d))
  v h s d := EReal.toReal (m ((c : Thread nD τ).loc main_arg2) (ix3 h s d))
  o h s d := EReal.toReal (m ((c : Thread nD τ).loc main_arg3) (ix3 h s d))
  gq d := EReal.toReal (m ((c : Thread nD τ).loc main_arg4) (ix2 0 d))
  gk d := EReal.toReal (m ((c : Thread nD τ).loc main_arg5) (ix2 0 d))
  sk h := EReal.toReal (m ((c : Thread nD τ).loc main_arg6) (ix2 0 h))

open Cert.KernelIdeal in
/-- Finite arguments hold those real numbers. -/
theorem holds_of_finite (m : (ℓ : Loc nD τ sig) → Buf (Elt Ideal) ℓ) (P : Cert.Pre_KernelIdeal_finite (hPre_finite := finite_facts) m) (c : Dev nD) :
    Region.Holds m (args m c) c where
  q h s d := real_of_lt (congrFun (P c).1 (ix3 h s d))
  k h s d := real_of_lt (congrFun (P c).2.1 (ix3 h s d))
  v h s d := real_of_lt (congrFun (P c).2.2.1 (ix3 h s d))
  o h s d := real_of_lt (congrFun (P c).2.2.2.1 (ix3 h s d))
  gq d := real_of_lt (congrFun (P c).2.2.2.2.1 (ix2 0 d))
  gk d := real_of_lt (congrFun (P c).2.2.2.2.2.1 (ix2 0 d))
  sk h := real_of_lt (congrFun (P c).2.2.2.2.2.2 (ix2 0 h))

end Cert.Proof
-- ==== Proof.RefNorm.lean ====
/- The reference's normalised queries and keys, in bands, over the real numbers. -/
module

public import proofs.«01_k».proof.Proof.Gen.ReferenceIdeal.Read
public import proofs.«01_k».proof.Proof.Problem

@[expose] public section

set_option maxRecDepth 16384

noncomputable section

namespace Cert.ReferenceIdeal.Stage

open Cert.ReferenceIdeal Cert.ReferenceIdeal.Read Cert.Proof
open Idealize.ShloMosaic Idealize.ShloMosaic.TcCoe Idealize.ShloMosaic.Tactic

/-- The reference's arguments. -/
structure Mem where
  x0 : (⟨S32x8192x64, .f32⟩ : BufTy).Contents (Elt Ideal)
  x1 : (⟨S4x8192x64, .f32⟩ : BufTy).Contents (Elt Ideal)
  x2 : (⟨S4x8192x64, .f32⟩ : BufTy).Contents (Elt Ideal)
  x3 : (⟨S32x8192x64, .bf16⟩ : BufTy).Contents (Elt Ideal)
  x4 : (⟨S1x64, .f32⟩ : BufTy).Contents (Elt Ideal)
  x5 : (⟨S1x64, .f32⟩ : BufTy).Contents (Elt Ideal)
  x6 : (⟨S1x32, .f32⟩ : BufTy).Contents (Elt Ideal)

/-- The arguments hold the real numbers `A`. -/
structure Holds (X : Mem) (A : Args) : Prop where
  q : ∀ h s d, X.x0 (ix3 h s d) = (A.q h s d : EReal)
  k : ∀ h s d, X.x1 (ix3 h s d) = (A.k h s d : EReal)
  v : ∀ h s d, X.x2 (ix3 h s d) = (A.v h s d : EReal)
  o : ∀ h s d, X.x3 (ix3 h s d) = (A.o h s d : EReal)
  gq : ∀ d, X.x4 (ix2 0 d) = (A.gq d : EReal)
  gk : ∀ d, X.x5 (ix2 0 d) = (A.gk d : EReal)
  sk : ∀ h, X.x6 (ix2 0 h) = (A.sk h : EReal)

variable {X : Mem} {A : Args} (H : Holds X A)

include H

/-- The mean square of a query, with the small number added. -/
theorem v12 (s : Fin 8192) (h : Fin 32) : val_main_v12 (F := Ideal) X.x0 (ix3 s h 0)
    = (((∑ d, A.q h s d * A.q h s d) / 64 + eps : ℝ) : EReal) := by
  pointwise [val_main_v12, val_main_v10, val_main_v8, val_main_v7, val_main_v6, val_main_v0, val_main_v9, val_main_v11, val_main_cst, val_main_cst_0, val_main_cst_1]
  simp only [H.q]
  rw [word_64, word_eps.1]
  simp only [← EReal.coe_mul, ← coe_sum]
  rw [div_real _ (by norm_num), ← EReal.coe_add]

theorem v13 (s : Fin 8192) (h : Fin 32) : val_main_v13 (F := Ideal) X.x0 (ix3 s h 0) = (rinv (A.q h s) : EReal) := by
  pointwise [val_main_v13]
  rw [v12 H, rsqrt_real (mean_pos _)]
  rfl

theorem v16 (s : Fin 8192) (h : Fin 32) : val_main_v16 (F := Ideal) X.x0 (ix3 s h 0)
    = ((-(1 / 2) * (rinv (A.q h s) / ((∑ d, A.q h s d * A.q h s d) / 64 + eps)) : ℝ) : EReal) := by
  pointwise [val_main_v16, val_main_v15, val_main_v14, val_main_cst_2]
  rw [v12 H, v13 H, div_real _ (mean_pos _).ne', word_neg_half, ← EReal.coe_mul]

theorem v18 (s : Fin 8192) (h : Fin 32) (d : Fin 64) : val_main_v18 (F := Ideal) X.x0 (ix3 s h d) = (hat (A.q h s) d : EReal) := by
  pointwise [val_main_v18, val_main_v17, val_main_v0]
  rw [v13 H, H.q, ← EReal.coe_mul]
  rfl

theorem v21 (s : Fin 8192) (h : Fin 32) (d : Fin 64) :
    val_main_v21 (F := Ideal) X.x0 X.x4 (ix3 s h d) = ((hat (A.q h s) d * A.gq d : ℝ) : EReal) := by
  pointwise [val_main_v21, val_main_v20, val_main_v19, val_main_v3]
  rw [v18 H, H.gq, ← EReal.coe_mul]

theorem v28 (s : Fin 8192) (h : Fin 4) : val_main_v28 (F := Ideal) X.x1 (ix3 s h 0)
    = (((∑ d, A.k h s d * A.k h s d) / 64 + eps : ℝ) : EReal) := by
  pointwise [val_main_v28, val_main_v26, val_main_v24, val_main_v23, val_main_v22, val_main_v1, val_main_v25, val_main_v27, val_main_cst_3, val_main_cst_4, val_main_cst_5]
  simp only [H.k]
  rw [word_64, word_eps.1]
  simp only [← EReal.coe_mul, ← coe_sum]
  rw [div_real _ (by norm_num), ← EReal.coe_add]

theorem v29 (s : Fin 8192) (h : Fin 4) : val_main_v29 (F := Ideal) X.x1 (ix3 s h 0) = (rinv (A.k h s) : EReal) := by
  pointwise [val_main_v29]
  rw [v28 H, rsqrt_real (mean_pos _)]
  rfl

theorem v32 (s : Fin 8192) (h : Fin 4) : val_main_v32 (F := Ideal) X.x1 (ix3 s h 0)
    = ((-(1 / 2) * (rinv (A.k h s) / ((∑ d, A.k h s d * A.k h s d) / 64 + eps)) : ℝ) : EReal) := by
  pointwise [val_main_v32, val_main_v31, val_main_v30, val_main_cst_6]
  rw [v28 H, v29 H, div_real _ (mean_pos _).ne', word_neg_half, ← EReal.coe_mul]

theorem v34 (s : Fin 8192) (h : Fin 4) (d : Fin 64) : val_main_v34 (F := Ideal) X.x1 (ix3 s h d) = (hat (A.k h s) d : EReal) := by
  pointwise [val_main_v34, val_main_v33, val_main_v1]
  rw [v29 H, H.k, ← EReal.coe_mul]
  rfl

theorem v37 (s : Fin 8192) (h : Fin 4) (d : Fin 64) :
    val_main_v37 (F := Ideal) X.x1 X.x5 (ix3 s h d) = ((hat (A.k h s) d * A.gk d : ℝ) : EReal) := by
  pointwise [val_main_v37, val_main_v36, val_main_v35, val_main_v4]
  rw [v34 H, H.gk, ← EReal.coe_mul]

/-- Row `g`, `i` of a block: the head `g` of the eight that share keys, the position `i`. -/
def row (g : Fin 8) (i : Fin 128) : Fin 1024 := ⟨g.val * 128 + i.val, by omega⟩

omit H in
theorem head_row (k : Fin 4) (g : Fin 8) (i : Fin 128) : Args.head k (row g i) = ⟨k.val * 8 + g.val, by omega⟩ :=
  Fin.ext (by simp only [Args.head, row]; omega)

omit H in
theorem tok_row (n : Fin 64) (g : Fin 8) (i : Fin 128) : Args.tok n (row g i) = ⟨n.val * 128 + i.val, by omega⟩ :=
  Fin.ext (by simp only [Args.tok, row]; omega)

omit H in
theorem pos_row (n : Fin 64) (k : Fin 4) (g : Fin 8) (i : Fin 128) : (A.blk n k).pos (row g i) = i.val :=
  by simp only [Args.blk, row]; omega

omit H in
theorem q_row (n : Fin 64) (k : Fin 4) (g : Fin 8) (i : Fin 128) : (A.blk n k).q (row g i)
    = A.q ⟨k.val * 8 + g.val, by omega⟩ ⟨n.val * 128 + i.val, by omega⟩ := by
  rw [← head_row, ← tok_row]
  rfl

omit H in
theorem o_row (n : Fin 64) (k : Fin 4) (g : Fin 8) (i : Fin 128) : (A.blk n k).o (row g i)
    = A.o ⟨k.val * 8 + g.val, by omega⟩ ⟨n.val * 128 + i.val, by omega⟩ := by
  rw [← head_row, ← tok_row]
  rfl

omit H in
/-- A band's token, where there is one. -/
theorem band_of {n : Fin 64} {j : Fin 256} (s : Fin 8192) (h : s.val + 128 = n.val * 128 + j.val) : Args.band n j = s := by
  unfold Args.band
  split
  · exact Fin.ext (by dsimp only; omega)
  · exact Fin.ext (by dsimp only; omega)

/-- The normalised queries in blocks. -/
theorem v38 (n : Fin 64) (i : Fin 128) (k : Fin 4) (g : Fin 8) (d : Fin 64) :
    val_main_v38 (F := Ideal) X.x0 X.x4 (ix5 n i k g d) = ((A.blk n k).qn (row g i) d : EReal) := by
  pointwise [val_main_v38]
  rw [v21 H, Blk.qn, q_row]
  rfl

/-- The normalised keys in bands: nothing before the start. -/
theorem v45 (n : Fin 64) (j : Fin 256) (k : Fin 4) (d : Fin 64) :
    val_main_v45 (F := Ideal) X.x1 X.x5 (ix4 n j k d) = ((if 0 < n.val ∨ 128 ≤ j.val then (A.blk n k).kn j d else 0 : ℝ) : EReal) := by
  pointwise [val_main_v45, val_main_v44, val_main_v43, val_main_v42, val_main_v40, val_main_v39, val_main_cst_7]
  by_cases h : 0 < n.val ∨ 128 ≤ j.val
  · rw [if_pos h]
    split
    · rw [dif_neg (by omega), v37 H]
      exact congrArg (fun s => ((hat (A.k k s) d * A.gk d : ℝ) : EReal)) (band_of _ (by dsimp only; omega)).symm
    · rw [dif_neg (by omega), v37 H]
      exact congrArg (fun s => ((hat (A.k k s) d * A.gk d : ℝ) : EReal)) (band_of _ (by dsimp only; omega)).symm
  · rw [if_neg h, dif_pos (by omega), dif_pos (by omega)]
    exact EReal.coe_zero.symm

/-- The values in bands. -/
theorem v52 (n : Fin 64) (j : Fin 256) (k : Fin 4) (d : Fin 64) :
    val_main_v52 (F := Ideal) X.x2 (ix4 n j k d) = ((if 0 < n.val ∨ 128 ≤ j.val then (A.blk n k).v j d else 0 : ℝ) : EReal) := by
  pointwise [val_main_v52, val_main_v51, val_main_v50, val_main_v49, val_main_v47, val_main_v46, val_main_v2, val_main_cst_9]
  by_cases h : 0 < n.val ∨ 128 ≤ j.val
  · rw [if_pos h]
    split
    · rw [dif_neg (by omega), H.v]
      exact congrArg (fun s => (A.v k s d : EReal)) (band_of _ (by dsimp only; omega)).symm
    · rw [dif_neg (by omega), H.v]
      exact congrArg (fun s => (A.v k s d : EReal)) (band_of _ (by dsimp only; omega)).symm
  · rw [if_neg h, dif_pos (by omega), dif_pos (by omega)]
    exact EReal.coe_zero.symm

end Cert.ReferenceIdeal.Stage
-- ==== Proof.RefLogit.lean ====
/- The reference's logits over the real numbers. -/
module

public import proofs.«01_k».proof.Proof.RefNorm
public import proofs.«01_k».proof.Proof.Words

@[expose] public section

set_option maxRecDepth 16384

noncomputable section

namespace Cert.ReferenceIdeal.Stage

open Cert.ReferenceIdeal Cert.ReferenceIdeal.Read Cert.Proof
open Idealize.ShloMosaic Idealize.ShloMosaic.TcCoe Idealize.ShloMosaic.Tactic

/-- The key's token is not before the start. -/
theorem start_ge : ∀ (n : Fin 64) (j : Fin 256),
    IntOp.cmpi .sge (IntOp.addi (IntOp.subi (IntOp.muli (BitVec.ofNat 32 n.val) 128#32) 128#32) (BitVec.ofNat 32 j.val)) 0#32
      = if 0 < n.val ∨ 128 ≤ j.val then 1#1 else 0#1 := by
  decide +kernel

variable {X : Mem} {A : Args} (H : Holds X A)

/-- A choice by the conjunction of three truth words, as a word. -/
theorem bits_and (P Q S : Prop) [Decidable P] [Decidable Q] [Decidable S] :
    IntOp.andi (IntOp.andi (if P then 1#1 else 0#1) (if Q then 1#1 else 0#1)) (if S then 1#1 else 0#1)
      = if Q ∧ P ∧ S then 1#1 else 0#1 := by
  by_cases hP : P <;> by_cases hQ : Q <;> by_cases hS : S <;> simp [hP, hQ, hS, IntOp.andi]

theorem dist_word (i : Fin 128) (j : Fin 256) :
    FloatOps.sitofp (F := Ideal) .f32 (IntOp.absi (IntOp.subi (IntOp.addi (BitVec.ofNat 32 i.val) 128#32) (BitVec.ofNat 32 j.val)))
      = (((|(i.val : ℤ) + 128 - (j.val : ℤ)| : ℤ) : ℝ) : EReal) :=
  congrArg (fun z : ℤ => ((z : ℝ) : EReal)) (dist_abs i j)

/-- The slopes' part of a logit. -/
theorem v105 (k : Fin 4) (g : Fin 8) (i : Fin 128) (j : Fin 256) : val_main_v105 (F := Ideal) (ix4 k g i j)
    = ((-(slope ⟨k.val * 8 + g.val, by omega⟩) * ((|(i.val : ℤ) + 128 - (j.val : ℤ)| : ℤ) : ℝ) : ℝ) : EReal) := by
  pointwise [val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v65, val_main_v64, val_main_v63, val_main_v62, val_main_v61, val_main_v60, val_main_v59, val_main_v58, val_main_v57, val_main_c, val_main_cst_17, val_main_cst_18, val_main_cst_19, val_main_cst_20]
  rw [dist_word, show FloatOps.sitofp (F := Ideal) .f32 (BitVec.ofNat 32 (k.val * 8 + g.val)) = (((BitVec.ofNat 32 (k.val * 8 + g.val)).toInt : ℝ) : EReal) from rfl,
    slope_eq ⟨k.val * 8 + g.val, by omega⟩, ← EReal.coe_neg, ← EReal.coe_mul]

theorem mask (n : Fin 64) (k : Fin 4) (g : Fin 8) (i : Fin 128) (j : Fin 256) : val_main_v110_1 (F := Ideal) (ix5 n k g i j)
    = if (A.blk n k).ok (row g i) j then 1#1 else 0#1 := by
  pointwise [val_main_v110_1, val_main_v106, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_c, val_main_c_12, val_main_c_13, val_main_c_14, val_main_c_15, val_main_c_16]
  rw [show IntOp.subi (IntOp.addi (BitVec.ofNat 32 i.val) 128#32) (BitVec.ofNat 32 j.val) = distWord i.val j.val from rfl,
    dist_ge, dist_lt, start_ge]
  refine (bits_and _ _ _).trans (if_congr ?_ rfl rfl)
  unfold Blk.ok
  rw [pos_row]
  exact Iff.rfl

include H

theorem v54 (n : Fin 64) (k : Fin 4) (g : Fin 8) (i : Fin 128) (j : Fin 256) :
    val_main_v54 (F := Ideal) X.x0 X.x1 X.x4 X.x5 (ix5 n k g i j) = ((∑ d, (if 0 < n.val ∨ 128 ≤ j.val then (A.blk n k).kn j d else 0) * (A.blk n k).qn (row g i) d : ℝ) : EReal) := by
  pointwise [val_main_v54, val_main_v53]
  simp only [v38 H, v45 H]
  simp only [← EReal.coe_mul, ← coe_sum]

theorem v110_0 (n : Fin 64) (k : Fin 4) (g : Fin 8) (i : Fin 128) (j : Fin 256) :
    val_main_v110_0 (F := Ideal) X.x0 X.x1 X.x4 X.x5 (ix5 n k g i j)
      = if (A.blk n k).ok (row g i) j then ((A.blk n k).s (row g i) j : EReal) else ⊥ := by
  pointwise [val_main_v110_0, val_main_v109, val_main_v108, val_main_v107, val_main_v56, val_main_v55, val_main_cst_11, val_main_call0_v2, val_main_call0_v0, val_main_cst_21]
  rw [v105, v54 H]
  rw [mask (A := A)]
  by_cases h : (A.blk n k).ok (row g i) j
  · rw [if_pos h, if_pos h, word_eighth, ← EReal.coe_mul, ← EReal.coe_add]
    have hs : (0 < n.val ∨ 128 ≤ j.val) := h.2.2
    simp only [if_pos hs]
    refine Eq.trans rfl (congrArg (fun x : ℝ => (x : EReal)) ?_)
    unfold Blk.s Blk.dist
    rw [pos_row, show (A.blk n k).sl (row g i) = slope (Args.head k (row g i)) from rfl, head_row]
    simp only [mul_comm ((A.blk n k).kn j _)]
    ring
  · rw [if_neg h, if_neg h]
    exact word_bot

theorem v113 (n : Fin 64) (k : Fin 4) (g : Fin 8) (i : Fin 128) (j : Fin 257) :
    val_main_v113 (F := Ideal) X.x0 X.x1 X.x4 X.x5 X.x6 (ix5 n k g i j)
      = if h : j.val < 256 then (if (A.blk n k).ok (row g i) ⟨j.val, h⟩ then ((A.blk n k).s (row g i) ⟨j.val, h⟩ : EReal) else ⊥)
        else ((A.blk n k).sk (row g i) : EReal) := by
  pointwise [val_main_v113, val_main_v112, val_main_v111, val_main_v5]
  rw [H.sk]
  simp only [v110_0 H]
  rw [show (A.blk n k).sk (row g i) = A.sk (Args.head k (row g i)) from rfl, head_row]

end Cert.ReferenceIdeal.Stage
-- ==== Proof.RefSoft.lean ====
/- The reference's softmax with the sink over the real numbers. -/
module

public import proofs.«01_k».proof.Proof.RefLogit

@[expose] public section

set_option maxRecDepth 16384

noncomputable section

namespace Cert.Proof

/-- The largest of finitely many numbers none of which is plus infinity, and one of which is real. -/
theorem fold_max_real {ι : Type} [Fintype ι] (f : ι → EReal) (h : ∀ j, f j ≠ ⊤) (i : ι) (hi : f i ≠ ⊥) :
    ∃ x : ℝ, Finset.fold max ⊥ f Finset.univ = (x : EReal) := by
  refine exists_real ?_ ?_
  · have h1 : f i ≤ Finset.fold max ⊥ f Finset.univ := Finset.le_fold_max _ |>.mpr (Or.inr ⟨i, Finset.mem_univ i, le_rfl⟩)
    exact fun e => hi (le_bot_iff.mp (e ▸ h1))
  · exact ((Finset.fold_max_lt _).mpr ⟨bot_lt_top, fun j _ => lt_top_iff_ne_top.mpr (h j)⟩).ne

namespace Blk

variable {ρ : Type} [Fintype ρ] (B : Blk ρ)

/-- The weights of the keys, and then of the sink. -/
def e (R : ρ) (j : Fin 257) : ℝ := if h : j.val < 256 then B.w R ⟨j.val, h⟩ else Real.exp (B.sk R)

theorem sum_e (R : ρ) : ∑ j, B.e R j = B.den R := by
  rw [Fin.sum_univ_castSucc]
  refine congrArg₂ (· + ·) (Finset.sum_congr rfl fun j _ => ?_) ?_
  · exact dif_pos j.isLt
  · exact dif_neg (by simp)

end Blk

end Cert.Proof

namespace Cert.ReferenceIdeal.Stage

open Cert.ReferenceIdeal Cert.ReferenceIdeal.Read Cert.Proof
open Idealize.ShloMosaic Idealize.ShloMosaic.TcCoe Idealize.ShloMosaic.Tactic

/-- A sum over a block's heads and positions is the sum over its rows. -/
theorem sum_rows (f : Fin 1024 → ℝ) : ∑ g : Fin 8, ∑ i : Fin 128, f (row g i) = ∑ R, f R := by
  rw [← Fintype.sum_prod_type']
  refine Fintype.sum_equiv (finProdFinEquiv (m := 8) (n := 128)) _ _ fun x => congrArg f (Fin.ext ?_)
  show x.1.val * 128 + x.2.val = x.2.val + 128 * x.1.val
  ring

variable {X : Mem} {A : Args} (H : Holds X A)

/-- A row's largest logit, as a real number. -/
def top (X : Mem) (n : Fin 64) (k : Fin 4) (g : Fin 8) (i : Fin 128) : ℝ :=
  (val_main_v114 (F := Ideal) X.x0 X.x1 X.x4 X.x5 X.x6 (ix4 n k g i)).toReal

include H

theorem v114 (n : Fin 64) (k : Fin 4) (g : Fin 8) (i : Fin 128) :
    val_main_v114 (F := Ideal) X.x0 X.x1 X.x4 X.x5 X.x6 (ix4 n k g i) = (top X n k g i : EReal) := by
  suffices h : ∃ x : ℝ, val_main_v114 (F := Ideal) X.x0 X.x1 X.x4 X.x5 X.x6 (ix4 n k g i) = (x : EReal) by
    obtain ⟨x, h⟩ := h
    rw [top, h, EReal.toReal_coe]
  pointwise [val_main_v114]
  rw [show val_main_cst_22 (F := Ideal) (Shape.Idx.first Gen.h_S_) = ⊥ from word_bot]
  simp only [v113 H]
  refine fold_max_real _ (fun j => ?_) ⟨256, by omega⟩ ?_
  · split
    · split
      · exact EReal.coe_ne_top _
      · exact bot_ne_top
    · exact EReal.coe_ne_top _
  · rw [dif_neg (by simp)]
    exact EReal.coe_ne_bot _

theorem v121 (n : Fin 64) (k : Fin 4) (g : Fin 8) (i : Fin 128) :
    val_main_v121 (F := Ideal) X.x0 X.x1 X.x4 X.x5 X.x6 (ix4 n k g i) = (top X n k g i : EReal) := by
  rw [val_main_v121_apply, v114 H]
  refine Eq.trans (congrArg (fun x => max x ((top X n k g i : ℝ) : EReal)) (?_ : _ = (⊥ : EReal))) (max_eq_right bot_le)
  exact word_bot

omit H in
theorem v132 (n : Fin 64) (k : Fin 4) (g : Fin 8) (i : Fin 128) (j : Fin 257) :
    val_main_v132 (F := Ideal) X.x0 X.x1 X.x4 X.x5 X.x6 (ix5 n k g i j)
      = val_main_v121 (F := Ideal) X.x0 X.x1 X.x4 X.x5 X.x6 (ix4 n k g i) := by
  pointwise [val_main_v132, val_main_v131]

/-- A weight, scaled by the largest logit. -/
theorem v134 (n : Fin 64) (k : Fin 4) (g : Fin 8) (i : Fin 128) (j : Fin 257) :
    val_main_v134 (F := Ideal) X.x0 X.x1 X.x4 X.x5 X.x6 (ix5 n k g i j)
      = (((A.blk n k).e (row g i) j * Real.exp (-top X n k g i) : ℝ) : EReal) := by
  rw [val_main_v134_apply, val_main_v133_apply, v132, v121 H, v113 H]
  refine (show _ = Ideal.exp (_ - _) from rfl).trans ?_
  unfold Blk.e Blk.w
  split
  · split
    · rw [← EReal.coe_sub, Ideal.exp_coe, ← Real.exp_add, sub_eq_add_neg]
    · rw [EReal.bot_sub, zero_mul]
      exact Ideal.exp_bot
  · rw [← EReal.coe_sub, Ideal.exp_coe, ← Real.exp_add, sub_eq_add_neg]

/-- The softmax's denominator, scaled. -/
theorem v135 (n : Fin 64) (k : Fin 4) (g : Fin 8) (i : Fin 128) :
    val_main_v135 (F := Ideal) X.x0 X.x1 X.x4 X.x5 X.x6 (ix4 n k g i)
      = (((A.blk n k).den (row g i) * Real.exp (-top X n k g i) : ℝ) : EReal) := by
  pointwise [val_main_v135]
  simp only [v134 H]
  rw [← coe_sum, ← Finset.sum_mul, Blk.sum_e]
  refine Eq.trans (congrArg (· + _) (?_ : _ = (0 : EReal))) (zero_add _)
  exact Ideal.ofBits_zero .f32

omit H in
theorem scaled_ne (n : Fin 64) (k : Fin 4) (g : Fin 8) (i : Fin 128) : (A.blk n k).den (row g i) * Real.exp (-top X n k g i) ≠ 0 :=
  (mul_pos (Blk.den_pos _ _) (Real.exp_pos _)).ne'

theorem v136 (n : Fin 64) (k : Fin 4) (g : Fin 8) (i : Fin 128) :
    val_main_v136 (F := Ideal) X.x0 X.x1 X.x4 X.x5 X.x6 (ix5 n k g i 0)
      = (((A.blk n k).den (row g i) * Real.exp (-top X n k g i) : ℝ) : EReal) := by
  pointwise [val_main_v136]
  exact v135 H n k g i

/-- The softmax. -/
theorem v142 (n : Fin 64) (k : Fin 4) (g : Fin 8) (i : Fin 128) (j : Fin 256) :
    val_main_v142 (F := Ideal) X.x0 X.x1 X.x4 X.x5 X.x6 (ix5 n k g i j) = ((A.blk n k).p (row g i) j : EReal) := by
  pointwise [val_main_v142, val_main_v138, val_main_v137]
  rw [v134 H, v136 H, div_real _ (scaled_ne n k g i), mul_div_mul_right _ _ (Real.exp_pos _).ne']
  unfold Blk.p Blk.e
  rw [dif_pos (by simp)]

/-- The reciprocal of the denominator's square. -/
theorem v141 (n : Fin 64) (k : Fin 4) (g : Fin 8) (i : Fin 128) :
    val_main_v141 (F := Ideal) X.x0 X.x1 X.x4 X.x5 X.x6 (ix5 n k g i 0)
      = ((1 / (((A.blk n k).den (row g i) * Real.exp (-top X n k g i)) * ((A.blk n k).den (row g i) * Real.exp (-top X n k g i))) : ℝ) : EReal) := by
  pointwise [val_main_v141, val_main_v140, val_main_v139, val_main_cst_31]
  rw [v136 H, ← EReal.coe_one, ← EReal.coe_mul, div_real _ (mul_ne_zero (scaled_ne n k g i) (scaled_ne n k g i))]

/-- The result's gradient, in blocks. -/
theorem v149 (n : Fin 64) (k : Fin 4) (d : Fin 64) (g : Fin 8) (i : Fin 128) :
    val_main_v149 (F := Ideal) X.x3 (ix5 n k d g i) = ((A.blk n k).o (row g i) d : EReal) := by
  pointwise [val_main_v149, val_main_v148, val_main_v147, val_main_v146]
  rw [o_row]
  exact H.o _ _ _

/-- The weights' gradient. -/
theorem v150 (n : Fin 64) (k : Fin 4) (g : Fin 8) (i : Fin 128) (j : Fin 256) :
    val_main_v150 (F := Ideal) X.x2 X.x3 (ix5 n k g i j)
      = ((if 0 < n.val ∨ 128 ≤ j.val then (A.blk n k).dp (row g i) j else 0 : ℝ) : EReal) := by
  pointwise [val_main_v150]
  simp only [v149 H, v52 H, ← EReal.coe_mul, ← coe_sum]
  by_cases h : 0 < n.val ∨ 128 ≤ j.val
  · simp only [if_pos h]
    rfl
  · simp only [if_neg h, mul_zero, Finset.sum_const_zero]

/-- The values' gradient, per block. -/
theorem v152 (n : Fin 64) (j : Fin 256) (k : Fin 4) (d : Fin 64) :
    val_main_v152 (F := Ideal) X.x0 X.x1 X.x3 X.x4 X.x5 X.x6 (ix4 n j k d) = ((A.blk n k).dv j d : EReal) := by
  pointwise [val_main_v152, val_main_v151]
  simp only [v149 H, v142 H, ← EReal.coe_mul, ← coe_sum]
  refine congrArg (fun x : ℝ => (x : EReal)) ?_
  refine (sum_rows (fun R => (A.blk n k).o R d * (A.blk n k).p R j)).trans (Finset.sum_congr rfl fun R _ => mul_comm _ _)

end Cert.ReferenceIdeal.Stage
-- ==== Proof.RefGrad.lean ====
/- The reference's gradients of the logits, and of what they are made of, over the real numbers. -/
module

public import proofs.«01_k».proof.Proof.RefSoft

@[expose] public section

set_option maxRecDepth 16384

noncomputable section

namespace Cert.Proof.Blk

variable {ρ : Type} [Fintype ρ] (B : Blk ρ)

/-- The gradient of the weights of the keys that there are, and then of the sink's, which is none. -/
def dpe (R : ρ) (j : Fin 257) : ℝ :=
  if h : j.val < 256 then (if 0 < B.n ∨ 128 ≤ j.val then B.dp R ⟨j.val, h⟩ else 0) else 0

/-- The weights' mean gradient. -/
theorem sum_dpe (R : ρ) : ∑ j, B.dpe R j * B.e R j = B.dl R * B.den R := by
  rw [Fin.sum_univ_castSucc]
  have h0 : B.dpe R (Fin.last 256) = 0 := dif_neg (by simp)
  rw [h0, zero_mul, add_zero, dl, Finset.sum_mul]
  refine Finset.sum_congr rfl fun j _ => ?_
  have h1 : B.e R j.castSucc = B.w R j := dif_pos j.isLt
  have h2 : B.dpe R j.castSucc = if 0 < B.n ∨ 128 ≤ j.val then B.dp R j else 0 := dif_pos j.isLt
  rw [h1, h2, p]
  have hd := (B.den_pos R).ne'
  split
  · field_simp
  · rw [w, if_neg (fun h => by exact absurd h.2.2 (by assumption))]
    simp

end Cert.Proof.Blk

namespace Cert.ReferenceIdeal.Stage

open Cert.ReferenceIdeal Cert.ReferenceIdeal.Read Cert.Proof
open Idealize.ShloMosaic Idealize.ShloMosaic.TcCoe Idealize.ShloMosaic.Tactic

variable {X : Mem} {A : Args} (H : Holds X A)

include H

theorem v153 (n : Fin 64) (k : Fin 4) (g : Fin 8) (i : Fin 128) (j : Fin 257) :
    val_main_v153 (F := Ideal) X.x2 X.x3 (ix5 n k g i j) = ((A.blk n k).dpe (row g i) j : EReal) := by
  pointwise [val_main_v153]
  simp only [v150 H]
  unfold Blk.dpe
  split
  · rfl
  · exact Ideal.ofBits_zero .f32

theorem v156 (n : Fin 64) (k : Fin 4) (g : Fin 8) (i : Fin 128) (j : Fin 257) :
    val_main_v156 (F := Ideal) X.x0 X.x1 X.x2 X.x3 X.x4 X.x5 X.x6 (ix5 n k g i j)
      = (((A.blk n k).dpe (row g i) j * (1 / (((A.blk n k).den (row g i) * Real.exp (-top X n k g i)) * ((A.blk n k).den (row g i) * Real.exp (-top X n k g i))))
          * ((A.blk n k).e (row g i) j * Real.exp (-top X n k g i)) : ℝ) : EReal) := by
  pointwise [val_main_v156, val_main_v155, val_main_v154]
  rw [v153 H, v141 H, v134 H, ← EReal.coe_mul, ← EReal.coe_mul]

theorem v157 (n : Fin 64) (k : Fin 4) (g : Fin 8) (i : Fin 128) :
    val_main_v157 (F := Ideal) X.x0 X.x1 X.x2 X.x3 X.x4 X.x5 X.x6 (ix4 n k g i)
      = (((A.blk n k).dl (row g i) / ((A.blk n k).den (row g i) * Real.exp (-top X n k g i)) : ℝ) : EReal) := by
  pointwise [val_main_v157]
  rw [show val_main_cst_33 (F := Ideal) (Shape.Idx.first Gen.h_S_) = 0 from Ideal.ofBits_zero .f32, zero_add]
  simp only [v156 H, ← coe_sum]
  refine congrArg (fun x : ℝ => (x : EReal)) ?_
  have hs := (A.blk n k).sum_dpe (row g i)
  have hd := ((A.blk n k).den_pos (row g i)).ne'
  have hx := (Real.exp_pos (-top X n k g i)).ne'
  generalize (A.blk n k).den (row g i) = D at *
  generalize Real.exp (-top X n k g i) = c at *
  rw [Finset.sum_congr rfl fun j _ => show (A.blk n k).dpe (row g i) j * (1 / (D * c * (D * c))) * ((A.blk n k).e (row g i) j * c)
    = ((A.blk n k).dpe (row g i) j * (A.blk n k).e (row g i) j) * (c / (D * c * (D * c))) by ring, ← Finset.sum_mul, hs]
  field_simp

/-- The logits' gradient, with the sink's. -/
theorem v165 (n : Fin 64) (k : Fin 4) (g : Fin 8) (i : Fin 128) (j : Fin 257) :
    val_main_v165 (F := Ideal) X.x0 X.x1 X.x2 X.x3 X.x4 X.x5 X.x6 (ix5 n k g i j)
      = (((A.blk n k).e (row g i) j / (A.blk n k).den (row g i) * ((A.blk n k).dpe (row g i) j - (A.blk n k).dl (row g i)) : ℝ) : EReal) := by
  pointwise [val_main_v165, val_main_v164, val_main_v163, val_main_v162, val_main_v161, val_main_v160, val_main_v159, val_main_v158]
  rw [show val_main_cst_34 (F := Ideal) (Shape.Idx.first Gen.h_S_) = 0 from Ideal.ofBits_zero .f32]
  rw [v153 H, v136 H, v134 H, div_real _ (scaled_ne n k g i)]
  simp only [v157 H]
  rw [Fin.sum_univ_one, ← EReal.coe_neg, zero_add, ← EReal.coe_add, ← EReal.coe_mul]
  refine congrArg (fun x : ℝ => (x : EReal)) ?_
  have hd := ((A.blk n k).den_pos (row g i)).ne'
  have hx := (Real.exp_pos (-top X n k g i)).ne'
  generalize (A.blk n k).den (row g i) = D at *
  generalize Real.exp (-top X n k g i) = c at *
  field_simp
  ring

/-- The logits' gradient. -/
theorem v173 (n : Fin 64) (k : Fin 4) (g : Fin 8) (i : Fin 128) (j : Fin 256) :
    val_main_v173 (F := Ideal) X.x0 X.x1 X.x2 X.x3 X.x4 X.x5 X.x6 (ix5 n k g i j)
      = (((A.blk n k).ds (row g i) j * (1 / 8) : ℝ) : EReal) := by
  pointwise [val_main_v173, val_main_v172, val_main_v171, val_main_v166, val_main_cst_36, val_main_call1_v0, val_main_call1_cst]
  rw [v165 H, mask (A := A)]
  have he : (A.blk n k).e (row g i) ⟨j.val, by omega⟩ = (A.blk n k).w (row g i) j := dif_pos j.isLt
  rw [he]
  by_cases h : (A.blk n k).ok (row g i) j
  · have hp : (A.blk n k).dpe (row g i) ⟨j.val, by omega⟩ = (A.blk n k).dp (row g i) j := (dif_pos j.isLt).trans (if_pos h.2.2)
    rw [if_pos h, hp, word_eighth, ← EReal.coe_mul]
    rfl
  · rw [if_neg h, Blk.ds, Blk.p_zero _ h, zero_mul, zero_mul]
    exact EReal.coe_zero.symm

/-- The normalised queries' gradient. -/
theorem v176 (n : Fin 64) (i : Fin 128) (k : Fin 4) (g : Fin 8) (d : Fin 64) :
    val_main_v176 (F := Ideal) X.x0 X.x1 X.x2 X.x3 X.x4 X.x5 X.x6 (ix5 n i k g d) = ((A.blk n k).dqn (row g i) d : EReal) := by
  pointwise [val_main_v176, val_main_v175, val_main_v174]
  simp only [v173 H, v45 H, ← EReal.coe_mul, ← coe_sum]
  refine congrArg (fun x : ℝ => (x : EReal)) ?_
  rw [Blk.dqn, Finset.sum_mul]
  refine Finset.sum_congr rfl fun j _ => ?_
  split
  · ring
  · rename_i h
    rw [Blk.ds, Blk.p_zero _ (fun e => h e.2.2)]
    ring

/-- The normalised keys' gradient, per block. -/
theorem v178 (n : Fin 64) (j : Fin 256) (k : Fin 4) (d : Fin 64) :
    val_main_v178 (F := Ideal) X.x0 X.x1 X.x2 X.x3 X.x4 X.x5 X.x6 (ix4 n j k d) = ((A.blk n k).dkn j d : EReal) := by
  pointwise [val_main_v178, val_main_v177, val_main_v174]
  simp only [v173 H, v38 H, ← EReal.coe_mul, ← coe_sum]
  refine congrArg (fun x : ℝ => (x : EReal)) ?_
  rw [Finset.sum_comm, sum_rows (fun R => (A.blk n k).ds R j * (1 / 8) * (A.blk n k).qn R d), Blk.dkn, Finset.sum_mul]
  exact Finset.sum_congr rfl fun R _ => by ring

omit H in
/-- A token takes what its own block sends and what the block after it sends, where there is one. -/
theorem halves (f : Fin 64 → Fin 256 → ℝ) (s : Fin 8192) :
    (if h : (1 ≤ (128 + s.val) / 128 ∧ (128 + s.val) / 128 - 1 < 64) ∧ (128 + s.val) % 128 < 128 then
        ((f ⟨(128 + s.val) / 128 - 1, h.1.2⟩ ⟨128 + (128 + s.val) % 128, by omega⟩ : ℝ) : EReal)
      else Ideal.ofBits .f32 0#32)
    + (if h : (128 + s.val) / 128 < 64 ∧ (128 + s.val) % 128 < 128 then
        ((f ⟨(128 + s.val) / 128, h.1⟩ ⟨(128 + s.val) % 128, by omega⟩ : ℝ) : EReal)
      else Ideal.ofBits .f32 0#32)
    = ((f (Args.blkOf s) ⟨128 + s.val % 128, by omega⟩
        + (if h : s.val / 128 + 1 < 64 then f ⟨s.val / 128 + 1, h⟩ ⟨s.val % 128, by omega⟩ else 0) : ℝ) : EReal) := by
  have e1 : (128 + s.val) % 128 = s.val % 128 := by omega
  have e2 : (128 + s.val) / 128 = s.val / 128 + 1 := by omega
  rw [dif_pos (by omega), EReal.coe_add]
  refine congrArg₂ (· + ·) ?_ ?_
  · refine congrArg₂ (fun n j => ((f n j : ℝ) : EReal)) (Fin.ext ?_) (Fin.ext ?_)
    · simp only [Args.blkOf]
      omega
    · simp only
      omega
  · by_cases h : s.val / 128 + 1 < 64
    · rw [dif_pos h, dif_pos (by omega)]
      exact congrArg₂ (fun n j => ((f n j : ℝ) : EReal)) (Fin.ext e2) (Fin.ext e1)
    · rw [dif_neg h, dif_neg (by omega)]
      exact (Ideal.ofBits_zero .f32).trans EReal.coe_zero.symm

/-- The values' gradient. -/
theorem v186 (s : Fin 8192) (k : Fin 4) (d : Fin 64) :
    val_main_v186 (F := Ideal) X.x0 X.x1 X.x3 X.x4 X.x5 X.x6 (ix3 s k d) = (A.dv k s d : EReal) := by
  pointwise [val_main_v186, val_main_v184, val_main_v183, val_main_v182, val_main_v181, val_main_v180, val_main_v179]
  simp only [v152 H]
  exact halves (fun n j => (A.blk n k).dv j d) s

/-- The normalised keys' gradient at a token: what its own block sends and what the block after it sends. -/
def dkt (A : Args) (s : Fin 8192) (k : Fin 4) (d : Fin 64) : ℝ :=
  (A.blk (Args.blkOf s) k).dkn ⟨128 + s.val % 128, by omega⟩ d
    + if h : s.val / 128 + 1 < 64 then (A.blk ⟨s.val / 128 + 1, h⟩ k).dkn ⟨s.val % 128, by omega⟩ d else 0

theorem v194 (s : Fin 8192) (k : Fin 4) (d : Fin 64) :
    val_main_v194 (F := Ideal) X.x0 X.x1 X.x2 X.x3 X.x4 X.x5 X.x6 (ix3 s k d) = (dkt A s k d : EReal) := by
  pointwise [val_main_v194, val_main_v192, val_main_v191, val_main_v190, val_main_v189, val_main_v188, val_main_v187]
  simp only [v178 H]
  exact halves (fun n j => (A.blk n k).dkn j d) s

/-- The normalised queries' gradient at a token. -/
def dqt (A : Args) (s : Fin 8192) (h : Fin 32) (d : Fin 64) : ℝ :=
  (A.blk (Args.blkOf s) ⟨h.val / 8, by omega⟩).dqn ⟨h.val % 8 * 128 + s.val % 128, by omega⟩ d

theorem v195 (s : Fin 8192) (h : Fin 32) (d : Fin 64) :
    val_main_v195 (F := Ideal) X.x0 X.x1 X.x2 X.x3 X.x4 X.x5 X.x6 (ix3 s h d) = (dqt A s h d : EReal) := by
  pointwise [val_main_v195]
  rw [v176 H]
  rfl

end Cert.ReferenceIdeal.Stage
-- ==== Proof.RefSums.lean ====
/- Sums over tokens and heads as sums over blocks, and the host's sums over several axes. -/
module

public import proofs.«01_k».proof.Proof.RefGrad

@[expose] public section

set_option maxRecDepth 16384

noncomputable section

namespace Cert.Proof

/-- A gradient through the normalisation, as the chain rule writes it. -/
theorem back_eq (x g y : Fin 64 → ℝ) (d : Fin 64) :
    y d * g d * rinv x
      + x d * ((∑ e, x e * (y e * g e)) * (-(1 / 2) * (rinv x / ((∑ e, x e * x e) / 64 + eps))) / 64)
      + (∑ e, x e * (y e * g e)) * (-(1 / 2) * (rinv x / ((∑ e, x e * x e) / 64 + eps))) / 64 * x d
      = back x g y d := by
  have hu := mean_pos x
  have hr : rinv x * rinv x = 1 / ((∑ e, x e * x e) / 64 + eps) := by
    rw [rinv, ← mul_inv, Real.mul_self_sqrt hu.le, one_div]
  have hs : ∑ e, y e * g e * hat x e = (∑ e, x e * (y e * g e)) * rinv x := by
    rw [Finset.sum_mul]
    exact Finset.sum_congr rfl fun e _ => by rw [hat]; ring
  rw [back, hs, hat, div_eq_mul_one_div (rinv x), ← hr]
  ring

theorem back_add (x g y z : Fin 64 → ℝ) (d : Fin 64) : back x g (fun e => y e + z e) d = back x g y d + back x g z d := by
  have hs : ∑ e, (y e + z e) * g e * hat x e = (∑ e, y e * g e * hat x e) + ∑ e, z e * g e * hat x e := by
    rw [← Finset.sum_add_distrib]
    exact Finset.sum_congr rfl fun e _ => by ring
  simp only [back, hs]
  ring

theorem back_zero (x g : Fin 64 → ℝ) (d : Fin 64) : back x g (fun _ => 0) d = 0 := by
  simp [back]

theorem sum_tokens (f : Fin 8192 → ℝ) : ∑ s, f s = ∑ n : Fin 64, ∑ i : Fin 128, f ⟨n.val * 128 + i.val, by omega⟩ := by
  rw [← Fintype.sum_prod_type' (f := fun (n : Fin 64) (i : Fin 128) => f ⟨n.val * 128 + i.val, by omega⟩)]
  refine (Fintype.sum_equiv (finProdFinEquiv (m := 64) (n := 128)) _ _ fun x => congrArg f (Fin.ext ?_)).symm
  show x.1.val * 128 + x.2.val = x.2.val + 128 * x.1.val
  ring

theorem sum_heads (f : Fin 32 → ℝ) : ∑ h, f h = ∑ k : Fin 4, ∑ g : Fin 8, f ⟨k.val * 8 + g.val, by omega⟩ := by
  rw [← Fintype.sum_prod_type' (f := fun (k : Fin 4) (g : Fin 8) => f ⟨k.val * 8 + g.val, by omega⟩)]
  refine (Fintype.sum_equiv (finProdFinEquiv (m := 4) (n := 8)) _ _ fun x => congrArg f (Fin.ext ?_)).symm
  show x.1.val * 8 + x.2.val = x.2.val + 8 * x.1.val
  ring

theorem sum_band (f : Fin 256 → ℝ) :
    ∑ j, f j = (∑ i : Fin 128, f ⟨i.val, by omega⟩) + ∑ i : Fin 128, f ⟨128 + i.val, by omega⟩ :=
  Fin.sum_univ_add (a := 128) (b := 128) f

/-- What every block but the last sends on, as what every block but the first receives. -/
theorem sum_next (G : Fin 64 → ℝ) (h0 : G 0 = 0) : (∑ m : Fin 64, if h : m.val + 1 < 64 then G ⟨m.val + 1, h⟩ else 0) = ∑ n, G n := by
  rw [Fin.sum_univ_castSucc, Fin.sum_univ_succ (f := G), h0, zero_add]
  have hl : (if h : (Fin.last 63).val + 1 < 64 then G ⟨(Fin.last 63).val + 1, h⟩ else 0) = 0 := dif_neg (by simp)
  rw [hl, add_zero]
  exact Finset.sum_congr rfl fun m _ => dif_pos (by simp only [Fin.val_castSucc]; omega)

end Cert.Proof

namespace Cert.ReferenceIdeal.Stage

open Cert.ReferenceIdeal Cert.ReferenceIdeal.Read Cert.Proof
open Idealize.ShloMosaic Idealize.ShloMosaic.TcCoe Idealize.ShloMosaic.Tactic

/-- A host's sum at one place, over any way to number the places that are summed. -/
theorem reduce_of {s t : Shape} {axes : List (Fin s.rank)} {ι : Type} [Fintype ι] (h : s.ReducesTo axes t) (x : s.Idx → EReal)
    (j : t.Idx) (f : ι → s.Idx) (inv : s.Idx → ι) (h1 : ∀ a, h.drop (f a) = j) (h2 : ∀ a, inv (f a) = a)
    (h3 : ∀ i, h.drop i = j → f (inv i) = i) : Ideal.hostReduceAdd h x 0 j = ∑ a, x (f a) := by
  unfold Ideal.hostReduceAdd
  rw [zero_add]
  refine Finset.sum_bij' (fun i _ => inv i) (fun a _ => f a) (fun i _ => Finset.mem_univ _) (fun a _ => ?_) (fun i hi => ?_)
    (fun a _ => h2 a) (fun i hi => ?_)
  · exact Finset.mem_filter.mpr ⟨Finset.mem_univ _, h1 a⟩
  · exact h3 i (Finset.mem_filter.mp hi).2
  · exact congrArg x (h3 i (Finset.mem_filter.mp hi).2).symm

/-- The host's sum over the first two of three axes. -/
theorem reduce_01 {a b c : ℕ} (h : (⟨3, ![a, b, c]⟩ : Shape).ReducesTo [0, 1] (⟨1, ![c]⟩ : Shape)) (x : (⟨3, ![a, b, c]⟩ : Shape).Idx → EReal)
    (d : Fin c) : Ideal.hostReduceAdd h x 0 (ix1 d) = ∑ s : Fin a, ∑ k : Fin b, x (ix3 s k d) := by
  rw [← Fintype.sum_prod_type' (f := fun s k => x (ix3 s k d))]
  refine reduce_of h x (ix1 d) (fun p : Fin a × Fin b => ix3 p.1 p.2 d) (fun i => (i 0, i 1)) (fun p => ?_) (fun p => rfl) (fun i hi => ?_)
  · rw [eq_ix1 (h.drop _)]
    exact congrArg ix1 (Fin.ext (h.drop_apply_val _ 0))
  · have e : (i 2).val = d.val := (h.drop_apply_val i 0).symm.trans (congrArg (fun z => (z 0).val) hi)
    refine Eq.trans ?_ (eq_ix3 i).symm
    exact congrArg (ix3 (i 0) (i 1)) (Fin.ext e.symm)

/-- The host's sum over the first and the last two of five axes. -/
theorem reduce_034 {a b c e f : ℕ} (h : (⟨5, ![a, b, c, e, f]⟩ : Shape).ReducesTo [0, 3, 4] (⟨2, ![b, c]⟩ : Shape))
    (x : (⟨5, ![a, b, c, e, f]⟩ : Shape).Idx → EReal) (k : Fin b) (g : Fin c) :
    Ideal.hostReduceAdd h x 0 (ix2 k g) = ∑ n : Fin a, ∑ i : Fin e, ∑ z : Fin f, x (ix5 n k g i z) := by
  rw [Finset.sum_congr rfl fun n _ => (Fintype.sum_prod_type' (f := fun i z => x (ix5 n k g i z))).symm,
    ← Fintype.sum_prod_type' (f := fun n (p : Fin e × Fin f) => x (ix5 n k g p.1 p.2))]
  refine reduce_of h x (ix2 k g) (fun p : Fin a × Fin e × Fin f => ix5 p.1 k g p.2.1 p.2.2) (fun i => (i 0, i 3, i 4)) (fun p => ?_)
    (fun p => rfl) (fun i hi => ?_)
  · rw [eq_ix2 (h.drop _)]
    exact congrArg₂ ix2 (Fin.ext (h.drop_apply_val _ 0)) (Fin.ext (h.drop_apply_val _ 1))
  · have e1 : (i 1).val = k.val := (h.drop_apply_val i 0).symm.trans (congrArg (fun z => (z 0).val) hi)
    have e2 : (i 2).val = g.val := (h.drop_apply_val i 1).symm.trans (congrArg (fun z => (z 1).val) hi)
    refine Eq.trans ?_ (eq_ix5 i).symm
    exact congrArg₂ (fun k g => ix5 (i 0) k g (i 3) (i 4)) (Fin.ext e1.symm) (Fin.ext e2.symm)

end Cert.ReferenceIdeal.Stage
-- ==== Proof.RefValue.lean ====
/- The reference's results over the real numbers: the gradients of the problem. -/
module

public import proofs.«01_k».proof.Proof.RefSums

@[expose] public section

set_option maxRecDepth 16384

noncomputable section

namespace Cert.ReferenceIdeal.Stage

open Cert.ReferenceIdeal Cert.ReferenceIdeal.Read Cert.Proof
open Idealize.ShloMosaic Idealize.ShloMosaic.TcCoe Idealize.ShloMosaic.Tactic

variable {X : Mem} {A : Args} (H : Holds X A)

include H

theorem v170 (h : Fin 32) :
    val_main_v170 (F := Ideal) X.x0 X.x1 X.x2 X.x3 X.x4 X.x5 X.x6 (ix1 h) = (A.dsk h : EReal) := by
  pointwise [val_main_v170, val_main_v169, val_main_v168]
  rw [show val_main_cst_35 (F := Ideal) (Shape.Idx.first Gen.h_S_) = 0 from Ideal.ofBits_zero .f32]
  refine (reduce_034 _ _ _ _).trans ?_
  rw [Args.dsk]
  simp only [coe_sum, Fin.sum_univ_one]
  refine Finset.sum_congr rfl fun n _ => Finset.sum_congr rfl fun i _ => ?_
  pointwise [val_main_v167]
  rw [v165 H]
  refine congrArg (fun x : ℝ => (x : EReal)) ?_
  have h1 : (A.blk n ⟨h.val / 8, by omega⟩).e (row ⟨h.val % 8, by omega⟩ i) 256 = Real.exp ((A.blk n ⟨h.val / 8, by omega⟩).sk (row ⟨h.val % 8, by omega⟩ i)) :=
    dif_neg (by decide)
  have h2 : (A.blk n ⟨h.val / 8, by omega⟩).dpe (row ⟨h.val % 8, by omega⟩ i) 256 = 0 := dif_neg (by decide)
  refine (congrArg₂ (fun x y => x / (A.blk n ⟨h.val / 8, by omega⟩).den (row ⟨h.val % 8, by omega⟩ i)
    * (y - (A.blk n ⟨h.val / 8, by omega⟩).dl (row ⟨h.val % 8, by omega⟩ i))) h1 h2).trans ?_
  show _ = -(Real.exp _ / _) * _
  rw [zero_sub, mul_neg, neg_mul]
  rfl

/-- The sum that gives the keys' gain its gradient. -/
theorem v197 (d : Fin 64) :
    val_main_v197 (F := Ideal) X.x0 X.x1 X.x2 X.x3 X.x4 X.x5 X.x6 (ix1 d) = ((∑ s, ∑ k, hat (A.k k s) d * dkt A s k d : ℝ) : EReal) := by
  pointwise [val_main_v197]
  rw [show val_main_cst_41 (F := Ideal) (Shape.Idx.first Gen.h_S_) = 0 from Ideal.ofBits_zero .f32]
  refine (reduce_01 _ _ _).trans ?_
  simp only [coe_sum]
  refine Finset.sum_congr rfl fun s _ => Finset.sum_congr rfl fun k _ => ?_
  rw [val_main_v196_apply, v34 H, v194 H]
  exact (EReal.coe_mul _ _).symm

theorem v201 (d : Fin 64) :
    val_main_v201 (F := Ideal) X.x0 X.x1 X.x2 X.x3 X.x4 X.x5 X.x6 (ix1 d) = ((∑ s, ∑ k, hat (A.k k s) d * dkt A s k d : ℝ) : EReal) := by
  pointwise [val_main_v201]
  rw [show val_main_cst_42 (F := Ideal) (Shape.Idx.first Gen.h_S_) = 0 from Ideal.ofBits_zero .f32]
  refine (reduce_01 _ _ _).trans ?_
  rw [Fin.sum_univ_one, Fin.sum_univ_one]
  pointwise [val_main_v198]
  exact v197 H d

theorem v217 (d : Fin 64) :
    val_main_v217 (F := Ideal) X.x0 X.x1 X.x2 X.x3 X.x4 X.x5 X.x6 (ix1 d) = ((∑ s, ∑ h, hat (A.q h s) d * dqt A s h d : ℝ) : EReal) := by
  pointwise [val_main_v217]
  rw [show val_main_cst_46 (F := Ideal) (Shape.Idx.first Gen.h_S_) = 0 from Ideal.ofBits_zero .f32]
  refine (reduce_01 _ _ _).trans ?_
  simp only [coe_sum]
  refine Finset.sum_congr rfl fun s _ => Finset.sum_congr rfl fun k _ => ?_
  rw [val_main_v216_apply, v18 H, v195 H]
  exact (EReal.coe_mul _ _).symm

theorem v221 (d : Fin 64) :
    val_main_v221 (F := Ideal) X.x0 X.x1 X.x2 X.x3 X.x4 X.x5 X.x6 (ix1 d) = ((∑ s, ∑ h, hat (A.q h s) d * dqt A s h d : ℝ) : EReal) := by
  pointwise [val_main_v221]
  rw [show val_main_cst_47 (F := Ideal) (Shape.Idx.first Gen.h_S_) = 0 from Ideal.ofBits_zero .f32]
  refine (reduce_01 _ _ _).trans ?_
  rw [Fin.sum_univ_one, Fin.sum_univ_one]
  pointwise [val_main_v218]
  exact v217 H d

omit H in
/-- The queries' gain: the sum over tokens and heads is the sum over blocks. -/
theorem gain_q (d : Fin 64) : ∑ s, ∑ h, hat (A.q h s) d * dqt A s h d = A.dgq d := by
  rw [sum_tokens, Args.dgq]
  refine Finset.sum_congr rfl fun n _ => ?_
  simp only [sum_heads]
  rw [Finset.sum_comm]
  refine Finset.sum_congr rfl fun k _ => ?_
  rw [Finset.sum_comm, Blk.dgq, ← sum_rows]
  refine Finset.sum_congr rfl fun g _ => Finset.sum_congr rfl fun i _ => ?_
  rw [q_row, mul_comm]
  refine congrArg (· * _) ?_
  rw [dqt]
  have e1 : Args.blkOf ⟨n.val * 128 + i.val, by omega⟩ = n := Fin.ext (by simp only [Args.blkOf]; omega)
  have e2 : (⟨(k.val * 8 + g.val) / 8, by omega⟩ : Fin 4) = k := Fin.ext (by simp only; omega)
  have e3 : (⟨(k.val * 8 + g.val) % 8 * 128 + (n.val * 128 + i.val) % 128, by omega⟩ : Fin 1024) = row g i :=
    Fin.ext (by simp only [row]; omega)
  rw [e1]
  exact (congrArg (fun z => (A.blk n z).dqn _ d) e2).trans (congrArg (fun z => (A.blk n k).dqn z d) e3)

omit H in
/-- No row sees the first block's keys before the start. -/
theorem dkn_start (n : Fin 64) (k : Fin 4) (j : Fin 256) (h : ¬(0 < n.val ∨ 128 ≤ j.val)) (d : Fin 64) : (A.blk n k).dkn j d = 0 := by
  rw [Blk.dkn, Finset.sum_eq_zero, zero_mul]
  intro R _
  rw [Blk.ds, Blk.p_zero _ (fun e => h e.2.2), zero_mul, zero_mul]

omit H in
/-- The keys' gain likewise. -/
theorem gain_k (d : Fin 64) : ∑ s, ∑ k, hat (A.k k s) d * dkt A s k d = A.dgk d := by
  rw [Args.dgk, Finset.sum_comm, Finset.sum_comm (f := fun n k => (A.blk n k).dgk d)]
  refine Finset.sum_congr rfl fun k _ => ?_
  rw [sum_tokens]
  have hb : ∀ (n : Fin 64) (i : Fin 128), hat (A.k k ⟨n.val * 128 + i.val, by omega⟩) d * dkt A ⟨n.val * 128 + i.val, by omega⟩ k d
      = (A.blk n k).dkn ⟨128 + i.val, by omega⟩ d * hat ((A.blk n k).k ⟨128 + i.val, by omega⟩) d
        + if h : n.val + 1 < 64 then (A.blk ⟨n.val + 1, h⟩ k).dkn ⟨i.val, by omega⟩ d * hat ((A.blk ⟨n.val + 1, h⟩ k).k ⟨i.val, by omega⟩) d else 0 := by
    intro n i
    have e1 : Args.blkOf ⟨n.val * 128 + i.val, by omega⟩ = n := Fin.ext (by simp only [Args.blkOf]; omega)
    have e2 : (A.blk n k).k ⟨128 + i.val, by omega⟩ = A.k k ⟨n.val * 128 + i.val, by omega⟩ :=
      congrArg (A.k k) (band_of _ (by dsimp only; omega))
    have e3 : (⟨128 + (n.val * 128 + i.val) % 128, by omega⟩ : Fin 256) = ⟨128 + i.val, by omega⟩ := Fin.ext (by simp only; omega)
    have e4 : (⟨(n.val * 128 + i.val) % 128, by omega⟩ : Fin 256) = ⟨i.val, by omega⟩ := Fin.ext (by simp only; omega)
    have e5 : (n.val * 128 + i.val) / 128 = n.val := by omega
    rw [e2, dkt, e1]
    simp only [e3, e4, e5]
    rw [mul_add, mul_comm (hat _ d)]
    refine congrArg₂ (· + ·) rfl ?_
    split
    · rename_i h
      have e6 : (A.blk ⟨n.val + 1, h⟩ k).k ⟨i.val, by omega⟩ = A.k k ⟨n.val * 128 + i.val, by omega⟩ :=
        congrArg (A.k k) (band_of _ (by dsimp only; omega))
      rw [e6, mul_comm]
    · exact mul_zero _
  simp only [hb, Finset.sum_add_distrib]
  rw [add_comm]
  simp only [Blk.dgk, sum_band, Finset.sum_add_distrib]
  refine congrArg (· + _) ?_
  rw [Finset.sum_comm, Finset.sum_comm (s := Finset.univ (α := Fin 64))]
  refine Finset.sum_congr rfl fun i _ => ?_
  refine sum_next (fun n => (A.blk n k).dkn ⟨i.val, by omega⟩ d * hat ((A.blk n k).k ⟨i.val, by omega⟩) d) ?_
  rw [dkn_start _ _ _ (by simp), zero_mul]

/-- The keys' gradient. -/
theorem v215 (s : Fin 8192) (k : Fin 4) (d : Fin 64) :
    val_main_v215 (F := Ideal) X.x0 X.x1 X.x2 X.x3 X.x4 X.x5 X.x6 (ix3 s k d) = (A.dk k s d : EReal) := by
  pointwise [val_main_v215, val_main_v214, val_main_v213, val_main_v212, val_main_v211, val_main_v210, val_main_v209, val_main_v208, val_main_v207, val_main_v206, val_main_v205, val_main_v204, val_main_v203, val_main_v202, val_main_v200, val_main_v199, val_main_v35, val_main_v4, val_main_v1, val_main_cst_43, val_main_cst_44, val_main_cst_45]
  simp only [Fin.sum_univ_one]
  rw [v29 H, v32 H, word_64]
  simp only [v194 H, H.k, H.gk, ← EReal.coe_mul, ← coe_sum]
  rw [div_real _ (by norm_num)]
  simp only [← EReal.coe_mul, ← EReal.coe_add]
  refine congrArg (fun x : ℝ => (x : EReal)) ?_
  refine (back_eq (A.k k s) A.gk (dkt A s k) d).trans ?_
  refine (back_add (A.k k s) A.gk _ _ d).trans ?_
  unfold Args.dk Blk.dk
  have e1 : (A.blk (Args.blkOf s) k).k ⟨128 + s.val % 128, by omega⟩ = A.k k s :=
    congrArg (A.k k) (band_of _ (by simp only [Args.blkOf]; omega))
  refine congrArg₂ (· + ·) (congrArg (fun x => back x A.gk _ d) e1.symm) ?_
  split
  · rename_i h
    have e2 : (A.blk ⟨s.val / 128 + 1, h⟩ k).k ⟨s.val % 128, by omega⟩ = A.k k s :=
      congrArg (A.k k) (band_of _ (by dsimp only; omega))
    exact congrArg (fun x => back x A.gk _ d) e2.symm
  · exact back_zero _ _ _

/-- The queries' gradient. -/
theorem v235 (s : Fin 8192) (h : Fin 32) (d : Fin 64) :
    val_main_v235 (F := Ideal) X.x0 X.x1 X.x2 X.x3 X.x4 X.x5 X.x6 (ix3 s h d) = (A.dq h s d : EReal) := by
  pointwise [val_main_v235, val_main_v234, val_main_v233, val_main_v232, val_main_v231, val_main_v230, val_main_v229, val_main_v228, val_main_v227, val_main_v226, val_main_v225, val_main_v224, val_main_v223, val_main_v222, val_main_v220, val_main_v219, val_main_v19, val_main_v3, val_main_v0, val_main_cst_48, val_main_cst_49, val_main_cst_50]
  simp only [Fin.sum_univ_one]
  rw [v13 H, v16 H, word_64]
  simp only [v195 H, H.q, H.gq, ← EReal.coe_mul, ← coe_sum]
  rw [div_real _ (by norm_num)]
  simp only [← EReal.coe_mul, ← EReal.coe_add]
  refine congrArg (fun x : ℝ => (x : EReal)) ?_
  refine (back_eq (A.q h s) A.gq (dqt A s h) d).trans ?_
  unfold Args.dq Blk.dq
  have e1 : (A.blk (Args.blkOf s) ⟨h.val / 8, by omega⟩).q ⟨h.val % 8 * 128 + s.val % 128, by omega⟩ = A.q h s := by
    refine congrArg₂ A.q (Fin.ext ?_) (Fin.ext ?_)
    · simp only [Args.head]
      omega
    · simp only [Args.tok, Args.blkOf]
      omega
  exact congrArg (fun x => back x A.gq _ d) e1.symm

theorem v237 (h : Fin 32) (s : Fin 8192) (d : Fin 64) :
    val_main_v237 (F := Ideal) X.x0 X.x1 X.x2 X.x3 X.x4 X.x5 X.x6 (ix3 h s d) = (A.dq h s d : EReal) := by
  pointwise [val_main_v237, val_main_v236]
  exact v235 H s h d

theorem v239 (k : Fin 4) (s : Fin 8192) (d : Fin 64) :
    val_main_v239 (F := Ideal) X.x0 X.x1 X.x2 X.x3 X.x4 X.x5 X.x6 (ix3 k s d) = (A.dk k s d : EReal) := by
  pointwise [val_main_v239, val_main_v238]
  exact v215 H s k d

theorem v241 (k : Fin 4) (s : Fin 8192) (d : Fin 64) :
    val_main_v241 (F := Ideal) X.x0 X.x1 X.x3 X.x4 X.x5 X.x6 (ix3 k s d) = (A.dv k s d : EReal) := by
  pointwise [val_main_v241, val_main_v240]
  exact v186 H s k d

theorem v243 (r : Fin 8) (d : Fin 64) :
    val_main_v243 (F := Ideal) X.x0 X.x1 X.x2 X.x3 X.x4 X.x5 X.x6 (ix2 r d) = ((if r.val = 0 then A.dgq d else 0 : ℝ) : EReal) := by
  pointwise [val_main_v243, val_main_v242]
  rw [v221 H, gain_q]
  split
  · rw [if_pos (by omega)]
  · rw [if_neg (by omega)]
    refine Eq.trans ?_ EReal.coe_zero.symm
    exact (show _ = (((0#32 : BitVec 32).toInt : ℝ) : EReal) from rfl).trans (by simp)

theorem v245 (r : Fin 8) (d : Fin 64) :
    val_main_v245 (F := Ideal) X.x0 X.x1 X.x2 X.x3 X.x4 X.x5 X.x6 (ix2 r d) = ((if r.val = 0 then A.dgk d else 0 : ℝ) : EReal) := by
  pointwise [val_main_v245, val_main_v244]
  rw [v201 H, gain_k]
  split
  · rw [if_pos (by omega)]
  · rw [if_neg (by omega)]
    refine Eq.trans ?_ EReal.coe_zero.symm
    exact (show _ = (((0#32 : BitVec 32).toInt : ℝ) : EReal) from rfl).trans (by simp)

theorem v247 (h : Fin 32) (l : Fin 128) :
    val_main_v247 (F := Ideal) X.x0 X.x1 X.x2 X.x3 X.x4 X.x5 X.x6 (ix2 h l) = (A.dsk h : EReal) := by
  pointwise [val_main_v247, val_main_v246]
  exact v170 H h

end Cert.ReferenceIdeal.Stage
-- ==== Proof.RefRun.lean ====
/- The reference's run over the extended reals: its six results are the problem's gradients, its arguments stay. -/
module

public import proofs.«01_k».proof.Proof.RefValue

@[expose] public section

set_option maxRecDepth 16384

noncomputable section

namespace Cert.ReferenceIdeal.Stage

open Cert.ReferenceIdeal Cert.ReferenceIdeal.Gen Cert.ReferenceIdeal.Read Cert.Proof
open Idealize.ShloMosaic Idealize.ShloMosaic.TcCoe Idealize.ShloMosaic.Tactic

/-- The arguments in a memory. -/
def memOf (m : (ℓ : Loc nD τ sig) → Buf (Elt Ideal) ℓ) (c : Dev nD) : Mem where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)

theorem values (m : (ℓ : Loc nD τ sig) → Buf (Elt Ideal) ℓ) (ρ : Dev nD → PrngReg) (A : Dev nD → Args) (H : ∀ c, Holds (memOf m c) (A c)) :
    θ_run defs (onTc (τ := τ) (main (F := Ideal))) ⟨m, fun _ => 0, ρ⟩ (fun r => ∀ c : Dev nD,
      r.2.mem ((c.tc : Thread nD τ).loc main_v237) = (fun i : S32x8192x64.Idx => ((A c).dq (i 0) (i 1) (i 2) : EReal))
      ∧ r.2.mem ((c.tc : Thread nD τ).loc main_v239) = (fun i : S4x8192x64.Idx => ((A c).dk (i 0) (i 1) (i 2) : EReal))
      ∧ r.2.mem ((c.tc : Thread nD τ).loc main_v241) = (fun i : S4x8192x64.Idx => ((A c).dv (i 0) (i 1) (i 2) : EReal))
      ∧ r.2.mem ((c.tc : Thread nD τ).loc main_v243) = (fun i : S8x64.Idx => ((if (i 0).val = 0 then (A c).dgq (i 1) else 0 : ℝ) : EReal))
      ∧ r.2.mem ((c.tc : Thread nD τ).loc main_v245) = (fun i : S8x64.Idx => ((if (i 0).val = 0 then (A c).dgk (i 1) else 0 : ℝ) : EReal))
      ∧ r.2.mem ((c.tc : Thread nD τ).loc main_v247) = (fun i : S32x128.Idx => ((A c).dsk (i 0) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_) (Cert.ReferenceIdeal.Value.run m ρ)
  obtain ⟨h0, h1, h2, h3, h4, h5, h6⟩ := h c
  refine ⟨h0.trans ((val_main_v237_eq (F := Ideal) _).trans (funext fun i => ?_)), h1.trans ((val_main_v239_eq (F := Ideal) _).trans (funext fun i => ?_)),
    h2.trans ((val_main_v241_eq (F := Ideal) _).trans (funext fun i => ?_)), h3.trans ((val_main_v243_eq (F := Ideal) _).trans (funext fun i => ?_)),
    h4.trans ((val_main_v245_eq (F := Ideal) _).trans (funext fun i => ?_)), h5.trans ((val_main_v247_eq (F := Ideal) _).trans (funext fun i => ?_)), h6⟩
  · exact (congrArg (val_main_v237 (F := Ideal) (memOf m c).x0 (memOf m c).x1 (memOf m c).x2 (memOf m c).x3 (memOf m c).x4 (memOf m c).x5 (memOf m c).x6) (eq_ix3 i)).trans
      (v237 (H c) (i 0) (i 1) (i 2))
  · exact (congrArg (val_main_v239 (F := Ideal) (memOf m c).x0 (memOf m c).x1 (memOf m c).x2 (memOf m c).x3 (memOf m c).x4 (memOf m c).x5 (memOf m c).x6) (eq_ix3 i)).trans
      (v239 (H c) (i 0) (i 1) (i 2))
  · exact (congrArg (val_main_v241 (F := Ideal) (memOf m c).x0 (memOf m c).x1 (memOf m c).x3 (memOf m c).x4 (memOf m c).x5 (memOf m c).x6) (eq_ix3 i)).trans
      (v241 (H c) (i 0) (i 1) (i 2))
  · exact (congrArg (val_main_v243 (F := Ideal) (memOf m c).x0 (memOf m c).x1 (memOf m c).x2 (memOf m c).x3 (memOf m c).x4 (memOf m c).x5 (memOf m c).x6) (eq_ix2 i)).trans
      (v243 (H c) (i 0) (i 1))
  · exact (congrArg (val_main_v245 (F := Ideal) (memOf m c).x0 (memOf m c).x1 (memOf m c).x2 (memOf m c).x3 (memOf m c).x4 (memOf m c).x5 (memOf m c).x6) (eq_ix2 i)).trans
      (v245 (H c) (i 0) (i 1))
  · exact (congrArg (val_main_v247 (F := Ideal) (memOf m c).x0 (memOf m c).x1 (memOf m c).x2 (memOf m c).x3 (memOf m c).x4 (memOf m c).x5 (memOf m c).x6) (eq_ix2 i)).trans
      (v247 (H c) (i 0) (i 1))

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => (h c).2.2.2.2.2.2, sem_eq_zero_of_no_sems (by decide) r.2⟩) (Cert.ReferenceIdeal.Value.run m ρ)

end Cert.ReferenceIdeal.Stage
-- ==== Proof.MlpSums.lean ====
/- Products of matrices over the extended reals, and the gradient of the squared rectifier. -/
module

public import Idealize.ShloMosaic.Lib.Pointwise

@[expose] public section

noncomputable section

namespace Cert.Proof

open Idealize.ShloMosaic

/-- An entry of `x w`. -/
def mulNN {a n b : ℕ} (x : (⟨2, ![a, n]⟩ : Shape).Idx → EReal) (w : (⟨2, ![n, b]⟩ : Shape).Idx → EReal) (i : Fin a) (j : Fin b) : EReal :=
  ∑ k : Fin n, x (ix2 i k) * w (ix2 k j)

/-- An entry of `x wᵀ`. -/
def mulNT {a n b : ℕ} (x : (⟨2, ![a, n]⟩ : Shape).Idx → EReal) (w : (⟨2, ![b, n]⟩ : Shape).Idx → EReal) (i : Fin a) (j : Fin b) : EReal :=
  ∑ k : Fin n, x (ix2 i k) * w (ix2 j k)

/-- An entry of `xᵀ w`. -/
def mulTN {a n b : ℕ} (x : (⟨2, ![n, a]⟩ : Shape).Idx → EReal) (w : (⟨2, ![n, b]⟩ : Shape).Idx → EReal) (i : Fin a) (j : Fin b) : EReal :=
  ∑ k : Fin n, x (ix2 k i) * w (ix2 k j)

/-- `xᵀ w` is the transpose of `wᵀ x`. -/
theorem mulTN_comm {a n b : ℕ} (x : (⟨2, ![n, a]⟩ : Shape).Idx → EReal) (w : (⟨2, ![n, b]⟩ : Shape).Idx → EReal) (i : Fin a) (j : Fin b) :
    mulTN x w i j = mulTN w x j i :=
  Finset.sum_congr rfl fun _ _ => mul_comm _ _

/-- Four matrices side by side, as one. -/
def sideBySide (g : (⟨3, ![4, 8192, 2048]⟩ : Shape).Idx → EReal) (i : (⟨2, ![8192, 8192]⟩ : Shape).Idx) : EReal :=
  g (ix3 ⟨(i 1).val / 2048, by have : (i 1).val < 8192 := (i 1).isLt; omega⟩ (i 0) ⟨(i 1).val % 2048, by omega⟩)

/-- The gradient of a squared rectifier, on all of the extended reals: `g` times twice the rectified value is `g` times it taken
    twice where the value is positive, and zero elsewhere. -/
theorem squared_relu_grad (g p : EReal) :
    g * (2 * max p 0) = if 0 < p then max p 0 * g + g * max p 0 else 0 := by
  split_ifs with h
  · rw [max_eq_left h.le, mul_comm p g, ← mul_assoc, mul_comm g 2, mul_assoc, ← one_add_one_eq_two, EReal.right_distrib_of_nonneg zero_le_one zero_le_one, one_mul]
  · rw [max_eq_right (not_lt.mp h), mul_zero, mul_zero]

theorem sideBySide_pieces (g : (⟨3, ![4, 8192, 2048]⟩ : Shape).Idx → EReal) (r x : Fin 8192) :
    (if h : x.val < 2048 then g (ix3 0 r ⟨x.val, h⟩)
      else if h : x.val - 2048 < 2048 then g (ix3 1 r ⟨x.val - 2048, h⟩)
      else if h : x.val - 2048 - 2048 < 2048 then g (ix3 2 r ⟨x.val - 2048 - 2048, h⟩)
      else g (ix3 3 r ⟨x.val - 2048 - 2048 - 2048, by omega⟩)) = sideBySide g (ix2 r x) := by
  unfold sideBySide
  split_ifs
  · exact congrArg₂ (fun a b => g (ix3 a r b)) (Fin.ext (show 0 = x.val / 2048 by omega)) (Fin.ext (show x.val = x.val % 2048 by omega))
  · exact congrArg₂ (fun a b => g (ix3 a r b)) (Fin.ext (show 1 = x.val / 2048 by omega)) (Fin.ext (show x.val - 2048 = x.val % 2048 by omega))
  · exact congrArg₂ (fun a b => g (ix3 a r b)) (Fin.ext (show 2 = x.val / 2048 by omega)) (Fin.ext (show x.val - 2048 - 2048 = x.val % 2048 by omega))
  · exact congrArg₂ (fun a b => g (ix3 a r b)) (Fin.ext (show 3 = x.val / 2048 by omega)) (Fin.ext (show x.val - 2048 - 2048 - 2048 = x.val % 2048 by omega))

end Cert.Proof

end
-- ==== Proof.Mlp1Fwd.lean ====
/- The first product of the MLP, with the rectifier and its square: what the call leaves at an index of its two results. -/
module

public import proofs.«01_k».proof.Proof.Gen.Kernel2Ideal.Value
public import proofs.«01_k».proof.Proof.Gen.Reference2Ideal.Run
public import proofs.«01_k».proof.Proof.MlpSums
public import Idealize.ShloMosaic.Lib.Pipeline.ValueKit

@[expose] public section

set_option maxRecDepth 16384

noncomputable section

namespace Cert.Kernel2Ideal.Mlp

open Cert.Kernel2Ideal Cert.Kernel2Ideal.Gen Cert.Proof
open Idealize.ShloMosaic Idealize.ShloMosaic.TcCoe Idealize.ShloMosaic.Tactic

/-- The sum of a point's product, from the cleared accumulator. -/
theorem product (x0 : Vec Ideal S1024x2048 .bf16) (x1 : Vec Ideal S2048x2048 .bf16) (r : Fin 1024) (s : Fin 2048) :
    k0_pay2 (F := Ideal) x0 x1 (k0_pay1 (F := Ideal)) (ix2 r s) = ∑ k : Fin 2048, x0 (ix2 r k) * x1 (ix2 k s) := by
  pointwise [k0_pay2, k0_pay1, dot_S1024x2048_S2048x2048_S1024x2048_1_0_0_1_n_n]

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 ⟨t.val / 4 * 1024 + r.val, by have := t.isLt; have : cfg0.N = 32 := N_0; omega⟩ k) := by
  blk_ext! [iblk, V, idx t]

theorem blk1 (c : Dev nD) (t : Fin cfg0.N) (k : Fin 2048) (s : Fin 2048) :
    iblk m c 1 t (ix2 k s) = m ((c : Thread nD τ).loc main_arg1) (ix2 k ⟨t.val % 4 * 2048 + s.val, by omega⟩) := by
  blk_ext! [iblk, V, idx t]

/-- The product, at an index of the results. -/
def pre (c : Dev nD) (i : S8192x8192.Idx) : EReal :=
  mulNN (m ((c : Thread nD τ).loc main_arg0)) (m ((c : Thread nD τ).loc main_arg1)) (i 0) (i 1)

theorem product_at (c : Dev nD) (t : Fin cfg0.N) (y : S1024x2048.Idx) (i : S8192x8192.Idx)
    (e0 : (i 0).val = t.val / 4 * 1024 + (y 0).val) (e1 : (i 1).val = t.val % 4 * 2048 + (y 1).val) :
    k0_pay2 (F := Ideal) (iblk m c 0 t) (iblk m c 1 t) (k0_pay1 (F := Ideal)) y = pre m c i := by
  obtain ⟨r, s, rfl⟩ : ∃ (r : Fin 1024) (s : Fin 2048), y = ix2 r s := ⟨y 0, y 1, eq_ix2 y⟩
  rw [product]
  unfold pre mulNN
  refine Finset.sum_congr rfl fun k _ => ?_
  rw [blk0, blk1]
  congr 2
  · exact congrArg (fun a => ix2 a k) (Fin.ext e0.symm)
  · exact congrArg (fun a => ix2 k a) (Fin.ext e1.symm)

theorem arr2 (c : Dev nD) : (dats m 0 c).arrAt 2 cfg0.N = fun i : S8192x8192.Idx => max (pre m c i) 0 := by
  refine (dats m 0 c).arrAt_eq_of_covers 2 _ (by decide +kernel) fun t hf y => ?_
  have e0 : (((win0_2.blk t).view.emb y) 0 : ℕ) = t.val / 4 * 1024 + (y 0).val := by blk_simp [idx t]; try omega
  have e1 : (((win0_2.blk t).view.emb y) 1 : ℕ) = t.val % 4 * 2048 + (y 1).val := by blk_simp [idx t]; try omega
  blk_simp
  rw [after0_2, outsAt0]
  frame_out
  pointwise [k0_pay4, k0_pay3]
  exact congrArg (fun p : EReal => max p 0) (product_at m c t y _ e0 e1)

theorem arr3 (c : Dev nD) : (dats m 0 c).arrAt 3 cfg0.N = fun i : S8192x8192.Idx => max (pre m c i) 0 * max (pre m c i) 0 := by
  refine (dats m 0 c).arrAt_eq_of_covers 3 _ (by decide +kernel) fun t hf y => ?_
  have e0 : (((win0_3.blk t).view.emb y) 0 : ℕ) = t.val / 4 * 1024 + (y 0).val := by blk_simp [idx t]; try omega
  have e1 : (((win0_3.blk t).view.emb y) 1 : ℕ) = t.val % 4 * 2048 + (y 1).val := by blk_simp [idx t]; try omega
  blk_simp
  rw [after0_3, outsAt0]
  frame_out
  pointwise [k0_pay5, k0_pay3]
  exact congrArg (fun p : EReal => max p 0 * max p 0) (product_at m c t y _ e0 e1)

/-- The call's results: the rectified product and its square. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S8192x8192.Idx => max (pre m c i) 0)
      ∧ r.2.mem ((c : Thread nD τ).loc main_v0_1) = (fun i : S8192x8192.Idx => max (pre m c i) 0 * max (pre m c i) 0)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2.1.trans (arr3 m c), (h c).2.2⟩) (Value.run_blocks m ρ)

end Cert.Kernel2Ideal.Mlp

namespace Cert.Reference2Ideal.Mlp

open Cert.Reference2Ideal Cert.Reference2Ideal.Gen Cert.Proof
open Idealize.ShloMosaic Idealize.ShloMosaic.TcCoe Idealize.ShloMosaic.Tactic

/-- The reference's results from arguments `x` and `w`: the same. -/
theorem values (m : (ℓ : Loc nD τ sig) → Buf (Elt Ideal) ℓ) (ρ : Dev nD → PrngReg) (x : Dev nD → S8192x2048.Idx → EReal) (w : Dev nD → S2048x8192.Idx → EReal)
    (E : ∀ c : Dev nD, m ((c.tc : Thread nD τ).loc main_arg0) = x c ∧ m ((c.tc : Thread nD τ).loc main_arg1) = w c) :
    θ_run defs (onTc (τ := τ) (main (F := Ideal))) ⟨m, fun _ => 0, ρ⟩ fun r => ∀ c : Dev nD,
      r.2.mem ((c.tc : Thread nD τ).loc main_v4) = (fun i : S8192x8192.Idx => max (mulNN (x c) (w c) (i 0) (i 1)) 0)
      ∧ r.2.mem ((c.tc : Thread nD τ).loc main_v6) = (fun i : S8192x8192.Idx => max (mulNN (x c) (w c) (i 0) (i 1)) 0 * max (mulNN (x c) (w c) (i 0) (i 1)) 0)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2.1.trans ?_, (h c).2.2⟩) (Value.run m ρ)
  all_goals
    rw [(E c).1, (E c).2]
    generalize x c = x
    generalize w c = w
    funext i
    rw [eq_ix2 (n0 := 8192) (n1 := 8192) i]
    pointwise [dot_S8192x2048_S2048x8192_S8192x8192_1_0_0_1_n_n, mulNN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2.2, sem_eq_zero_of_no_sems (by decide) r.2⟩) (Value.run m ρ)

end Cert.Reference2Ideal.Mlp

end
-- ==== Proof.Mlp2Fwd.lean ====
/- The second product of the MLP, accumulated over four blocks of the hidden axis, and the scaled residual sum. -/
module

public import proofs.«01_k».proof.Proof.Gen.Kernel3Ideal.Value
public import proofs.«01_k».proof.Proof.Gen.Reference3Ideal.Run
public import proofs.«01_k».proof.Proof.MlpSums
public import Idealize.ShloMosaic.Lib.Pipeline.ValueKit
public import Idealize.ShloMosaic.Lib.Pipeline.ReadBack

@[expose] public section

set_option maxRecDepth 16384

noncomputable section

namespace Cert.Kernel3Ideal.Mlp

open Cert.Kernel3Ideal Cert.Kernel3Ideal.Gen Cert.Proof
open Idealize.ShloMosaic Idealize.ShloMosaic.TcCoe Idealize.ShloMosaic.Tactic

/-- A point's part of the sum. -/
def part (x0 : S1024x2048.Idx → EReal) (x1 : S2048x1024.Idx → EReal) (y : S1024x1024.Idx) : EReal :=
  ∑ k : Fin 2048, x0 (ix2 (y 0) k) * x1 (ix2 k (y 1))

theorem clear (y : S1024x1024.Idx) : k0_pay1 (F := Ideal) y = (0 : EReal) := by
  obtain ⟨r, s, rfl⟩ : ∃ r s : Fin 1024, y = ix2 r s := ⟨y 0, y 1, eq_ix2 y⟩
  pointwise [k0_pay1]

theorem step (x0 : Vec Ideal S1024x2048 .bf16) (x1 : Vec Ideal S2048x1024 .bf16) (a : Vec Ideal S1024x1024 .f32) (y : S1024x1024.Idx) :
    k0_pay2 (F := Ideal) x0 x1 a y = a y + part x0 x1 y := by
  obtain ⟨r, s, rfl⟩ : ∃ r s : Fin 1024, y = ix2 r s := ⟨y 0, y 1, eq_ix2 y⟩
  pointwise [k0_pay2, part, dot_S1024x2048_S2048x1024_S1024x1024_1_0_0_1_n_n]

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![0, t.val / 4 % 2]
    ∧ win0_4.index t = ![t.val / 8, t.val / 4 % 2] ∧ win0_5.index t = ![t.val / 8, t.val / 4 % 2] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 ⟨t.val / 8 * 1024 + r.val, by have := t.isLt; have : cfg0.N = 64 := N_0; omega⟩ ⟨t.val % 4 * 2048 + k.val, by omega⟩) := by
  blk_ext! [iblk, V, idx t]

theorem blk1 (c : Dev nD) (t : Fin cfg0.N) (k : Fin 2048) (s : Fin 1024) :
    iblk m c 1 t (ix2 k s) = m ((c : Thread nD τ).loc main_arg1) (ix2 ⟨t.val % 4 * 2048 + k.val, by omega⟩ ⟨t.val / 4 % 2 * 1024 + s.val, by omega⟩) := by
  blk_ext! [iblk, V, idx t]

theorem blk2 (c : Dev nD) (t : Fin cfg0.N) (r : Fin 1024) (s : Fin 1024) :
    iblk m c 2 t (ix2 r s) = m ((c : Thread nD τ).loc main_arg2) (ix2 ⟨t.val / 8 * 1024 + r.val, by have := t.isLt; have : cfg0.N = 64 := N_0; omega⟩ ⟨t.val / 4 % 2 * 1024 + s.val, by omega⟩) := by
  blk_ext! [iblk, V, idx t]

theorem blk3 (c : Dev nD) (t : Fin cfg0.N) (s : Fin 1024) :
    iblk m c 3 t (ix2 (0 : Fin 1) s) = m ((c : Thread nD τ).loc main_arg3) (ix2 (0 : Fin 1) ⟨t.val / 4 % 2 * 1024 + s.val, by omega⟩) := by
  blk_ext! [iblk, V, idx t]

/-- The accumulator after the body at a point. -/
def acc (c : Dev nD) (n : ℕ) (h : n < cfg0.N) : S1024x1024.Idx → EReal := (outsAt0 m c n h).2.2

theorem acc_first (c : Dev nD) (t : Fin cfg0.N) (h : t.val % 4 = 0) :
    acc m c t.val t.isLt = k0_pay2 (F := Ideal) (iblk m c 0 t) (iblk m c 1 t) (k0_pay1 (F := Ideal)) := by
  unfold acc
  rw [outsAt0_A m c t h (by omega)]
  frame_out

theorem acc_next (c : Dev nD) (t : Fin cfg0.N) (h : ¬t.val % 4 = 0) :
    acc m c t.val t.isLt = k0_pay2 (F := Ideal) (iblk m c 0 t) (iblk m c 1 t) (acc m c (t.val - 1) (Nat.lt_of_le_of_lt (Nat.sub_le _ _) t.isLt)) := by
  unfold acc
  by_cases h' : t.val % 4 = 3
  · rw [outsAt0_C m c t h h']
    frame_out
    rw [read_unread_whole]
  · rw [outsAt0_B m c t h h']
    frame_out
    rw [read_unread_whole]

/-- The product, at an index of the results. -/
def prod (c : Dev nD) (i : S8192x2048.Idx) : EReal :=
  mulNN (m ((c : Thread nD τ).loc main_arg0)) (m ((c : Thread nD τ).loc main_arg1)) (i 0) (i 1)

/-- The accumulator at the last point of a block of the result. -/
theorem acc_last (c : Dev nD) (t : Fin cfg0.N) (h : t.val % 4 = 3) (y : S1024x1024.Idx) (i : S8192x2048.Idx)
    (e0 : (i 0).val = t.val / 8 * 1024 + (y 0).val) (e1 : (i 1).val = t.val / 4 % 2 * 1024 + (y 1).val) :
    acc m c t.val t.isLt y = prod m c i := by
  have := t.isLt
  have : cfg0.N = 64 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  unfold prod mulNN part
  refine Fin.sum_mul_add_congr fun s k hl => ?_
  refine (congrArg₂ (fun a b : EReal => a * b) (blk0 m c _ _ _) (blk1 m c _ _ _)).trans ?_
  congr 2
  · exact congrArg₂ ix2 (Fin.ext (by simp only; omega)) (Fin.ext (by simp only; omega))
  · exact congrArg₂ ix2 (Fin.ext (by simp only; omega)) (Fin.ext (by simp only; omega))

/-- The first result's block, at its last point. -/
theorem out4 (c : Dev nD) (t : Fin cfg0.N) (h : t.val % 4 = 3) (y : S1024x1024.Idx) :
    (outsAt0 m c t.val t.isLt).1 y = acc m c t.val t.isLt y := by
  rw [acc_next m c t (by omega), outsAt0_C m c t (by omega) h]
  unfold acc
  frame_out
  rw [read_unread_whole]
  pointwise [k0_pay3]

/-- The second result's block, at its last point. -/
theorem out5 (c : Dev nD) (t : Fin cfg0.N) (h : t.val % 4 = 3) (r s : Fin 1024) :
    (outsAt0 m c t.val t.isLt).2.1 (ix2 r s)
      = k0_pay4 (F := Ideal) (acc m c t.val t.isLt) (iblk m c 2 t) (iblk m c 3 t) (ix2 r s) := by
  rw [acc_next m c t (by omega), outsAt0_C m c t (by omega) h]
  unfold acc
  frame_out
  rw [read_unread_whole]

/-- The residual stream and the scale, arguments. -/
def given (c : Dev nD) : S8192x2048.Idx → EReal := m ((c : Thread nD τ).loc main_arg2)
def scale (c : Dev nD) : S1x2048.Idx → EReal := m ((c : Thread nD τ).loc main_arg3)

theorem arr4 (c : Dev nD) : (dats m 0 c).arrAt 4 cfg0.N = fun i : S8192x2048.Idx => prod m c i := by
  refine (dats m 0 c).arrAt_eq_of_covers 4 _ (by decide +kernel) fun t hf y => ?_
  have h := (flush0_4 t).mp hf
  have e0 : (((win0_4.blk t).view.emb y) 0 : ℕ) = t.val / 8 * 1024 + (y 0).val := by blk_simp [idx t]; try omega
  have e1 : (((win0_4.blk t).view.emb y) 1 : ℕ) = t.val / 4 % 2 * 1024 + (y 1).val := by blk_simp [idx t]; try omega
  blk_simp
  rw [after0_4]
  exact (out4 m c t h y).trans (acc_last m c t h y _ e0 e1)

theorem sum_at (c : Dev nD) (t : Fin cfg0.N) (h : t.val % 4 = 3) (y : S1024x1024.Idx) (i : S8192x2048.Idx)
    (e0 : (i 0).val = t.val / 8 * 1024 + (y 0).val) (e1 : (i 1).val = t.val / 4 % 2 * 1024 + (y 1).val) :
    (outsAt0 m c t.val t.isLt).2.1 y = given m c i + scale m c (ix2 (0 : Fin 1) (i 1)) * prod m c i := by
  obtain ⟨r, s, rfl⟩ : ∃ r s : Fin 1024, y = ix2 r s := ⟨y 0, y 1, eq_ix2 y⟩
  have ei : ix2 ⟨t.val / 8 * 1024 + r.val, by have := t.isLt; have : cfg0.N = 64 := N_0; omega⟩ ⟨t.val / 4 % 2 * 1024 + s.val, by omega⟩ = i :=
    (congrArg₂ ix2 (Fin.ext e0.symm) (Fin.ext e1.symm)).trans (eq_ix2 (n0 := 8192) (n1 := 2048) i).symm
  rw [out5 m c t h]
  pointwise [k0_pay4]
  rw [acc_last m c t h _ i e0 e1, blk2, blk3, ei]
  unfold given scale
  congr 3
  exact congrArg (fun a => ix2 (0 : Fin 1) a) (Fin.ext e1.symm)

theorem arr5 (c : Dev nD) : (dats m 0 c).arrAt 5 cfg0.N
    = fun i : S8192x2048.Idx => given m c i + scale m c (ix2 (0 : Fin 1) (i 1)) * prod m c i := by
  refine (dats m 0 c).arrAt_eq_of_covers 5 _ (by decide +kernel) fun t hf y => ?_
  have h := (flush0_5 t).mp hf
  have e0 : (((win0_5.blk t).view.emb y) 0 : ℕ) = t.val / 8 * 1024 + (y 0).val := by blk_simp [idx t]; try omega
  have e1 : (((win0_5.blk t).view.emb y) 1 : ℕ) = t.val / 4 % 2 * 1024 + (y 1).val := by blk_simp [idx t]; try omega
  blk_simp
  rw [after0_5]
  exact sum_at m c t h y _ e0 e1

/-- The call's results: the product, and the residual stream with the scaled product added. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S8192x2048.Idx => prod m c i)
      ∧ r.2.mem ((c : Thread nD τ).loc main_v0_1) = (fun i : S8192x2048.Idx => given m c i + scale m c (ix2 (0 : Fin 1) (i 1)) * prod m c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (Value.run_blocks m ρ)

end Cert.Kernel3Ideal.Mlp

namespace Cert.Reference3Ideal.Mlp

open Cert.Reference3Ideal Cert.Reference3Ideal.Gen Cert.Proof
open Idealize.ShloMosaic Idealize.ShloMosaic.TcCoe Idealize.ShloMosaic.Tactic

/-- The reference's results from arguments `x`, `w`, `h` and `d`: the same. -/
theorem values (m : (ℓ : Loc nD τ sig) → Buf (Elt Ideal) ℓ) (ρ : Dev nD → PrngReg) (x : Dev nD → S8192x8192.Idx → EReal) (w : Dev nD → S8192x2048.Idx → EReal)
    (h : Dev nD → S8192x2048.Idx → EReal) (d : Dev nD → S1x2048.Idx → EReal)
    (E : ∀ c : Dev nD, m ((c.tc : Thread nD τ).loc main_arg0) = x c ∧ m ((c.tc : Thread nD τ).loc main_arg1) = w c
      ∧ m ((c.tc : Thread nD τ).loc main_arg2) = h c ∧ m ((c.tc : Thread nD τ).loc main_arg3) = d c) :
    θ_run defs (onTc (τ := τ) (main (F := Ideal))) ⟨m, fun _ => 0, ρ⟩ fun r => ∀ c : Dev nD,
      r.2.mem ((c.tc : Thread nD τ).loc main_v3) = (fun i : S8192x2048.Idx => mulNN (x c) (w c) (i 0) (i 1))
      ∧ r.2.mem ((c.tc : Thread nD τ).loc main_v6) = (fun i : S8192x2048.Idx => h c i + d c (ix2 (0 : Fin 1) (i 1)) * mulNN (x c) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · rw [(E c).1, (E c).2.1]
    generalize x c = x
    generalize w c = w
    funext i
    obtain ⟨r, s, rfl⟩ : ∃ (r : Fin 8192) (s : Fin 2048), i = ix2 r s := ⟨i 0, i 1, eq_ix2 i⟩
    pointwise [dot_S8192x8192_S8192x2048_S8192x2048_1_0_0_1_n_n, mulNN]
  · rw [(E c).1, (E c).2.1, (E c).2.2.1, (E c).2.2.2]
    generalize x c = x
    generalize w c = w
    generalize h c = h
    generalize d c = d
    funext i
    obtain ⟨r, s, rfl⟩ : ∃ (r : Fin 8192) (s : Fin 2048), i = ix2 r s := ⟨i 0, i 1, eq_ix2 i⟩
    pointwise [dot_S8192x8192_S8192x2048_S8192x2048_1_0_0_1_n_n, mulNN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems (by decide) r.2⟩) (Value.run m ρ)

end Cert.Reference3Ideal.Mlp

end
-- ==== Proof.Mlp2Bwd.lean ====
/- The gradient of the MLP's rectified product: the cotangent taken back through the second weight, times twice the rectified
   value. -/
module

public import proofs.«01_k».proof.Proof.Gen.Kernel4Ideal.Value
public import proofs.«01_k».proof.Proof.Gen.Reference4Ideal.Run
public import proofs.«01_k».proof.Proof.MlpSums
public import Idealize.ShloMosaic.Lib.Pipeline.ValueKit

@[expose] public section

set_option maxRecDepth 16384

noncomputable section

namespace Cert.Kernel4Ideal.Mlp

open Cert.Kernel4Ideal Cert.Kernel4Ideal.Gen Cert.Proof
open Idealize.ShloMosaic Idealize.ShloMosaic.TcCoe Idealize.ShloMosaic.Tactic

/-- The sum of a point's product, from the cleared accumulator. -/
theorem product (x0 : Vec Ideal S1024x2048 .bf16) (x1 : Vec Ideal S2048x2048 .bf16) (r : Fin 1024) (s : Fin 2048) :
    k0_pay2 (F := Ideal) x0 x1 (k0_pay1 (F := Ideal)) (ix2 r s) = ∑ k : Fin 2048, x0 (ix2 r k) * x1 (ix2 s k) := by
  pointwise [k0_pay2, k0_pay1, dot_S1024x2048_S2048x2048_S1024x2048_1_1_0_0_n_n]

theorem word_two : Ideal.ofBits .f32 0x40000000#32 = 2 := by
  simp [Ideal.ofBits, Ideal.ieee, -EReal.coe_mul]
  norm_num
  rfl

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 ⟨t.val / 4 * 1024 + r.val, by have := t.isLt; have : cfg0.N = 32 := N_0; omega⟩ k) := by
  blk_ext! [iblk, V, idx t]

theorem blk1 (c : Dev nD) (t : Fin cfg0.N) (s : Fin 2048) (k : Fin 2048) :
    iblk m c 1 t (ix2 s k) = m ((c : Thread nD τ).loc main_arg1) (ix2 ⟨t.val % 4 * 2048 + s.val, by omega⟩ k) := by
  blk_ext! [iblk, V, idx t]

/-- The values before the rectifier, an argument. -/
def given (c : Dev nD) : S8192x8192.Idx → EReal := m ((c : Thread nD τ).loc main_arg2)

/-- The rectified values that the call is given. -/
theorem act (c : Dev nD) (i j : Fin 8192) : V m c main_v1 (ix2 i j) = max (given m c (ix2 i j)) 0 := by
  unfold given V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  pointwise

theorem blk2 (c : Dev nD) (t : Fin cfg0.N) (r : Fin 1024) (s : Fin 2048) :
    iblk m c 2 t (ix2 r s) = V m c main_v1 (ix2 ⟨t.val / 4 * 1024 + r.val, by have := t.isLt; have : cfg0.N = 32 := N_0; omega⟩ ⟨t.val % 4 * 2048 + s.val, by omega⟩) := by
  blk_ext [iblk, idx t]

/-- The product, at an index of the result. -/
def back (c : Dev nD) (i : S8192x8192.Idx) : EReal :=
  mulNT (m ((c : Thread nD τ).loc main_arg0)) (m ((c : Thread nD τ).loc main_arg1)) (i 0) (i 1)

theorem product_at (c : Dev nD) (t : Fin cfg0.N) (r : Fin 1024) (s : Fin 2048) (i : S8192x8192.Idx)
    (e0 : (i 0).val = t.val / 4 * 1024 + r.val) (e1 : (i 1).val = t.val % 4 * 2048 + s.val) :
    k0_pay2 (F := Ideal) (iblk m c 0 t) (iblk m c 1 t) (k0_pay1 (F := Ideal)) (ix2 r s) = back m c i := by
  rw [product]
  unfold back mulNT
  refine Finset.sum_congr rfl fun k _ => ?_
  rw [blk0, blk1]
  congr 2
  · exact congrArg (fun a => ix2 a k) (Fin.ext e0.symm)
  · exact congrArg (fun a => ix2 a k) (Fin.ext e1.symm)

theorem out (c : Dev nD) (t : Fin cfg0.N) (y : S1024x2048.Idx) (i : S8192x8192.Idx)
    (e0 : (i 0).val = t.val / 4 * 1024 + (y 0).val) (e1 : (i 1).val = t.val % 4 * 2048 + (y 1).val) :
    k0_pay3 (F := Ideal) (k0_pay2 (iblk m c 0 t) (iblk m c 1 t) (k0_pay1 (F := Ideal))) (iblk m c 2 t) y
      = back m c i * (2 * max (given m c i) 0) := by
  obtain ⟨r, s, rfl⟩ : ∃ (r : Fin 1024) (s : Fin 2048), y = ix2 r s := ⟨y 0, y 1, eq_ix2 y⟩
  have ei : ix2 ⟨t.val / 4 * 1024 + r.val, by have := t.isLt; have : cfg0.N = 32 := N_0; omega⟩ ⟨t.val % 4 * 2048 + s.val, by omega⟩ = i :=
    (congrArg₂ ix2 (Fin.ext e0.symm) (Fin.ext e1.symm)).trans (eq_ix2 (n0 := 8192) (n1 := 8192) i).symm
  pointwise [k0_pay3]
  rw [product_at m c t r s i e0 e1, blk2, act, ei, word_two]

theorem arr3 (c : Dev nD) : (dats m 0 c).arrAt 3 cfg0.N
    = fun i : S8192x8192.Idx => back m c i * (2 * max (given m c i) 0) := by
  refine (dats m 0 c).arrAt_eq_of_covers 3 _ (by decide +kernel) fun t hf y => ?_
  have e0 : (((win0_3.blk t).view.emb y) 0 : ℕ) = t.val / 4 * 1024 + (y 0).val := by blk_simp [idx t]; try omega
  have e1 : (((win0_3.blk t).view.emb y) 1 : ℕ) = t.val % 4 * 2048 + (y 1).val := by blk_simp [idx t]; try omega
  blk_simp
  rw [after0_3, outsAt0]
  frame_out
  exact out m c t y _ e0 e1

/-- The call's result. -/
theorem values (ρ : Dev nD → PrngReg) : θ_run defs (onTc (τ := τ) (main (F := Ideal))) ⟨m, fun _ => 0, ρ⟩ fun r => ∀ c : Dev nD,
      r.2.mem ((c : Thread nD τ).loc main_v4) = (fun i : S8192x8192.Idx => back m c i * (2 * max (given m c i) 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

end Cert.Kernel4Ideal.Mlp

namespace Cert.Reference4Ideal.Mlp

open Cert.Reference4Ideal Cert.Reference4Ideal.Gen Cert.Proof
open Idealize.ShloMosaic Idealize.ShloMosaic.TcCoe Idealize.ShloMosaic.Tactic

/-- The reference's result from arguments `x`, `w` and `p`: the same. -/
theorem values (m : (ℓ : Loc nD τ sig) → Buf (Elt Ideal) ℓ) (ρ : Dev nD → PrngReg) (x w : Dev nD → S8192x2048.Idx → EReal) (p : Dev nD → S8192x8192.Idx → EReal)
    (E : ∀ c : Dev nD, m ((c.tc : Thread nD τ).loc main_arg0) = x c ∧ m ((c.tc : Thread nD τ).loc main_arg1) = w c ∧ m ((c.tc : Thread nD τ).loc main_arg2) = p c) :
    θ_run defs (onTc (τ := τ) (main (F := Ideal))) ⟨m, fun _ => 0, ρ⟩ fun r => ∀ c : Dev nD,
      r.2.mem ((c.tc : Thread nD τ).loc main_v16) = (fun i : S8192x8192.Idx => mulNT (x c) (w c) (i 0) (i 1) * (2 * max (p c i) 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  rw [(E c).1, (E c).2.1, (E c).2.2]
  generalize x c = x
  generalize w c = w
  generalize p c = p
  funext i
  obtain ⟨r, s, rfl⟩ : ∃ r s : Fin 8192, i = ix2 r s := ⟨i 0, i 1, eq_ix2 i⟩
  rw [squared_relu_grad]
  pointwise [dot_S8192x2048_S8192x2048_S8192x8192_1_1_0_0_n_n, mulNT]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (Value.run m ρ)

end Cert.Reference4Ideal.Mlp

end
-- ==== Proof.Mlp2Wgrad.lean ====
/- The gradient of the MLP's second weight: the transposed square of the rectified values times the cotangent, accumulated over four
   blocks of the tokens. -/
module

public import proofs.«01_k».proof.Proof.Gen.Kernel5Ideal.Value
public import proofs.«01_k».proof.Proof.Gen.Reference5Ideal.Run
public import proofs.«01_k».proof.Proof.MlpSums
public import Idealize.ShloMosaic.Lib.Pipeline.ValueKit
public import Idealize.ShloMosaic.Lib.Pipeline.ReadBack

@[expose] public section

set_option maxRecDepth 16384

noncomputable section

namespace Cert.Kernel5Ideal.Mlp

open Cert.Kernel5Ideal Cert.Kernel5Ideal.Gen Cert.Proof
open Idealize.ShloMosaic Idealize.ShloMosaic.TcCoe Idealize.ShloMosaic.Tactic

/-- A point's part of the sum. -/
def part (x0 : S2048x2048.Idx → EReal) (x1 : S2048x1024.Idx → EReal) (y : S2048x1024.Idx) : EReal :=
  ∑ k : Fin 2048, x0 (ix2 k (y 0)) * x1 (ix2 k (y 1))

theorem clear (y : S2048x1024.Idx) : k0_pay1 (F := Ideal) y = (0 : EReal) := by
  obtain ⟨r, s, rfl⟩ : ∃ (r : Fin 2048) (s : Fin 1024), y = ix2 r s := ⟨y 0, y 1, eq_ix2 y⟩
  pointwise [k0_pay1]

theorem step (x0 : Vec Ideal S2048x2048 .bf16) (x1 : Vec Ideal S2048x1024 .bf16) (a : Vec Ideal S2048x1024 .f32) (y : S2048x1024.Idx) :
    k0_pay2 (F := Ideal) x0 x1 a y = a y + part x0 x1 y := by
  obtain ⟨r, s, rfl⟩ : ∃ (r : Fin 2048) (s : Fin 1024), y = ix2 r s := ⟨y 0, y 1, eq_ix2 y⟩
  pointwise [k0_pay2, part, dot_S2048x2048_S2048x1024_S2048x1024_0_0_1_1_n_n]

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

/-- The values before the rectifier, an argument, and the square of the rectified ones. -/
def given (c : Dev nD) : S8192x8192.Idx → EReal := m ((c : Thread nD τ).loc main_arg0)
def square (p : S8192x8192.Idx → EReal) (i : S8192x8192.Idx) : EReal := max (p i) 0 * max (p i) 0

/-- The squares that the call is given. -/
theorem act (c : Dev nD) (i j : Fin 8192) : V m c main_v3 (ix2 i j) = square (given m c) (ix2 i j) := by
  unfold square given V
  simp only [hostOps0, hostOps0_1, List.flatten_cons, List.flatten_nil, List.append_nil, List.cons_append, List.nil_append,
    StableHlo.TRef.binary, StableHlo.TRef.nullary, StableHlo.TRef.unary, StableHlo.TRef.toBuf, StableHlo.TRef.ofBuf, cast_eq]
  after_results
  pointwise

theorem blk0 (c : Dev nD) (t : Fin cfg0.N) (k : Fin 2048) (r : Fin 2048) :
    iblk m c 0 t (ix2 k r) = V m c main_v3 (ix2 ⟨t.val % 4 * 2048 + k.val, by omega⟩ ⟨t.val / 8 * 2048 + r.val, by have := t.isLt; have : cfg0.N = 32 := N_0; omega⟩) := by
  blk_ext [iblk, idx t]

theorem blk1 (c : Dev nD) (t : Fin cfg0.N) (k : Fin 2048) (s : Fin 1024) :
    iblk m c 1 t (ix2 k s) = m ((c : Thread nD τ).loc main_arg1) (ix2 ⟨t.val % 4 * 2048 + k.val, by omega⟩ ⟨t.val / 4 % 2 * 1024 + s.val, by omega⟩) := by
  blk_ext! [iblk, V, idx t]

/-- The accumulator after the body at a point. -/
def acc (c : Dev nD) (n : ℕ) (h : n < cfg0.N) : S2048x1024.Idx → EReal := (outsAt0 m c n h).2

theorem acc_first (c : Dev nD) (t : Fin cfg0.N) (h : t.val % 4 = 0) :
    acc m c t.val t.isLt = k0_pay2 (F := Ideal) (iblk m c 0 t) (iblk m c 1 t) (k0_pay1 (F := Ideal)) := by
  unfold acc
  rw [outsAt0_A m c t h (by omega)]
  frame_out

theorem acc_next (c : Dev nD) (t : Fin cfg0.N) (h : ¬t.val % 4 = 0) :
    acc m c t.val t.isLt = k0_pay2 (F := Ideal) (iblk m c 0 t) (iblk m c 1 t) (acc m c (t.val - 1) (Nat.lt_of_le_of_lt (Nat.sub_le _ _) t.isLt)) := by
  unfold acc
  by_cases h' : t.val % 4 = 3
  · rw [outsAt0_C m c t h h']
    frame_out
    rw [read_unread_whole]
  · rw [outsAt0_B m c t h h']
    frame_out
    rw [read_unread_whole]

/-- The product, at an index of the result. -/
def grad (c : Dev nD) (i : S8192x2048.Idx) : EReal :=
  mulTN (square (given m c)) (m ((c : Thread nD τ).loc main_arg1)) (i 0) (i 1)

/-- The accumulator at the last point of a block of the result. -/
theorem acc_last (c : Dev nD) (t : Fin cfg0.N) (h : t.val % 4 = 3) (y : S2048x1024.Idx) (i : S8192x2048.Idx)
    (e0 : (i 0).val = t.val / 8 * 2048 + (y 0).val) (e1 : (i 1).val = t.val / 4 % 2 * 1024 + (y 1).val) :
    acc m c t.val t.isLt y = grad m c i := by
  have := t.isLt
  have : cfg0.N = 32 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  unfold grad mulTN part
  refine Fin.sum_mul_add_congr fun s k hl => ?_
  refine (congrArg₂ (fun a b : EReal => a * b) ((blk0 m c _ _ _).trans (act m c _ _)) (blk1 m c _ _ _)).trans ?_
  congr 2
  · exact congrArg₂ ix2 (Fin.ext (by simp only; omega)) (Fin.ext (by simp only; omega))
  · exact congrArg₂ ix2 (Fin.ext (by simp only; omega)) (Fin.ext (by simp only; omega))

/-- The result's block, at its last point. -/
theorem out2 (c : Dev nD) (t : Fin cfg0.N) (h : t.val % 4 = 3) (y : S2048x1024.Idx) :
    (outsAt0 m c t.val t.isLt).1 y = acc m c t.val t.isLt y := by
  rw [acc_next m c t (by omega), outsAt0_C m c t (by omega) h]
  unfold acc
  frame_out
  rw [read_unread_whole]
  pointwise [k0_pay3]

theorem arr2 (c : Dev nD) : (dats m 0 c).arrAt 2 cfg0.N = fun i : S8192x2048.Idx => grad m c i := by
  refine (dats m 0 c).arrAt_eq_of_covers 2 _ (by decide +kernel) fun t hf y => ?_
  have h := (flush0_2 t).mp hf
  have e0 : (((win0_2.blk t).view.emb y) 0 : ℕ) = t.val / 8 * 2048 + (y 0).val := by blk_simp [idx t]; try omega
  have e1 : (((win0_2.blk t).view.emb y) 1 : ℕ) = t.val / 4 % 2 * 1024 + (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v4) = (fun i : S8192x2048.Idx => grad m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel5Ideal.Mlp

namespace Cert.Reference5Ideal.Mlp

open Cert.Reference5Ideal Cert.Reference5Ideal.Gen Cert.Proof
open Idealize.ShloMosaic Idealize.ShloMosaic.TcCoe Idealize.ShloMosaic.Tactic

/-- The reference's result from arguments `p` and `g`: the same. -/
theorem values (m : (ℓ : Loc nD τ sig) → Buf (Elt Ideal) ℓ) (ρ : Dev nD → PrngReg) (p : Dev nD → S8192x8192.Idx → EReal) (g : Dev nD → S8192x2048.Idx → EReal)
    (E : ∀ c : Dev nD, m ((c.tc : Thread nD τ).loc main_arg0) = p c ∧ m ((c.tc : Thread nD τ).loc main_arg1) = g c) :
    θ_run defs (onTc (τ := τ) (main (F := Ideal))) ⟨m, fun _ => 0, ρ⟩ fun r => ∀ c : Dev nD,
      r.2.mem ((c.tc : Thread nD τ).loc main_v16) = (fun i : S8192x2048.Idx => mulTN (fun j => max (p c j) 0 * max (p c j) 0) (g c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize p c = p
  generalize g c = g
  funext i
  obtain ⟨r, s, rfl⟩ : ∃ (r : Fin 8192) (s : Fin 2048), i = ix2 r s := ⟨i 0, i 1, eq_ix2 i⟩
  refine Eq.trans ?_ (mulTN_comm g (fun j => max (p j) 0 * max (p j) 0) s r)
  pointwise [dot_S8192x2048_S8192x8192_S2048x8192_0_0_1_1_n_n, mulTN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference5Ideal.Mlp

end
-- ==== Proof.Mlp1Bwd.lean ====
/- The cotangent of the MLP's input: the cotangent of the first product taken back through its weight, over two halves of the hidden
   axis. -/
module

public import proofs.«01_k».proof.Proof.Gen.Kernel6Ideal.Value
public import proofs.«01_k».proof.Proof.Gen.Reference6Ideal.Run
public import proofs.«01_k».proof.Proof.MlpSums
public import Idealize.ShloMosaic.Lib.Pipeline.ValueKit
public import Idealize.ShloMosaic.Lib.Pipeline.ReadBack

@[expose] public section

set_option maxRecDepth 16384

noncomputable section

namespace Cert.Kernel6Ideal.Mlp

open Cert.Kernel6Ideal Cert.Kernel6Ideal.Gen Cert.Proof
open Idealize.ShloMosaic Idealize.ShloMosaic.TcCoe Idealize.ShloMosaic.Tactic

/-- A point's part of the sum. -/
def part (x0 : S1024x4096.Idx → EReal) (x1 : S1024x4096.Idx → EReal) (y : S1024x1024.Idx) : EReal :=
  ∑ k : Fin 4096, x0 (ix2 (y 0) k) * x1 (ix2 (y 1) k)

theorem clear (y : S1024x1024.Idx) : k0_pay1 (F := Ideal) y = (0 : EReal) := by
  obtain ⟨r, s, rfl⟩ : ∃ r s : Fin 1024, y = ix2 r s := ⟨y 0, y 1, eq_ix2 y⟩
  pointwise [k0_pay1]

theorem step (x0 : Vec Ideal S1024x4096 .bf16) (x1 : Vec Ideal S1024x4096 .bf16) (a : Vec Ideal S1024x1024 .f32) (y : S1024x1024.Idx) :
    k0_pay2 (F := Ideal) x0 x1 a y = a y + part x0 x1 y := by
  obtain ⟨r, s, rfl⟩ : ∃ r s : Fin 1024, y = ix2 r s := ⟨y 0, y 1, eq_ix2 y⟩
  pointwise [k0_pay2, part, dot_S1024x4096_S1024x4096_S1024x1024_1_1_0_0_n_n]

theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

variable (m : (ℓ : Loc nD τ sig) → Buf (Elt Ideal) ℓ)

theorem blk0 (c : Dev nD) (t : Fin cfg0.N) (r : Fin 1024) (k : Fin 4096) :
    iblk m c 0 t (ix2 r k) = m ((c : Thread nD τ).loc main_arg0) (ix2 ⟨t.val / 4 * 1024 + r.val, by have := t.isLt; have : cfg0.N = 32 := N_0; omega⟩ ⟨t.val % 2 * 4096 + k.val, by omega⟩) := by
  blk_ext! [iblk, V, idx t]

theorem blk1 (c : Dev nD) (t : Fin cfg0.N) (s : Fin 1024) (k : Fin 4096) :
    iblk m c 1 t (ix2 s k) = m ((c : Thread nD τ).loc main_arg1) (ix2 ⟨t.val / 2 % 2 * 1024 + s.val, by omega⟩ ⟨t.val % 2 * 4096 + k.val, by omega⟩) := by
  blk_ext! [iblk, V, idx t]

/-- The accumulator after the body at a point. -/
def acc (c : Dev nD) (n : ℕ) (h : n < cfg0.N) : S1024x1024.Idx → EReal := (outsAt0 m c n h).2

theorem acc_first (c : Dev nD) (t : Fin cfg0.N) (h : t.val % 2 = 0) :
    acc m c t.val t.isLt = k0_pay2 (F := Ideal) (iblk m c 0 t) (iblk m c 1 t) (k0_pay1 (F := Ideal)) := by
  unfold acc
  rw [outsAt0_A m c t h (by omega)]
  frame_out

theorem acc_next (c : Dev nD) (t : Fin cfg0.N) (h : ¬t.val % 2 = 0) :
    acc m c t.val t.isLt = k0_pay2 (F := Ideal) (iblk m c 0 t) (iblk m c 1 t) (acc m c (t.val - 1) (Nat.lt_of_le_of_lt (Nat.sub_le _ _) t.isLt)) := by
  unfold acc
  rw [outsAt0_B m c t h (by omega)]
  frame_out
  rw [read_unread_whole]

/-- The product, at an index of the result. -/
def back (c : Dev nD) (i : S8192x2048.Idx) : EReal :=
  mulNT (m ((c : Thread nD τ).loc main_arg0)) (m ((c : Thread nD τ).loc main_arg1)) (i 0) (i 1)

/-- The accumulator at the last point of a block of the result. -/
theorem acc_last (c : Dev nD) (t : Fin cfg0.N) (h : t.val % 2 = 1) (y : S1024x1024.Idx) (i : S8192x2048.Idx)
    (e0 : (i 0).val = t.val / 4 * 1024 + (y 0).val) (e1 : (i 1).val = t.val / 2 % 2 * 1024 + (y 1).val) :
    acc m c t.val t.isLt y = back m c i := by
  have := t.isLt
  have : cfg0.N = 32 := N_0
  rw [Pipeline.eq_sum_fin_of_reset_step_apply_of_flush (fun n h => acc m c n h) 2 (fun _ => (0 : EReal)) (fun u => part (iblk m c 0 u) (iblk m c 1 u))
    (fun u hu j => by rw [acc_first m c u hu, step, clear])
    (fun u hu j => by rw [acc_next m c u hu, step]) t h y, zero_add]
  unfold back mulNT part
  refine Fin.sum_mul_add_congr fun s k hl => ?_
  refine (congrArg₂ (fun a b : EReal => a * b) (blk0 m c _ _ _) (blk1 m c _ _ _)).trans ?_
  congr 2
  · exact congrArg₂ ix2 (Fin.ext (by simp only; omega)) (Fin.ext (by simp only; omega))
  · exact congrArg₂ ix2 (Fin.ext (by simp only; omega)) (Fin.ext (by simp only; omega))

/-- The result's block, at its last point. -/
theorem out2 (c : Dev nD) (t : Fin cfg0.N) (h : t.val % 2 = 1) (y : S1024x1024.Idx) :
    (outsAt0 m c t.val t.isLt).1 y = acc m c t.val t.isLt y := by
  rw [acc_next m c t (by omega), outsAt0_B m c t (by omega) h]
  unfold acc
  frame_out
  rw [read_unread_whole]
  pointwise [k0_pay3]

theorem arr2 (c : Dev nD) : (dats m 0 c).arrAt 2 cfg0.N = fun i : S8192x2048.Idx => back m c i := by
  refine (dats m 0 c).arrAt_eq_of_covers 2 _ (by decide +kernel) fun t hf y => ?_
  have h := (flush0_2 t).mp hf
  have e0 : (((win0_2.blk t).view.emb y) 0 : ℕ) = t.val / 4 * 1024 + (y 0).val := by blk_simp [idx t]; try omega
  have e1 : (((win0_2.blk t).view.emb y) 1 : ℕ) = t.val / 2 % 2 * 1024 + (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S8192x2048.Idx => back m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel6Ideal.Mlp

namespace Cert.Reference6Ideal.Mlp

open Cert.Reference6Ideal Cert.Reference6Ideal.Gen Cert.Proof
open Idealize.ShloMosaic Idealize.ShloMosaic.TcCoe Idealize.ShloMosaic.Tactic

/-- The reference's result from arguments `g` and `w`: the same. -/
theorem values (m : (ℓ : Loc nD τ sig) → Buf (Elt Ideal) ℓ) (ρ : Dev nD → PrngReg) (g : Dev nD → S8192x8192.Idx → EReal) (w : Dev nD → S2048x8192.Idx → EReal)
    (E : ∀ c : Dev nD, m ((c.tc : Thread nD τ).loc main_arg0) = g c ∧ m ((c.tc : Thread nD τ).loc main_arg1) = w c) :
    θ_run defs (onTc (τ := τ) (main (F := Ideal))) ⟨m, fun _ => 0, ρ⟩ fun r => ∀ c : Dev nD,
      r.2.mem ((c.tc : Thread nD τ).loc main_v7) = (fun i : S8192x2048.Idx => mulNT (g c) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize g c = g
  generalize w c = w
  funext i
  obtain ⟨r, s, rfl⟩ : ∃ (r : Fin 8192) (s : Fin 2048), i = ix2 r s := ⟨i 0, i 1, eq_ix2 i⟩
  pointwise [dot_S8192x8192_S2048x8192_S8192x2048_1_1_0_0_n_n, mulNT]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference6Ideal.Mlp

end
-- ==== Proof.Mlp1Wgrad.lean ====
/- The gradient of the MLP's first weight: the transposed input times the cotangent, accumulated over four blocks of the tokens. -/
module

public import proofs.«01_k».proof.Proof.Gen.Kernel7Ideal.Value
public import proofs.«01_k».proof.Proof.Gen.Reference7Ideal.Run
public import proofs.«01_k».proof.Proof.MlpSums
public import Idealize.ShloMosaic.Lib.Pipeline.ValueKit
public import Idealize.ShloMosaic.Lib.Pipeline.ReadBack

@[expose] public section

set_option maxRecDepth 16384

noncomputable section

namespace Cert.Kernel7Ideal.Mlp

open Cert.Kernel7Ideal Cert.Kernel7Ideal.Gen Cert.Proof
open Idealize.ShloMosaic Idealize.ShloMosaic.TcCoe Idealize.ShloMosaic.Tactic

/-- A point's part of the sum. -/
def part (x0 : S2048x2048.Idx → EReal) (x1 : S2048x1024.Idx → EReal) (y : S2048x1024.Idx) : EReal :=
  ∑ k : Fin 2048, x0 (ix2 k (y 0)) * x1 (ix2 k (y 1))

theorem clear (y : S2048x1024.Idx) : k0_pay1 (F := Ideal) y = (0 : EReal) := by
  obtain ⟨r, s, rfl⟩ : ∃ (r : Fin 2048) (s : Fin 1024), y = ix2 r s := ⟨y 0, y 1, eq_ix2 y⟩
  pointwise [k0_pay1]

theorem step (x0 : Vec Ideal S2048x2048 .bf16) (x1 : Vec Ideal S2048x1024 .bf16) (a : Vec Ideal S2048x1024 .f32) (y : S2048x1024.Idx) :
    k0_pay2 (F := Ideal) x0 x1 a y = a y + part x0 x1 y := by
  obtain ⟨r, s, rfl⟩ : ∃ (r : Fin 2048) (s : Fin 1024), y = ix2 r s := ⟨y 0, y 1, eq_ix2 y⟩
  pointwise [k0_pay2, part, dot_S2048x2048_S2048x1024_S2048x1024_0_0_1_1_n_n]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

variable (m : (ℓ : Loc nD τ sig) → Buf (Elt Ideal) ℓ)

theorem blk0 (c : Dev nD) (t : Fin cfg0.N) (k : Fin 2048) (r : Fin 2048) :
    iblk m c 0 t (ix2 k r) = m ((c : Thread nD τ).loc main_arg0) (ix2 ⟨t.val % 4 * 2048 + k.val, by omega⟩ r) := by
  blk_ext! [iblk, V, idx t]

theorem blk1 (c : Dev nD) (t : Fin cfg0.N) (k : Fin 2048) (s : Fin 1024) :
    iblk m c 1 t (ix2 k s) = m ((c : Thread nD τ).loc main_arg1) (ix2 ⟨t.val % 4 * 2048 + k.val, by omega⟩ ⟨t.val / 4 * 1024 + s.val, by have := t.isLt; have : cfg0.N = 32 := N_0; omega⟩) := by
  blk_ext! [iblk, V, idx t]

/-- The accumulator after the body at a point. -/
def acc (c : Dev nD) (n : ℕ) (h : n < cfg0.N) : S2048x1024.Idx → EReal := (outsAt0 m c n h).2

theorem acc_first (c : Dev nD) (t : Fin cfg0.N) (h : t.val % 4 = 0) :
    acc m c t.val t.isLt = k0_pay2 (F := Ideal) (iblk m c 0 t) (iblk m c 1 t) (k0_pay1 (F := Ideal)) := by
  unfold acc
  rw [outsAt0_A m c t h (by omega)]
  frame_out

theorem acc_next (c : Dev nD) (t : Fin cfg0.N) (h : ¬t.val % 4 = 0) :
    acc m c t.val t.isLt = k0_pay2 (F := Ideal) (iblk m c 0 t) (iblk m c 1 t) (acc m c (t.val - 1) (Nat.lt_of_le_of_lt (Nat.sub_le _ _) t.isLt)) := by
  unfold acc
  by_cases h' : t.val % 4 = 3
  · rw [outsAt0_C m c t h h']
    frame_out
    rw [read_unread_whole]
  · rw [outsAt0_B m c t h h']
    frame_out
    rw [read_unread_whole]

/-- The product, at an index of the result. -/
def grad (c : Dev nD) (i : S2048x8192.Idx) : EReal :=
  mulTN (m ((c : Thread nD τ).loc main_arg0)) (m ((c : Thread nD τ).loc main_arg1)) (i 0) (i 1)

/-- The accumulator at the last point of a block of the result. -/
theorem acc_last (c : Dev nD) (t : Fin cfg0.N) (h : t.val % 4 = 3) (y : S2048x1024.Idx) (i : S2048x8192.Idx)
    (e0 : (i 0).val = (y 0).val) (e1 : (i 1).val = t.val / 4 * 1024 + (y 1).val) :
    acc m c t.val t.isLt y = grad m c i := by
  have := t.isLt
  have : cfg0.N = 32 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  unfold grad mulTN part
  refine Fin.sum_mul_add_congr fun s k hl => ?_
  refine (congrArg₂ (fun a b : EReal => a * b) (blk0 m c _ _ _) (blk1 m c _ _ _)).trans ?_
  congr 2
  · exact congrArg₂ ix2 (Fin.ext (by simp only; omega)) (Fin.ext (by simp only; omega))
  · exact congrArg₂ ix2 (Fin.ext (by simp only; omega)) (Fin.ext (by simp only; omega))

/-- The result's block, at its last point. -/
theorem out2 (c : Dev nD) (t : Fin cfg0.N) (h : t.val % 4 = 3) (y : S2048x1024.Idx) :
    (outsAt0 m c t.val t.isLt).1 y = acc m c t.val t.isLt y := by
  rw [acc_next m c t (by omega), outsAt0_C m c t (by omega) h]
  unfold acc
  frame_out
  rw [read_unread_whole]
  pointwise [k0_pay3]

theorem arr2 (c : Dev nD) : (dats m 0 c).arrAt 2 cfg0.N = fun i : S2048x8192.Idx => grad m c i := by
  refine (dats m 0 c).arrAt_eq_of_covers 2 _ (by decide +kernel) fun t hf y => ?_
  have h := (flush0_2 t).mp hf
  have e0 : (((win0_2.blk t).view.emb y) 0 : ℕ) = (y 0).val := by blk_simp [idx t]; try omega
  have e1 : (((win0_2.blk t).view.emb y) 1 : ℕ) = t.val / 4 * 1024 + (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S2048x8192.Idx => grad m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel7Ideal.Mlp

namespace Cert.Reference7Ideal.Mlp

open Cert.Reference7Ideal Cert.Reference7Ideal.Gen Cert.Proof
open Idealize.ShloMosaic Idealize.ShloMosaic.TcCoe Idealize.ShloMosaic.Tactic

/-- The reference's result from arguments `x` and `g`: the same. -/
theorem values (m : (ℓ : Loc nD τ sig) → Buf (Elt Ideal) ℓ) (ρ : Dev nD → PrngReg) (x : Dev nD → S8192x2048.Idx → EReal) (g : Dev nD → S8192x8192.Idx → EReal)
    (E : ∀ c : Dev nD, m ((c.tc : Thread nD τ).loc main_arg0) = x c ∧ m ((c.tc : Thread nD τ).loc main_arg1) = g c) :
    θ_run defs (onTc (τ := τ) (main (F := Ideal))) ⟨m, fun _ => 0, ρ⟩ fun r => ∀ c : Dev nD,
      r.2.mem ((c.tc : Thread nD τ).loc main_v7) = (fun i : S2048x8192.Idx => mulTN (x c) (g c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize g c = g
  funext i
  obtain ⟨r, s, rfl⟩ : ∃ (r : Fin 2048) (s : Fin 8192), i = ix2 r s := ⟨i 0, i 1, eq_ix2 i⟩
  refine Eq.trans ?_ (mulTN_comm g x s r)
  pointwise [dot_S8192x8192_S8192x2048_S8192x2048_0_0_1_1_n_n, mulTN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference7Ideal.Mlp

end
-- ==== Proof.HgrnInFwd.lean ====
/- The HGRN2 mixer's projection: what the call leaves at an index of its result. -/
module

public import proofs.«01_k».proof.Proof.Gen.Kernel8Ideal.Value
public import proofs.«01_k».proof.Proof.Gen.Reference8Ideal.Run
public import proofs.«01_k».proof.Proof.MlpSums
public import Idealize.ShloMosaic.Lib.Pipeline.ValueKit

@[expose] public section

set_option maxRecDepth 16384

noncomputable section

namespace Cert.Kernel8Ideal.Mix

open Cert.Kernel8Ideal Cert.Kernel8Ideal.Gen Cert.Proof
open Idealize.ShloMosaic Idealize.ShloMosaic.TcCoe Idealize.ShloMosaic.Tactic

/-- The sum of a point's product, from the cleared accumulator. -/
theorem product (x0 : Vec Ideal S1024x2048 .bf16) (x1 : Vec Ideal S2048x2048 .bf16) (r : Fin 1024) (s : Fin 2048) :
    k0_pay2 (F := Ideal) x0 x1 (k0_pay1 (F := Ideal)) (ix2 r s) = ∑ k : Fin 2048, x0 (ix2 r k) * x1 (ix2 k s) := by
  pointwise [k0_pay2, k0_pay1, dot_S1024x2048_S2048x2048_S1024x2048_1_0_0_1_n_n]

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 ⟨t.val / 4 * 1024 + r.val, by have := t.isLt; have : cfg0.N = 32 := N_0; omega⟩ k) := by
  blk_ext! [iblk, V, idx t]

theorem blk1 (c : Dev nD) (t : Fin cfg0.N) (k : Fin 2048) (s : Fin 2048) :
    iblk m c 1 t (ix2 k s) = m ((c : Thread nD τ).loc main_arg1) (ix2 k ⟨t.val % 4 * 2048 + s.val, by omega⟩) := by
  blk_ext! [iblk, V, idx t]

/-- The product, at an index of the result. -/
def pre (c : Dev nD) (i : S8192x8192.Idx) : EReal :=
  mulNN (m ((c : Thread nD τ).loc main_arg0)) (m ((c : Thread nD τ).loc main_arg1)) (i 0) (i 1)

theorem product_at (c : Dev nD) (t : Fin cfg0.N) (y : S1024x2048.Idx) (i : S8192x8192.Idx)
    (e0 : (i 0).val = t.val / 4 * 1024 + (y 0).val) (e1 : (i 1).val = t.val % 4 * 2048 + (y 1).val) :
    k0_pay2 (F := Ideal) (iblk m c 0 t) (iblk m c 1 t) (k0_pay1 (F := Ideal)) y = pre m c i := by
  obtain ⟨r, s, rfl⟩ : ∃ (r : Fin 1024) (s : Fin 2048), y = ix2 r s := ⟨y 0, y 1, eq_ix2 y⟩
  rw [product]
  unfold pre mulNN
  refine Finset.sum_congr rfl fun k _ => ?_
  rw [blk0, blk1]
  congr 2
  · exact congrArg (fun a => ix2 a k) (Fin.ext e0.symm)
  · exact congrArg (fun a => ix2 k a) (Fin.ext e1.symm)

theorem arr2 (c : Dev nD) : (dats m 0 c).arrAt 2 cfg0.N = fun i : S8192x8192.Idx => pre m c i := by
  refine (dats m 0 c).arrAt_eq_of_covers 2 _ (by decide +kernel) fun t hf y => ?_
  have e0 : (((win0_2.blk t).view.emb y) 0 : ℕ) = t.val / 4 * 1024 + (y 0).val := by blk_simp [idx t]; try omega
  have e1 : (((win0_2.blk t).view.emb y) 1 : ℕ) = t.val % 4 * 2048 + (y 1).val := by blk_simp [idx t]; try omega
  blk_simp
  rw [after0_2, outsAt0]
  frame_out
  exact product_at m c t y _ e0 e1

/-- The call's result: the product. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S8192x8192.Idx => pre m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel8Ideal.Mix

namespace Cert.Reference8Ideal.Mix

open Cert.Reference8Ideal Cert.Reference8Ideal.Gen Cert.Proof
open Idealize.ShloMosaic Idealize.ShloMosaic.TcCoe Idealize.ShloMosaic.Tactic

/-- The reference's result from arguments `x` and `w`: the same. -/
theorem values (m : (ℓ : Loc nD τ sig) → Buf (Elt Ideal) ℓ) (ρ : Dev nD → PrngReg) (x : Dev nD → S8192x2048.Idx → EReal) (w : Dev nD → S2048x8192.Idx → EReal)
    (E : ∀ c : Dev nD, m ((c.tc : Thread nD τ).loc main_arg0) = x c ∧ m ((c.tc : Thread nD τ).loc main_arg1) = w c) :
    θ_run defs (onTc (τ := τ) (main (F := Ideal))) ⟨m, fun _ => 0, ρ⟩ fun r => ∀ c : Dev nD,
      r.2.mem ((c.tc : Thread nD τ).loc main_v2) = (fun i : S8192x8192.Idx => mulNN (x c) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize w c = w
  funext i
  rw [eq_ix2 (n0 := 8192) (n1 := 8192) i]
  pointwise [dot_S8192x2048_S2048x8192_S8192x8192_1_0_0_1_n_n, mulNN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference8Ideal.Mix

end
-- ==== Proof.MixOutFwd.lean ====
/- The mixer's second projection, added to the residual stream through the gate: what the call leaves at an index of its two results. -/
module

public import proofs.«01_k».proof.Proof.Gen.Kernel9Ideal.Value
public import proofs.«01_k».proof.Proof.Gen.Reference9Ideal.Run
public import proofs.«01_k».proof.Proof.MlpSums
public import Idealize.ShloMosaic.Lib.Pipeline.ValueKit

@[expose] public section

set_option maxRecDepth 16384

noncomputable section

namespace Cert.Kernel9Ideal.Mix

open Cert.Kernel9Ideal Cert.Kernel9Ideal.Gen Cert.Proof
open Idealize.ShloMosaic Idealize.ShloMosaic.TcCoe Idealize.ShloMosaic.Tactic

/-- The sum of a point's product, from the cleared accumulator. -/
theorem product (x0 : Vec Ideal S1024x2048 .bf16) (x1 : Vec Ideal S2048x1024 .bf16) (r s : Fin 1024) :
    k0_pay2 (F := Ideal) x0 x1 (k0_pay1 (F := Ideal)) (ix2 r s) = ∑ k : Fin 2048, x0 (ix2 r k) * x1 (ix2 k s) := by
  pointwise [k0_pay2, k0_pay1, dot_S1024x2048_S2048x1024_S1024x1024_1_0_0_1_n_n]

theorem idx : ∀ t : Fin cfg0.N, win0_0.index t = ![t.val / 2, 0] ∧ win0_1.index t = ![0, t.val % 2]
    ∧ win0_2.index t = ![t.val / 2, t.val % 2] ∧ win0_3.index t = ![0, t.val % 2]
    ∧ win0_4.index t = ![t.val / 2, t.val % 2] ∧ win0_5.index t = ![t.val / 2, t.val % 2] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 ⟨t.val / 2 * 1024 + r.val, by have := t.isLt; have : cfg0.N = 16 := N_0; omega⟩ k) := by
  blk_ext! [iblk, V, idx t]

theorem blk1 (c : Dev nD) (t : Fin cfg0.N) (k : Fin 2048) (s : Fin 1024) :
    iblk m c 1 t (ix2 k s) = m ((c : Thread nD τ).loc main_arg1) (ix2 k ⟨t.val % 2 * 1024 + s.val, by omega⟩) := by
  blk_ext! [iblk, V, idx t]

/-- The product, at an index of the results. -/
def pre (c : Dev nD) (i : S8192x2048.Idx) : EReal :=
  mulNN (m ((c : Thread nD τ).loc main_arg0)) (m ((c : Thread nD τ).loc main_arg1)) (i 0) (i 1)

theorem product_at (c : Dev nD) (t : Fin cfg0.N) (y : S1024x1024.Idx) (i : S8192x2048.Idx)
    (e0 : (i 0).val = t.val / 2 * 1024 + (y 0).val) (e1 : (i 1).val = t.val % 2 * 1024 + (y 1).val) :
    k0_pay2 (F := Ideal) (iblk m c 0 t) (iblk m c 1 t) (k0_pay1 (F := Ideal)) y = pre m c i := by
  obtain ⟨r, s, rfl⟩ : ∃ r s : Fin 1024, y = ix2 r s := ⟨y 0, y 1, eq_ix2 y⟩
  rw [product]
  unfold pre mulNN
  refine Finset.sum_congr rfl fun k _ => ?_
  rw [blk0, blk1]
  congr 2
  · exact congrArg (fun a => ix2 a k) (Fin.ext e0.symm)
  · exact congrArg (fun a => ix2 k a) (Fin.ext e1.symm)

/-- The residual stream and the gate, arguments. -/
def given (c : Dev nD) : S8192x2048.Idx → EReal := m ((c : Thread nD τ).loc main_arg2)
def gate (c : Dev nD) : S1x2048.Idx → EReal := m ((c : Thread nD τ).loc main_arg3)

theorem blk2 (c : Dev nD) (t : Fin cfg0.N) (r s : Fin 1024) :
    iblk m c 2 t (ix2 r s) = given m c (ix2 ⟨t.val / 2 * 1024 + r.val, by have := t.isLt; have : cfg0.N = 16 := N_0; omega⟩ ⟨t.val % 2 * 1024 + s.val, by omega⟩) := by
  unfold given
  blk_ext! [iblk, V, idx t]

theorem blk3 (c : Dev nD) (t : Fin cfg0.N) (s : Fin 1024) :
    iblk m c 3 t (ix2 (0 : Fin 1) s) = gate m c (ix2 (0 : Fin 1) ⟨t.val % 2 * 1024 + s.val, by omega⟩) := by
  unfold gate
  blk_ext! [iblk, V, idx t]

theorem arr4 (c : Dev nD) : (dats m 0 c).arrAt 4 cfg0.N = fun i : S8192x2048.Idx => pre m c i := by
  refine (dats m 0 c).arrAt_eq_of_covers 4 _ (by decide +kernel) fun t hf y => ?_
  have e0 : (((win0_4.blk t).view.emb y) 0 : ℕ) = t.val / 2 * 1024 + (y 0).val := by blk_simp [idx t]; try omega
  have e1 : (((win0_4.blk t).view.emb y) 1 : ℕ) = t.val % 2 * 1024 + (y 1).val := by blk_simp [idx t]; try omega
  blk_simp
  rw [after0_4, outsAt0]
  frame_out
  pointwise [k0_pay3]
  exact product_at m c t y _ e0 e1

theorem sum_at (c : Dev nD) (t : Fin cfg0.N) (y : S1024x1024.Idx) (i : S8192x2048.Idx)
    (e0 : (i 0).val = t.val / 2 * 1024 + (y 0).val) (e1 : (i 1).val = t.val % 2 * 1024 + (y 1).val) :
    k0_pay4 (F := Ideal) (k0_pay2 (iblk m c 0 t) (iblk m c 1 t) (k0_pay1 (F := Ideal))) (iblk m c 2 t) (iblk m c 3 t) y
      = given m c i + gate m c (ix2 (0 : Fin 1) (i 1)) * pre m c i := by
  have p := product_at m c t y i e0 e1
  obtain ⟨r, s, rfl⟩ : ∃ r s : Fin 1024, y = ix2 r s := ⟨y 0, y 1, eq_ix2 y⟩
  have ei : ix2 ⟨t.val / 2 * 1024 + r.val, by have := t.isLt; have : cfg0.N = 16 := N_0; omega⟩ ⟨t.val % 2 * 1024 + s.val, by omega⟩ = i :=
    (congrArg₂ ix2 (Fin.ext e0.symm) (Fin.ext e1.symm)).trans (eq_ix2 (n0 := 8192) (n1 := 2048) i).symm
  pointwise [k0_pay4]
  rw [p, blk2, blk3, ei]
  congr 3
  exact congrArg (fun a => ix2 (0 : Fin 1) a) (Fin.ext e1.symm)

theorem arr5 (c : Dev nD) : (dats m 0 c).arrAt 5 cfg0.N
    = fun i : S8192x2048.Idx => given m c i + gate m c (ix2 (0 : Fin 1) (i 1)) * pre m c i := by
  refine (dats m 0 c).arrAt_eq_of_covers 5 _ (by decide +kernel) fun t hf y => ?_
  have e0 : (((win0_5.blk t).view.emb y) 0 : ℕ) = t.val / 2 * 1024 + (y 0).val := by blk_simp [idx t]; try omega
  have e1 : (((win0_5.blk t).view.emb y) 1 : ℕ) = t.val % 2 * 1024 + (y 1).val := by blk_simp [idx t]; try omega
  blk_simp
  rw [after0_5, outsAt0]
  frame_out
  exact sum_at m c t y _ e0 e1

/-- The call's results: the product, and the residual stream with the scaled product added. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S8192x2048.Idx => pre m c i)
      ∧ r.2.mem ((c : Thread nD τ).loc main_v0_1) = (fun i : S8192x2048.Idx => given m c i + gate m c (ix2 (0 : Fin 1) (i 1)) * pre m c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (Value.run_blocks m ρ)

end Cert.Kernel9Ideal.Mix

namespace Cert.Reference9Ideal.Mix

open Cert.Reference9Ideal Cert.Reference9Ideal.Gen Cert.Proof
open Idealize.ShloMosaic Idealize.ShloMosaic.TcCoe Idealize.ShloMosaic.Tactic

/-- The reference's results from arguments `x`, `w`, `h` and `d`: the same. -/
theorem values (m : (ℓ : Loc nD τ sig) → Buf (Elt Ideal) ℓ) (ρ : Dev nD → PrngReg) (x : Dev nD → S8192x2048.Idx → EReal) (w : Dev nD → S2048x2048.Idx → EReal)
    (h : Dev nD → S8192x2048.Idx → EReal) (d : Dev nD → S1x2048.Idx → EReal)
    (E : ∀ c : Dev nD, m ((c.tc : Thread nD τ).loc main_arg0) = x c ∧ m ((c.tc : Thread nD τ).loc main_arg1) = w c
      ∧ m ((c.tc : Thread nD τ).loc main_arg2) = h c ∧ m ((c.tc : Thread nD τ).loc main_arg3) = d c) :
    θ_run defs (onTc (τ := τ) (main (F := Ideal))) ⟨m, fun _ => 0, ρ⟩ fun r => ∀ c : Dev nD,
      r.2.mem ((c.tc : Thread nD τ).loc main_v3) = (fun i : S8192x2048.Idx => mulNN (x c) (w c) (i 0) (i 1))
      ∧ r.2.mem ((c.tc : Thread nD τ).loc main_v6) = (fun i : S8192x2048.Idx => h c i + d c (ix2 (0 : Fin 1) (i 1)) * mulNN (x c) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · rw [(E c).1, (E c).2.1]
    generalize x c = x
    generalize w c = w
    funext i
    obtain ⟨r, s, rfl⟩ : ∃ (r : Fin 8192) (s : Fin 2048), i = ix2 r s := ⟨i 0, i 1, eq_ix2 i⟩
    pointwise [dot_S8192x2048_S2048x2048_S8192x2048_1_0_0_1_n_n, mulNN]
  · rw [(E c).1, (E c).2.1, (E c).2.2.1, (E c).2.2.2]
    generalize x c = x
    generalize w c = w
    generalize h c = h
    generalize d c = d
    funext i
    obtain ⟨r, s, rfl⟩ : ∃ (r : Fin 8192) (s : Fin 2048), i = ix2 r s := ⟨i 0, i 1, eq_ix2 i⟩
    pointwise [dot_S8192x2048_S2048x2048_S8192x2048_1_0_0_1_n_n, mulNN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems (by decide) r.2⟩) (Value.run m ρ)

end Cert.Reference9Ideal.Mix

end
-- ==== Proof.MixOutBwd.lean ====
/- The cotangent of the mixer's output: the cotangent of the second projection taken back through its weight. -/
module

public import proofs.«01_k».proof.Proof.Gen.Kernel10Ideal.Value
public import proofs.«01_k».proof.Proof.Gen.Reference10Ideal.Run
public import proofs.«01_k».proof.Proof.MlpSums
public import Idealize.ShloMosaic.Lib.Pipeline.ValueKit

@[expose] public section

set_option maxRecDepth 16384

noncomputable section

namespace Cert.Kernel10Ideal.Mix

open Cert.Kernel10Ideal Cert.Kernel10Ideal.Gen Cert.Proof
open Idealize.ShloMosaic Idealize.ShloMosaic.TcCoe Idealize.ShloMosaic.Tactic

/-- The sum of a point's product, from the cleared accumulator. -/
theorem product (x0 : Vec Ideal S1024x2048 .bf16) (x1 : Vec Ideal S1024x2048 .bf16) (r s : Fin 1024) :
    k0_pay2 (F := Ideal) x0 x1 (k0_pay1 (F := Ideal)) (ix2 r s) = ∑ k : Fin 2048, x0 (ix2 r k) * x1 (ix2 s k) := by
  pointwise [k0_pay2, k0_pay1, dot_S1024x2048_S1024x2048_S1024x1024_1_1_0_0_n_n]

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 ⟨t.val / 2 * 1024 + r.val, by have := t.isLt; have : cfg0.N = 16 := N_0; omega⟩ k) := by
  blk_ext! [iblk, V, idx t]

theorem blk1 (c : Dev nD) (t : Fin cfg0.N) (s : Fin 1024) (k : Fin 2048) :
    iblk m c 1 t (ix2 s k) = m ((c : Thread nD τ).loc main_arg1) (ix2 ⟨t.val % 2 * 1024 + s.val, by omega⟩ k) := by
  blk_ext! [iblk, V, idx t]

/-- The product, at an index of the result. -/
def back (c : Dev nD) (i : S8192x2048.Idx) : EReal :=
  mulNT (m ((c : Thread nD τ).loc main_arg0)) (m ((c : Thread nD τ).loc main_arg1)) (i 0) (i 1)

theorem product_at (c : Dev nD) (t : Fin cfg0.N) (y : S1024x1024.Idx) (i : S8192x2048.Idx)
    (e0 : (i 0).val = t.val / 2 * 1024 + (y 0).val) (e1 : (i 1).val = t.val % 2 * 1024 + (y 1).val) :
    k0_pay2 (F := Ideal) (iblk m c 0 t) (iblk m c 1 t) (k0_pay1 (F := Ideal)) y = back m c i := by
  obtain ⟨r, s, rfl⟩ : ∃ r s : Fin 1024, y = ix2 r s := ⟨y 0, y 1, eq_ix2 y⟩
  rw [product]
  unfold back mulNT
  refine Finset.sum_congr rfl fun k _ => ?_
  rw [blk0, blk1]
  congr 2
  · exact congrArg (fun a => ix2 a k) (Fin.ext e0.symm)
  · exact congrArg (fun a => ix2 a k) (Fin.ext e1.symm)

theorem arr2 (c : Dev nD) : (dats m 0 c).arrAt 2 cfg0.N = fun i : S8192x2048.Idx => back m c i := by
  refine (dats m 0 c).arrAt_eq_of_covers 2 _ (by decide +kernel) fun t hf y => ?_
  have e0 : (((win0_2.blk t).view.emb y) 0 : ℕ) = t.val / 2 * 1024 + (y 0).val := by blk_simp [idx t]; try omega
  have e1 : (((win0_2.blk t).view.emb y) 1 : ℕ) = t.val % 2 * 1024 + (y 1).val := by blk_simp [idx t]; try omega
  blk_simp
  rw [after0_2, outsAt0]
  frame_out
  exact product_at m c t y _ e0 e1

/-- The call's result: the product. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S8192x2048.Idx => back m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel10Ideal.Mix

namespace Cert.Reference10Ideal.Mix

open Cert.Reference10Ideal Cert.Reference10Ideal.Gen Cert.Proof
open Idealize.ShloMosaic Idealize.ShloMosaic.TcCoe Idealize.ShloMosaic.Tactic

/-- The reference's result from arguments `x` and `w`: the same. -/
theorem values (m : (ℓ : Loc nD τ sig) → Buf (Elt Ideal) ℓ) (ρ : Dev nD → PrngReg) (x : Dev nD → S8192x2048.Idx → EReal) (w : Dev nD → S2048x2048.Idx → EReal)
    (E : ∀ c : Dev nD, m ((c.tc : Thread nD τ).loc main_arg0) = x c ∧ m ((c.tc : Thread nD τ).loc main_arg1) = w c) :
    θ_run defs (onTc (τ := τ) (main (F := Ideal))) ⟨m, fun _ => 0, ρ⟩ fun r => ∀ c : Dev nD,
      r.2.mem ((c.tc : Thread nD τ).loc main_v6) = (fun i : S8192x2048.Idx => mulNT (x c) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize w c = w
  funext i
  rw [eq_ix2 (n0 := 8192) (n1 := 2048) i]
  pointwise [dot_S8192x2048_S2048x2048_S8192x2048_1_1_0_0_n_n, mulNT]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference10Ideal.Mix

end
-- ==== Proof.MixOutWgrad.lean ====
/- The gradient of the mixer's second weight: the transposed output of the mixer times the cotangent, accumulated over four blocks of
   the tokens. -/
module

public import proofs.«01_k».proof.Proof.Gen.Kernel11Ideal.Value
public import proofs.«01_k».proof.Proof.Gen.Reference11Ideal.Run
public import proofs.«01_k».proof.Proof.MlpSums
public import Idealize.ShloMosaic.Lib.Pipeline.ValueKit
public import Idealize.ShloMosaic.Lib.Pipeline.ReadBack

@[expose] public section

set_option maxRecDepth 16384

noncomputable section

namespace Cert.Kernel11Ideal.Mix

open Cert.Kernel11Ideal Cert.Kernel11Ideal.Gen Cert.Proof
open Idealize.ShloMosaic Idealize.ShloMosaic.TcCoe Idealize.ShloMosaic.Tactic

/-- A point's part of the sum. -/
def part (x0 : S2048x2048.Idx → EReal) (x1 : S2048x1024.Idx → EReal) (y : S2048x1024.Idx) : EReal :=
  ∑ k : Fin 2048, x0 (ix2 k (y 0)) * x1 (ix2 k (y 1))

theorem clear (y : S2048x1024.Idx) : k0_pay1 (F := Ideal) y = (0 : EReal) := by
  obtain ⟨r, s, rfl⟩ : ∃ (r : Fin 2048) (s : Fin 1024), y = ix2 r s := ⟨y 0, y 1, eq_ix2 y⟩
  pointwise [k0_pay1]

theorem step (x0 : Vec Ideal S2048x2048 .bf16) (x1 : Vec Ideal S2048x1024 .bf16) (a : Vec Ideal S2048x1024 .f32) (y : S2048x1024.Idx) :
    k0_pay2 (F := Ideal) x0 x1 a y = a y + part x0 x1 y := by
  obtain ⟨r, s, rfl⟩ : ∃ (r : Fin 2048) (s : Fin 1024), y = ix2 r s := ⟨y 0, y 1, eq_ix2 y⟩
  pointwise [k0_pay2, part, dot_S2048x2048_S2048x1024_S2048x1024_0_0_1_1_n_n]

theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

variable (m : (ℓ : Loc nD τ sig) → Buf (Elt Ideal) ℓ)

theorem blk0 (c : Dev nD) (t : Fin cfg0.N) (k : Fin 2048) (r : Fin 2048) :
    iblk m c 0 t (ix2 k r) = m ((c : Thread nD τ).loc main_arg0) (ix2 ⟨t.val % 4 * 2048 + k.val, by omega⟩ r) := by
  blk_ext! [iblk, V, idx t]

theorem blk1 (c : Dev nD) (t : Fin cfg0.N) (k : Fin 2048) (s : Fin 1024) :
    iblk m c 1 t (ix2 k s) = m ((c : Thread nD τ).loc main_arg1) (ix2 ⟨t.val % 4 * 2048 + k.val, by omega⟩ ⟨t.val / 4 * 1024 + s.val, by have := t.isLt; have : cfg0.N = 8 := N_0; omega⟩) := by
  blk_ext! [iblk, V, idx t]

/-- The accumulator after the body at a point. -/
def acc (c : Dev nD) (n : ℕ) (h : n < cfg0.N) : S2048x1024.Idx → EReal := (outsAt0 m c n h).2

theorem acc_first (c : Dev nD) (t : Fin cfg0.N) (h : t.val % 4 = 0) :
    acc m c t.val t.isLt = k0_pay2 (F := Ideal) (iblk m c 0 t) (iblk m c 1 t) (k0_pay1 (F := Ideal)) := by
  unfold acc
  rw [outsAt0_A m c t h (by omega)]
  frame_out

theorem acc_next (c : Dev nD) (t : Fin cfg0.N) (h : ¬t.val % 4 = 0) :
    acc m c t.val t.isLt = k0_pay2 (F := Ideal) (iblk m c 0 t) (iblk m c 1 t) (acc m c (t.val - 1) (Nat.lt_of_le_of_lt (Nat.sub_le _ _) t.isLt)) := by
  unfold acc
  by_cases h' : t.val % 4 = 3
  · rw [outsAt0_C m c t h h']
    frame_out
    rw [read_unread_whole]
  · rw [outsAt0_B m c t h h']
    frame_out
    rw [read_unread_whole]

/-- The product, at an index of the result. -/
def grad (c : Dev nD) (i : S2048x2048.Idx) : EReal :=
  mulTN (m ((c : Thread nD τ).loc main_arg0)) (m ((c : Thread nD τ).loc main_arg1)) (i 0) (i 1)

/-- The accumulator at the last point of a block of the result. -/
theorem acc_last (c : Dev nD) (t : Fin cfg0.N) (h : t.val % 4 = 3) (y : S2048x1024.Idx) (i : S2048x2048.Idx)
    (e0 : (i 0).val = (y 0).val) (e1 : (i 1).val = t.val / 4 * 1024 + (y 1).val) :
    acc m c t.val t.isLt y = grad m c i := by
  have := t.isLt
  have : cfg0.N = 8 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  unfold grad mulTN part
  refine Fin.sum_mul_add_congr fun s k hl => ?_
  refine (congrArg₂ (fun a b : EReal => a * b) (blk0 m c _ _ _) (blk1 m c _ _ _)).trans ?_
  congr 2
  · exact congrArg₂ ix2 (Fin.ext (by simp only; omega)) (Fin.ext (by simp only; omega))
  · exact congrArg₂ ix2 (Fin.ext (by simp only; omega)) (Fin.ext (by simp only; omega))

/-- The result's block, at its last point. -/
theorem out2 (c : Dev nD) (t : Fin cfg0.N) (h : t.val % 4 = 3) (y : S2048x1024.Idx) :
    (outsAt0 m c t.val t.isLt).1 y = acc m c t.val t.isLt y := by
  rw [acc_next m c t (by omega), outsAt0_C m c t (by omega) h]
  unfold acc
  frame_out
  rw [read_unread_whole]
  pointwise [k0_pay3]

theorem arr2 (c : Dev nD) : (dats m 0 c).arrAt 2 cfg0.N = fun i : S2048x2048.Idx => grad m c i := by
  refine (dats m 0 c).arrAt_eq_of_covers 2 _ (by decide +kernel) fun t hf y => ?_
  have h := (flush0_2 t).mp hf
  have e0 : (((win0_2.blk t).view.emb y) 0 : ℕ) = (y 0).val := by blk_simp [idx t]; try omega
  have e1 : (((win0_2.blk t).view.emb y) 1 : ℕ) = t.val / 4 * 1024 + (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S2048x2048.Idx => grad m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel11Ideal.Mix

namespace Cert.Reference11Ideal.Mix

open Cert.Reference11Ideal Cert.Reference11Ideal.Gen Cert.Proof
open Idealize.ShloMosaic Idealize.ShloMosaic.TcCoe Idealize.ShloMosaic.Tactic

/-- The reference's result from arguments `x` and `g`: the same. -/
theorem values (m : (ℓ : Loc nD τ sig) → Buf (Elt Ideal) ℓ) (ρ : Dev nD → PrngReg) (x g : Dev nD → S8192x2048.Idx → EReal)
    (E : ∀ c : Dev nD, m ((c.tc : Thread nD τ).loc main_arg0) = x c ∧ m ((c.tc : Thread nD τ).loc main_arg1) = g c) :
    θ_run defs (onTc (τ := τ) (main (F := Ideal))) ⟨m, fun _ => 0, ρ⟩ fun r => ∀ c : Dev nD,
      r.2.mem ((c.tc : Thread nD τ).loc main_v7) = (fun i : S2048x2048.Idx => mulTN (x c) (g c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize g c = g
  funext i
  obtain ⟨r, s, rfl⟩ : ∃ r s : Fin 2048, i = ix2 r s := ⟨i 0, i 1, eq_ix2 i⟩
  refine Eq.trans ?_ (mulTN_comm g x s r)
  pointwise [dot_S8192x2048_S8192x2048_S2048x2048_0_0_1_1_n_n, mulTN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference11Ideal.Mix

end
-- ==== Proof.MixInBwd.lean ====
/- The cotangent of the HGRN2 mixer's input: the cotangents of its four parts, side by side, taken back through the weight; each part
   is a block of the sum. -/
module

public import proofs.«01_k».proof.Proof.Gen.Kernel12Ideal.Value
public import proofs.«01_k».proof.Proof.Gen.Reference12Ideal.Run
public import proofs.«01_k».proof.Proof.MlpSums
public import Idealize.ShloMosaic.Lib.Pipeline.ValueKit
public import Idealize.ShloMosaic.Lib.Pipeline.ReadBack

@[expose] public section

set_option maxRecDepth 16384

noncomputable section

namespace Cert.Kernel12Ideal.Mix

open Cert.Kernel12Ideal Cert.Kernel12Ideal.Gen Cert.Proof
open Idealize.ShloMosaic Idealize.ShloMosaic.TcCoe Idealize.ShloMosaic.Tactic

/-- A point's part of the sum. -/
def part (x0 : S1x1024x2048.Idx → EReal) (x1 : S2048x2048.Idx → EReal) (y : S1024x2048.Idx) : EReal :=
  ∑ k : Fin 2048, x0 (ix3 (0 : Fin 1) (y 0) k) * x1 (ix2 (y 1) k)

theorem clear (y : S1024x2048.Idx) : k0_pay1 (F := Ideal) y = (0 : EReal) := by
  obtain ⟨r, s, rfl⟩ : ∃ (r : Fin 1024) (s : Fin 2048), y = ix2 r s := ⟨y 0, y 1, eq_ix2 y⟩
  pointwise [k0_pay1]

theorem step (x0 : Vec Ideal S1x1024x2048 .bf16) (x1 : Vec Ideal S2048x2048 .bf16) (a : Vec Ideal S1024x2048 .f32) (y : S1024x2048.Idx) :
    k0_pay2 (F := Ideal) x0 x1 a y = a y + part x0 x1 y := by
  obtain ⟨r, s, rfl⟩ : ∃ (r : Fin 1024) (s : Fin 2048), y = ix2 r s := ⟨y 0, y 1, eq_ix2 y⟩
  pointwise [k0_pay2, part, dot_S1024x2048_S2048x2048_S1024x2048_1_1_0_0_n_n]

theorem idx : ∀ t : Fin cfg0.N, win0_0.index t = ![t.val % 4, t.val / 4, 0] ∧ win0_1.index t = ![0, t.val % 4]
    ∧ win0_2.index t = ![t.val / 4, 0] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix3 (0 : Fin 1) r k) = m ((c : Thread nD τ).loc main_arg0) (ix3 ⟨t.val % 4, by omega⟩ ⟨t.val / 4 * 1024 + r.val, by have := t.isLt; have : cfg0.N = 32 := N_0; omega⟩ k) := by
  blk_ext! [iblk, V, idx t]

theorem blk1 (c : Dev nD) (t : Fin cfg0.N) (s k : Fin 2048) :
    iblk m c 1 t (ix2 s k) = m ((c : Thread nD τ).loc main_arg1) (ix2 s ⟨t.val % 4 * 2048 + k.val, by omega⟩) := by
  blk_ext! [iblk, V, idx t]

/-- The accumulator after the body at a point. -/
def acc (c : Dev nD) (n : ℕ) (h : n < cfg0.N) : S1024x2048.Idx → EReal := (outsAt0 m c n h).2

theorem acc_first (c : Dev nD) (t : Fin cfg0.N) (h : t.val % 4 = 0) :
    acc m c t.val t.isLt = k0_pay2 (F := Ideal) (iblk m c 0 t) (iblk m c 1 t) (k0_pay1 (F := Ideal)) := by
  unfold acc
  rw [outsAt0_A m c t h (by omega)]
  frame_out

theorem acc_next (c : Dev nD) (t : Fin cfg0.N) (h : ¬t.val % 4 = 0) :
    acc m c t.val t.isLt = k0_pay2 (F := Ideal) (iblk m c 0 t) (iblk m c 1 t) (acc m c (t.val - 1) (Nat.lt_of_le_of_lt (Nat.sub_le _ _) t.isLt)) := by
  unfold acc
  by_cases h' : t.val % 4 = 3
  · rw [outsAt0_C m c t h h']
    frame_out
    rw [read_unread_whole]
  · rw [outsAt0_B m c t h h']
    frame_out
    rw [read_unread_whole]

/-- The product, at an index of the result. -/
def back (c : Dev nD) (i : S8192x2048.Idx) : EReal :=
  mulNT (sideBySide (m ((c : Thread nD τ).loc main_arg0))) (m ((c : Thread nD τ).loc main_arg1)) (i 0) (i 1)

/-- The accumulator at the last point of a block of the result. -/
theorem acc_last (c : Dev nD) (t : Fin cfg0.N) (h : t.val % 4 = 3) (y : S1024x2048.Idx) (i : S8192x2048.Idx)
    (e0 : (i 0).val = t.val / 4 * 1024 + (y 0).val) (e1 : (i 1).val = (y 1).val) :
    acc m c t.val t.isLt y = back m c i := by
  have := t.isLt
  have : cfg0.N = 32 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  unfold back mulNT sideBySide part
  refine Fin.sum_mul_add_congr fun s k hl => ?_
  refine (congrArg₂ (fun a b : EReal => a * b) (blk0 m c _ _ _) (blk1 m c _ _ _)).trans ?_
  congr 2
  · exact (congrArg₂ (fun a b => ix3 a b k) (Fin.ext (show (4 * (t.val / 4) + s.val) % 4 = (s.val * 2048 + k.val) / 2048 by omega))
      (Fin.ext (show (4 * (t.val / 4) + s.val) / 4 * 1024 + (y 0).val = (i 0).val by omega))).trans
      (congrArg (ix3 _ _) (Fin.ext (show k.val = (s.val * 2048 + k.val) % 2048 by omega)))
  · exact congrArg₂ ix2 (Fin.ext (by simp only; omega)) (Fin.ext (by simp only; omega))

/-- The result's block, at its last point. -/
theorem out2 (c : Dev nD) (t : Fin cfg0.N) (h : t.val % 4 = 3) (y : S1024x2048.Idx) :
    (outsAt0 m c t.val t.isLt).1 y = acc m c t.val t.isLt y := by
  rw [acc_next m c t (by omega), outsAt0_C m c t (by omega) h]
  unfold acc
  frame_out
  rw [read_unread_whole]
  pointwise [k0_pay3]

theorem arr2 (c : Dev nD) : (dats m 0 c).arrAt 2 cfg0.N = fun i : S8192x2048.Idx => back m c i := by
  refine (dats m 0 c).arrAt_eq_of_covers 2 _ (by decide +kernel) fun t hf y => ?_
  have h := (flush0_2 t).mp hf
  have e0 : (((win0_2.blk t).view.emb y) 0 : ℕ) = t.val / 4 * 1024 + (y 0).val := by blk_simp [idx t]; try omega
  have e1 : (((win0_2.blk t).view.emb y) 1 : ℕ) = (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S8192x2048.Idx => back m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel12Ideal.Mix

namespace Cert.Reference12Ideal.Mix

open Cert.Reference12Ideal Cert.Reference12Ideal.Gen Cert.Proof
open Idealize.ShloMosaic Idealize.ShloMosaic.TcCoe Idealize.ShloMosaic.Tactic

/-- The reference's result from arguments `g` and `w`: the same. -/
theorem values (m : (ℓ : Loc nD τ sig) → Buf (Elt Ideal) ℓ) (ρ : Dev nD → PrngReg) (g : Dev nD → S4x8192x2048.Idx → EReal) (w : Dev nD → S2048x8192.Idx → EReal)
    (E : ∀ c : Dev nD, m ((c.tc : Thread nD τ).loc main_arg0) = g c ∧ m ((c.tc : Thread nD τ).loc main_arg1) = w c) :
    θ_run defs (onTc (τ := τ) (main (F := Ideal))) ⟨m, fun _ => 0, ρ⟩ fun r => ∀ c : Dev nD,
      r.2.mem ((c.tc : Thread nD τ).loc main_v20) = (fun i : S8192x2048.Idx => mulNT (sideBySide (g c)) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize g c = g
  generalize w c = w
  funext i
  obtain ⟨r, s, rfl⟩ : ∃ (r : Fin 8192) (s : Fin 2048), i = ix2 r s := ⟨i 0, i 1, eq_ix2 i⟩
  pointwise [dot_S8192x8192_S2048x8192_S8192x2048_1_1_0_0_n_n, mulNT]
  exact Finset.sum_congr rfl fun x _ => congrArg (· * w (ix2 s x)) (sideBySide_pieces g r x)

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference12Ideal.Mix

end
-- ==== Proof.MixInWgrad.lean ====
/- The gradient of the HGRN2 mixer's first weight: the transposed input times the cotangents of the four parts, side by side,
   accumulated over four blocks of the tokens. -/
module

public import proofs.«01_k».proof.Proof.Gen.Kernel13Ideal.Value
public import proofs.«01_k».proof.Proof.Gen.Reference13Ideal.Run
public import proofs.«01_k».proof.Proof.MlpSums
public import Idealize.ShloMosaic.Lib.Pipeline.ValueKit
public import Idealize.ShloMosaic.Lib.Pipeline.ReadBack

@[expose] public section

set_option maxRecDepth 16384

noncomputable section

namespace Cert.Kernel13Ideal.Mix

open Cert.Kernel13Ideal Cert.Kernel13Ideal.Gen Cert.Proof
open Idealize.ShloMosaic Idealize.ShloMosaic.TcCoe Idealize.ShloMosaic.Tactic

/-- A point's part of the sum. -/
def part (x0 : S2048x2048.Idx → EReal) (x1 : S1x2048x1024.Idx → EReal) (y : S2048x1024.Idx) : EReal :=
  ∑ k : Fin 2048, x0 (ix2 k (y 0)) * x1 (ix3 (0 : Fin 1) k (y 1))

theorem clear (y : S2048x1024.Idx) : k0_pay1 (F := Ideal) y = (0 : EReal) := by
  obtain ⟨r, s, rfl⟩ : ∃ (r : Fin 2048) (s : Fin 1024), y = ix2 r s := ⟨y 0, y 1, eq_ix2 y⟩
  pointwise [k0_pay1]

theorem step (x0 : Vec Ideal S2048x2048 .bf16) (x1 : Vec Ideal S1x2048x1024 .bf16) (a : Vec Ideal S2048x1024 .f32) (y : S2048x1024.Idx) :
    k0_pay2 (F := Ideal) x0 x1 a y = a y + part x0 x1 y := by
  obtain ⟨r, s, rfl⟩ : ∃ (r : Fin 2048) (s : Fin 1024), y = ix2 r s := ⟨y 0, y 1, eq_ix2 y⟩
  pointwise [k0_pay2, part, dot_S2048x2048_S2048x1024_S2048x1024_0_0_1_1_n_n]

theorem idx : ∀ t : Fin cfg0.N, win0_0.index t = ![t.val % 4, 0] ∧ win0_1.index t = ![t.val / 8, t.val % 4, t.val / 4 % 2]
    ∧ win0_2.index t = ![0, t.val / 4] :=
  (by decide +kernel : ∀ t : Fin grid0.N, _)

variable (m : (ℓ : Loc nD τ sig) → Buf (Elt Ideal) ℓ)

theorem blk0 (c : Dev nD) (t : Fin cfg0.N) (k : Fin 2048) (r : Fin 2048) :
    iblk m c 0 t (ix2 k r) = m ((c : Thread nD τ).loc main_arg0) (ix2 ⟨t.val % 4 * 2048 + k.val, by omega⟩ r) := by
  blk_ext! [iblk, V, idx t]

theorem blk1 (c : Dev nD) (t : Fin cfg0.N) (k : Fin 2048) (s : Fin 1024) :
    iblk m c 1 t (ix3 (0 : Fin 1) k s) = m ((c : Thread nD τ).loc main_arg1) (ix3 ⟨t.val / 8, by have := t.isLt; have : cfg0.N = 32 := N_0; omega⟩ ⟨t.val % 4 * 2048 + k.val, by omega⟩ ⟨t.val / 4 % 2 * 1024 + s.val, by omega⟩) := by
  blk_ext! [iblk, V, idx t]

/-- The accumulator after the body at a point. -/
def acc (c : Dev nD) (n : ℕ) (h : n < cfg0.N) : S2048x1024.Idx → EReal := (outsAt0 m c n h).2

theorem acc_first (c : Dev nD) (t : Fin cfg0.N) (h : t.val % 4 = 0) :
    acc m c t.val t.isLt = k0_pay2 (F := Ideal) (iblk m c 0 t) (iblk m c 1 t) (k0_pay1 (F := Ideal)) := by
  unfold acc
  rw [outsAt0_A m c t h (by omega)]
  frame_out

theorem acc_next (c : Dev nD) (t : Fin cfg0.N) (h : ¬t.val % 4 = 0) :
    acc m c t.val t.isLt = k0_pay2 (F := Ideal) (iblk m c 0 t) (iblk m c 1 t) (acc m c (t.val - 1) (Nat.lt_of_le_of_lt (Nat.sub_le _ _) t.isLt)) := by
  unfold acc
  by_cases h' : t.val % 4 = 3
  · rw [outsAt0_C m c t h h']
    frame_out
    rw [read_unread_whole]
  · rw [outsAt0_B m c t h h']
    frame_out
    rw [read_unread_whole]

/-- The product, at an index of the result. -/
def grad (c : Dev nD) (i : S2048x8192.Idx) : EReal :=
  mulTN (m ((c : Thread nD τ).loc main_arg0)) (sideBySide (m ((c : Thread nD τ).loc main_arg1))) (i 0) (i 1)

/-- The accumulator at the last point of a block of the result. -/
theorem acc_last (c : Dev nD) (t : Fin cfg0.N) (h : t.val % 4 = 3) (y : S2048x1024.Idx) (i : S2048x8192.Idx)
    (e0 : (i 0).val = (y 0).val) (e1 : (i 1).val = t.val / 4 * 1024 + (y 1).val) :
    acc m c t.val t.isLt y = grad m c i := by
  have := t.isLt
  have : cfg0.N = 32 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  have : (y 1).val < 1024 := (y 1).isLt
  unfold grad mulTN sideBySide part
  refine Fin.sum_mul_add_congr fun s k hl => ?_
  refine (congrArg₂ (fun a b : EReal => a * b) (blk0 m c _ _ _) (blk1 m c _ _ _)).trans ?_
  congr 2
  · exact congrArg₂ ix2 (Fin.ext (by simp only; omega)) (Fin.ext (by simp only; omega))
  · exact (congrArg₂ (fun a b => ix3 a b _) (Fin.ext (show (4 * (t.val / 4) + s.val) / 8 = (i 1).val / 2048 by omega))
      (Fin.ext (show (4 * (t.val / 4) + s.val) % 4 * 2048 + k.val = s.val * 2048 + k.val by omega))).trans
      (congrArg (ix3 _ _) (Fin.ext (show (4 * (t.val / 4) + s.val) / 4 % 2 * 1024 + (y 1).val = (i 1).val % 2048 by omega)))

/-- The result's block, at its last point. -/
theorem out2 (c : Dev nD) (t : Fin cfg0.N) (h : t.val % 4 = 3) (y : S2048x1024.Idx) :
    (outsAt0 m c t.val t.isLt).1 y = acc m c t.val t.isLt y := by
  rw [acc_next m c t (by omega), outsAt0_C m c t (by omega) h]
  unfold acc
  frame_out
  rw [read_unread_whole]
  pointwise [k0_pay3]

theorem arr2 (c : Dev nD) : (dats m 0 c).arrAt 2 cfg0.N = fun i : S2048x8192.Idx => grad m c i := by
  refine (dats m 0 c).arrAt_eq_of_covers 2 _ (by decide +kernel) fun t hf y => ?_
  have h := (flush0_2 t).mp hf
  have e0 : (((win0_2.blk t).view.emb y) 0 : ℕ) = (y 0).val := by blk_simp [idx t]; try omega
  have e1 : (((win0_2.blk t).view.emb y) 1 : ℕ) = t.val / 4 * 1024 + (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S2048x8192.Idx => grad m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel13Ideal.Mix

namespace Cert.Reference13Ideal.Mix

open Cert.Reference13Ideal Cert.Reference13Ideal.Gen Cert.Proof
open Idealize.ShloMosaic Idealize.ShloMosaic.TcCoe Idealize.ShloMosaic.Tactic

/-- The reference's result from arguments `x` and `g`: the same. -/
theorem values (m : (ℓ : Loc nD τ sig) → Buf (Elt Ideal) ℓ) (ρ : Dev nD → PrngReg) (x : Dev nD → S8192x2048.Idx → EReal) (g : Dev nD → S4x8192x2048.Idx → EReal)
    (E : ∀ c : Dev nD, m ((c.tc : Thread nD τ).loc main_arg0) = x c ∧ m ((c.tc : Thread nD τ).loc main_arg1) = g c) :
    θ_run defs (onTc (τ := τ) (main (F := Ideal))) ⟨m, fun _ => 0, ρ⟩ fun r => ∀ c : Dev nD,
      r.2.mem ((c.tc : Thread nD τ).loc main_v20) = (fun i : S2048x8192.Idx => mulTN (x c) (sideBySide (g c)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize g c = g
  funext i
  obtain ⟨r, s, rfl⟩ : ∃ (r : Fin 2048) (s : Fin 8192), i = ix2 r s := ⟨i 0, i 1, eq_ix2 i⟩
  refine Eq.trans ?_ (mulTN_comm (sideBySide g) x s r)
  pointwise [dot_S8192x8192_S8192x2048_S8192x2048_0_0_1_1_n_n, mulTN]
  exact Finset.sum_congr rfl fun k _ => congrArg (· * x (ix2 k r)) (sideBySide_pieces g k s)

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference13Ideal.Mix

end
-- ==== Proof.NormRow.lean ====
/- One row of the norm's gradient over the extended reals: what the kernel forms in one product is what differentiating the norm
   adds up term by term. No entry need be finite: a row with an infinite entry has the reciprocal root 0 in both. -/
module

public import proofs.«01_k».proof.Proof.Lift

@[expose] public section

noncomputable section

namespace Cert.Proof

open Idealize.ShloMosaic

/-- A row's mean square, with the small number added. -/
def msq (x : Fin 2048 → EReal) : EReal := Ideal.div (∑ k, x k * x k) (Ideal.ofBits .f32 0x45000000#32) + Ideal.ofBits .f32 0x358637BD#32

/-- Its reciprocal root. -/
def rroot (x : Fin 2048 → EReal) : EReal := Ideal.rsqrt (msq x)

/-- The gradient of a row's norm at entry `j`, from the cotangent `u` of the normalised row and the one `d` that passes by. -/
def rowGrad (x u : Fin 2048 → EReal) (d : EReal) (j : Fin 2048) : EReal :=
  d + rroot x * (u j - x j * rroot x * Ideal.div (∑ k, u k * (x k * rroot x)) (Ideal.ofBits .f32 0x45000000#32))

theorem word_2048 : Ideal.ofBits .f32 0x45000000#32 = ((2048 : ℝ) : EReal) := by
  simp [Ideal.ofBits, Ideal.ieee, -EReal.coe_mul]
  norm_num

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- A row's mean square with the small number added is a positive real number, or infinite. -/
theorem msq_cases (x : Fin 2048 → EReal) : (∃ s : ℝ, 0 < s ∧ msq x = (s : EReal) ∧ ∀ k, x k ≠ ⊤ ∧ x k ≠ ⊥) ∨ msq x = ⊤ := by
  by_cases h : ∀ k, x k ≠ ⊤ ∧ x k ≠ ⊥
  · left
    choose y hy using fun k => exists_real (h k).2 (h k).1
    refine ⟨(∑ k, y k * y k) / 2048 + eps, ?_, ?_, h⟩
    · have : (0 : ℝ) ≤ ∑ k, y k * y k := Finset.sum_nonneg fun k _ => mul_self_nonneg _
      have := word_eps.2
      positivity
    · unfold msq
      rw [word_2048, word_eps.1]
      simp only [hy, ← EReal.coe_mul, ← coe_sum]
      rw [div_real _ (by norm_num), ← EReal.coe_add]
  · right
    obtain ⟨k, hk⟩ := not_forall.mp h
    have e : x k * x k = ⊤ := by
      by_cases ht : x k = ⊤
      · rw [ht, EReal.top_mul_top]
      · have hb : x k = ⊥ := by
          by_contra hb
          exact hk ⟨ht, hb⟩
        rw [hb, EReal.bot_mul_bot]
    have es : (∑ k, x k * x k) = ⊤ := top_le_iff.mp (e ▸ Finset.single_le_sum (f := fun k => x k * x k) (fun k _ => square_nonneg _) (Finset.mem_univ k))
    unfold msq
    rw [es, word_2048, word_eps.1, Ideal.div_coe (by norm_num), EReal.top_mul_coe_of_pos (by norm_num), EReal.top_add_coe]

/-- A sum of products with a fixed positive real number. -/
theorem sum_mul_coe {ι : Type} (s : Finset ι) (f : ι → EReal) {r : ℝ} (hr : 0 < r) : (∑ i ∈ s, f i) * (r : EReal) = ∑ i ∈ s, f i * (r : EReal) := by
  classical
  induction s using Finset.induction_on with
  | empty => simp
  | insert a s ha ih =>
    rw [Finset.sum_insert ha, Finset.sum_insert ha, ← ih, EReal.right_distrib_of_nonneg_of_ne_top (EReal.coe_nonneg.mpr hr.le) (EReal.coe_ne_top r)]

/-- Twice a number. -/
theorem twice (e : EReal) : e + e = ((2 : ℝ) : EReal) * e := by
  have : ((2 : ℝ) : EReal) = 1 + 1 := by rw [← EReal.coe_one, ← EReal.coe_add]; norm_num
  rw [this, EReal.right_distrib_of_nonneg zero_le_one zero_le_one, one_mul]

/-- What differentiating the norm adds up is the gradient of the row. -/
theorem rowGrad_terms (x u : Fin 2048 → EReal) (d : EReal) (j : Fin 2048) :
    d + u j * rroot x
      + x j * Ideal.div ((∑ k, x k * u k) * (Ideal.ofBits .f32 0xBF000000#32 * Ideal.div (rroot x) (msq x))) (Ideal.ofBits .f32 0x45000000#32)
      + Ideal.div ((∑ k, x k * u k) * (Ideal.ofBits .f32 0xBF000000#32 * Ideal.div (rroot x) (msq x))) (Ideal.ofBits .f32 0x45000000#32) * x j
      = rowGrad x u d j := by
  unfold rowGrad rroot
  rcases msq_cases x with ⟨s, hs, e, hx⟩ | e
  · obtain ⟨y, hy⟩ := exists_real (hx j).2 (hx j).1
    set r : ℝ := (Real.sqrt s)⁻¹ with hr
    have hr0 : 0 < r := inv_pos.mpr (Real.sqrt_pos.mpr hs)
    have hrs : r / s = r * r * r := by
      have h1 : r * Real.sqrt s = 1 := inv_mul_cancel₀ (Real.sqrt_pos.mpr hs).ne'
      have h2 : Real.sqrt s * Real.sqrt s = s := Real.mul_self_sqrt hs.le
      have h3 : r * r * s = 1 := by rw [← h2]; linear_combination (r * Real.sqrt s + 1) * h1
      rw [div_eq_iff hs.ne']
      linear_combination -r * h3
    have hS : (∑ k, u k * (x k * (r : EReal))) = (∑ k, x k * u k) * (r : EReal) := by
      rw [sum_mul_coe _ _ hr0]
      exact Finset.sum_congr rfl fun k _ => by rw [← mul_assoc, mul_comm (u k)]
    rw [e, rsqrt_real hs, ← hr, hS, word_neg_half, word_2048, div_real _ hs.ne', hy, Ideal.div_coe (by norm_num), Ideal.div_coe (by norm_num), hrs]
    generalize (∑ k, x k * u k) = S
    generalize u j = v
    rw [sub_eq_add_neg, EReal.left_distrib_of_nonneg_of_ne_top (EReal.coe_nonneg.mpr hr0.le) (EReal.coe_ne_top r), add_assoc, add_assoc, mul_comm (r : EReal) v, ← add_assoc d]
    rw [← add_assoc d]
    congr 1
    have l : (y : EReal) * (S * (((-(1 / 2) : ℝ) : EReal) * ((r * r * r : ℝ) : EReal)) * ((1 / 2048 : ℝ) : EReal)) = S * ((y * (-(1 / 2) * (r * r * r)) * (1 / 2048) : ℝ) : EReal) := by
      rw [← EReal.coe_mul, mul_assoc, ← EReal.coe_mul, mul_left_comm, ← EReal.coe_mul]
      congr 2
      ring
    have l' : (r : EReal) * -((y : EReal) * (r : EReal) * (S * (r : EReal) * ((1 / 2048 : ℝ) : EReal))) = S * ((r * -(y * r * (r * (1 / 2048))) : ℝ) : EReal) := by
      rw [← EReal.coe_mul, mul_assoc S, ← EReal.coe_mul, mul_left_comm _ S, ← EReal.coe_mul, ← mul_neg, ← EReal.coe_neg, mul_left_comm, ← EReal.coe_mul]
    rw [mul_comm _ (y : EReal), l, l', twice, mul_left_comm, ← EReal.coe_mul]
    congr 2
    ring
  · have z : Ideal.div 0 ⊤ = 0 := by simp [Ideal.div]
    rw [e, Ideal.rsqrt_top, z, word_2048, Ideal.div_coe (by norm_num)]
    simp

/-- The arguments of the norm's gradient over `n` tokens: the normalised array `x`, the cotangent `dh` of the norm's result, the one `dres` that
    passes by, the branch `y` below, and the rows: the gain `g`, the scale `sc`, the gate of the branch. -/
structure NormArgs (n : ℕ) where
  x : Fin n → Fin 2048 → EReal
  dh : Fin n → Fin 2048 → EReal
  dres : Fin n → Fin 2048 → EReal
  g : Fin 2048 → EReal
  sc : Fin 2048 → EReal
  y : Fin n → Fin 2048 → EReal
  gate : Fin 2048 → EReal

namespace NormArgs

/-- The arguments in seven arrays. -/
def of {n : ℕ} (x0 x1 x2 : (⟨2, ![n, 2048]⟩ : Shape).Idx → EReal) (x3 x4 : (⟨2, ![1, 2048]⟩ : Shape).Idx → EReal)
    (x5 : (⟨2, ![n, 2048]⟩ : Shape).Idx → EReal) (x6 : (⟨2, ![1, 2048]⟩ : Shape).Idx → EReal) : NormArgs n :=
  ⟨fun r s => x0 (ix2 r s), fun r s => x1 (ix2 r s), fun r s => x2 (ix2 r s), fun s => x3 (ix2 0 s), fun s => x4 (ix2 0 s),
    fun r s => x5 (ix2 r s), fun s => x6 (ix2 0 s)⟩

/-- The arguments at `k` of the tokens. -/
def pick {n k : ℕ} (A : NormArgs n) (f : Fin k → Fin n) : NormArgs k :=
  ⟨fun r => A.x (f r), fun r => A.dh (f r), fun r => A.dres (f r), A.g, A.sc, fun r => A.y (f r), A.gate⟩

variable {n : ℕ} (A : NormArgs n) (r : Fin n) (s : Fin 2048)

/-- The normalised array. -/
def xn : EReal := A.x r s * rroot (A.x r)

/-- The cotangent before the scale. -/
def dhn : EReal := A.dh r s * (1 + A.sc s)

/-- The cotangent of the norm's argument. -/
def dx : EReal := rowGrad (A.x r) (fun k => A.dhn r k * A.g k) (A.dres r s) s

/-- The cotangent of the branch below. -/
def dbranch : EReal := A.dx r s * A.gate s

/-- What a token adds to entry `(k, s)` of the sums: of the shift, the scale, the gain and the gate in the rows 0 to 3, nothing in the rest. -/
def stat (k : ℕ) : EReal :=
  if k = 0 then A.dh r s else if k = 1 then A.dh r s * (A.xn r s * A.g s) else if k = 2 then A.dhn r s * A.xn r s
  else if k = 3 then A.dx r s * A.y r s else 0

theorem stat_rest (k : ℕ) (h : 4 ≤ k) : A.stat r s k = 0 := by
  unfold stat
  rw [if_neg (by omega), if_neg (by omega), if_neg (by omega), if_neg (by omega)]

end NormArgs

end Cert.Proof

end
-- ==== Proof.NormFwd.lean ====
/- The norm with its scale and shift: what the call leaves at an index of its result. -/
module

public import proofs.«01_k».proof.Proof.Gen.Kernel14Ideal.Value
public import proofs.«01_k».proof.Proof.Gen.Reference14Ideal.Read
public import proofs.«01_k».proof.Proof.NormRow
public import Idealize.ShloMosaic.Lib.Pipeline.ValueKit

@[expose] public section

set_option maxRecDepth 16384

noncomputable section

namespace Cert.Proof

open Idealize.ShloMosaic

/-- A normalised, scaled and shifted entry. -/
def normed (x : (⟨2, ![8192, 2048]⟩ : Shape).Idx → EReal) (g sc sh : (⟨2, ![1, 2048]⟩ : Shape).Idx → EReal) (r : Fin 8192) (s : Fin 2048) : EReal :=
  x (ix2 r s) * rroot (fun k => x (ix2 r k)) * g (ix2 0 s) * (1 + sc (ix2 0 s)) + sh (ix2 0 s)

end Cert.Proof

namespace Cert.Kernel14Ideal.Norm

open Cert.Kernel14Ideal Cert.Kernel14Ideal.Gen Cert.Proof
open Idealize.ShloMosaic Idealize.ShloMosaic.TcCoe Idealize.ShloMosaic.Tactic

/-- A point's entry. -/
theorem entry (x0 : Vec Ideal S512x2048 .f32) (x1 x2 x3 : Vec Ideal S1x2048 .f32) (r : Fin 512) (s : Fin 2048) :
    k0_pay1 (F := Ideal) x0 x1 x2 x3 (ix2 r s)
      = x0 (ix2 r s) * rroot (fun k => x0 (ix2 r k)) * x1 (ix2 0 s) * (1 + x2 (ix2 0 s)) + x3 (ix2 0 s) := by
  pointwise [k0_pay1, rroot, msq]

theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

variable (m : (ℓ : Loc nD τ sig) → Buf (Elt Ideal) ℓ)

theorem blk0 (c : Dev nD) (t : Fin cfg0.N) (r : Fin 512) (k : Fin 2048) :
    iblk m c 0 t (ix2 r k) = m ((c : Thread nD τ).loc main_arg0) (ix2 ⟨t.val * 512 + r.val, by have := t.isLt; have : cfg0.N = 16 := N_0; omega⟩ k) := by
  blk_ext! [iblk, V, idx t]

theorem blk1 (c : Dev nD) (t : Fin cfg0.N) (k : Fin 2048) : iblk m c 1 t (ix2 0 k) = m ((c : Thread nD τ).loc main_arg1) (ix2 0 k) := by
  blk_ext! [iblk, V, idx t]

theorem blk2 (c : Dev nD) (t : Fin cfg0.N) (k : Fin 2048) : iblk m c 2 t (ix2 0 k) = m ((c : Thread nD τ).loc main_arg2) (ix2 0 k) := by
  blk_ext! [iblk, V, idx t]

theorem blk3 (c : Dev nD) (t : Fin cfg0.N) (k : Fin 2048) : iblk m c 3 t (ix2 0 k) = m ((c : Thread nD τ).loc main_arg3) (ix2 0 k) := by
  blk_ext! [iblk, V, idx t]

/-- The result. -/
def out (c : Dev nD) (i : S8192x2048.Idx) : EReal :=
  normed (m ((c : Thread nD τ).loc main_arg0)) (m ((c : Thread nD τ).loc main_arg1)) (m ((c : Thread nD τ).loc main_arg2)) (m ((c : Thread nD τ).loc main_arg3)) (i 0) (i 1)

theorem entry_at (c : Dev nD) (t : Fin cfg0.N) (y : S512x2048.Idx) (i : S8192x2048.Idx)
    (e0 : (i 0).val = t.val * 512 + (y 0).val) (e1 : (i 1).val = (y 1).val) :
    k0_pay1 (F := Ideal) (iblk m c 0 t) (iblk m c 1 t) (iblk m c 2 t) (iblk m c 3 t) y = out m c i := by
  obtain ⟨r, s, rfl⟩ : ∃ (r : Fin 512) (s : Fin 2048), y = ix2 r s := ⟨y 0, y 1, eq_ix2 y⟩
  have h : i = ix2 ⟨t.val * 512 + r.val, by have := t.isLt; have : cfg0.N = 16 := N_0; omega⟩ s :=
    (eq_ix2 i).trans (congrArg₂ ix2 (Fin.ext e0) (Fin.ext e1))
  rw [entry, h]
  simp only [blk0, blk1, blk2, blk3]
  rfl

theorem arr4 (c : Dev nD) : (dats m 0 c).arrAt 4 cfg0.N = fun i : S8192x2048.Idx => out m c i := by
  refine (dats m 0 c).arrAt_eq_of_covers 4 _ (by decide +kernel) fun t hf y => ?_
  have e0 : (((win0_4.blk t).view.emb y) 0 : ℕ) = t.val * 512 + (y 0).val := by blk_simp [idx t]; try omega
  have e1 : (((win0_4.blk t).view.emb y) 1 : ℕ) = (y 1).val := by blk_simp [idx t]; try omega
  blk_simp
  rw [after0_4]
  frame_out
  exact entry_at m c t y _ e0 e1

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S8192x2048.Idx => out m c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2⟩) (Value.run_blocks m ρ)

end Cert.Kernel14Ideal.Norm

namespace Cert.Reference14Ideal.Norm

open Cert.Reference14Ideal Cert.Reference14Ideal.Gen Cert.Reference14Ideal.Read Cert.Proof
open Idealize.ShloMosaic Idealize.ShloMosaic.TcCoe Idealize.ShloMosaic.Tactic

/-- A row's mean square, with the small number added. -/
theorem v7 (x0 : S8192x2048.Idx → EReal) (r : Fin 8192) : val_main_v7 (F := Ideal) x0 (ix2 r 0) = msq fun k => x0 (ix2 r k) := by
  pointwise [val_main_v7, val_main_v5, val_main_v3, val_main_v2, val_main_v1, val_main_v4, val_main_v6, val_main_cst, val_main_cst_0, val_main_cst_1]
  rfl

theorem v8 (x0 : S8192x2048.Idx → EReal) (r : Fin 8192) : val_main_v8 (F := Ideal) x0 (ix2 r 0) = rroot fun k => x0 (ix2 r k) := by
  pointwise [val_main_v8]
  rw [v7]
  rfl

theorem v24 (x0 : S8192x2048.Idx → EReal) (x1 x2 x3 : S1x2048.Idx → EReal) (r : Fin 8192) (s : Fin 2048) :
    val_main_v24 (F := Ideal) x0 x1 x2 x3 (ix2 r s) = normed x0 x1 x2 x3 r s := by
  pointwise [val_main_v24, val_main_v23, val_main_v22, val_main_v21, val_main_v20, val_main_v19, val_main_v18, val_main_v17, val_main_v16, val_main_v15, val_main_v14,
    val_main_v13, val_main_v12, val_main_v11, val_main_v10, val_main_v9, val_main_v0, val_main_cst_2]
  rw [v8]
  rfl

/-- The reference's result from arguments `x`, `g`, `sc` and `sh`: the same. -/
theorem values (m : (ℓ : Loc nD τ sig) → Buf (Elt Ideal) ℓ) (ρ : Dev nD → PrngReg) (x : Dev nD → S8192x2048.Idx → EReal) (g sc sh : Dev nD → S1x2048.Idx → EReal)
    (E : ∀ c : Dev nD, m ((c.tc : Thread nD τ).loc main_arg0) = x c ∧ m ((c.tc : Thread nD τ).loc main_arg1) = g c
      ∧ m ((c.tc : Thread nD τ).loc main_arg2) = sc c ∧ m ((c.tc : Thread nD τ).loc main_arg3) = sh c) :
    θ_run defs (onTc (τ := τ) (main (F := Ideal))) ⟨m, fun _ => 0, ρ⟩ fun r => ∀ c : Dev nD,
      r.2.mem ((c.tc : Thread nD τ).loc main_v24) = (fun i : S8192x2048.Idx => normed (x c) (g c) (sc c) (sh c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  rw [(E c).1, (E c).2.1, (E c).2.2.1, (E c).2.2.2]
  show val_main_v24 (F := Ideal) (x c) (g c) (sc c) (sh c) = _
  funext i
  obtain ⟨r, s, rfl⟩ : ∃ (r : Fin 8192) (s : Fin 2048), i = ix2 r s := ⟨i 0, i 1, eq_ix2 i⟩
  exact v24 _ _ _ _ r s

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2, sem_eq_zero_of_no_sems (by decide) r.2⟩) (Value.run m ρ)

end Cert.Reference14Ideal.Norm

end
-- ==== Proof.NormBwd.lean ====
/- The norm's gradient: what the kernel's call leaves at an index of each of its results. -/
module

public import proofs.«01_k».proof.Proof.Gen.Kernel15Ideal.Value
public import proofs.«01_k».proof.Proof.NormRow
public import Idealize.ShloMosaic.Lib.Pipeline.ValueKit
public import Idealize.ShloMosaic.Lib.WritesUnit

@[expose] public section

set_option maxRecDepth 16384

noncomputable section

namespace Cert.Proof

open Idealize.ShloMosaic

/-- Reading one index of a row store over earlier stores. -/
theorem canon_row (a : ℕ) (h) (w : (Rect.unit (s := ⟨2, ![8, 2048]⟩) ![a, 0] ![1, 2048] h).shape.Idx → Elt Ideal .f32)
    (L : List (Idealize.ShloMosaic.View.Piece (Elt Ideal) ⟨2, ![8, 2048]⟩ .f32)) (k : Fin 8) (s : Fin 2048) :
    View.canon (⟨Rect.unit (s := ⟨2, ![8, 2048]⟩) ![a, 0] ![1, 2048] h, w⟩ :: L) (ix2 k s)
      = if k.val = a then w (ix2 (n0 := 1) (n1 := 2048) 0 s) else View.canon L (ix2 k s) := by
  split_ifs with e
  · have : (ix2 k s : (⟨2, ![8, 2048]⟩ : Shape).Idx) = (Rect.unit (s := ⟨2, ![8, 2048]⟩) ![a, 0] ![1, 2048] h).emb (ix2 (n0 := 1) (n1 := 2048) 0 s) := by
      funext b
      match b with
      | ⟨0, _⟩ => exact Fin.ext (show k.val = a + 1 * 0 by omega)
      | ⟨1, _⟩ => exact Fin.ext (show s.val = 0 + 1 * s.val by omega)
    rw [this, View.canon_cons_emb]
  · refine View.canon_cons_of_not_mem ⟨Rect.unit (s := ⟨2, ![8, 2048]⟩) ![a, 0] ![1, 2048] h, w⟩ L fun hm => e ?_
    have hm : ix2 k s ∈ (Rect.unit (s := ⟨2, ![8, 2048]⟩) ![a, 0] ![1, 2048] h).set := hm
    have := (Rect.mem_set_unit.mp hm) 0
    have h1 : a ≤ k.val := this.1
    have h2 : k.val < a + 1 := this.2
    omega

/-- The same over any contents. -/
theorem read_row {sig : RefSig} {κ : Kind} {sp : Space} (v : View sig κ sp ⟨2, ![8, 2048]⟩ .f32) (f : v.ty.Contents (Elt Ideal)) (a : ℕ) (h)
    (w : (Rect.unit (s := ⟨2, ![8, 2048]⟩) ![a, 0] ![1, 2048] h).shape.Idx → Elt Ideal .f32)
    (L : List (Idealize.ShloMosaic.View.Piece (Elt Ideal) ⟨2, ![8, 2048]⟩ .f32)) (k : Fin 8) (s : Fin 2048) :
    v.read (Elt Ideal) (v.writes (Elt Ideal) f (⟨Rect.unit (s := ⟨2, ![8, 2048]⟩) ![a, 0] ![1, 2048] h, w⟩ :: L)) (ix2 k s)
      = if k.val = a then w (ix2 (n0 := 1) (n1 := 2048) 0 s) else v.read (Elt Ideal) (v.writes (Elt Ideal) f L) (ix2 k s) := by
  split_ifs with e
  · refine View.read_writes_cons_unit_of_mem v f h w L (ix2 k s) (ix2 (n0 := 1) (n1 := 2048) 0 s) rfl fun b => ?_
    match b with
    | ⟨0, _⟩ => exact (show k.val = a + 0 by omega)
    | ⟨1, _⟩ => exact (show s.val = 0 + s.val by omega)
  · exact View.read_writes_cons_unit_of_not_mem v f h w L (ix2 k s) rfl 0 (show k.val < a ∨ a + 1 ≤ k.val by omega)

/-- A row read back after stores. -/
theorem readCov_row {sig : RefSig} {κ : Kind} {sp : Space} (v : View sig κ sp ⟨2, ![8, 2048]⟩ .f32)
    (L : List (Idealize.ShloMosaic.View.Piece (Elt Ideal) ⟨2, ![8, 2048]⟩ .f32)) (k : Fin 8) (a : ℕ) (ha : k.val = a) (h) (s : Fin 2048) :
    v.readCov L (Rect.unit (s := ⟨2, ![8, 2048]⟩) ![a, 0] ![1, 2048] h).toLoadRect (ix2 (n0 := 1) (n1 := 2048) 0 s) = View.canon L (ix2 k s) := by
  rw [View.readCov_eq_canon']
  refine congrArg (View.canon L) ?_
  funext b
  match b with
  | ⟨0, _⟩ => exact Fin.ext (show a + 1 * 0 = k.val by omega)
  | ⟨1, _⟩ => exact Fin.ext (show 0 + 1 * s.val = s.val by omega)

end Cert.Proof

namespace Cert.Kernel15Ideal.Norm

open Cert.Kernel15Ideal Cert.Kernel15Ideal.Gen Cert.Proof
open Idealize.ShloMosaic Idealize.ShloMosaic.TcCoe Idealize.ShloMosaic.Tactic

section payloads

variable (x0 : Vec Ideal S256x2048 .f32) (x1 : Vec Ideal S256x2048 .bf16) (x2 : Vec Ideal S256x2048 .f32) (x3 x4 : Vec Ideal S1x2048 .f32)
  (x5 : Vec Ideal S256x2048 .bf16) (x6 row : Vec Ideal S1x2048 .f32) (r : Fin 256) (s : Fin 2048)

theorem pay3 : k0_pay3 (F := Ideal) x0 (ix2 r 0) = rroot fun k => x0 (ix2 r k) := by
  pointwise [k0_pay3]
  rfl

theorem pay4 : k0_pay4 (F := Ideal) x0 (ix2 r s) = (NormArgs.of x0 x1 x2 x3 x4 x5 x6).xn r s := by
  pointwise [k0_pay4]
  rw [pay3]
  rfl

theorem pay6 : k0_pay6 (F := Ideal) x1 x4 (ix2 r s) = (NormArgs.of x0 x1 x2 x3 x4 x5 x6).dhn r s := by
  pointwise [k0_pay6]
  rfl

theorem pay7 : k0_pay7 (F := Ideal) x0 x1 x3 x4 x2 (ix2 r s) = (NormArgs.of x0 x1 x2 x3 x4 x5 x6).dx r s := by
  pointwise [k0_pay7]
  simp only [pay3, pay4 x0 x1 x2 x3 x4 x5 x6, pay6 x0 x1 x2 x3 x4 x5 x6]
  rfl

theorem pay12 : k0_pay12 (F := Ideal) (k0_pay7 x0 x1 x3 x4 x2) x6 (ix2 r s) = (NormArgs.of x0 x1 x2 x3 x4 x5 x6).dbranch r s := by
  pointwise [k0_pay12]
  rw [pay7 x0 x1 x2 x3 x4 x5 x6]
  rfl

theorem pay9 : k0_pay9 (F := Ideal) (k0_pay2 x1) row (ix2 0 s) = row (ix2 0 s) + ∑ r, (NormArgs.of x0 x1 x2 x3 x4 x5 x6).stat r s 0 := by
  pointwise [k0_pay9, k0_pay2]
  rfl

theorem pay10 : k0_pay10 (F := Ideal) (k0_pay2 x1) (k0_pay5 x0 x3) row (ix2 0 s)
    = row (ix2 0 s) + ∑ r, (NormArgs.of x0 x1 x2 x3 x4 x5 x6).stat r s 1 := by
  pointwise [k0_pay10, k0_pay2, k0_pay5]
  simp only [pay4 x0 x1 x2 x3 x4 x5 x6]
  rfl

theorem pay11 : k0_pay11 (F := Ideal) (k0_pay4 x0) (k0_pay6 x1 x4) row (ix2 0 s)
    = row (ix2 0 s) + ∑ r, (NormArgs.of x0 x1 x2 x3 x4 x5 x6).stat r s 2 := by
  pointwise [k0_pay11]
  simp only [pay4 x0 x1 x2 x3 x4 x5 x6, pay6 x0 x1 x2 x3 x4 x5 x6]
  rfl

theorem pay1 : k0_pay1 (F := Ideal) (k0_pay13 row) (k0_pay14 (k0_pay7 x0 x1 x3 x4 x2) x5) (ix2 0 s)
    = row (ix2 0 s) + ∑ r, (NormArgs.of x0 x1 x2 x3 x4 x5 x6).stat r s 3 := by
  pointwise [k0_pay1, k0_pay13, k0_pay14]
  simp only [pay7 x0 x1 x2 x3 x4 x5 x6]
  rfl

end payloads

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] :=
  (by decide +kernel : ∀ t : Fin grid0.N, _)

variable (m : (ℓ : Loc nD τ sig) → Buf (Elt Ideal) ℓ)

/-- A point's row of the array. -/
def tok (t : Fin cfg0.N) (r : Fin 256) : Fin 8192 := ⟨t.val * 256 + r.val, by have := t.isLt; have : cfg0.N = 32 := N_0; omega⟩

theorem blk0 (c : Dev nD) (t : Fin cfg0.N) (r : Fin 256) (k : Fin 2048) : iblk m c 0 t (ix2 r k) = m ((c : Thread nD τ).loc main_arg0) (ix2 (tok t r) k) := by
  unfold tok
  blk_ext! [iblk, V, idx t]

theorem blk1 (c : Dev nD) (t : Fin cfg0.N) (r : Fin 256) (k : Fin 2048) : iblk m c 1 t (ix2 r k) = m ((c : Thread nD τ).loc main_arg1) (ix2 (tok t r) k) := by
  unfold tok
  blk_ext! [iblk, V, idx t]

theorem blk2 (c : Dev nD) (t : Fin cfg0.N) (r : Fin 256) (k : Fin 2048) : iblk m c 2 t (ix2 r k) = m ((c : Thread nD τ).loc main_arg2) (ix2 (tok t r) k) := by
  unfold tok
  blk_ext! [iblk, V, idx t]

theorem blk3 (c : Dev nD) (t : Fin cfg0.N) (k : Fin 2048) : iblk m c 3 t (ix2 0 k) = m ((c : Thread nD τ).loc main_arg3) (ix2 0 k) := by
  blk_ext! [iblk, V, idx t]

theorem blk4 (c : Dev nD) (t : Fin cfg0.N) (k : Fin 2048) : iblk m c 4 t (ix2 0 k) = m ((c : Thread nD τ).loc main_arg4) (ix2 0 k) := by
  blk_ext! [iblk, V, idx t]

theorem blk5 (c : Dev nD) (t : Fin cfg0.N) (r : Fin 256) (k : Fin 2048) : iblk m c 5 t (ix2 r k) = m ((c : Thread nD τ).loc main_arg5) (ix2 (tok t r) k) := by
  unfold tok
  blk_ext! [iblk, V, idx t]

theorem blk6 (c : Dev nD) (t : Fin cfg0.N) (k : Fin 2048) : iblk m c 6 t (ix2 0 k) = m ((c : Thread nD τ).loc main_arg6) (ix2 0 k) := by
  blk_ext! [iblk, V, idx t]

/-- The call's arguments. -/
def args (c : Dev nD) : NormArgs 8192 :=
  .of (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- A point's. -/
theorem args_at (c : Dev nD) (t : Fin cfg0.N) :
    NormArgs.of (iblk m c 0 t) (iblk m c 1 t) (iblk m c 2 t) (iblk m c 3 t) (iblk m c 4 t) (iblk m c 5 t) (iblk m c 6 t) = (args m c).pick (tok t) := by
  unfold NormArgs.of args NormArgs.pick
  simp only [blk0, blk1, blk2, blk3, blk4, blk5, blk6]
  rfl

/-- The cotangent of the norm's argument that a point leaves. -/
theorem out7 (c : Dev nD) (t : Fin cfg0.N) (r : Fin 256) (s : Fin 2048) : (outsAt0 m c t.val t.isLt).1 (ix2 r s) = (args m c).dx (tok t r) s := by
  have e := pay7 (iblk m c 0 t) (iblk m c 1 t) (iblk m c 2 t) (iblk m c 3 t) (iblk m c 4 t) (iblk m c 5 t) (iblk m c 6 t) r s
  rw [args_at] at e
  by_cases h0 : t.val % 32 = 0
  · rw [outsAt0_A m c t h0]
    dsimp only
    frame_out
    exact e
  · rw [outsAt0_B m c t h0]
    dsimp only
    frame_out
    exact e

/-- The cotangent of the branch below that a point leaves. -/
theorem out9 (c : Dev nD) (t : Fin cfg0.N) (r : Fin 256) (s : Fin 2048) : (outsAt0 m c t.val t.isLt).2.2 (ix2 r s) = (args m c).dbranch (tok t r) s := by
  have e := pay12 (iblk m c 0 t) (iblk m c 1 t) (iblk m c 2 t) (iblk m c 3 t) (iblk m c 4 t) (iblk m c 5 t) (iblk m c 6 t) r s
  rw [args_at] at e
  by_cases h0 : t.val % 32 = 0
  · rw [outsAt0_A m c t h0]
    dsimp only
    frame_out
    exact e
  · rw [outsAt0_B m c t h0]
    dsimp only
    frame_out
    exact e

/-- What a point adds to the sums. -/
def part (c : Dev nD) (t : Fin cfg0.N) (y : S8x2048.Idx) : EReal := ∑ r, (args m c).stat (tok t r) (y 1) (y 0).val

theorem part_eq (c : Dev nD) (t : Fin cfg0.N) (k : Fin 8) (s : Fin 2048) :
    part m c t (ix2 k s) = ∑ r, (NormArgs.of (iblk m c 0 t) (iblk m c 1 t) (iblk m c 2 t) (iblk m c 3 t) (iblk m c 4 t) (iblk m c 5 t) (iblk m c 6 t)).stat r s k.val := by
  rw [args_at]
  rfl

/-- A row of the sums. -/
theorem row_at (x : Vec Ideal S8x2048 .f32) (k : Fin 8) (a : ℕ) (ha : k.val = a) (h) (s : Fin 2048) :
    View.ld x (Rect.unit (s := S8x2048) ![a, 0] ![1, 2048] h) (ix2 (n0 := 1) (n1 := 2048) 0 s) = x (ix2 k s) := by
  refine congrArg x ?_
  funext b
  match b with
  | ⟨0, _⟩ => exact Fin.ext (show a + 1 * 0 = k.val by omega)
  | ⟨1, _⟩ => exact Fin.ext (show 0 + 1 * s.val = s.val by omega)

/-- A later point adds its part. -/
theorem sums_next (c : Dev nD) (t : Fin cfg0.N) (h0 : ¬ t.val % 32 = 0) (y : S8x2048.Idx) :
    (outsAt0 m c t.val t.isLt).2.1 y = (outsAt0 m c (t.val - 1) (by have := t.isLt; omega)).2.1 y + part m c t y := by
  obtain ⟨k, s, rfl⟩ : ∃ (k : Fin 8) (s : Fin 2048), y = ix2 k s := ⟨y 0, y 1, eq_ix2 y⟩
  rw [outsAt0_B m c t h0, part_eq]
  dsimp only
  frame_out
  simp only [read_row, View.writes_nil, Memref.IsWhole.read_unread]
  split_ifs with e e e e
  · exact (pay1 (iblk m c 0 t) (iblk m c 1 t) (iblk m c 2 t) (iblk m c 3 t) (iblk m c 4 t) (iblk m c 5 t) (iblk m c 6 t) _ s).trans (congrArg₂ (fun a b : EReal => a + b) (row_at _ k 3 e _ s) (by rw [e]))
  · exact (pay11 (iblk m c 0 t) (iblk m c 1 t) (iblk m c 2 t) (iblk m c 3 t) (iblk m c 4 t) (iblk m c 5 t) (iblk m c 6 t) _ s).trans (congrArg₂ (fun a b : EReal => a + b) (row_at _ k 2 e _ s) (by rw [e]))
  · exact (pay10 (iblk m c 0 t) (iblk m c 1 t) (iblk m c 2 t) (iblk m c 3 t) (iblk m c 4 t) (iblk m c 5 t) (iblk m c 6 t) _ s).trans (congrArg₂ (fun a b : EReal => a + b) (row_at _ k 1 e _ s) (by rw [e]))
  · exact (pay9 (iblk m c 0 t) (iblk m c 1 t) (iblk m c 2 t) (iblk m c 3 t) (iblk m c 4 t) (iblk m c 5 t) (iblk m c 6 t) _ s).trans (congrArg₂ (fun a b : EReal => a + b) (row_at _ k 0 e _ s) (by rw [e]))
  · rw [Finset.sum_eq_zero fun r _ => NormArgs.stat_rest _ r s k.val (by omega), add_zero]

/-- The rows' zeros. -/
theorem canon_zero (h) (k : Fin 8) (s : Fin 2048) :
    View.canon (Val := Elt Ideal) (e := .f32) (⟨Rect.unit (s := S8x2048) ![0, 0] ![8, 2048] h, k0_pay8 (F := Ideal)⟩ :: []) (ix2 k s) = 0 := by
  frame_out
  pointwise [k0_pay8]

/-- The first point starts from zero. -/
theorem sums_first (c : Dev nD) (t : Fin cfg0.N) (h0 : t.val % 32 = 0) (y : S8x2048.Idx) :
    (outsAt0 m c t.val t.isLt).2.1 y = 0 + part m c t y := by
  obtain ⟨k, s, rfl⟩ : ∃ (k : Fin 8) (s : Fin 2048), y = ix2 k s := ⟨y 0, y 1, eq_ix2 y⟩
  rw [outsAt0_A m c t h0, part_eq]
  dsimp only
  frame_out
  simp only [canon_row]
  split_ifs with e e e e
  · refine (pay1 (iblk m c 0 t) (iblk m c 1 t) (iblk m c 2 t) (iblk m c 3 t) (iblk m c 4 t) (iblk m c 5 t) (iblk m c 6 t) _ s).trans (congrArg₂ (fun a b : EReal => a + b) ((readCov_row _ _ k 3 e _ s).trans ?_) (by rw [e]))
    simp only [canon_row, canon_zero, e, Nat.reduceEqDiff, OfNat.ofNat_ne_zero, one_ne_zero, if_false]
  · refine (pay11 (iblk m c 0 t) (iblk m c 1 t) (iblk m c 2 t) (iblk m c 3 t) (iblk m c 4 t) (iblk m c 5 t) (iblk m c 6 t) _ s).trans (congrArg₂ (fun a b : EReal => a + b) ((readCov_row _ _ k 2 e _ s).trans ?_) (by rw [e]))
    simp only [canon_row, canon_zero, e, Nat.reduceEqDiff, OfNat.ofNat_ne_zero, one_ne_zero, if_false]
  · refine (pay10 (iblk m c 0 t) (iblk m c 1 t) (iblk m c 2 t) (iblk m c 3 t) (iblk m c 4 t) (iblk m c 5 t) (iblk m c 6 t) _ s).trans (congrArg₂ (fun a b : EReal => a + b) ((readCov_row _ _ k 1 e _ s).trans ?_) (by rw [e]))
    simp only [canon_row, canon_zero, e, Nat.reduceEqDiff, OfNat.ofNat_ne_zero, one_ne_zero, if_false]
  · refine (pay9 (iblk m c 0 t) (iblk m c 1 t) (iblk m c 2 t) (iblk m c 3 t) (iblk m c 4 t) (iblk m c 5 t) (iblk m c 6 t) _ s).trans (congrArg₂ (fun a b : EReal => a + b) ((readCov_row _ _ k 0 e _ s).trans ?_) (by rw [e]))
    simp only [canon_row, canon_zero, e, Nat.reduceEqDiff, OfNat.ofNat_ne_zero, one_ne_zero, if_false]
  · rw [Finset.sum_eq_zero fun r _ => NormArgs.stat_rest _ r s k.val (by omega), add_zero]
    exact canon_zero _ k s

/-- The sums at the last point. -/
theorem out8 (c : Dev nD) (t : Fin cfg0.N) (h : t.val % 32 = 31) (y : S8x2048.Idx) :
    (outsAt0 m c t.val t.isLt).2.1 y = ∑ r, (args m c).stat r (y 1) (y 0).val := by
  have := t.isLt
  have : cfg0.N = 32 := N_0
  rw [Pipeline.eq_sum_fin_of_reset_step_apply_of_flush (fun n h => (outsAt0 m c n h).2.1) 32 (fun _ => (0 : EReal)) (fun u => part m c u)
    (fun u hu j => sums_first m c u hu j) (fun u hu j => sums_next m c u hu j) t h y, zero_add]
  unfold part
  exact Fin.sum_mul_add_congr fun s k hl => congrArg (fun r => (args m c).stat r (y 1) (y 0).val) (Fin.ext (show (32 * (t.val / 32) + s.val) * 256 + k.val = s.val * 256 + k.val by omega))

theorem arr7 (c : Dev nD) : (dats m 0 c).arrAt 7 cfg0.N = fun i : S8192x2048.Idx => (args m c).dx (i 0) (i 1) := by
  refine (dats m 0 c).arrAt_eq_of_covers 7 _ (by decide +kernel) fun t hf y => ?_
  have e0 : (((win0_7.blk t).view.emb y) 0 : ℕ) = t.val * 256 + (y 0).val := by blk_simp [idx t]; try omega
  have e1 : (((win0_7.blk t).view.emb y) 1 : ℕ) = (y 1).val := by blk_simp [idx t]; try omega
  blk_simp
  rw [after0_7]
  obtain ⟨r, s, rfl⟩ : ∃ (r : Fin 256) (s : Fin 2048), y = ix2 r s := ⟨y 0, y 1, eq_ix2 y⟩
  exact (out7 m c t r s).trans (congrArg₂ (args m c).dx (Fin.ext e0.symm) (Fin.ext e1.symm))

theorem arr9 (c : Dev nD) : (dats m 0 c).arrAt 9 cfg0.N = fun i : S8192x2048.Idx => (args m c).dbranch (i 0) (i 1) := by
  refine (dats m 0 c).arrAt_eq_of_covers 9 _ (by decide +kernel) fun t hf y => ?_
  have e0 : (((win0_9.blk t).view.emb y) 0 : ℕ) = t.val * 256 + (y 0).val := by blk_simp [idx t]; try omega
  have e1 : (((win0_9.blk t).view.emb y) 1 : ℕ) = (y 1).val := by blk_simp [idx t]; try omega
  blk_simp
  rw [after0_9]
  obtain ⟨r, s, rfl⟩ : ∃ (r : Fin 256) (s : Fin 2048), y = ix2 r s := ⟨y 0, y 1, eq_ix2 y⟩
  exact (out9 m c t r s).trans (congrArg₂ (args m c).dbranch (Fin.ext e0.symm) (Fin.ext e1.symm))

theorem arr8 (c : Dev nD) : (dats m 0 c).arrAt 8 cfg0.N = fun i : S8x2048.Idx => ∑ r, (args m c).stat r (i 1) (i 0).val := by
  refine (dats m 0 c).arrAt_eq_of_covers 8 _ (by decide +kernel) fun t hf y => ?_
  have e0 : (((win0_8.blk t).view.emb y) 0 : ℕ) = (y 0).val := by blk_simp [idx t]; try omega
  have e1 : (((win0_8.blk t).view.emb y) 1 : ℕ) = (y 1).val := by blk_simp [idx t]; try omega
  blk_simp
  rw [after0_8]
  refine (out8 m c t ((flush0_8 t).mp hf) y).trans ?_
  refine congrArg₂ (fun (s : Fin 2048) (k : ℕ) => ∑ r, (args m c).stat r s k) (Fin.ext ?_) ?_
  · simp [idx t]
  · simp [idx t]

/-- The call's results. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S8192x2048.Idx => (args m c).dx (i 0) (i 1))
      ∧ r.2.mem ((c : Thread nD τ).loc main_v0_1) = (fun i : S8x2048.Idx => ∑ r, (args m c).stat r (i 1) (i 0).val)
      ∧ r.2.mem ((c : Thread nD τ).loc main_v0_2) = (fun i : S8192x2048.Idx => (args m c).dbranch (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (arr7 m c), (h c).2.1.trans (arr8 m c), (h c).2.2.1.trans (arr9 m c), (h c).2.2.2⟩) (Value.run_blocks m ρ)

end Cert.Kernel15Ideal.Norm

end
-- ==== Proof.NormBwdRef.lean ====
/- The norm's gradient: what the reference leaves at an index of each of its results. -/
module

public import proofs.«01_k».proof.Proof.Gen.Reference15Ideal.Read
public import proofs.«01_k».proof.Proof.NormRow
public import Idealize.ShloMosaic.Lib.Pipeline.ValueKit

@[expose] public section

set_option maxRecDepth 16384

noncomputable section

namespace Cert.Reference15Ideal.Norm

open Cert.Reference15Ideal Cert.Reference15Ideal.Gen Cert.Reference15Ideal.Read Cert.Proof
open Idealize.ShloMosaic Idealize.ShloMosaic.TcCoe Idealize.ShloMosaic.Tactic

variable (x0 x1 x2 : S8192x2048.Idx → EReal) (x3 x4 : S1x2048.Idx → EReal) (x5 : S8192x2048.Idx → EReal) (x6 : S1x2048.Idx → EReal)
  (r : Fin 8192) (s : Fin 2048)

/-- A row's mean square, with the small number added. -/
theorem v9 : val_main_v9 (F := Ideal) x0 (ix2 r 0) = msq fun k => x0 (ix2 r k) := by
  pointwise [val_main_v9, val_main_v7, val_main_v5, val_main_v4, val_main_v3, val_main_v6, val_main_v8, val_main_cst_0, val_main_cst_1, val_main_cst_2]
  rfl

theorem v10 : val_main_v10 (F := Ideal) x0 (ix2 r 0) = rroot fun k => x0 (ix2 r k) := by
  pointwise [val_main_v10]
  rw [v9]
  rfl

theorem v15 : val_main_v15 (F := Ideal) x0 (ix2 r s) = (NormArgs.of x0 x1 x2 x3 x4 x5 x6).xn r s := by
  pointwise [val_main_v15, val_main_v14]
  rw [v10]
  rfl

theorem v18 : val_main_v18 (F := Ideal) x0 x3 (ix2 r s) = (NormArgs.of x0 x1 x2 x3 x4 x5 x6).xn r s * x3 (ix2 0 s) := by
  pointwise [val_main_v18, val_main_v17, val_main_v16, val_main_v1]
  rw [v15 x0 x1 x2 x3 x4 x5 x6]

theorem v35 : val_main_v35 (F := Ideal) x1 x4 (ix2 r s) = (NormArgs.of x0 x1 x2 x3 x4 x5 x6).dhn r s := by
  pointwise [val_main_v35, val_main_v34, val_main_v27, val_main_v21, val_main_v20, val_main_v19, val_main_v2, val_main_cst_4]
  rfl

theorem v41 : val_main_v41 (F := Ideal) x1 x3 x4 (ix2 r s) = (NormArgs.of x0 x1 x2 x3 x4 x5 x6).dhn r s * x3 (ix2 0 s) := by
  pointwise [val_main_v41, val_main_v40, val_main_v16, val_main_v1]
  rw [v35 x0 x1 x2 x3 x4 x5 x6]

/-- The factor of a row in its gradient. -/
theorem v52 : val_main_v52 (F := Ideal) x0 x1 x3 x4 (ix1 r)
    = Ideal.div ((∑ k, x0 (ix2 r k) * ((NormArgs.of x0 x1 x2 x3 x4 x5 x6).dhn r k * x3 (ix2 0 k)))
        * (Ideal.ofBits .f32 0xBF000000#32 * Ideal.div (rroot fun k => x0 (ix2 r k)) (msq fun k => x0 (ix2 r k)))) (Ideal.ofBits .f32 0x45000000#32) := by
  pointwise [val_main_v52, val_main_v51, val_main_v50, val_main_v49, val_main_v45, val_main_v44, val_main_v43, val_main_v13, val_main_v12, val_main_v11,
    val_main_cst_3, val_main_cst_11, val_main_cst_12, val_main_cst_13]
  simp only [v41 x0 x1 x2 x3 x4 x5 x6]
  refine (Fin.sum_univ_one _).trans ?_
  rw [v9, v10]

theorem v57 : val_main_v57 (F := Ideal) x0 x1 x2 x3 x4 (ix2 r s) = (NormArgs.of x0 x1 x2 x3 x4 x5 x6).dx r s := by
  refine Eq.trans ?_ (rowGrad_terms (fun k => x0 (ix2 r k)) (fun k => (NormArgs.of x0 x1 x2 x3 x4 x5 x6).dhn r k * x3 (ix2 0 k)) (x2 (ix2 r s)) s)
  pointwise [val_main_v57, val_main_v56, val_main_v55, val_main_v54, val_main_v53, val_main_v48, val_main_v47, val_main_v46]
  rw [v52 x0 x1 x2 x3 x4 x5 x6, v41 x0 x1 x2 x3 x4 x5 x6, v10]

theorem v75 : val_main_v75 (F := Ideal) x0 x1 x2 x3 x4 x6 (ix2 r s) = (NormArgs.of x0 x1 x2 x3 x4 x5 x6).dbranch r s := by
  pointwise [val_main_v75, val_main_v64, val_main_v63, val_main_v60, val_main_v59]
  rw [v57 x0 x1 x2 x3 x4 x5 x6]
  exact mul_comm _ _

theorem v69 : val_main_v69 (F := Ideal) x1 (ix2 0 s) = ∑ r, (NormArgs.of x0 x1 x2 x3 x4 x5 x6).stat r s 0 := by
  pointwise [val_main_v69, val_main_v30, val_main_v29, val_main_v28, val_main_v27, val_main_cst_5, val_main_cst_6]
  exact Fin.sum_univ_one _

theorem v70 : val_main_v70 (F := Ideal) x0 x1 x3 (ix2 0 s) = ∑ r, (NormArgs.of x0 x1 x2 x3 x4 x5 x6).stat r s 1 := by
  pointwise [val_main_v70, val_main_v36, val_main_v33, val_main_v32, val_main_v31, val_main_v27, val_main_cst_7, val_main_cst_8]
  simp only [v18 x0 x1 x2 x3 x4 x5 x6]
  refine (Fin.sum_univ_one _).trans ?_
  exact Finset.sum_congr rfl fun r _ => mul_comm _ _

theorem v71 : val_main_v71 (F := Ideal) x0 x1 x4 (ix2 0 s) = ∑ r, (NormArgs.of x0 x1 x2 x3 x4 x5 x6).stat r s 2 := by
  pointwise [val_main_v71, val_main_v42, val_main_v39, val_main_v38, val_main_v37, val_main_cst_9, val_main_cst_10]
  simp only [v15 x0 x1 x2 x3 x4 x5 x6, v35 x0 x1 x2 x3 x4 x5 x6]
  refine (Fin.sum_univ_one _).trans ?_
  exact Finset.sum_congr rfl fun r _ => mul_comm _ _

theorem v72 : val_main_v72 (F := Ideal) x0 x1 x2 x3 x4 x5 (ix2 0 s) = ∑ r, (NormArgs.of x0 x1 x2 x3 x4 x5 x6).stat r s 3 := by
  pointwise [val_main_v72, val_main_v68, val_main_v67, val_main_v66, val_main_v65, val_main_v58, val_main_cst_14, val_main_cst_15]
  simp only [v57 x0 x1 x2 x3 x4 x5 x6]
  exact Fin.sum_univ_one _

/-- Four rows and a block of four under each other. -/
theorem pile (f0 f1 f2 f3 : S1x2048.Idx → EReal) (f4 : S4x2048.Idx → EReal) (k : Fin 8) (v : EReal)
    (h0 : k.val = 0 → f0 (ix2 0 s) = v) (h1 : k.val = 1 → f1 (ix2 0 s) = v) (h2 : k.val = 2 → f2 (ix2 0 s) = v) (h3 : k.val = 3 → f3 (ix2 0 s) = v)
    (h4 : 4 ≤ k.val → ∀ j, f4 (ix2 j s) = v) :
    concatenate S8x2048 0 [⟨S1x2048, f0⟩, ⟨S1x2048, f1⟩, ⟨S1x2048, f2⟩, ⟨S1x2048, f3⟩, ⟨S4x2048, f4⟩]
      concatenates_S1x2048_S1x2048_S1x2048_S1x2048_S4x2048_S8x2048_d0 (ix2 k s) = v := by
  pointwise
  split_ifs
  all_goals first
    | exact (congrArg f0 (congrArg₂ ix2 (Fin.ext (show k.val = 0 by omega)) rfl)).trans (h0 (by omega))
    | exact (congrArg f1 (congrArg₂ ix2 (Fin.ext (show k.val - 1 = 0 by omega)) rfl)).trans (h1 (by omega))
    | exact (congrArg f2 (congrArg₂ ix2 (Fin.ext (show k.val - 1 - 1 = 0 by omega)) rfl)).trans (h2 (by omega))
    | exact (congrArg f3 (congrArg₂ ix2 (Fin.ext (show k.val - 1 - 1 - 1 = 0 by omega)) rfl)).trans (h3 (by omega))
    | exact h4 (by omega) _

theorem v73 (j : Fin 4) : val_main_v73 (F := Ideal) (ix2 j s) = 0 := by
  pointwise [val_main_v73, val_main_cst_16]

theorem v74 (k : Fin 8) : val_main_v74 (F := Ideal) x0 x1 x2 x3 x4 x5 (ix2 k s) = ∑ r, (NormArgs.of x0 x1 x2 x3 x4 x5 x6).stat r s k.val := by
  unfold val_main_v74
  refine pile s _ _ _ _ _ k _ (fun e => ?_) (fun e => ?_) (fun e => ?_) (fun e => ?_) (fun e j => ?_)
  · rw [e, v69 x0 x1 x2 x3 x4 x5 x6]
  · rw [e, v70 x0 x1 x2 x3 x4 x5 x6]
  · rw [e, v71 x0 x1 x2 x3 x4 x5 x6]
  · rw [e, v72 x0 x1 x2 x3 x4 x5 x6]
  · rw [v73, Finset.sum_eq_zero fun r _ => NormArgs.stat_rest _ r s k.val e]

/-- The reference's results from the arguments `x0`, … , `x6`: the same. -/
theorem values (m : (ℓ : Loc nD τ sig) → Buf (Elt Ideal) ℓ) (ρ : Dev nD → PrngReg) (x0 x1 x2 : Dev nD → S8192x2048.Idx → EReal)
    (x3 x4 : Dev nD → S1x2048.Idx → EReal) (x5 : Dev nD → S8192x2048.Idx → EReal) (x6 : Dev nD → S1x2048.Idx → EReal)
    (E : ∀ c : Dev nD, m ((c.tc : Thread nD τ).loc main_arg0) = x0 c ∧ m ((c.tc : Thread nD τ).loc main_arg1) = x1 c
      ∧ m ((c.tc : Thread nD τ).loc main_arg2) = x2 c ∧ m ((c.tc : Thread nD τ).loc main_arg3) = x3 c ∧ m ((c.tc : Thread nD τ).loc main_arg4) = x4 c
      ∧ m ((c.tc : Thread nD τ).loc main_arg5) = x5 c ∧ m ((c.tc : Thread nD τ).loc main_arg6) = x6 c) :
    θ_run defs (onTc (τ := τ) (main (F := Ideal))) ⟨m, fun _ => 0, ρ⟩ fun r => ∀ c : Dev nD,
      r.2.mem ((c.tc : Thread nD τ).loc main_v57)
        = (fun i : S8192x2048.Idx => (NormArgs.of (x0 c) (x1 c) (x2 c) (x3 c) (x4 c) (x5 c) (x6 c)).dx (i 0) (i 1))
      ∧ r.2.mem ((c.tc : Thread nD τ).loc main_v74)
        = (fun i : S8x2048.Idx => ∑ r, (NormArgs.of (x0 c) (x1 c) (x2 c) (x3 c) (x4 c) (x5 c) (x6 c)).stat r (i 1) (i 0).val)
      ∧ r.2.mem ((c.tc : Thread nD τ).loc main_v75)
        = (fun i : S8192x2048.Idx => (NormArgs.of (x0 c) (x1 c) (x2 c) (x3 c) (x4 c) (x5 c) (x6 c)).dbranch (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ((val_main_v57_eq m c).trans ?_), (h c).2.1.trans ((val_main_v74_eq m c).trans ?_),
    (h c).2.2.1.trans ((val_main_v75_eq m c).trans ?_), (h c).2.2.2⟩) (Value.run m ρ)
  all_goals
    obtain ⟨h0, h1, h2, h3, h4, h5, h6⟩ := E c
    simp only [h0, h1, h2, h3, h4, h5, h6]
    funext i
  · obtain ⟨r, s, rfl⟩ : ∃ (r : Fin 8192) (s : Fin 2048), i = ix2 r s := ⟨i 0, i 1, eq_ix2 i⟩
    exact v57 _ _ _ _ _ _ _ r s
  · obtain ⟨k, s, rfl⟩ : ∃ (k : Fin 8) (s : Fin 2048), i = ix2 k s := ⟨i 0, i 1, eq_ix2 i⟩
    exact v74 _ _ _ _ _ _ _ s k
  · obtain ⟨r, s, rfl⟩ : ∃ (r : Fin 8192) (s : Fin 2048), i = ix2 r s := ⟨i 0, i 1, eq_ix2 i⟩
    exact v75 _ _ _ _ _ _ _ r s

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => (h c).2.2.2, sem_eq_zero_of_no_sems (by decide) r.2⟩) (Value.run m ρ)

end Cert.Reference15Ideal.Norm

end
-- ==== Proof.Heads.lean ====
/- The heads of the attention, each an array of 64 columns, as one matrix with the heads side by side. -/
module

public import proofs.«01_k».proof.Proof.MlpSums
public import Idealize.ShloMosaic.Lib.Pipeline.Value
public import Idealize.ShloMosaic.Lib.WritesUnit
public import Idealize.ShloMosaic.Lib.ValueLayout
public import Idealize.ShloMosaic.Lib.Pipeline.ValueKit

@[expose] public section

set_option maxRecDepth 16384

noncomputable section

namespace Cert.Proof

open Idealize.ShloMosaic

/-- `n` heads of 64 columns, side by side. -/
def flat {n t w : ℕ} (hw : w = n * 64) (o : (⟨3, ![n, t, 64]⟩ : Shape).Idx → EReal) (i : (⟨2, ![t, w]⟩ : Shape).Idx) : EReal :=
  o (ix3 ⟨(i 1).val / 64, by have : (i 1).val < w := (i 1).isLt; omega⟩ (i 0) ⟨(i 1).val % 64, by omega⟩)

/-- Pieces of 64 columns joined along the columns: the piece that a column lies in. -/
theorem join_apply {n t w : ℕ} (hw : w = n * 64) (f : Fin n → ((⟨2, ![t, 64]⟩ : Shape).Idx → EReal))
    (h : Shape.Concatenates ((List.ofFn fun k : Fin n => (⟨⟨2, ![t, 64]⟩, f k⟩ : (s : Shape) × (s.Idx → EReal))).map (·.1)) ⟨2, ![t, w]⟩ 1)
    (r : Fin t) (x : Fin w) :
    concatenate ⟨2, ![t, w]⟩ 1 (List.ofFn fun k : Fin n => (⟨⟨2, ![t, 64]⟩, f k⟩ : (s : Shape) × (s.Idx → EReal))) h (ix2 r x)
      = f ⟨x.val / 64, by omega⟩ (ix2 r ⟨x.val % 64, by omega⟩) := by
  refine concatenate_ofFn_apply (t := ⟨2, ![t, w]⟩) (s₁ := ⟨2, ![t, 64]⟩) (1 : Fin 2) f h rfl 64 rfl (ix2 r x) ⟨x.val / 64, by omega⟩ rfl (ix2 r ⟨x.val % 64, by omega⟩) rfl fun b hb => ?_
  match b with
  | ⟨0, _⟩ => rfl
  | ⟨1, _⟩ => exact absurd rfl hb

/-- Head `k` of a block of heads, read and taken as a matrix. -/
def head {n t : ℕ} (x : Vec Ideal ⟨3, ![n, t, 64]⟩ .bf16) (hb : ∀ k : Fin n, ∀ a, ![k.val, 0, 0] a + ![1, t, 64] a ≤ (⟨3, ![n, t, 64]⟩ : Shape).size a)
    (hc : Shape.ShapeCasts ⟨3, ![1, t, 64]⟩ ⟨2, ![t, 64]⟩) (k : Fin n) : (⟨2, ![t, 64]⟩ : Shape).Idx → EReal :=
  shapeCast ⟨2, ![t, 64]⟩ (View.ld x (Rect.unit (s := ⟨3, ![n, t, 64]⟩) ![k.val, 0, 0] ![1, t, 64] (hb k))) hc

theorem head_apply {n t : ℕ} (x : Vec Ideal ⟨3, ![n, t, 64]⟩ .bf16) (hb hc) (k : Fin n) (r : Fin t) (s : Fin 64) :
    head x hb hc k (ix2 r s) = x (ix3 k r s) := by
  unfold head
  refine (ValueIdx.shapeCast_1ab_ab_apply _ hc r s).trans (congrArg x ?_)
  funext b
  match b with
  | ⟨0, _⟩ => exact Fin.ext (show k.val + 1 * 0 = k.val by omega)
  | ⟨1, _⟩ => exact Fin.ext (show 0 + 1 * r.val = r.val by omega)
  | ⟨2, _⟩ => exact Fin.ext (show 0 + 1 * s.val = s.val by omega)

/-- The heads of a block, joined along the columns. -/
theorem join_heads {n t w : ℕ} (hw : w = n * 64) (x : Vec Ideal ⟨3, ![n, t, 64]⟩ .bf16) (hb hc) (h) (i : (⟨2, ![t, w]⟩ : Shape).Idx) :
    concatenate ⟨2, ![t, w]⟩ 1 (List.ofFn fun k : Fin n => (⟨⟨2, ![t, 64]⟩, head x hb hc k⟩ : (s : Shape) × (s.Idx → EReal))) h i = flat hw x i := by
  obtain ⟨r, s, rfl⟩ : ∃ (r : Fin t) (s : Fin w), i = ix2 r s := ⟨i 0, i 1, eq_ix2 i⟩
  exact (join_apply hw _ h r s).trans (head_apply x hb hc _ _ _)

/-- A head lies in its block. -/
theorem head_inb {n t : ℕ} (k : Fin n) : ∀ a, ![k.val, 0, 0] a + ![1, t, 64] a ≤ (⟨3, ![n, t, 64]⟩ : Shape).size a := fun a => by
  match a with
  | ⟨0, _⟩ => exact (show k.val + 1 ≤ n by omega)
  | ⟨1, _⟩ => exact (show 0 + t ≤ t by omega)
  | ⟨2, _⟩ => exact (show 0 + 64 ≤ 64 by omega)

/-- The heads brought behind the tokens and taken as one axis: the heads side by side. -/
theorem flat_eq {n t w : ℕ} (hw : w = n * 64) (o : (⟨3, ![n, t, 64]⟩ : Shape).Idx → EReal)
    (ht : Shape.Transposes ⟨3, ![n, t, 64]⟩ [1, 0, 2] ⟨3, ![t, n, 64]⟩) (hc : Shape.ShapeCasts ⟨3, ![t, n, 64]⟩ ⟨2, ![t, w]⟩) :
    shapeCast ⟨2, ![t, w]⟩ (transpose ⟨3, ![t, n, 64]⟩ [1, 0, 2] o ht) hc = flat hw o := by
  funext i
  obtain ⟨r, s, rfl⟩ : ∃ (r : Fin t) (s : Fin w), i = ix2 r s := ⟨i 0, i 1, eq_ix2 i⟩
  refine (shapeCast_apply _ hc (ix2 r s) (ix3 r ⟨s.val / 64, by omega⟩ ⟨s.val % 64, by omega⟩) ?_).trans ?_
  · rw [Shape.rowMajor_val_three, Shape.rowMajor_val_two]
    show (r.val * n + s.val / 64) * 64 + s.val % 64 = r.val * w + s.val
    subst hw
    rw [← Nat.mul_assoc]
    omega
  · exact transpose_apply _ o ht _ _ fun b => match b with | ⟨0, _⟩ => rfl | ⟨1, _⟩ => rfl | ⟨2, _⟩ => rfl

/-- A matrix of `n` heads side by side, taken apart. -/
theorem apart_eq {n t w : ℕ} (hw : w = n * 64) (y : (⟨2, ![t, w]⟩ : Shape).Idx → EReal)
    (hc : Shape.ShapeCasts ⟨2, ![t, w]⟩ ⟨3, ![t, n, 64]⟩) (ht : Shape.Transposes ⟨3, ![t, n, 64]⟩ [1, 0, 2] ⟨3, ![n, t, 64]⟩) (k : Fin n) (r : Fin t) (s : Fin 64) :
    transpose ⟨3, ![n, t, 64]⟩ [1, 0, 2] (shapeCast ⟨3, ![t, n, 64]⟩ y hc) ht (ix3 k r s) = y (ix2 r ⟨k.val * 64 + s.val, by omega⟩) := by
  refine (transpose_apply _ _ ht (ix3 k r s) (ix3 r k s) fun b => match b with | ⟨0, _⟩ => rfl | ⟨1, _⟩ => rfl | ⟨2, _⟩ => rfl).trans ?_
  refine shapeCast_apply y hc _ _ ?_
  rw [Shape.rowMajor_val_three, Shape.rowMajor_val_two]
  show r.val * w + (k.val * 64 + s.val) = (r.val * n + k.val) * 64 + s.val
  subst hw
  rw [← Nat.mul_assoc]
  omega

/-- The heads of the queries, the keys and the values, each side by side and then all three: all the heads side by side. -/
theorem flat_parts (g : (⟨3, ![40, 8192, 64]⟩ : Shape).Idx → EReal) (hq hk hv)
    (h : Shape.Concatenates [⟨2, ![8192, 2048]⟩, ⟨2, ![8192, 256]⟩, ⟨2, ![8192, 256]⟩] ⟨2, ![8192, 2560]⟩ 1) :
    concatenate ⟨2, ![8192, 2560]⟩ 1 [⟨⟨2, ![8192, 2048]⟩, flat (n := 32) rfl (extractStridedSlice ⟨3, ![32, 8192, 64]⟩ ![0, 0, 0] g hq)⟩,
      ⟨⟨2, ![8192, 256]⟩, flat (n := 4) rfl (extractStridedSlice ⟨3, ![4, 8192, 64]⟩ ![32, 0, 0] g hk)⟩,
      ⟨⟨2, ![8192, 256]⟩, flat (n := 4) rfl (extractStridedSlice ⟨3, ![4, 8192, 64]⟩ ![36, 0, 0] g hv)⟩] h = flat (n := 40) rfl g := by
  funext i
  obtain ⟨r, s, rfl⟩ : ∃ (r : Fin 8192) (s : Fin 2560), i = ix2 r s := ⟨i 0, i 1, eq_ix2 i⟩
  pointwise [flat]
  by_cases h1 : s.val < 2048
  · rw [dif_pos h1]
  · rw [dif_neg h1]
    by_cases h2 : s.val - 2048 < 256
    · rw [dif_pos h2]
      exact congrArg₂ (fun a b => g (ix3 a r b)) (Fin.ext (show 32 + (s.val - 2048) / 64 = s.val / 64 by omega)) (Fin.ext (show (s.val - 2048) % 64 = s.val % 64 by omega))
    · rw [dif_neg h2]
      exact congrArg₂ (fun a b => g (ix3 a r b)) (Fin.ext (show 36 + (s.val - 2048 - 256) / 64 = s.val / 64 by omega)) (Fin.ext (show (s.val - 2048 - 256) % 64 = s.val % 64 by omega))

/-- The same of the three parts, each brought behind the tokens and taken as one axis. -/
theorem parts_eq (g : (⟨3, ![40, 8192, 64]⟩ : Shape).Idx → EReal) (hq hk hv) (tq tk) (cq ck)
    (h : Shape.Concatenates [⟨2, ![8192, 2048]⟩, ⟨2, ![8192, 256]⟩, ⟨2, ![8192, 256]⟩] ⟨2, ![8192, 2560]⟩ 1) :
    concatenate ⟨2, ![8192, 2560]⟩ 1
      [⟨⟨2, ![8192, 2048]⟩, shapeCast ⟨2, ![8192, 2048]⟩ (transpose ⟨3, ![8192, 32, 64]⟩ [1, 0, 2] (extractStridedSlice ⟨3, ![32, 8192, 64]⟩ ![0, 0, 0] g hq) tq) cq⟩,
       ⟨⟨2, ![8192, 256]⟩, shapeCast ⟨2, ![8192, 256]⟩ (transpose ⟨3, ![8192, 4, 64]⟩ [1, 0, 2] (extractStridedSlice ⟨3, ![4, 8192, 64]⟩ ![32, 0, 0] g hk) tk) ck⟩,
       ⟨⟨2, ![8192, 256]⟩, shapeCast ⟨2, ![8192, 256]⟩ (transpose ⟨3, ![8192, 4, 64]⟩ [1, 0, 2] (extractStridedSlice ⟨3, ![4, 8192, 64]⟩ ![36, 0, 0] g hv) tk) ck⟩] h
      = flat (n := 40) rfl g := by
  rw [flat_eq (n := 32) rfl, flat_eq (n := 4) rfl, flat_eq (n := 4) rfl]
  exact flat_parts g hq hk hv h

/-- The column at which a component of a head lies, of thirty-two heads side by side. -/
def column (k : Fin 32) (s : Fin 64) : Fin 2048 := ⟨k.val * 64 + s.val, by omega⟩

end Cert.Proof

end
-- ==== Proof.AttnOutWgrad.lean ====
/- The gradient of the attention's output weight: the transposed output of the attention, its heads side by side, times the
   cotangent, accumulated over four blocks of the tokens. -/
module

public import proofs.«01_k».proof.Proof.Gen.Kernel16Ideal.Value
public import proofs.«01_k».proof.Proof.Gen.Reference16Ideal.Run
public import proofs.«01_k».proof.Proof.Heads
public import Idealize.ShloMosaic.Lib.Pipeline.ValueKit
public import Idealize.ShloMosaic.Lib.Pipeline.ReadBack

@[expose] public section

set_option maxRecDepth 16384

noncomputable section

namespace Cert.Kernel16Ideal.Mix

open Cert.Kernel16Ideal Cert.Kernel16Ideal.Gen Cert.Proof
open Idealize.ShloMosaic Idealize.ShloMosaic.TcCoe Idealize.ShloMosaic.Tactic

/-- The heads of a block, joined as the body joins them. -/
def joined (x : Vec Ideal S16x2048x64 .bf16) : S2048x1024.Idx → EReal :=
  k0_pay1 (F := Ideal) (k0_pay5 (View.ld x (Rect.unit (s := S16x2048x64) ![0, 0, 0] ![1, 2048, 64] inb_S16x2048x64_S1x2048x64_0_0_0)))
    (k0_pay6 (View.ld x (Rect.unit (s := S16x2048x64) ![1, 0, 0] ![1, 2048, 64] inb_S16x2048x64_S1x2048x64_1_0_0)))
    (k0_pay7 (View.ld x (Rect.unit (s := S16x2048x64) ![2, 0, 0] ![1, 2048, 64] inb_S16x2048x64_S1x2048x64_2_0_0)))
    (k0_pay8 (View.ld x (Rect.unit (s := S16x2048x64) ![3, 0, 0] ![1, 2048, 64] inb_S16x2048x64_S1x2048x64_3_0_0)))
    (k0_pay9 (View.ld x (Rect.unit (s := S16x2048x64) ![4, 0, 0] ![1, 2048, 64] inb_S16x2048x64_S1x2048x64_4_0_0)))
    (k0_pay10 (View.ld x (Rect.unit (s := S16x2048x64) ![5, 0, 0] ![1, 2048, 64] inb_S16x2048x64_S1x2048x64_5_0_0)))
    (k0_pay11 (View.ld x (Rect.unit (s := S16x2048x64) ![6, 0, 0] ![1, 2048, 64] inb_S16x2048x64_S1x2048x64_6_0_0)))
    (k0_pay12 (View.ld x (Rect.unit (s := S16x2048x64) ![7, 0, 0] ![1, 2048, 64] inb_S16x2048x64_S1x2048x64_7_0_0)))
    (k0_pay13 (View.ld x (Rect.unit (s := S16x2048x64) ![8, 0, 0] ![1, 2048, 64] inb_S16x2048x64_S1x2048x64_8_0_0)))
    (k0_pay14 (View.ld x (Rect.unit (s := S16x2048x64) ![9, 0, 0] ![1, 2048, 64] inb_S16x2048x64_S1x2048x64_9_0_0)))
    (View.ld x (Rect.unit (s := S16x2048x64) ![10, 0, 0] ![1, 2048, 64] inb_S16x2048x64_S1x2048x64_10_0_0))
    (View.ld x (Rect.unit (s := S16x2048x64) ![11, 0, 0] ![1, 2048, 64] inb_S16x2048x64_S1x2048x64_11_0_0))
    (View.ld x (Rect.unit (s := S16x2048x64) ![12, 0, 0] ![1, 2048, 64] inb_S16x2048x64_S1x2048x64_12_0_0))
    (View.ld x (Rect.unit (s := S16x2048x64) ![13, 0, 0] ![1, 2048, 64] inb_S16x2048x64_S1x2048x64_13_0_0))
    (View.ld x (Rect.unit (s := S16x2048x64) ![14, 0, 0] ![1, 2048, 64] inb_S16x2048x64_S1x2048x64_14_0_0))
    (View.ld x (Rect.unit (s := S16x2048x64) ![15, 0, 0] ![1, 2048, 64] inb_S16x2048x64_S1x2048x64_15_0_0))

theorem joined_eq (x : Vec Ideal S16x2048x64 .bf16) : joined x = flat (n := 16) (t := 2048) (w := 1024) rfl x :=
  funext fun i => (show joined x i = concatenate S2048x1024 1 (List.ofFn fun k : Fin 16 => (⟨S2048x64, head x head_inb shapeCasts_S1x2048x64_S2048x64 k⟩ : (s : Shape) × (s.Idx → EReal)))
      concatenates_S2048x64_S2048x64_S2048x64_S2048x64_S2048x64_S2048x64_S2048x64_S2048x64_S2048x64_S2048x64_S2048x64_S2048x64_S2048x64_S2048x64_S2048x64_S2048x64_S2048x1024_d1 i from rfl).trans
    (join_heads rfl x head_inb _ _ i)

/-- A point's part of the sum. -/
def part (x0 : S16x2048x64.Idx → EReal) (x1 : S2048x1024.Idx → EReal) (y : S1024x1024.Idx) : EReal :=
  ∑ k : Fin 2048, flat (n := 16) (t := 2048) (w := 1024) rfl x0 (ix2 k (y 0)) * x1 (ix2 k (y 1))

theorem clear (y : S1024x1024.Idx) : k0_pay4 (F := Ideal) y = (0 : EReal) := by
  obtain ⟨r, s, rfl⟩ : ∃ r s : Fin 1024, y = ix2 r s := ⟨y 0, y 1, eq_ix2 y⟩
  pointwise [k0_pay4]

theorem step (x0 : Vec Ideal S16x2048x64 .bf16) (x1 : Vec Ideal S2048x1024 .bf16) (a : Vec Ideal S1024x1024 .f32) (y : S1024x1024.Idx) :
    k0_pay2 (F := Ideal) (joined x0) x1 a y = a y + part x0 x1 y := by
  obtain ⟨r, s, rfl⟩ : ∃ r s : Fin 1024, y = ix2 r s := ⟨y 0, y 1, eq_ix2 y⟩
  rw [joined_eq]
  unfold part
  generalize flat (n := 16) (t := 2048) (w := 1024) rfl x0 = z
  pointwise [k0_pay2, dot_S2048x1024_S2048x1024_S1024x1024_0_0_1_1_n_n]

theorem idx : ∀ t : Fin cfg0.N, win0_0.index t = ![t.val / 8, t.val % 4, 0] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ)

theorem blk0 (c : Dev nD) (t : Fin cfg0.N) (g : Fin 16) (k : Fin 2048) (r : Fin 64) :
    iblk m c 0 t (ix3 g k r) = m ((c : Thread nD τ).loc main_arg0) (ix3 ⟨t.val / 8 * 16 + g.val, by have := t.isLt; have : cfg0.N = 16 := N_0; omega⟩ ⟨t.val % 4 * 2048 + k.val, by omega⟩ r) := by
  blk_ext! [iblk, V, idx t]

theorem blk1 (c : Dev nD) (t : Fin cfg0.N) (k : Fin 2048) (s : Fin 1024) :
    iblk m c 1 t (ix2 k s) = m ((c : Thread nD τ).loc main_arg1) (ix2 ⟨t.val % 4 * 2048 + k.val, by omega⟩ ⟨t.val / 4 % 2 * 1024 + s.val, by omega⟩) := by
  blk_ext! [iblk, V, idx t]

/-- The accumulator after the body at a point. -/
def acc (c : Dev nD) (n : ℕ) (h : n < cfg0.N) : S1024x1024.Idx → EReal := (outsAt0 m c n h).2

theorem acc_first (c : Dev nD) (t : Fin cfg0.N) (h : t.val % 4 = 0) :
    acc m c t.val t.isLt = k0_pay2 (F := Ideal) (joined (iblk m c 0 t)) (iblk m c 1 t) (k0_pay4 (F := Ideal)) := by
  unfold acc
  rw [outsAt0_A m c t h (by omega)]
  frame_out
  rfl

theorem acc_next (c : Dev nD) (t : Fin cfg0.N) (h : ¬t.val % 4 = 0) :
    acc m c t.val t.isLt = k0_pay2 (F := Ideal) (joined (iblk m c 0 t)) (iblk m c 1 t) (acc m c (t.val - 1) (Nat.lt_of_le_of_lt (Nat.sub_le _ _) t.isLt)) := by
  unfold acc
  by_cases h' : t.val % 4 = 3
  · rw [outsAt0_C m c t h h']
    frame_out
    rw [read_unread_whole]
    rfl
  · rw [outsAt0_B m c t h h']
    frame_out
    rw [read_unread_whole]
    rfl

/-- The product, at an index of the result. -/
def grad (c : Dev nD) (i : S2048x2048.Idx) : EReal :=
  mulTN (flat (n := 32) (t := 8192) (w := 2048) rfl (m ((c : Thread nD τ).loc main_arg0))) (m ((c : Thread nD τ).loc main_arg1)) (i 0) (i 1)

/-- The accumulator at the last point of a block of the result. -/
theorem acc_last (c : Dev nD) (t : Fin cfg0.N) (h : t.val % 4 = 3) (y : S1024x1024.Idx) (i : S2048x2048.Idx)
    (e0 : (i 0).val = t.val / 8 * 1024 + (y 0).val) (e1 : (i 1).val = t.val / 4 % 2 * 1024 + (y 1).val) :
    acc m c t.val t.isLt y = grad m c i := by
  have := t.isLt
  have : cfg0.N = 16 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  have : (y 0).val < 1024 := (y 0).isLt
  unfold grad mulTN part flat
  refine Fin.sum_mul_add_congr fun s k hl => ?_
  refine (congrArg₂ (fun a b : EReal => a * b) (blk0 m c _ _ _ _) (blk1 m c _ _ _)).trans ?_
  congr 2
  · exact (congrArg₂ (fun a b => ix3 a b _) (Fin.ext (show (4 * (t.val / 4) + s.val) / 8 * 16 + (y 0).val / 64 = (i 0).val / 64 by omega))
      (Fin.ext (show (4 * (t.val / 4) + s.val) % 4 * 2048 + k.val = s.val * 2048 + k.val by omega))).trans
      (congrArg (ix3 _ _) (Fin.ext (show (y 0).val % 64 = (i 0).val % 64 by omega)))
  · exact congrArg₂ ix2 (Fin.ext (by simp only; omega)) (Fin.ext (by simp only; omega))

/-- The result's block, at its last point. -/
theorem out2 (c : Dev nD) (t : Fin cfg0.N) (h : t.val % 4 = 3) (y : S1024x1024.Idx) :
    (outsAt0 m c t.val t.isLt).1 y = acc m c t.val t.isLt y := by
  rw [acc_next m c t (by omega), outsAt0_C m c t (by omega) h]
  unfold acc
  frame_out
  rw [read_unread_whole]
  pointwise [k0_pay3]
  rfl

theorem arr2 (c : Dev nD) : (dats m 0 c).arrAt 2 cfg0.N = fun i : S2048x2048.Idx => grad m c i := by
  refine (dats m 0 c).arrAt_eq_of_covers 2 _ (by decide +kernel) fun t hf y => ?_
  have h := (flush0_2 t).mp hf
  have e0 : (((win0_2.blk t).view.emb y) 0 : ℕ) = t.val / 8 * 1024 + (y 0).val := by blk_simp [idx t]; try omega
  have e1 : (((win0_2.blk t).view.emb y) 1 : ℕ) = t.val / 4 % 2 * 1024 + (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S2048x2048.Idx => grad m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel16Ideal.Mix

namespace Cert.Reference16Ideal.Mix

open Cert.Reference16Ideal Cert.Reference16Ideal.Gen Cert.Proof
open Idealize.ShloMosaic Idealize.ShloMosaic.TcCoe Idealize.ShloMosaic.Tactic

/-- The reference's result from arguments `x` and `g`: the same. -/
theorem values (m : (ℓ : Loc nD τ sig) → Buf (Elt Ideal) ℓ) (ρ : Dev nD → PrngReg) (x : Dev nD → S32x8192x64.Idx → EReal) (g : Dev nD → S8192x2048.Idx → EReal)
    (E : ∀ c : Dev nD, m ((c.tc : Thread nD τ).loc main_arg0) = x c ∧ m ((c.tc : Thread nD τ).loc main_arg1) = g c) :
    θ_run defs (onTc (τ := τ) (main (F := Ideal))) ⟨m, fun _ => 0, ρ⟩ fun r => ∀ c : Dev nD,
      r.2.mem ((c.tc : Thread nD τ).loc main_v11) = (fun i : S2048x2048.Idx => mulTN (flat (n := 32) (t := 8192) (w := 2048) rfl (x c)) (g c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize g c = g
  refine (congrArg (fun u : S8192x2048.Idx → EReal => truncf (F := Ideal) .bf16 (transpose S2048x2048 [1, 0]
    (Host.dotGeneral (F := Ideal) (φ₁ := .f32) (φ₂ := .f32) dot_S8192x2048_S8192x2048_S2048x2048_0_0_1_1_n_n none g u) transposes_S2048x2048_S2048x2048_1_0) bitsLt_bf16_f32)
    (flat_eq (n := 32) (t := 8192) (w := 2048) rfl x transposes_S32x8192x64_S8192x32x64_1_0_2 shapeCasts_S8192x32x64_S8192x2048)).trans ?_
  generalize flat (n := 32) (t := 8192) (w := 2048) rfl x = z
  funext i
  obtain ⟨r, s, rfl⟩ : ∃ r s : Fin 2048, i = ix2 r s := ⟨i 0, i 1, eq_ix2 i⟩
  refine Eq.trans ?_ (mulTN_comm g z s r)
  pointwise [dot_S8192x2048_S8192x2048_S2048x2048_0_0_1_1_n_n, mulTN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference16Ideal.Mix

end
-- ==== Proof.AttnInBwd.lean ====
/- The cotangent of the attention's input: the cotangents of the forty heads (queries, keys and values), side by side, taken back
   through the first weight. -/
module

public import proofs.«01_k».proof.Proof.Gen.Kernel17Ideal.Value
public import proofs.«01_k».proof.Proof.Gen.Reference17Ideal.Run
public import proofs.«01_k».proof.Proof.Heads
public import Idealize.ShloMosaic.Lib.Pipeline.ValueKit

@[expose] public section

set_option maxRecDepth 16384

noncomputable section

namespace Cert.Kernel17Ideal.Mix

open Cert.Kernel17Ideal Cert.Kernel17Ideal.Gen Cert.Proof
open Idealize.ShloMosaic Idealize.ShloMosaic.TcCoe Idealize.ShloMosaic.Tactic

/-- The heads of a block, side by side. -/
def joined (x : Vec Ideal S40x1024x64 .bf16) : FVec Ideal S1024x2560 .bf16 :=
  concatenate S1024x2560 1 (List.ofFn fun k : Fin 40 => (⟨S1024x64, head x head_inb shapeCasts_S1x1024x64_S1024x64 k⟩ : (s : Shape) × (s.Idx → EReal)))
    concatenates_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x2560_d1

theorem joined_eq (x : Vec Ideal S40x1024x64 .bf16) : joined x = flat (n := 40) (t := 1024) (w := 2560) rfl x :=
  funext fun i => join_heads rfl x head_inb _ _ i

/-- The sum of a point's product, from the cleared accumulator. -/
theorem product (x0 : Vec Ideal S40x1024x64 .bf16) (x1 : Vec Ideal S1024x2560 .bf16) (r s : Fin 1024) :
    k0_pay2 (F := Ideal) (joined x0) x1 (k0_pay4 (F := Ideal)) (ix2 r s) = ∑ k : Fin 2560, flat (n := 40) (t := 1024) (w := 2560) rfl x0 (ix2 r k) * x1 (ix2 s k) := by
  rw [joined_eq]
  generalize flat (n := 40) (t := 1024) (w := 2560) rfl x0 = z
  pointwise [k0_pay2, k0_pay4, dot_S1024x2560_S1024x2560_S1024x1024_1_1_0_0_n_n]

theorem idx : ∀ t : Fin cfg0.N, win0_0.index t = ![0, t.val / 2, 0] ∧ win0_1.index t = ![t.val % 2, 0] ∧ win0_2.index t = ![t.val / 2, t.val % 2] :=
  (by decide +kernel : ∀ t : Fin grid0.N, _)

variable (m : (ℓ : Loc nD τ sig) → Buf (Elt Ideal) ℓ)

theorem blk0 (c : Dev nD) (t : Fin cfg0.N) (g : Fin 40) (r : Fin 1024) (k : Fin 64) :
    iblk m c 0 t (ix3 g r k) = m ((c : Thread nD τ).loc main_arg0) (ix3 g ⟨t.val / 2 * 1024 + r.val, by have := t.isLt; have : cfg0.N = 16 := N_0; omega⟩ k) := by
  blk_ext! [iblk, V, idx t]

theorem blk1 (c : Dev nD) (t : Fin cfg0.N) (s : Fin 1024) (k : Fin 2560) :
    iblk m c 1 t (ix2 s k) = m ((c : Thread nD τ).loc main_arg1) (ix2 ⟨t.val % 2 * 1024 + s.val, by omega⟩ k) := by
  blk_ext! [iblk, V, idx t]

/-- The product, at an index of the result. -/
def back (c : Dev nD) (i : S8192x2048.Idx) : EReal :=
  mulNT (flat (n := 40) (t := 8192) (w := 2560) rfl (m ((c : Thread nD τ).loc main_arg0))) (m ((c : Thread nD τ).loc main_arg1)) (i 0) (i 1)

theorem product_at (c : Dev nD) (t : Fin cfg0.N) (y : S1024x1024.Idx) (i : S8192x2048.Idx)
    (e0 : (i 0).val = t.val / 2 * 1024 + (y 0).val) (e1 : (i 1).val = t.val % 2 * 1024 + (y 1).val) :
    k0_pay2 (F := Ideal) (joined (iblk m c 0 t)) (iblk m c 1 t) (k0_pay4 (F := Ideal)) y = back m c i := by
  obtain ⟨r, s, rfl⟩ : ∃ r s : Fin 1024, y = ix2 r s := ⟨y 0, y 1, eq_ix2 y⟩
  rw [product]
  unfold back mulNT flat
  refine Finset.sum_congr rfl fun k _ => ?_
  refine (congrArg₂ (fun a b : EReal => a * b) (blk0 m c _ _ _ _) (blk1 m c _ _ _)).trans ?_
  congr 2
  · exact congrArg (fun a => ix3 _ a _) (Fin.ext e0.symm)
  · exact congrArg (fun a => ix2 a k) (Fin.ext e1.symm)

theorem arr2 (c : Dev nD) : (dats m 0 c).arrAt 2 cfg0.N = fun i : S8192x2048.Idx => back m c i := by
  refine (dats m 0 c).arrAt_eq_of_covers 2 _ (by decide +kernel) fun t hf y => ?_
  have e0 : (((win0_2.blk t).view.emb y) 0 : ℕ) = t.val / 2 * 1024 + (y 0).val := by blk_simp [idx t]; try omega
  have e1 : (((win0_2.blk t).view.emb y) 1 : ℕ) = t.val % 2 * 1024 + (y 1).val := by blk_simp [idx t]; try omega
  blk_simp
  rw [after0_2, outsAt0]
  frame_out
  pointwise [k0_pay3]
  refine Eq.trans ?_ (product_at m c t y _ e0 e1)
  rfl

/-- The call's result: the product. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S8192x2048.Idx => back m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel17Ideal.Mix

namespace Cert.Reference17Ideal.Mix

open Cert.Reference17Ideal Cert.Reference17Ideal.Gen Cert.Proof
open Idealize.ShloMosaic Idealize.ShloMosaic.TcCoe Idealize.ShloMosaic.Tactic

/-- The reference's result from arguments `x` and `w`: the same. -/
theorem values (m : (ℓ : Loc nD τ sig) → Buf (Elt Ideal) ℓ) (ρ : Dev nD → PrngReg) (x : Dev nD → S40x8192x64.Idx → EReal) (w : Dev nD → S2048x2560.Idx → EReal)
    (E : ∀ c : Dev nD, m ((c.tc : Thread nD τ).loc main_arg0) = x c ∧ m ((c.tc : Thread nD τ).loc main_arg1) = w c) :
    θ_run defs (onTc (τ := τ) (main (F := Ideal))) ⟨m, fun _ => 0, ρ⟩ fun r => ∀ c : Dev nD,
      r.2.mem ((c.tc : Thread nD τ).loc main_v26) = (fun i : S8192x2048.Idx => mulNT (flat (n := 40) (t := 8192) (w := 2560) rfl (x c)) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize w c = w
  refine (congrArg (fun u : S8192x2560.Idx → EReal => truncf (F := Ideal) .bf16
    (Host.dotGeneral (F := Ideal) (φ₁ := .f32) (φ₂ := .f32) dot_S8192x2560_S2048x2560_S8192x2048_1_1_0_0_n_n none u w) bitsLt_bf16_f32)
    (parts_eq x slices_S40x8192x64_S32x8192x64_0_0_0 slices_S40x8192x64_S4x8192x64_32_0_0 slices_S40x8192x64_S4x8192x64_36_0_0
      transposes_S32x8192x64_S8192x32x64_1_0_2 transposes_S4x8192x64_S8192x4x64_1_0_2 shapeCasts_S8192x32x64_S8192x2048 shapeCasts_S8192x4x64_S8192x256
      concatenates_S8192x2048_S8192x256_S8192x256_S8192x2560_d1)).trans ?_
  generalize flat (n := 40) (t := 8192) (w := 2560) rfl x = z
  funext i
  rw [eq_ix2 (n0 := 8192) (n1 := 2048) i]
  pointwise [dot_S8192x2560_S2048x2560_S8192x2048_1_1_0_0_n_n, mulNT]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference17Ideal.Mix

end
-- ==== Proof.AttnInWgrad.lean ====
/- The gradient of the attention's first weight: the transposed input times the cotangents of the forty heads (queries, keys and
   values), side by side, accumulated over four blocks of the tokens. -/
module

public import proofs.«01_k».proof.Proof.Gen.Kernel18Ideal.Value
public import proofs.«01_k».proof.Proof.Gen.Reference18Ideal.Run
public import proofs.«01_k».proof.Proof.Heads
public import Idealize.ShloMosaic.Lib.Pipeline.ValueKit
public import Idealize.ShloMosaic.Lib.Pipeline.ReadBack

@[expose] public section

set_option maxRecDepth 16384

noncomputable section

namespace Cert.Kernel18Ideal.Mix

open Cert.Kernel18Ideal Cert.Kernel18Ideal.Gen Cert.Proof
open Idealize.ShloMosaic Idealize.ShloMosaic.TcCoe Idealize.ShloMosaic.Tactic

/-- The heads of a block, side by side. -/
def joined (x : Vec Ideal S10x2048x64 .bf16) : Vec Ideal S2048x640 .bf16 :=
  concatenate S2048x640 1 (List.ofFn fun k : Fin 10 => (⟨S2048x64, head x head_inb shapeCasts_S1x2048x64_S2048x64 k⟩ : (s : Shape) × (s.Idx → EReal)))
    concatenates_S2048x64_S2048x64_S2048x64_S2048x64_S2048x64_S2048x64_S2048x64_S2048x64_S2048x64_S2048x64_S2048x640_d1

theorem joined_eq (x : Vec Ideal S10x2048x64 .bf16) : joined x = flat (n := 10) (t := 2048) (w := 640) rfl x :=
  funext fun i => join_heads rfl x head_inb _ _ i

/-- What the body adds to the accumulator. -/
def added (x0 : Vec Ideal S2048x2048 .bf16) (z : Vec Ideal S2048x640 .bf16) (a : Vec Ideal S2048x640 .f32) : FVec Ideal S2048x640 .f32 :=
  shapeCast S2048x640 (addf a (matmul (φ₁ := .bf16) (φ₂ := .bf16) dot_S2048x2048_S2048x640_S2048x640_0_0_1_1_n_n none x0 z (constant S2048x640 .f32 0x00000000#32)))
    shapeCasts_S2048x640_S2048x640

/-- A point's part of the sum. -/
def part (x0 : S2048x2048.Idx → EReal) (x1 : S10x2048x64.Idx → EReal) (y : S2048x640.Idx) : EReal :=
  ∑ k : Fin 2048, x0 (ix2 k (y 0)) * flat (n := 10) (t := 2048) (w := 640) rfl x1 (ix2 k (y 1))

theorem clear (y : S2048x640.Idx) : k0_pay3 (F := Ideal) y = (0 : EReal) := by
  obtain ⟨r, s, rfl⟩ : ∃ (r : Fin 2048) (s : Fin 640), y = ix2 r s := ⟨y 0, y 1, eq_ix2 y⟩
  pointwise [k0_pay3]

theorem step (x0 : Vec Ideal S2048x2048 .bf16) (x1 : Vec Ideal S10x2048x64 .bf16) (a : Vec Ideal S2048x640 .f32) (y : S2048x640.Idx) :
    added x0 (joined x1) a y = a y + part x0 x1 y := by
  obtain ⟨r, s, rfl⟩ : ∃ (r : Fin 2048) (s : Fin 640), y = ix2 r s := ⟨y 0, y 1, eq_ix2 y⟩
  rw [joined_eq]
  unfold part
  generalize flat (n := 10) (t := 2048) (w := 640) rfl x1 = z
  pointwise [added, dot_S2048x2048_S2048x640_S2048x640_0_0_1_1_n_n]

theorem idx : ∀ t : Fin cfg0.N, win0_0.index t = ![t.val % 4, 0] ∧ win0_1.index t = ![t.val / 4, t.val % 4, 0]
    ∧ win0_2.index t = ![0, t.val / 4] :=
  (by decide +kernel : ∀ t : Fin grid0.N, _)

variable (m : (ℓ : Loc nD τ sig) → Buf (Elt Ideal) ℓ)

theorem blk0 (c : Dev nD) (t : Fin cfg0.N) (k : Fin 2048) (r : Fin 2048) :
    iblk m c 0 t (ix2 k r) = m ((c : Thread nD τ).loc main_arg0) (ix2 ⟨t.val % 4 * 2048 + k.val, by omega⟩ r) := by
  blk_ext! [iblk, V, idx t]

theorem blk1 (c : Dev nD) (t : Fin cfg0.N) (g : Fin 10) (k : Fin 2048) (s : Fin 64) :
    iblk m c 1 t (ix3 g k s) = m ((c : Thread nD τ).loc main_arg1) (ix3 ⟨t.val / 4 * 10 + g.val, by have := t.isLt; have : cfg0.N = 16 := N_0; omega⟩ ⟨t.val % 4 * 2048 + k.val, by omega⟩ s) := by
  blk_ext! [iblk, V, idx t]

/-- The accumulator after the body at a point. -/
def acc (c : Dev nD) (n : ℕ) (h : n < cfg0.N) : S2048x640.Idx → EReal := (outsAt0 m c n h).2

theorem acc_first (c : Dev nD) (t : Fin cfg0.N) (h : t.val % 4 = 0) :
    acc m c t.val t.isLt = added (iblk m c 0 t) (joined (iblk m c 1 t)) (k0_pay3 (F := Ideal)) := by
  unfold acc
  rw [outsAt0_A m c t h (by omega)]
  frame_out
  rfl

theorem acc_next (c : Dev nD) (t : Fin cfg0.N) (h : ¬t.val % 4 = 0) :
    acc m c t.val t.isLt = added (iblk m c 0 t) (joined (iblk m c 1 t)) (acc m c (t.val - 1) (Nat.lt_of_le_of_lt (Nat.sub_le _ _) t.isLt)) := by
  unfold acc
  by_cases h' : t.val % 4 = 3
  · rw [outsAt0_C m c t h h']
    frame_out
    rw [read_unread_whole]
    rfl
  · rw [outsAt0_B m c t h h']
    frame_out
    rw [read_unread_whole]
    rfl

/-- The product, at an index of the result. -/
def grad (c : Dev nD) (i : S2048x2560.Idx) : EReal :=
  mulTN (m ((c : Thread nD τ).loc main_arg0)) (flat (n := 40) (t := 8192) (w := 2560) rfl (m ((c : Thread nD τ).loc main_arg1))) (i 0) (i 1)

/-- The accumulator at the last point of a block of the result. -/
theorem acc_last (c : Dev nD) (t : Fin cfg0.N) (h : t.val % 4 = 3) (y : S2048x640.Idx) (i : S2048x2560.Idx)
    (e0 : (i 0).val = (y 0).val) (e1 : (i 1).val = t.val / 4 * 640 + (y 1).val) :
    acc m c t.val t.isLt y = grad m c i := by
  have := t.isLt
  have : cfg0.N = 16 := N_0
  rw [Pipeline.eq_sum_fin_of_reset_step_apply_of_flush (fun n h => acc m c n h) 4 (fun _ => (0 : EReal)) (fun u => part (iblk m c 0 u) (iblk m c 1 u))
    (fun u hu j => by rw [acc_first m c u hu, step, clear])
    (fun u hu j => by rw [acc_next m c u hu, step]) t h y, zero_add]
  have : (y 1).val < 640 := (y 1).isLt
  unfold grad mulTN part flat
  refine Fin.sum_mul_add_congr fun s k hl => ?_
  refine (congrArg₂ (fun a b : EReal => a * b) (blk0 m c _ _ _) (blk1 m c _ _ _ _)).trans ?_
  congr 2
  · exact congrArg₂ ix2 (Fin.ext (by simp only; omega)) (Fin.ext (by simp only; omega))
  · exact (congrArg₂ (fun a b => ix3 a b _) (Fin.ext (show (4 * (t.val / 4) + s.val) / 4 * 10 + (y 1).val / 64 = (i 1).val / 64 by omega))
      (Fin.ext (show (4 * (t.val / 4) + s.val) % 4 * 2048 + k.val = s.val * 2048 + k.val by omega))).trans
      (congrArg (ix3 _ _) (Fin.ext (show (y 1).val % 64 = (i 1).val % 64 by omega)))

/-- The result's block, at its last point. -/
theorem out2 (c : Dev nD) (t : Fin cfg0.N) (h : t.val % 4 = 3) (y : S2048x640.Idx) :
    (outsAt0 m c t.val t.isLt).1 y = acc m c t.val t.isLt y := by
  rw [acc_next m c t (by omega), outsAt0_C m c t (by omega) h]
  unfold acc
  frame_out
  rw [read_unread_whole]
  pointwise [k0_pay2]
  rfl

theorem arr2 (c : Dev nD) : (dats m 0 c).arrAt 2 cfg0.N = fun i : S2048x2560.Idx => grad m c i := by
  refine (dats m 0 c).arrAt_eq_of_covers 2 _ (by decide +kernel) fun t hf y => ?_
  have h := (flush0_2 t).mp hf
  have e0 : (((win0_2.blk t).view.emb y) 0 : ℕ) = (y 0).val := by blk_simp [idx t]; try omega
  have e1 : (((win0_2.blk t).view.emb y) 1 : ℕ) = t.val / 4 * 640 + (y 1).val := by blk_simp [idx t]; try omega
  blk_simp
  rw [after0_2]
  exact (out2 m c t h y).trans (acc_last m c t h y _ e0 e1)

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S2048x2560.Idx => grad m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel18Ideal.Mix

namespace Cert.Reference18Ideal.Mix

open Cert.Reference18Ideal Cert.Reference18Ideal.Gen Cert.Proof
open Idealize.ShloMosaic Idealize.ShloMosaic.TcCoe Idealize.ShloMosaic.Tactic

/-- The reference's result from arguments `x` and `g`: the same. -/
theorem values (m : (ℓ : Loc nD τ sig) → Buf (Elt Ideal) ℓ) (ρ : Dev nD → PrngReg) (x : Dev nD → S8192x2048.Idx → EReal) (g : Dev nD → S40x8192x64.Idx → EReal)
    (E : ∀ c : Dev nD, m ((c.tc : Thread nD τ).loc main_arg0) = x c ∧ m ((c.tc : Thread nD τ).loc main_arg1) = g c) :
    θ_run defs (onTc (τ := τ) (main (F := Ideal))) ⟨m, fun _ => 0, ρ⟩ fun r => ∀ c : Dev nD,
      r.2.mem ((c.tc : Thread nD τ).loc main_v26) = (fun i : S2048x2560.Idx => mulTN (x c) (flat (n := 40) (t := 8192) (w := 2560) rfl (g c)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize g c = g
  refine (congrArg (fun u : S8192x2560.Idx → EReal => truncf (F := Ideal) .bf16 (transpose S2048x2560 [1, 0]
    (Host.dotGeneral (F := Ideal) (φ₁ := .f32) (φ₂ := .f32) dot_S8192x2560_S8192x2048_S2560x2048_0_0_1_1_n_n none u x) transposes_S2560x2048_S2048x2560_1_0) bitsLt_bf16_f32)
    (parts_eq g slices_S40x8192x64_S32x8192x64_0_0_0 slices_S40x8192x64_S4x8192x64_32_0_0 slices_S40x8192x64_S4x8192x64_36_0_0
      transposes_S32x8192x64_S8192x32x64_1_0_2 transposes_S4x8192x64_S8192x4x64_1_0_2 shapeCasts_S8192x32x64_S8192x2048 shapeCasts_S8192x4x64_S8192x256
      concatenates_S8192x2048_S8192x256_S8192x256_S8192x2560_d1)).trans ?_
  generalize flat (n := 40) (t := 8192) (w := 2560) rfl g = z
  funext i
  obtain ⟨r, s, rfl⟩ : ∃ (r : Fin 2048) (s : Fin 2560), i = ix2 r s := ⟨i 0, i 1, eq_ix2 i⟩
  refine Eq.trans ?_ (mulTN_comm z x s r)
  pointwise [dot_S8192x2560_S8192x2048_S2560x2048_0_0_1_1_n_n, mulTN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference18Ideal.Mix

end
-- ==== Proof.AttnOutFwd.lean ====
/- The attention's output projection, of its heads side by side, added to the residual stream through the gate: what the call leaves
   at an index of its two results. -/
module

public import proofs.«01_k».proof.Proof.Gen.Kernel19Ideal.Value
public import proofs.«01_k».proof.Proof.Gen.Reference19Ideal.Run
public import proofs.«01_k».proof.Proof.Heads
public import Idealize.ShloMosaic.Lib.Pipeline.ValueKit

@[expose] public section

set_option maxRecDepth 16384

noncomputable section

namespace Cert.Kernel19Ideal.Mix

open Cert.Kernel19Ideal Cert.Kernel19Ideal.Gen Cert.Proof
open Idealize.ShloMosaic Idealize.ShloMosaic.TcCoe Idealize.ShloMosaic.Tactic

/-- The heads of a block, side by side. -/
def joined (x : Vec Ideal S32x1024x64 .bf16) : FVec Ideal S1024x2048 .bf16 :=
  concatenate S1024x2048 1 (List.ofFn fun k : Fin 32 => (⟨S1024x64, head x head_inb shapeCasts_S1x1024x64_S1024x64 k⟩ : (s : Shape) × (s.Idx → EReal)))
    concatenates_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x64_S1024x2048_d1

theorem joined_eq (x : Vec Ideal S32x1024x64 .bf16) : joined x = flat (n := 32) (t := 1024) (w := 2048) rfl x :=
  funext fun i => join_heads rfl x head_inb _ _ i

/-- What the body leaves in the accumulator. -/
def sums (x0 : Vec Ideal S32x1024x64 .bf16) (x1 : Vec Ideal S2048x1024 .bf16) : FVec Ideal S1024x1024 .f32 :=
  k0_pay1 (F := Ideal) (addf (k0_pay4 (F := Ideal)) (matmul (φ₁ := .bf16) (φ₂ := .bf16) dot_S1024x2048_S2048x1024_S1024x1024_1_0_0_1_n_n none (joined x0) x1
    (constant S1024x1024 .f32 0x00000000#32)))

/-- The sum of a point's product, from the cleared accumulator. -/
theorem product (x0 : Vec Ideal S32x1024x64 .bf16) (x1 : Vec Ideal S2048x1024 .bf16) (r s : Fin 1024) :
    sums x0 x1 (ix2 r s) = ∑ k : Fin 2048, flat (n := 32) (t := 1024) (w := 2048) rfl x0 (ix2 r k) * x1 (ix2 k s) := by
  unfold sums
  rw [joined_eq]
  generalize flat (n := 32) (t := 1024) (w := 2048) rfl x0 = z
  pointwise [k0_pay1, k0_pay4, dot_S1024x2048_S2048x1024_S1024x1024_1_0_0_1_n_n]

theorem idx : ∀ t : Fin cfg0.N, win0_0.index t = ![0, t.val / 2, 0] ∧ win0_1.index t = ![0, t.val % 2]
    ∧ win0_2.index t = ![t.val / 2, t.val % 2] ∧ win0_3.index t = ![0, t.val % 2]
    ∧ win0_4.index t = ![t.val / 2, t.val % 2] ∧ win0_5.index t = ![t.val / 2, t.val % 2] :=
  (by decide +kernel : ∀ t : Fin grid0.N, _)

variable (m : (ℓ : Loc nD τ sig) → Buf (Elt Ideal) ℓ)

theorem blk0 (c : Dev nD) (t : Fin cfg0.N) (g : Fin 32) (r : Fin 1024) (k : Fin 64) :
    iblk m c 0 t (ix3 g r k) = m ((c : Thread nD τ).loc main_arg0) (ix3 g ⟨t.val / 2 * 1024 + r.val, by have := t.isLt; have : cfg0.N = 16 := N_0; omega⟩ k) := by
  blk_ext! [iblk, V, idx t]

theorem blk1 (c : Dev nD) (t : Fin cfg0.N) (k : Fin 2048) (s : Fin 1024) :
    iblk m c 1 t (ix2 k s) = m ((c : Thread nD τ).loc main_arg1) (ix2 k ⟨t.val % 2 * 1024 + s.val, by omega⟩) := by
  blk_ext! [iblk, V, idx t]

/-- The product, at an index of the results. -/
def pre (c : Dev nD) (i : S8192x2048.Idx) : EReal :=
  mulNN (flat (n := 32) (t := 8192) (w := 2048) rfl (m ((c : Thread nD τ).loc main_arg0))) (m ((c : Thread nD τ).loc main_arg1)) (i 0) (i 1)

theorem product_at (c : Dev nD) (t : Fin cfg0.N) (y : S1024x1024.Idx) (i : S8192x2048.Idx)
    (e0 : (i 0).val = t.val / 2 * 1024 + (y 0).val) (e1 : (i 1).val = t.val % 2 * 1024 + (y 1).val) :
    sums (iblk m c 0 t) (iblk m c 1 t) y = pre m c i := by
  obtain ⟨r, s, rfl⟩ : ∃ r s : Fin 1024, y = ix2 r s := ⟨y 0, y 1, eq_ix2 y⟩
  rw [product]
  unfold pre mulNN flat
  refine Finset.sum_congr rfl fun k _ => ?_
  refine (congrArg₂ (fun a b : EReal => a * b) (blk0 m c _ _ _ _) (blk1 m c _ _ _)).trans ?_
  congr 2
  · exact congrArg (fun a => ix3 _ a _) (Fin.ext e0.symm)
  · exact congrArg (fun a => ix2 k a) (Fin.ext e1.symm)

/-- The residual stream and the gate, arguments. -/
def given (c : Dev nD) : S8192x2048.Idx → EReal := m ((c : Thread nD τ).loc main_arg2)
def gate (c : Dev nD) : S1x2048.Idx → EReal := m ((c : Thread nD τ).loc main_arg3)

theorem blk2 (c : Dev nD) (t : Fin cfg0.N) (r s : Fin 1024) :
    iblk m c 2 t (ix2 r s) = given m c (ix2 ⟨t.val / 2 * 1024 + r.val, by have := t.isLt; have : cfg0.N = 16 := N_0; omega⟩ ⟨t.val % 2 * 1024 + s.val, by omega⟩) := by
  unfold given
  blk_ext! [iblk, V, idx t]

theorem blk3 (c : Dev nD) (t : Fin cfg0.N) (s : Fin 1024) :
    iblk m c 3 t (ix2 (0 : Fin 1) s) = gate m c (ix2 (0 : Fin 1) ⟨t.val % 2 * 1024 + s.val, by omega⟩) := by
  unfold gate
  blk_ext! [iblk, V, idx t]

theorem arr4 (c : Dev nD) : (dats m 0 c).arrAt 4 cfg0.N = fun i : S8192x2048.Idx => pre m c i := by
  refine (dats m 0 c).arrAt_eq_of_covers 4 _ (by decide +kernel) fun t hf y => ?_
  have e0 : (((win0_4.blk t).view.emb y) 0 : ℕ) = t.val / 2 * 1024 + (y 0).val := by blk_simp [idx t]; try omega
  have e1 : (((win0_4.blk t).view.emb y) 1 : ℕ) = t.val % 2 * 1024 + (y 1).val := by blk_simp [idx t]; try omega
  blk_simp
  rw [after0_4, outsAt0]
  frame_out
  pointwise [k0_pay2]
  refine Eq.trans ?_ (product_at m c t y _ e0 e1)
  rfl

theorem sum_at (c : Dev nD) (t : Fin cfg0.N) (y : S1024x1024.Idx) (i : S8192x2048.Idx)
    (e0 : (i 0).val = t.val / 2 * 1024 + (y 0).val) (e1 : (i 1).val = t.val % 2 * 1024 + (y 1).val) :
    k0_pay3 (F := Ideal) (sums (iblk m c 0 t) (iblk m c 1 t)) (iblk m c 2 t) (iblk m c 3 t) y
      = given m c i + gate m c (ix2 (0 : Fin 1) (i 1)) * pre m c i := by
  have p := product_at m c t y i e0 e1
  obtain ⟨r, s, rfl⟩ : ∃ r s : Fin 1024, y = ix2 r s := ⟨y 0, y 1, eq_ix2 y⟩
  have ei : ix2 ⟨t.val / 2 * 1024 + r.val, by have := t.isLt; have : cfg0.N = 16 := N_0; omega⟩ ⟨t.val % 2 * 1024 + s.val, by omega⟩ = i :=
    (congrArg₂ ix2 (Fin.ext e0.symm) (Fin.ext e1.symm)).trans (eq_ix2 (n0 := 8192) (n1 := 2048) i).symm
  pointwise [k0_pay3]
  rw [p, blk2, blk3, ei]
  congr 3
  exact congrArg (fun a => ix2 (0 : Fin 1) a) (Fin.ext e1.symm)

theorem arr5 (c : Dev nD) : (dats m 0 c).arrAt 5 cfg0.N
    = fun i : S8192x2048.Idx => given m c i + gate m c (ix2 (0 : Fin 1) (i 1)) * pre m c i := by
  refine (dats m 0 c).arrAt_eq_of_covers 5 _ (by decide +kernel) fun t hf y => ?_
  have e0 : (((win0_5.blk t).view.emb y) 0 : ℕ) = t.val / 2 * 1024 + (y 0).val := by blk_simp [idx t]; try omega
  have e1 : (((win0_5.blk t).view.emb y) 1 : ℕ) = t.val % 2 * 1024 + (y 1).val := by blk_simp [idx t]; try omega
  blk_simp
  rw [after0_5, outsAt0]
  frame_out
  refine Eq.trans ?_ (sum_at m c t y _ e0 e1)
  rfl

/-- The call's results: the product, and the residual stream with the scaled product added. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S8192x2048.Idx => pre m c i)
      ∧ r.2.mem ((c : Thread nD τ).loc main_v0_1) = (fun i : S8192x2048.Idx => given m c i + gate m c (ix2 (0 : Fin 1) (i 1)) * pre m c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (Value.run_blocks m ρ)

end Cert.Kernel19Ideal.Mix

namespace Cert.Reference19Ideal.Mix

open Cert.Reference19Ideal Cert.Reference19Ideal.Gen Cert.Proof
open Idealize.ShloMosaic Idealize.ShloMosaic.TcCoe Idealize.ShloMosaic.Tactic

/-- The reference's results from arguments `x`, `w`, `h` and `d`: the same. -/
theorem values (m : (ℓ : Loc nD τ sig) → Buf (Elt Ideal) ℓ) (ρ : Dev nD → PrngReg) (x : Dev nD → S32x8192x64.Idx → EReal) (w : Dev nD → S2048x2048.Idx → EReal)
    (h : Dev nD → S8192x2048.Idx → EReal) (d : Dev nD → S1x2048.Idx → EReal)
    (E : ∀ c : Dev nD, m ((c.tc : Thread nD τ).loc main_arg0) = x c ∧ m ((c.tc : Thread nD τ).loc main_arg1) = w c
      ∧ m ((c.tc : Thread nD τ).loc main_arg2) = h c ∧ m ((c.tc : Thread nD τ).loc main_arg3) = d c) :
    θ_run defs (onTc (τ := τ) (main (F := Ideal))) ⟨m, fun _ => 0, ρ⟩ fun r => ∀ c : Dev nD,
      r.2.mem ((c.tc : Thread nD τ).loc main_v5) = (fun i : S8192x2048.Idx => mulNN (flat (n := 32) (t := 8192) (w := 2048) rfl (x c)) (w c) (i 0) (i 1))
      ∧ r.2.mem ((c.tc : Thread nD τ).loc main_v8) = (fun i : S8192x2048.Idx => h c i + d c (ix2 (0 : Fin 1) (i 1)) * mulNN (flat (n := 32) (t := 8192) (w := 2048) rfl (x c)) (w c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r hr c => ⟨(hr c).1.trans ?_, (hr c).2.1.trans ?_, (hr c).2.2⟩) (Value.run m ρ)
  · rw [(E c).1, (E c).2.1]
    generalize x c = x
    generalize w c = w
    refine (congrArg (fun u : S8192x2048.Idx → EReal => truncf (F := Ideal) .bf16
      (Host.dotGeneral (F := Ideal) (φ₁ := .f32) (φ₂ := .f32) dot_S8192x2048_S2048x2048_S8192x2048_1_0_0_1_n_n none u w) bitsLt_bf16_f32)
      (flat_eq (n := 32) (t := 8192) (w := 2048) rfl x transposes_S32x8192x64_S8192x32x64_1_0_2 shapeCasts_S8192x32x64_S8192x2048)).trans ?_
    generalize flat (n := 32) (t := 8192) (w := 2048) rfl x = z
    funext i
    obtain ⟨r, s, rfl⟩ : ∃ (r : Fin 8192) (s : Fin 2048), i = ix2 r s := ⟨i 0, i 1, eq_ix2 i⟩
    pointwise [dot_S8192x2048_S2048x2048_S8192x2048_1_0_0_1_n_n, mulNN]
  · rw [(E c).1, (E c).2.1, (E c).2.2.1, (E c).2.2.2]
    generalize x c = x
    generalize w c = w
    generalize h c = h
    generalize d c = d
    refine (congrArg (fun u : S8192x2048.Idx → EReal => addf (F := Ideal) (φ := .f32) h (mulf (F := Ideal) (φ := .f32) (broadcastInDim S8192x2048 ![0, 1] bcast_S1x2048_S8192x2048_0_1 d)
      (Host.dotGeneral (F := Ideal) (φ₁ := .f32) (φ₂ := .f32) dot_S8192x2048_S2048x2048_S8192x2048_1_0_0_1_n_n none u w)))
      (flat_eq (n := 32) (t := 8192) (w := 2048) rfl x transposes_S32x8192x64_S8192x32x64_1_0_2 shapeCasts_S8192x32x64_S8192x2048)).trans ?_
    generalize flat (n := 32) (t := 8192) (w := 2048) rfl x = z
    funext i
    obtain ⟨r, s, rfl⟩ : ∃ (r : Fin 8192) (s : Fin 2048), i = ix2 r s := ⟨i 0, i 1, eq_ix2 i⟩
    pointwise [dot_S8192x2048_S2048x2048_S8192x2048_1_0_0_1_n_n, mulNN]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems (by decide) r.2⟩) (Value.run m ρ)

end Cert.Reference19Ideal.Mix

end
-- ==== Proof.AttnOutBwd.lean ====
/- The cotangents of the attention's heads: the cotangent of the output projection taken back through its weight, and taken apart
   into the heads. -/
module

public import proofs.«01_k».proof.Proof.Gen.Kernel20Ideal.Value
public import proofs.«01_k».proof.Proof.Gen.Reference20Ideal.Run
public import proofs.«01_k».proof.Proof.Heads
public import Idealize.ShloMosaic.Lib.Pipeline.ValueKit
public import Idealize.ShloMosaic.Lib.Pipeline.ReadBack

@[expose] public section

set_option maxRecDepth 16384

noncomputable section

namespace Cert.Kernel20Ideal.Mix

open Cert.Kernel20Ideal Cert.Kernel20Ideal.Gen Cert.Proof
open Idealize.ShloMosaic Idealize.ShloMosaic.TcCoe Idealize.ShloMosaic.Tactic

/-- Reading a head of a store over earlier stores. -/
theorem canon_head (a : ℕ) (h) (w : (Rect.unit (s := S8x1024x64) ![a, 0, 0] ![1, 1024, 64] h).shape.Idx → Elt Ideal .bf16)
    (L : List (Idealize.ShloMosaic.View.Piece (Elt Ideal) S8x1024x64 .bf16)) (k : Fin 8) (r : Fin 1024) (s : Fin 64) :
    View.canon (⟨Rect.unit (s := S8x1024x64) ![a, 0, 0] ![1, 1024, 64] h, w⟩ :: L) (ix3 k r s)
      = if k.val = a then w (ix3 (n0 := 1) (n1 := 1024) (n2 := 64) 0 r s) else View.canon L (ix3 k r s) := by
  split_ifs with e
  · have : (ix3 k r s : S8x1024x64.Idx) = (Rect.unit (s := S8x1024x64) ![a, 0, 0] ![1, 1024, 64] h).emb (ix3 (n0 := 1) (n1 := 1024) (n2 := 64) 0 r s) := by
      funext b
      match b with
      | ⟨0, _⟩ => exact Fin.ext (show k.val = a + 1 * 0 by omega)
      | ⟨1, _⟩ => exact Fin.ext (show r.val = 0 + 1 * r.val by omega)
      | ⟨2, _⟩ => exact Fin.ext (show s.val = 0 + 1 * s.val by omega)
    rw [this, View.canon_cons_emb]
  · refine View.canon_cons_of_not_mem ⟨Rect.unit (s := S8x1024x64) ![a, 0, 0] ![1, 1024, 64] h, w⟩ L fun hm => e ?_
    have hm : ix3 k r s ∈ (Rect.unit (s := S8x1024x64) ![a, 0, 0] ![1, 1024, 64] h).set := hm
    have := (Rect.mem_set_unit.mp hm) 0
    have h1 : a ≤ k.val := this.1
    have h2 : k.val < a + 1 := this.2
    omega

/-- Columns stored as a head. -/
theorem stored (u : Vec Ideal S1024x64 .f32) (r : Fin 1024) (s : Fin 64) :
    shapeCast S1x1024x64 (truncf (F := Ideal) .bf16 u bitsLt_bf16_f32) shapeCasts_S1024x64_S1x1024x64 (ix3 0 r s) = u (ix2 r s) :=
  (ValueIdx.shapeCast_ab_1ab_apply _ _ _ _ _).trans rfl

/-- Columns read of the accumulator. -/
theorem columns (z : Vec Ideal S1024x512 .f32) (L : List (Idealize.ShloMosaic.View.Piece (Elt Ideal) S1024x512 .f32)) (hz) (k : Fin 8) (o : ℕ) (ho : o = k.val * 64)
    (h) (r : Fin 1024) (s : Fin 64) :
    (View.whole cc0_scratch0).readCov (Val := Elt Ideal) (⟨Rect.unit (s := S1024x512) ![0, 0] ![1024, 512] hz, z⟩ :: L)
      (Rect.unit (s := S1024x512) ![0, o] ![1024, 64] h).toLoadRect (ix2 (n0 := 1024) (n1 := 64) r s) = z (ix2 r ⟨k.val * 64 + s.val, by omega⟩) := by
  rw [View.readCov_eq_canon']
  refine (congrFun (View.canon_cons_unit_lit' (S := S1024x512) hz z L fun b => match b with | ⟨0, _⟩ => rfl | ⟨1, _⟩ => rfl) _).trans (congrArg z ?_)
  funext b
  match b with
  | ⟨0, _⟩ => exact Fin.ext (show 0 + 1 * r.val = r.val by omega)
  | ⟨1, _⟩ => exact Fin.ext (show o + 1 * s.val = k.val * 64 + s.val by omega)

/-- The sum of a point's product, from the cleared accumulator. -/
theorem product (x0 : Vec Ideal S1024x2048 .bf16) (x1 : Vec Ideal S512x2048 .bf16) (r : Fin 1024) (s : Fin 512) :
    k0_pay2 (F := Ideal) x0 x1 (k0_pay1 (F := Ideal)) (ix2 r s) = ∑ k : Fin 2048, x0 (ix2 r k) * x1 (ix2 s k) := by
  pointwise [k0_pay2, k0_pay1, dot_S1024x2048_S512x2048_S1024x512_1_1_0_0_n_n]

theorem idx : ∀ t : Fin cfg0.N, win0_0.index t = ![t.val / 4, 0] ∧ win0_1.index t = ![t.val % 4, 0] ∧ win0_2.index t = ![t.val % 4, t.val / 4, 0] :=
  (by decide +kernel : ∀ t : Fin grid0.N, _)

variable (m : (ℓ : Loc nD τ sig) → Buf (Elt Ideal) ℓ)

theorem blk0 (c : Dev nD) (t : Fin cfg0.N) (r : Fin 1024) (k : Fin 2048) :
    iblk m c 0 t (ix2 r k) = m ((c : Thread nD τ).loc main_arg0) (ix2 ⟨t.val / 4 * 1024 + r.val, by have := t.isLt; have : cfg0.N = 32 := N_0; omega⟩ k) := by
  blk_ext! [iblk, V, idx t]

theorem blk1 (c : Dev nD) (t : Fin cfg0.N) (s : Fin 512) (k : Fin 2048) :
    iblk m c 1 t (ix2 s k) = m ((c : Thread nD τ).loc main_arg1) (ix2 ⟨t.val % 4 * 512 + s.val, by omega⟩ k) := by
  blk_ext! [iblk, V, idx t]

/-- The product, at an index of the result. -/
def back (c : Dev nD) (i : S32x8192x64.Idx) : EReal :=
  mulNT (m ((c : Thread nD τ).loc main_arg0)) (m ((c : Thread nD τ).loc main_arg1)) (i 1) (column (i 0) (i 2))

theorem product_at (c : Dev nD) (t : Fin cfg0.N) (g : Fin 8) (r : Fin 1024) (s : Fin 64) (i : S32x8192x64.Idx)
    (e0 : (i 0).val = t.val % 4 * 8 + g.val) (e1 : (i 1).val = t.val / 4 * 1024 + r.val) (e2 : (i 2).val = s.val) :
    k0_pay2 (F := Ideal) (iblk m c 0 t) (iblk m c 1 t) (k0_pay1 (F := Ideal)) (ix2 r ⟨g.val * 64 + s.val, by omega⟩) = back m c i := by
  rw [product]
  unfold back mulNT column
  refine Finset.sum_congr rfl fun k _ => ?_
  rw [blk0, blk1]
  congr 2
  · exact congrArg (fun a => ix2 a k) (Fin.ext e1.symm)
  · exact congrArg (fun a => ix2 a k) (Fin.ext (show t.val % 4 * 512 + (g.val * 64 + s.val) = (i 0).val * 64 + (i 2).val by omega))

/-- The result's block. -/
theorem out2 (c : Dev nD) (t : Fin cfg0.N) (g : Fin 8) (r : Fin 1024) (s : Fin 64) :
    outsAt0 m c t (ix3 g r s) = k0_pay2 (F := Ideal) (iblk m c 0 t) (iblk m c 1 t) (k0_pay1 (F := Ideal)) (ix2 r ⟨g.val * 64 + s.val, by omega⟩) := by
  unfold outsAt0
  frame_out
  simp only [canon_head]
  split_ifs with e e e e e e e e
  · exact (stored _ r s).trans (columns _ _ _ g 448 (by omega) _ r s)
  · exact (stored _ r s).trans (columns _ _ _ g 384 (by omega) _ r s)
  · exact (stored _ r s).trans (columns _ _ _ g 320 (by omega) _ r s)
  · exact (stored _ r s).trans (columns _ _ _ g 256 (by omega) _ r s)
  · exact (stored _ r s).trans (columns _ _ _ g 192 (by omega) _ r s)
  · exact (stored _ r s).trans (columns _ _ _ g 128 (by omega) _ r s)
  · exact (stored _ r s).trans (columns _ _ _ g 64 (by omega) _ r s)
  · exact (stored _ r s).trans (columns _ _ _ g 0 (by omega) _ r s)
  · omega

theorem arr2 (c : Dev nD) : (dats m 0 c).arrAt 2 cfg0.N = fun i : S32x8192x64.Idx => back m c i := by
  refine (dats m 0 c).arrAt_eq_of_covers 2 _ (by decide +kernel) fun t hf y => ?_
  have e0 : (((win0_2.blk t).view.emb y) 0 : ℕ) = t.val % 4 * 8 + (y 0).val := by blk_simp [idx t]; try omega
  have e1 : (((win0_2.blk t).view.emb y) 1 : ℕ) = t.val / 4 * 1024 + (y 1).val := by blk_simp [idx t]; try omega
  have e2 : (((win0_2.blk t).view.emb y) 2 : ℕ) = (y 2).val := by blk_simp [idx t]; try omega
  blk_simp
  rw [after0_2]
  obtain ⟨g, r, s, rfl⟩ : ∃ (g : Fin 8) (r : Fin 1024) (s : Fin 64), y = ix3 g r s := ⟨y 0, y 1, y 2, eq_ix3 y⟩
  exact (out2 m c t g r s).trans (product_at m c t g r s _ e0 e1 e2)

/-- The call's result: the product, head by head. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S32x8192x64.Idx => back m c i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel20Ideal.Mix

namespace Cert.Reference20Ideal.Mix

open Cert.Reference20Ideal Cert.Reference20Ideal.Gen Cert.Proof
open Idealize.ShloMosaic Idealize.ShloMosaic.TcCoe Idealize.ShloMosaic.Tactic

/-- The reference's result from arguments `x` and `w`: the same. -/
theorem values (m : (ℓ : Loc nD τ sig) → Buf (Elt Ideal) ℓ) (ρ : Dev nD → PrngReg) (x : Dev nD → S8192x2048.Idx → EReal) (w : Dev nD → S2048x2048.Idx → EReal)
    (E : ∀ c : Dev nD, m ((c.tc : Thread nD τ).loc main_arg0) = x c ∧ m ((c.tc : Thread nD τ).loc main_arg1) = w c) :
    θ_run defs (onTc (τ := τ) (main (F := Ideal))) ⟨m, fun _ => 0, ρ⟩ fun r => ∀ c : Dev nD,
      r.2.mem ((c.tc : Thread nD τ).loc main_v11) = (fun i : S32x8192x64.Idx => mulNT (x c) (w c) (i 1) (column (i 0) (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  rw [(E c).1, (E c).2]
  generalize x c = x
  generalize w c = w
  funext i
  obtain ⟨g, r, s, rfl⟩ : ∃ (g : Fin 32) (r : Fin 8192) (s : Fin 64), i = ix3 g r s := ⟨i 0, i 1, i 2, eq_ix3 i⟩
  refine (apart_eq (n := 32) (t := 8192) (w := 2048) rfl (Host.dotGeneral (F := Ideal) (φ₁ := .f32) (φ₂ := .f32) dot_S8192x2048_S2048x2048_S8192x2048_1_1_0_0_n_n none x w)
    shapeCasts_S8192x2048_S8192x32x64 transposes_S8192x32x64_S32x8192x64_1_0_2 g r s).trans ?_
  show _ = mulNT x w r ⟨g.val * 64 + s.val, by omega⟩
  generalize (⟨g.val * 64 + s.val, by omega⟩ : Fin 2048) = j
  pointwise [dot_S8192x2048_S2048x2048_S8192x2048_1_1_0_0_n_n, mulNT]

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference20Ideal.Mix

end
-- ==== Proof.NormBottom.lean ====
/- The norm's gradient at the bottom of the step, where no branch lies below: the kernel's call and the reference. -/
module

public import proofs.«01_k».proof.Proof.Gen.Kernel21Ideal.Value
public import proofs.«01_k».proof.Proof.Gen.Reference21Ideal.Read
public import proofs.«01_k».proof.Proof.NormBwd
public import proofs.«01_k».proof.Proof.NormBwdRef

@[expose] public section

set_option maxRecDepth 16384

noncomputable section

namespace Cert.Proof

open Idealize.ShloMosaic

/-- The arguments of a norm with no branch below: a branch and a gate of zeros, on which no result depends. -/
abbrev NormArgs.bottom {n : ℕ} (x0 x1 x2 : (⟨2, ![n, 2048]⟩ : Shape).Idx → EReal) (x3 x4 : (⟨2, ![1, 2048]⟩ : Shape).Idx → EReal) : NormArgs n :=
  .of x0 x1 x2 x3 x4 (fun _ => 0) (fun _ => 0)

end Cert.Proof

namespace Cert.Kernel21Ideal.Norm

open Cert.Kernel21Ideal Cert.Kernel21Ideal.Gen Cert.Proof
open Idealize.ShloMosaic Idealize.ShloMosaic.TcCoe Idealize.ShloMosaic.Tactic

/-- With no branch below, only the first three rows of the sums are not zero. -/
theorem rest {n : ℕ} (A : NormArgs n) (h : ∀ r s, A.y r s = 0) (r : Fin n) (s : Fin 2048) (k : ℕ) (hk : 3 ≤ k) : A.stat r s k = 0 := by
  rcases hk.eq_or_lt with rfl | hk
  · exact (congrArg (fun v => A.dx r s * v) (h r s)).trans (mul_zero _)
  · exact NormArgs.stat_rest A r s k hk

section payloads

variable (x0 : Vec Ideal S256x2048 .f32) (x1 : Vec Ideal S256x2048 .bf16) (x2 : Vec Ideal S256x2048 .f32) (x3 x4 row : Vec Ideal S1x2048 .f32)
  (r : Fin 256) (s : Fin 2048)

theorem dx_at : k0_pay10 (F := Ideal) x0 x1 x3 x4 x2 (ix2 r s) = (NormArgs.bottom x0 x1 x2 x3 x4).dx r s :=
  Cert.Kernel15Ideal.Norm.pay7 x0 x1 x2 x3 x4 (fun _ => 0) (fun _ => 0) r s

theorem row0 : k0_pay2 (F := Ideal) (k0_pay5 x1) row (ix2 0 s) = row (ix2 0 s) + ∑ r, (NormArgs.bottom x0 x1 x2 x3 x4).stat r s 0 :=
  Cert.Kernel15Ideal.Norm.pay9 x0 x1 x2 x3 x4 (fun _ => 0) (fun _ => 0) row s

theorem row1 : k0_pay3 (F := Ideal) (k0_pay5 x1) (k0_pay8 x0 x3) row (ix2 0 s)
    = row (ix2 0 s) + ∑ r, (NormArgs.bottom x0 x1 x2 x3 x4).stat r s 1 :=
  Cert.Kernel15Ideal.Norm.pay10 x0 x1 x2 x3 x4 (fun _ => 0) (fun _ => 0) row s

theorem row2 : k0_pay4 (F := Ideal) (k0_pay7 x0) (k0_pay9 x1 x4) row (ix2 0 s)
    = row (ix2 0 s) + ∑ r, (NormArgs.bottom x0 x1 x2 x3 x4).stat r s 2 :=
  Cert.Kernel15Ideal.Norm.pay11 x0 x1 x2 x3 x4 (fun _ => 0) (fun _ => 0) row s

end payloads

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ)

/-- A point's row of the array. -/
def tok (t : Fin cfg0.N) (r : Fin 256) : Fin 8192 := ⟨t.val * 256 + r.val, by have := t.isLt; have : cfg0.N = 32 := N_0; omega⟩

theorem blk0 (c : Dev nD) (t : Fin cfg0.N) (r : Fin 256) (k : Fin 2048) : iblk m c 0 t (ix2 r k) = m ((c : Thread nD τ).loc main_arg0) (ix2 (tok t r) k) := by
  unfold tok
  blk_ext! [iblk, V, idx t]

theorem blk1 (c : Dev nD) (t : Fin cfg0.N) (r : Fin 256) (k : Fin 2048) : iblk m c 1 t (ix2 r k) = m ((c : Thread nD τ).loc main_arg1) (ix2 (tok t r) k) := by
  unfold tok
  blk_ext! [iblk, V, idx t]

theorem blk2 (c : Dev nD) (t : Fin cfg0.N) (r : Fin 256) (k : Fin 2048) : iblk m c 2 t (ix2 r k) = m ((c : Thread nD τ).loc main_arg2) (ix2 (tok t r) k) := by
  unfold tok
  blk_ext! [iblk, V, idx t]

theorem blk3 (c : Dev nD) (t : Fin cfg0.N) (k : Fin 2048) : iblk m c 3 t (ix2 0 k) = m ((c : Thread nD τ).loc main_arg3) (ix2 0 k) := by
  blk_ext! [iblk, V, idx t]

theorem blk4 (c : Dev nD) (t : Fin cfg0.N) (k : Fin 2048) : iblk m c 4 t (ix2 0 k) = m ((c : Thread nD τ).loc main_arg4) (ix2 0 k) := by
  blk_ext! [iblk, V, idx t]

/-- The call's arguments. -/
def args (c : Dev nD) : NormArgs 8192 :=
  .bottom (m ((c : Thread nD τ).loc main_arg0)) (m ((c : Thread nD τ).loc main_arg1)) (m ((c : Thread nD τ).loc main_arg2))
    (m ((c : Thread nD τ).loc main_arg3)) (m ((c : Thread nD τ).loc main_arg4))

/-- A point's. -/
theorem args_at (c : Dev nD) (t : Fin cfg0.N) :
    NormArgs.bottom (iblk m c 0 t) (iblk m c 1 t) (iblk m c 2 t) (iblk m c 3 t) (iblk m c 4 t) = (args m c).pick (tok t) := by
  unfold args NormArgs.bottom NormArgs.of NormArgs.pick
  simp only [blk0, blk1, blk2, blk3, blk4]

/-- The cotangent of the norm's argument that a point leaves. -/
theorem out5 (c : Dev nD) (t : Fin cfg0.N) (r : Fin 256) (s : Fin 2048) : (outsAt0 m c t.val t.isLt).1 (ix2 r s) = (args m c).dx (tok t r) s := by
  have e := dx_at (iblk m c 0 t) (iblk m c 1 t) (iblk m c 2 t) (iblk m c 3 t) (iblk m c 4 t) r s
  rw [args_at] at e
  by_cases h0 : t.val % 32 = 0
  · rw [outsAt0_A m c t h0]
    dsimp only
    frame_out
    exact e
  · rw [outsAt0_B m c t h0]
    dsimp only
    frame_out
    exact e

/-- What a point adds to the sums. -/
def part (c : Dev nD) (t : Fin cfg0.N) (y : S8x2048.Idx) : EReal := ∑ r, (args m c).stat (tok t r) (y 1) (y 0).val

theorem part_eq (c : Dev nD) (t : Fin cfg0.N) (k : Fin 8) (s : Fin 2048) :
    part m c t (ix2 k s) = ∑ r, (NormArgs.bottom (iblk m c 0 t) (iblk m c 1 t) (iblk m c 2 t) (iblk m c 3 t) (iblk m c 4 t)).stat r s k.val := by
  rw [args_at]
  rfl

/-- A later point adds its part. -/
theorem sums_next (c : Dev nD) (t : Fin cfg0.N) (h0 : ¬ t.val % 32 = 0) (y : S8x2048.Idx) :
    (outsAt0 m c t.val t.isLt).2 y = (outsAt0 m c (t.val - 1) (by have := t.isLt; omega)).2 y + part m c t y := by
  obtain ⟨k, s, rfl⟩ : ∃ (k : Fin 8) (s : Fin 2048), y = ix2 k s := ⟨y 0, y 1, eq_ix2 y⟩
  rw [outsAt0_B m c t h0, part_eq]
  dsimp only
  frame_out
  simp only [read_row, View.writes_nil, Memref.IsWhole.read_unread]
  split_ifs with e e e
  · exact (row2 (iblk m c 0 t) (iblk m c 1 t) (iblk m c 2 t) (iblk m c 3 t) (iblk m c 4 t) _ s).trans (congrArg₂ (fun a b : EReal => a + b) (Cert.Kernel15Ideal.Norm.row_at _ k 2 e _ s) (by rw [e]))
  · exact (row1 (iblk m c 0 t) (iblk m c 1 t) (iblk m c 2 t) (iblk m c 3 t) (iblk m c 4 t) _ s).trans (congrArg₂ (fun a b : EReal => a + b) (Cert.Kernel15Ideal.Norm.row_at _ k 1 e _ s) (by rw [e]))
  · rw [row0 (iblk m c 0 t) (iblk m c 1 t) (iblk m c 2 t) (iblk m c 3 t) (iblk m c 4 t)]
    exact (congrArg₂ (fun a b : EReal => a + b) (Cert.Kernel15Ideal.Norm.row_at _ k 0 e _ s) (by rw [e]))
  · rw [Finset.sum_eq_zero fun r _ => rest _ (fun _ _ => rfl) r s k.val (by omega), add_zero]

/-- The rows' zeros. -/
theorem canon_zero (h) (k : Fin 8) (s : Fin 2048) :
    View.canon (Val := Elt Ideal) (e := .f32) (⟨Rect.unit (s := S8x2048) ![0, 0] ![8, 2048] h, k0_pay1 (F := Ideal)⟩ :: []) (ix2 k s) = 0 := by
  frame_out
  pointwise [k0_pay1]

/-- The first point starts from zero. -/
theorem sums_first (c : Dev nD) (t : Fin cfg0.N) (h0 : t.val % 32 = 0) (y : S8x2048.Idx) :
    (outsAt0 m c t.val t.isLt).2 y = 0 + part m c t y := by
  obtain ⟨k, s, rfl⟩ : ∃ (k : Fin 8) (s : Fin 2048), y = ix2 k s := ⟨y 0, y 1, eq_ix2 y⟩
  rw [outsAt0_A m c t h0, part_eq]
  dsimp only
  frame_out
  simp only [canon_row]
  split_ifs with e e e
  · refine (row2 (iblk m c 0 t) (iblk m c 1 t) (iblk m c 2 t) (iblk m c 3 t) (iblk m c 4 t) _ s).trans (congrArg₂ (fun a b : EReal => a + b) ((readCov_row _ _ k 2 e _ s).trans ?_) (by rw [e]))
    simp only [canon_row, canon_zero, e, Nat.reduceEqDiff, OfNat.ofNat_ne_zero, one_ne_zero, if_false]
  · refine (row1 (iblk m c 0 t) (iblk m c 1 t) (iblk m c 2 t) (iblk m c 3 t) (iblk m c 4 t) _ s).trans (congrArg₂ (fun a b : EReal => a + b) ((readCov_row _ _ k 1 e _ s).trans ?_) (by rw [e]))
    simp only [canon_row, canon_zero, e, Nat.reduceEqDiff, OfNat.ofNat_ne_zero, one_ne_zero, if_false]
  · rw [row0 (iblk m c 0 t) (iblk m c 1 t) (iblk m c 2 t) (iblk m c 3 t) (iblk m c 4 t)]
    refine (congrArg₂ (fun a b : EReal => a + b) ((readCov_row _ _ k 0 e _ s).trans ?_) (by rw [e]))
    simp only [canon_row, canon_zero, e, Nat.reduceEqDiff, OfNat.ofNat_ne_zero, one_ne_zero, if_false]
  · rw [Finset.sum_eq_zero fun r _ => rest _ (fun _ _ => rfl) r s k.val (by omega), add_zero]
    exact canon_zero _ k s

/-- The sums at the last point. -/
theorem out6 (c : Dev nD) (t : Fin cfg0.N) (h : t.val % 32 = 31) (y : S8x2048.Idx) :
    (outsAt0 m c t.val t.isLt).2 y = ∑ r, (args m c).stat r (y 1) (y 0).val := by
  have := t.isLt
  have : cfg0.N = 32 := N_0
  rw [Pipeline.eq_sum_fin_of_reset_step_apply_of_flush (fun n h => (outsAt0 m c n h).2) 32 (fun _ => (0 : EReal)) (fun u => part m c u)
    (fun u hu j => sums_first m c u hu j) (fun u hu j => sums_next m c u hu j) t h y, zero_add]
  unfold part
  exact Fin.sum_mul_add_congr fun s k hl => congrArg (fun r => (args m c).stat r (y 1) (y 0).val) (Fin.ext (show (32 * (t.val / 32) + s.val) * 256 + k.val = s.val * 256 + k.val by omega))

theorem arr5 (c : Dev nD) : (dats m 0 c).arrAt 5 cfg0.N = fun i : S8192x2048.Idx => (args m c).dx (i 0) (i 1) := by
  refine (dats m 0 c).arrAt_eq_of_covers 5 _ (by decide +kernel) fun t hf y => ?_
  have e0 : (((win0_5.blk t).view.emb y) 0 : ℕ) = t.val * 256 + (y 0).val := by blk_simp [idx t]; try omega
  have e1 : (((win0_5.blk t).view.emb y) 1 : ℕ) = (y 1).val := by blk_simp [idx t]; try omega
  blk_simp
  rw [after0_5]
  obtain ⟨r, s, rfl⟩ : ∃ (r : Fin 256) (s : Fin 2048), y = ix2 r s := ⟨y 0, y 1, eq_ix2 y⟩
  exact (out5 m c t r s).trans (congrArg₂ (args m c).dx (Fin.ext e0.symm) (Fin.ext e1.symm))

theorem arr6 (c : Dev nD) : (dats m 0 c).arrAt 6 cfg0.N = fun i : S8x2048.Idx => ∑ r, (args m c).stat r (i 1) (i 0).val := by
  refine (dats m 0 c).arrAt_eq_of_covers 6 _ (by decide +kernel) fun t hf y => ?_
  have e0 : (((win0_6.blk t).view.emb y) 0 : ℕ) = (y 0).val := by blk_simp [idx t]; try omega
  have e1 : (((win0_6.blk t).view.emb y) 1 : ℕ) = (y 1).val := by blk_simp [idx t]; try omega
  blk_simp
  rw [after0_6]
  refine (out6 m c t ((flush0_6 t).mp hf) y).trans ?_
  refine congrArg₂ (fun (s : Fin 2048) (k : ℕ) => ∑ r, (args m c).stat r s k) (Fin.ext ?_) ?_
  · simp [idx t]
  · simp [idx t]

/-- The call's results. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S8192x2048.Idx => (args m c).dx (i 0) (i 1))
      ∧ r.2.mem ((c : Thread nD τ).loc main_v0_1) = (fun i : S8x2048.Idx => ∑ r, (args m c).stat r (i 1) (i 0).val)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr5 m c), (h c).2.1.trans (arr6 m c), (h c).2.2⟩) (Value.run_blocks m ρ)

end Cert.Kernel21Ideal.Norm

namespace Cert.Reference21Ideal.Norm

open Cert.Reference21Ideal Cert.Reference21Ideal.Gen Cert.Reference21Ideal.Read Cert.Proof
open Idealize.ShloMosaic Idealize.ShloMosaic.TcCoe Idealize.ShloMosaic.Tactic

variable (x0 x1 x2 : S8192x2048.Idx → EReal) (x3 x4 : S1x2048.Idx → EReal) (r : Fin 8192) (s : Fin 2048)

theorem v57 : val_main_v57 (F := Ideal) x0 x1 x2 x3 x4 (ix2 r s) = (NormArgs.bottom x0 x1 x2 x3 x4).dx r s :=
  Cert.Reference15Ideal.Norm.v57 x0 x1 x2 x3 x4 (fun _ => 0) (fun _ => 0) r s

theorem v58 : val_main_v58 (F := Ideal) x1 (ix2 0 s) = ∑ r, (NormArgs.bottom x0 x1 x2 x3 x4).stat r s 0 :=
  Cert.Reference15Ideal.Norm.v69 x0 x1 x2 x3 x4 (fun _ => 0) (fun _ => 0) s

theorem v59 : val_main_v59 (F := Ideal) x0 x1 x3 (ix2 0 s) = ∑ r, (NormArgs.bottom x0 x1 x2 x3 x4).stat r s 1 :=
  Cert.Reference15Ideal.Norm.v70 x0 x1 x2 x3 x4 (fun _ => 0) (fun _ => 0) s

theorem v60 : val_main_v60 (F := Ideal) x0 x1 x4 (ix2 0 s) = ∑ r, (NormArgs.bottom x0 x1 x2 x3 x4).stat r s 2 :=
  Cert.Reference15Ideal.Norm.v71 x0 x1 x2 x3 x4 (fun _ => 0) (fun _ => 0) s

/-- Three rows and a block of five under each other. -/
theorem pile (f0 f1 f2 : S1x2048.Idx → EReal) (f3 : S5x2048.Idx → EReal) (k : Fin 8) (v : EReal)
    (h0 : k.val = 0 → f0 (ix2 0 s) = v) (h1 : k.val = 1 → f1 (ix2 0 s) = v) (h2 : k.val = 2 → f2 (ix2 0 s) = v)
    (h3 : 3 ≤ k.val → ∀ j, f3 (ix2 j s) = v) :
    concatenate S8x2048 0 [⟨S1x2048, f0⟩, ⟨S1x2048, f1⟩, ⟨S1x2048, f2⟩, ⟨S5x2048, f3⟩]
      concatenates_S1x2048_S1x2048_S1x2048_S5x2048_S8x2048_d0 (ix2 k s) = v := by
  pointwise
  split_ifs
  all_goals first
    | exact (congrArg f0 (congrArg₂ ix2 (Fin.ext (show k.val = 0 by omega)) rfl)).trans (h0 (by omega))
    | exact (congrArg f1 (congrArg₂ ix2 (Fin.ext (show k.val - 1 = 0 by omega)) rfl)).trans (h1 (by omega))
    | exact (congrArg f2 (congrArg₂ ix2 (Fin.ext (show k.val - 1 - 1 = 0 by omega)) rfl)).trans (h2 (by omega))
    | exact h3 (by omega) _

theorem v61 (j : Fin 5) : val_main_v61 (F := Ideal) (ix2 j s) = 0 := by
  pointwise [val_main_v61, val_main_cst_14]

theorem v62 (k : Fin 8) : val_main_v62 (F := Ideal) x0 x1 x3 x4 (ix2 k s) = ∑ r, (NormArgs.bottom x0 x1 x2 x3 x4).stat r s k.val := by
  unfold val_main_v62
  refine pile s _ _ _ _ k _ (fun e => ?_) (fun e => ?_) (fun e => ?_) (fun e j => ?_)
  · rw [e, v58 x0 x1 x2 x3 x4]
  · rw [e, v59 x0 x1 x2 x3 x4]
  · rw [e, v60 x0 x1 x2 x3 x4]
  · rw [v61, Finset.sum_eq_zero fun r _ => Cert.Kernel21Ideal.Norm.rest _ (fun _ _ => rfl) r s k.val e]

/-- The reference's results from the arguments `x0`, … , `x4`: the same. -/
theorem values (m : (ℓ : Loc nD τ sig) → Buf (Elt Ideal) ℓ) (ρ : Dev nD → PrngReg) (x0 x1 x2 : Dev nD → S8192x2048.Idx → EReal)
    (x3 x4 : Dev nD → S1x2048.Idx → EReal)
    (E : ∀ c : Dev nD, m ((c.tc : Thread nD τ).loc main_arg0) = x0 c ∧ m ((c.tc : Thread nD τ).loc main_arg1) = x1 c
      ∧ m ((c.tc : Thread nD τ).loc main_arg2) = x2 c ∧ m ((c.tc : Thread nD τ).loc main_arg3) = x3 c ∧ m ((c.tc : Thread nD τ).loc main_arg4) = x4 c) :
    θ_run defs (onTc (τ := τ) (main (F := Ideal))) ⟨m, fun _ => 0, ρ⟩ fun r => ∀ c : Dev nD,
      r.2.mem ((c.tc : Thread nD τ).loc main_v57)
        = (fun i : S8192x2048.Idx => (NormArgs.bottom (x0 c) (x1 c) (x2 c) (x3 c) (x4 c)).dx (i 0) (i 1))
      ∧ r.2.mem ((c.tc : Thread nD τ).loc main_v62)
        = (fun i : S8x2048.Idx => ∑ r, (NormArgs.bottom (x0 c) (x1 c) (x2 c) (x3 c) (x4 c)).stat r (i 1) (i 0).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ((val_main_v57_eq m c).trans ?_), (h c).2.1.trans (Eq.trans (val_main_v62_eq _ _ _ _) ?_),
    (h c).2.2⟩) (Value.run m ρ)
  all_goals
    obtain ⟨h0, h1, h2, h3, h4⟩ := E c
    simp only [h0, h1, h2, h3, h4]
    funext i
  · obtain ⟨r, s, rfl⟩ : ∃ (r : Fin 8192) (s : Fin 2048), i = ix2 r s := ⟨i 0, i 1, eq_ix2 i⟩
    exact v57 _ _ _ _ _ r s
  · obtain ⟨k, s, rfl⟩ : ∃ (k : Fin 8) (s : Fin 2048), i = ix2 k s := ⟨i 0, i 1, eq_ix2 i⟩
    exact v62 _ _ (x2 c) _ _ s k

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2.2, sem_eq_zero_of_no_sems (by decide) r.2⟩) (Value.run m ρ)

end Cert.Reference21Ideal.Norm

end
-- ==== Proof.Adam.lean ====
/- AdamW from the devices' shares of a gradient: what a step leaves at an index. -/
module

public import proofs.«01_k».proof.Proof.Heads
public import Idealize.ShloMosaic.Lib.Pipeline.ValueKit

@[expose] public section

noncomputable section

namespace Cert.Proof

open Idealize.ShloMosaic

/-- A gradient's entry: the sum of the eight devices' shares. -/
def total {R C : ℕ} (p : (⟨3, ![8, R, C]⟩ : Shape).Idx → EReal) (i : (⟨2, ![R, C]⟩ : Shape).Idx) : EReal :=
  ∑ d : Fin 8, p (ix3 (n0 := 8) (n1 := R) (n2 := C) d (i 0) (i 1))

/-- The new first moment. -/
def adamM (g m : EReal) : EReal := Ideal.ofBits .f32 0x3F666666#32 * m + Ideal.ofBits .f32 0x3DCCCCCD#32 * g

/-- The new second moment. -/
def adamV (g v : EReal) : EReal := Ideal.ofBits .f32 0x3F7FBE77#32 * v + Ideal.ofBits .f32 0x3A83126F#32 * (g * g)

/-- The weight's change. -/
def adamW (g w m v : EReal) : EReal :=
  Ideal.ofBits .f32 0xBA83126F#32 * (Ideal.div (Ideal.div (adamM g m) (Ideal.ofBits .f32 0x3F26BD02#32))
    (Ideal.sqrt (Ideal.div (adamV g v) (Ideal.ofBits .f32 0x3C231ACC#32)) + Ideal.ofBits .f32 0x322BCC77#32) + Ideal.ofBits .f32 0x3C23D70A#32 * w)

end Cert.Proof

end
-- ==== Proof.AdamOut.lean ====
/- AdamW of a device's shard of a mixer's output weight, the two layers' alike. -/
module

public import proofs.«01_k».proof.Proof.Gen.Kernel22Ideal.Value
public import proofs.«01_k».proof.Proof.Gen.Reference22Ideal.Read
public import proofs.«01_k».proof.Proof.Adam

@[expose] public section

set_option maxRecDepth 16384

noncomputable section

namespace Cert.Kernel22Ideal.Adam

open Cert.Kernel22Ideal Cert.Kernel22Ideal.Gen Cert.Proof
open Idealize.ShloMosaic Idealize.ShloMosaic.TcCoe Idealize.ShloMosaic.Tactic

/-- A block's gradient. -/
theorem grad (x0 : Vec Ideal S8x256x2048 .bf16) (x1 x2 x3 : Vec Ideal S256x2048 .f32) (y : S256x2048.Idx) : k0_pay5 (F := Ideal) x0 x1 x2 x3 y = total x0 y := by
  obtain ⟨r, s, rfl⟩ : ∃ (r : Fin 256) (s : Fin 2048), y = ix2 r s := ⟨y 0, y 1, eq_ix2 y⟩
  unfold k0_pay5
  pointwise [k0_pay4]
  refine Eq.trans ?_ (Fin.sum_univ_eight _).symm
  rfl

theorem moment (g m : Vec Ideal S256x2048 .f32) (y : S256x2048.Idx) : k0_pay1 (F := Ideal) g m y = adamM (g y) (m y) := rfl

theorem square (g v : Vec Ideal S256x2048 .f32) (y : S256x2048.Idx) : k0_pay2 (F := Ideal) g v y = adamV (g y) (v y) := rfl

theorem change (g w m v : Vec Ideal S256x2048 .f32) (y : S256x2048.Idx) : k0_pay3 (F := Ideal) g w m v y = adamW (g y) (w y) (m y) (v y) := rfl

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- An entry's index in the array. -/
def at_ (t : Fin cfg0.N) (y : S256x2048.Idx) : S256x2048.Idx := ix2 ⟨t.val * 256 + (y 0).val, by have h : (y 0).val < 256 := (y 0).isLt; have := t.isLt; have : cfg0.N = 1 := N_0; omega⟩ (y 1)

theorem blk0 (c : Dev nD) (t : Fin cfg0.N) (y : S256x2048.Idx) : total (R := 256) (C := 2048) (iblk m c 0 t) y = total (R := 256) (C := 2048) (m ((c : Thread nD τ).loc main_arg0)) (at_ t y) := by
  unfold total
  refine Finset.sum_congr rfl fun d _ => ?_
  unfold at_
  blk_ext! [iblk, V, idx t]

theorem blk1 (c : Dev nD) (t : Fin cfg0.N) (y : S256x2048.Idx) : iblk m c 1 t y = m ((c : Thread nD τ).loc main_arg1) (at_ t y) := by
  unfold at_
  blk_ext! [iblk, V, idx t]

theorem blk2 (c : Dev nD) (t : Fin cfg0.N) (y : S256x2048.Idx) : iblk m c 2 t y = m ((c : Thread nD τ).loc main_arg2) (at_ t y) := by
  unfold at_
  blk_ext! [iblk, V, idx t]

theorem blk3 (c : Dev nD) (t : Fin cfg0.N) (y : S256x2048.Idx) : iblk m c 3 t y = m ((c : Thread nD τ).loc main_arg3) (at_ t y) := by
  unfold at_
  blk_ext! [iblk, V, idx t]

theorem arr4 (c : Dev nD) : (dats m 0 c).arrAt 4 cfg0.N = fun i : S256x2048.Idx => total (R := 256) (C := 2048) (m ((c : Thread nD τ).loc main_arg0)) i := by
  refine (dats m 0 c).arrAt_eq_of_covers 4 _ (by decide +kernel) fun t hf y => ?_
  have e : (win0_4.blk t).view.emb y = at_ t y := by
    unfold at_
    blk_ext! [idx t]
  rw [e]
  blk_simp
  rw [after0_4]
  frame_out
  rw [grad, blk0]

theorem arr5 (c : Dev nD) : (dats m 0 c).arrAt 5 cfg0.N = fun i : S256x2048.Idx => adamW (total (R := 256) (C := 2048) (m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 5 _ (by decide +kernel) fun t hf y => ?_
  have e : (win0_5.blk t).view.emb y = at_ t y := by
    unfold at_
    blk_ext! [idx t]
  rw [e]
  blk_simp
  rw [after0_5]
  frame_out
  rw [change, grad, blk0, blk1, blk2, blk3]

theorem arr6 (c : Dev nD) : (dats m 0 c).arrAt 6 cfg0.N = fun i : S256x2048.Idx => adamM (total (R := 256) (C := 2048) (m ((c : Thread nD τ).loc main_arg0)) i) ((m ((c : Thread nD τ).loc main_arg2)) i) := by
  refine (dats m 0 c).arrAt_eq_of_covers 6 _ (by decide +kernel) fun t hf y => ?_
  have e : (win0_6.blk t).view.emb y = at_ t y := by
    unfold at_
    blk_ext! [idx t]
  rw [e]
  blk_simp
  rw [after0_6]
  frame_out
  rw [moment, grad, blk0, blk2]

theorem arr7 (c : Dev nD) : (dats m 0 c).arrAt 7 cfg0.N = fun i : S256x2048.Idx => adamV (total (R := 256) (C := 2048) (m ((c : Thread nD τ).loc main_arg0)) i) ((m ((c : Thread nD τ).loc main_arg3)) i) := by
  refine (dats m 0 c).arrAt_eq_of_covers 7 _ (by decide +kernel) fun t hf y => ?_
  have e : (win0_7.blk t).view.emb y = at_ t y := by
    unfold at_
    blk_ext! [idx t]
  rw [e]
  blk_simp
  rw [after0_7]
  frame_out
  rw [square, grad, blk0, blk3]

/-- The call's results. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S256x2048.Idx => total (R := 256) (C := 2048) (m ((c : Thread nD τ).loc main_arg0)) i)
      ∧ r.2.mem ((c : Thread nD τ).loc main_v0_1) = (fun i : S256x2048.Idx => adamW (total (R := 256) (C := 2048) (m ((c : Thread nD τ).loc main_arg0)) i) ((m ((c : Thread nD τ).loc main_arg1)) i) ((m ((c : Thread nD τ).loc main_arg2)) i) ((m ((c : Thread nD τ).loc main_arg3)) i))
      ∧ r.2.mem ((c : Thread nD τ).loc main_v0_2) = (fun i : S256x2048.Idx => adamM (total (R := 256) (C := 2048) (m ((c : Thread nD τ).loc main_arg0)) i) ((m ((c : Thread nD τ).loc main_arg2)) i))
      ∧ r.2.mem ((c : Thread nD τ).loc main_v0_3) = (fun i : S256x2048.Idx => adamV (total (R := 256) (C := 2048) (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩)
    (Value.run_blocks m ρ)

end Cert.Kernel22Ideal.Adam

namespace Cert.Reference22Ideal.Adam

open Cert.Reference22Ideal Cert.Reference22Ideal.Gen Cert.Reference22Ideal.Read Cert.Proof
open Idealize.ShloMosaic Idealize.ShloMosaic.TcCoe Idealize.ShloMosaic.Tactic

variable (x0 : S8x256x2048.Idx → EReal) (x1 x2 x3 : S256x2048.Idx → EReal) (i : S256x2048.Idx)

theorem grad : val_main_v1 (F := Ideal) x0 i = total (R := 256) (C := 2048) x0 i := by
  obtain ⟨r, s, rfl⟩ : ∃ (r : Fin 256) (s : Fin 2048), i = ix2 r s := ⟨i 0, i 1, eq_ix2 i⟩
  pointwise [val_main_v1, val_main_v0, val_main_cst]
  rfl

theorem moment : val_main_v6 (F := Ideal) x0 x2 i = adamM (total (R := 256) (C := 2048) x0 i) (x2 i) :=
  congrArg (fun g => adamM g (x2 i)) (grad x0 i)

theorem square : val_main_v12 (F := Ideal) x0 x3 i = adamV (total (R := 256) (C := 2048) x0 i) (x3 i) :=
  congrArg (fun g => adamV g (x3 i)) (grad x0 i)

theorem change : val_main_v25 (F := Ideal) x0 x1 x2 x3 i = adamW (total (R := 256) (C := 2048) x0 i) (x1 i) (x2 i) (x3 i) :=
  congrArg (fun g => adamW g (x1 i) (x2 i) (x3 i)) (grad x0 i)

/-- The reference's results from arguments `p`, `w`, `a` and `b`: the same. -/
theorem values (m : (ℓ : Loc nD τ sig) → Buf (Elt Ideal) ℓ) (ρ : Dev nD → PrngReg) (p : Dev nD → S8x256x2048.Idx → EReal) (w a b : Dev nD → S256x2048.Idx → EReal)
    (E : ∀ c : Dev nD, m ((c.tc : Thread nD τ).loc main_arg0) = p c ∧ m ((c.tc : Thread nD τ).loc main_arg1) = w c
      ∧ m ((c.tc : Thread nD τ).loc main_arg2) = a c ∧ m ((c.tc : Thread nD τ).loc main_arg3) = b c) :
    θ_run defs (onTc (τ := τ) (main (F := Ideal))) ⟨m, fun _ => 0, ρ⟩ fun r => ∀ c : Dev nD,
      r.2.mem ((c.tc : Thread nD τ).loc main_v1) = (fun i : S256x2048.Idx => total (R := 256) (C := 2048) (p c) i)
      ∧ r.2.mem ((c.tc : Thread nD τ).loc main_v25) = (fun i : S256x2048.Idx => adamW (total (R := 256) (C := 2048) (p c) i) (w c i) (a c i) (b c i))
      ∧ r.2.mem ((c.tc : Thread nD τ).loc main_v6) = (fun i : S256x2048.Idx => adamM (total (R := 256) (C := 2048) (p c) i) (a c i))
      ∧ r.2.mem ((c.tc : Thread nD τ).loc main_v12) = (fun i : S256x2048.Idx => adamV (total (R := 256) (C := 2048) (p c) i) (b c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3⟩ := E c
  have h := h c
  rw [h0, h1, h2, h3] at h ⊢
  exact ⟨h.1.trans (funext (grad _)), h.2.1.trans (funext (change _ _ _ _)), h.2.2.1.trans (funext (moment _ _)),
    h.2.2.2.1.trans (funext (square _ _)), h.2.2.2.2⟩

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Value.run m ρ)

end Cert.Reference22Ideal.Adam

end
-- ==== Proof.AdamHgrn.lean ====
/- AdamW of a device's shard of the HGRN2 mixer's input weight. -/
module

public import proofs.«01_k».proof.Proof.Gen.Kernel23Ideal.Value
public import proofs.«01_k».proof.Proof.Gen.Reference23Ideal.Read
public import proofs.«01_k».proof.Proof.Adam

@[expose] public section

set_option maxRecDepth 16384

noncomputable section

namespace Cert.Kernel23Ideal.Adam

open Cert.Kernel23Ideal Cert.Kernel23Ideal.Gen Cert.Proof
open Idealize.ShloMosaic Idealize.ShloMosaic.TcCoe Idealize.ShloMosaic.Tactic

/-- A block's gradient. -/
theorem grad (x0 : Vec Ideal S8x256x1024 .bf16) (x1 x2 x3 : Vec Ideal S256x1024 .f32) (y : S256x1024.Idx) : k0_pay5 (F := Ideal) x0 x1 x2 x3 y = total x0 y := by
  obtain ⟨r, s, rfl⟩ : ∃ (r : Fin 256) (s : Fin 1024), y = ix2 r s := ⟨y 0, y 1, eq_ix2 y⟩
  unfold k0_pay5
  pointwise [k0_pay4]
  refine Eq.trans ?_ (Fin.sum_univ_eight _).symm
  rfl

theorem moment (g m : Vec Ideal S256x1024 .f32) (y : S256x1024.Idx) : k0_pay1 (F := Ideal) g m y = adamM (g y) (m y) := rfl

theorem square (g v : Vec Ideal S256x1024 .f32) (y : S256x1024.Idx) : k0_pay2 (F := Ideal) g v y = adamV (g y) (v y) := rfl

theorem change (g w m v : Vec Ideal S256x1024 .f32) (y : S256x1024.Idx) : k0_pay3 (F := Ideal) g w m v y = adamW (g y) (w y) (m y) (v y) := rfl

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- An entry's index in the array. -/
def at_ (t : Fin cfg0.N) (y : S256x1024.Idx) : S2048x1024.Idx := ix2 ⟨t.val * 256 + (y 0).val, by have h : (y 0).val < 256 := (y 0).isLt; have := t.isLt; have : cfg0.N = 8 := N_0; omega⟩ (y 1)

theorem blk0 (c : Dev nD) (t : Fin cfg0.N) (y : S256x1024.Idx) : total (R := 256) (C := 1024) (iblk m c 0 t) y = total (R := 2048) (C := 1024) (m ((c : Thread nD τ).loc main_arg0)) (at_ t y) := by
  unfold total
  refine Finset.sum_congr rfl fun d _ => ?_
  unfold at_
  blk_ext! [iblk, V, idx t]

theorem blk1 (c : Dev nD) (t : Fin cfg0.N) (y : S256x1024.Idx) : iblk m c 1 t y = m ((c : Thread nD τ).loc main_arg1) (at_ t y) := by
  unfold at_
  blk_ext! [iblk, V, idx t]

theorem blk2 (c : Dev nD) (t : Fin cfg0.N) (y : S256x1024.Idx) : iblk m c 2 t y = m ((c : Thread nD τ).loc main_arg2) (at_ t y) := by
  unfold at_
  blk_ext! [iblk, V, idx t]

theorem blk3 (c : Dev nD) (t : Fin cfg0.N) (y : S256x1024.Idx) : iblk m c 3 t y = m ((c : Thread nD τ).loc main_arg3) (at_ t y) := by
  unfold at_
  blk_ext! [iblk, V, idx t]

theorem arr4 (c : Dev nD) : (dats m 0 c).arrAt 4 cfg0.N = fun i : S2048x1024.Idx => total (R := 2048) (C := 1024) (m ((c : Thread nD τ).loc main_arg0)) i := by
  refine (dats m 0 c).arrAt_eq_of_covers 4 _ (by decide +kernel) fun t hf y => ?_
  have e : (win0_4.blk t).view.emb y = at_ t y := by
    unfold at_
    blk_ext! [idx t]
  rw [e]
  blk_simp
  rw [after0_4]
  frame_out
  rw [grad, blk0]

theorem arr5 (c : Dev nD) : (dats m 0 c).arrAt 5 cfg0.N = fun i : S2048x1024.Idx => adamW (total (R := 2048) (C := 1024) (m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 5 _ (by decide +kernel) fun t hf y => ?_
  have e : (win0_5.blk t).view.emb y = at_ t y := by
    unfold at_
    blk_ext! [idx t]
  rw [e]
  blk_simp
  rw [after0_5]
  frame_out
  rw [change, grad, blk0, blk1, blk2, blk3]

theorem arr6 (c : Dev nD) : (dats m 0 c).arrAt 6 cfg0.N = fun i : S2048x1024.Idx => adamM (total (R := 2048) (C := 1024) (m ((c : Thread nD τ).loc main_arg0)) i) ((m ((c : Thread nD τ).loc main_arg2)) i) := by
  refine (dats m 0 c).arrAt_eq_of_covers 6 _ (by decide +kernel) fun t hf y => ?_
  have e : (win0_6.blk t).view.emb y = at_ t y := by
    unfold at_
    blk_ext! [idx t]
  rw [e]
  blk_simp
  rw [after0_6]
  frame_out
  rw [moment, grad, blk0, blk2]

theorem arr7 (c : Dev nD) : (dats m 0 c).arrAt 7 cfg0.N = fun i : S2048x1024.Idx => adamV (total (R := 2048) (C := 1024) (m ((c : Thread nD τ).loc main_arg0)) i) ((m ((c : Thread nD τ).loc main_arg3)) i) := by
  refine (dats m 0 c).arrAt_eq_of_covers 7 _ (by decide +kernel) fun t hf y => ?_
  have e : (win0_7.blk t).view.emb y = at_ t y := by
    unfold at_
    blk_ext! [idx t]
  rw [e]
  blk_simp
  rw [after0_7]
  frame_out
  rw [square, grad, blk0, blk3]

/-- The call's results. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S2048x1024.Idx => total (R := 2048) (C := 1024) (m ((c : Thread nD τ).loc main_arg0)) i)
      ∧ r.2.mem ((c : Thread nD τ).loc main_v0_1) = (fun i : S2048x1024.Idx => adamW (total (R := 2048) (C := 1024) (m ((c : Thread nD τ).loc main_arg0)) i) ((m ((c : Thread nD τ).loc main_arg1)) i) ((m ((c : Thread nD τ).loc main_arg2)) i) ((m ((c : Thread nD τ).loc main_arg3)) i))
      ∧ r.2.mem ((c : Thread nD τ).loc main_v0_2) = (fun i : S2048x1024.Idx => adamM (total (R := 2048) (C := 1024) (m ((c : Thread nD τ).loc main_arg0)) i) ((m ((c : Thread nD τ).loc main_arg2)) i))
      ∧ r.2.mem ((c : Thread nD τ).loc main_v0_3) = (fun i : S2048x1024.Idx => adamV (total (R := 2048) (C := 1024) (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩)
    (Value.run_blocks m ρ)

end Cert.Kernel23Ideal.Adam

namespace Cert.Reference23Ideal.Adam

open Cert.Reference23Ideal Cert.Reference23Ideal.Gen Cert.Reference23Ideal.Read Cert.Proof
open Idealize.ShloMosaic Idealize.ShloMosaic.TcCoe Idealize.ShloMosaic.Tactic

variable (x0 : S8x2048x1024.Idx → EReal) (x1 x2 x3 : S2048x1024.Idx → EReal) (i : S2048x1024.Idx)

theorem grad : val_main_v1 (F := Ideal) x0 i = total (R := 2048) (C := 1024) x0 i := by
  obtain ⟨r, s, rfl⟩ : ∃ (r : Fin 2048) (s : Fin 1024), i = ix2 r s := ⟨i 0, i 1, eq_ix2 i⟩
  pointwise [val_main_v1, val_main_v0, val_main_cst]
  rfl

theorem moment : val_main_v6 (F := Ideal) x0 x2 i = adamM (total (R := 2048) (C := 1024) x0 i) (x2 i) :=
  congrArg (fun g => adamM g (x2 i)) (grad x0 i)

theorem square : val_main_v12 (F := Ideal) x0 x3 i = adamV (total (R := 2048) (C := 1024) x0 i) (x3 i) :=
  congrArg (fun g => adamV g (x3 i)) (grad x0 i)

theorem change : val_main_v25 (F := Ideal) x0 x1 x2 x3 i = adamW (total (R := 2048) (C := 1024) x0 i) (x1 i) (x2 i) (x3 i) :=
  congrArg (fun g => adamW g (x1 i) (x2 i) (x3 i)) (grad x0 i)

/-- The reference's results from arguments `p`, `w`, `a` and `b`: the same. -/
theorem values (m : (ℓ : Loc nD τ sig) → Buf (Elt Ideal) ℓ) (ρ : Dev nD → PrngReg) (p : Dev nD → S8x2048x1024.Idx → EReal) (w a b : Dev nD → S2048x1024.Idx → EReal)
    (E : ∀ c : Dev nD, m ((c.tc : Thread nD τ).loc main_arg0) = p c ∧ m ((c.tc : Thread nD τ).loc main_arg1) = w c
      ∧ m ((c.tc : Thread nD τ).loc main_arg2) = a c ∧ m ((c.tc : Thread nD τ).loc main_arg3) = b c) :
    θ_run defs (onTc (τ := τ) (main (F := Ideal))) ⟨m, fun _ => 0, ρ⟩ fun r => ∀ c : Dev nD,
      r.2.mem ((c.tc : Thread nD τ).loc main_v1) = (fun i : S2048x1024.Idx => total (R := 2048) (C := 1024) (p c) i)
      ∧ r.2.mem ((c.tc : Thread nD τ).loc main_v25) = (fun i : S2048x1024.Idx => adamW (total (R := 2048) (C := 1024) (p c) i) (w c i) (a c i) (b c i))
      ∧ r.2.mem ((c.tc : Thread nD τ).loc main_v6) = (fun i : S2048x1024.Idx => adamM (total (R := 2048) (C := 1024) (p c) i) (a c i))
      ∧ r.2.mem ((c.tc : Thread nD τ).loc main_v12) = (fun i : S2048x1024.Idx => adamV (total (R := 2048) (C := 1024) (p c) i) (b c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3⟩ := E c
  have h := h c
  rw [h0, h1, h2, h3] at h ⊢
  exact ⟨h.1.trans (funext (grad _)), h.2.1.trans (funext (change _ _ _ _)), h.2.2.1.trans (funext (moment _ _)),
    h.2.2.2.1.trans (funext (square _ _)), h.2.2.2.2⟩

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Value.run m ρ)

end Cert.Reference23Ideal.Adam

end
-- ==== Proof.AdamAttn.lean ====
/- AdamW of a device's shard of the attention's input weight. -/
module

public import proofs.«01_k».proof.Proof.Gen.Kernel24Ideal.Value
public import proofs.«01_k».proof.Proof.Gen.Reference24Ideal.Read
public import proofs.«01_k».proof.Proof.Adam

@[expose] public section

set_option maxRecDepth 16384

noncomputable section

namespace Cert.Kernel24Ideal.Adam

open Cert.Kernel24Ideal Cert.Kernel24Ideal.Gen Cert.Proof
open Idealize.ShloMosaic Idealize.ShloMosaic.TcCoe Idealize.ShloMosaic.Tactic

/-- A block's gradient. -/
theorem grad (x0 : Vec Ideal S8x1024x320 .bf16) (x1 x2 x3 : Vec Ideal S1024x320 .f32) (y : S1024x320.Idx) : k0_pay5 (F := Ideal) x0 x1 x2 x3 y = total x0 y := by
  obtain ⟨r, s, rfl⟩ : ∃ (r : Fin 1024) (s : Fin 320), y = ix2 r s := ⟨y 0, y 1, eq_ix2 y⟩
  unfold k0_pay5
  pointwise [k0_pay4]
  refine Eq.trans ?_ (Fin.sum_univ_eight _).symm
  rfl

theorem moment (g m : Vec Ideal S1024x320 .f32) (y : S1024x320.Idx) : k0_pay1 (F := Ideal) g m y = adamM (g y) (m y) := rfl

theorem square (g v : Vec Ideal S1024x320 .f32) (y : S1024x320.Idx) : k0_pay2 (F := Ideal) g v y = adamV (g y) (v y) := rfl

theorem change (g w m v : Vec Ideal S1024x320 .f32) (y : S1024x320.Idx) : k0_pay3 (F := Ideal) g w m v y = adamW (g y) (w y) (m y) (v y) := rfl

theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ)

/-- An entry's index in the array. -/
def at_ (t : Fin cfg0.N) (y : S1024x320.Idx) : S2048x320.Idx := ix2 ⟨t.val * 1024 + (y 0).val, by have h : (y 0).val < 1024 := (y 0).isLt; have := t.isLt; have : cfg0.N = 2 := N_0; omega⟩ (y 1)

theorem blk0 (c : Dev nD) (t : Fin cfg0.N) (y : S1024x320.Idx) : total (R := 1024) (C := 320) (iblk m c 0 t) y = total (R := 2048) (C := 320) (m ((c : Thread nD τ).loc main_arg0)) (at_ t y) := by
  unfold total
  refine Finset.sum_congr rfl fun d _ => ?_
  unfold at_
  blk_ext! [iblk, V, idx t]

theorem blk1 (c : Dev nD) (t : Fin cfg0.N) (y : S1024x320.Idx) : iblk m c 1 t y = m ((c : Thread nD τ).loc main_arg1) (at_ t y) := by
  unfold at_
  blk_ext! [iblk, V, idx t]

theorem blk2 (c : Dev nD) (t : Fin cfg0.N) (y : S1024x320.Idx) : iblk m c 2 t y = m ((c : Thread nD τ).loc main_arg2) (at_ t y) := by
  unfold at_
  blk_ext! [iblk, V, idx t]

theorem blk3 (c : Dev nD) (t : Fin cfg0.N) (y : S1024x320.Idx) : iblk m c 3 t y = m ((c : Thread nD τ).loc main_arg3) (at_ t y) := by
  unfold at_
  blk_ext! [iblk, V, idx t]

theorem arr4 (c : Dev nD) : (dats m 0 c).arrAt 4 cfg0.N = fun i : S2048x320.Idx => total (R := 2048) (C := 320) (m ((c : Thread nD τ).loc main_arg0)) i := by
  refine (dats m 0 c).arrAt_eq_of_covers 4 _ (by decide +kernel) fun t hf y => ?_
  have e : (win0_4.blk t).view.emb y = at_ t y := by
    unfold at_
    blk_ext! [idx t]
  rw [e]
  blk_simp
  rw [after0_4]
  frame_out
  rw [grad, blk0]

theorem arr5 (c : Dev nD) : (dats m 0 c).arrAt 5 cfg0.N = fun i : S2048x320.Idx => adamW (total (R := 2048) (C := 320) (m ((c : Thread nD τ).loc main_arg0)) i) ((m ((c : Thread nD τ).loc main_arg1)) i) ((m ((c : Thread nD τ).loc main_arg2)) i) ((m ((c : Thread nD τ).loc main_arg3)) i) := by
  refine (dats m 0 c).arrAt_eq_of_covers 5 _ (by decide +kernel) fun t hf y => ?_
  have e : (win0_5.blk t).view.emb y = at_ t y := by
    unfold at_
    blk_ext! [idx t]
  rw [e]
  blk_simp
  rw [after0_5]
  frame_out
  rw [change, grad, blk0, blk1, blk2, blk3]

theorem arr6 (c : Dev nD) : (dats m 0 c).arrAt 6 cfg0.N = fun i : S2048x320.Idx => adamM (total (R := 2048) (C := 320) (m ((c : Thread nD τ).loc main_arg0)) i) ((m ((c : Thread nD τ).loc main_arg2)) i) := by
  refine (dats m 0 c).arrAt_eq_of_covers 6 _ (by decide +kernel) fun t hf y => ?_
  have e : (win0_6.blk t).view.emb y = at_ t y := by
    unfold at_
    blk_ext! [idx t]
  rw [e]
  blk_simp
  rw [after0_6]
  frame_out
  rw [moment, grad, blk0, blk2]

theorem arr7 (c : Dev nD) : (dats m 0 c).arrAt 7 cfg0.N = fun i : S2048x320.Idx => adamV (total (R := 2048) (C := 320) (m ((c : Thread nD τ).loc main_arg0)) i) ((m ((c : Thread nD τ).loc main_arg3)) i) := by
  refine (dats m 0 c).arrAt_eq_of_covers 7 _ (by decide +kernel) fun t hf y => ?_
  have e : (win0_7.blk t).view.emb y = at_ t y := by
    unfold at_
    blk_ext! [idx t]
  rw [e]
  blk_simp
  rw [after0_7]
  frame_out
  rw [square, grad, blk0, blk3]

/-- The call's results. -/
theorem values (ρ : Dev nD → PrngReg) : θ_run defs (onTc (τ := τ) (main (F := Ideal))) ⟨m, fun _ => 0, ρ⟩ fun r => ∀ c : Dev nD,
      r.2.mem ((c : Thread nD τ).loc main_v0_0) = (fun i : S2048x320.Idx => total (R := 2048) (C := 320) (m ((c : Thread nD τ).loc main_arg0)) i)
      ∧ r.2.mem ((c : Thread nD τ).loc main_v0_1) = (fun i : S2048x320.Idx => adamW (total (R := 2048) (C := 320) (m ((c : Thread nD τ).loc main_arg0)) i) ((m ((c : Thread nD τ).loc main_arg1)) i) ((m ((c : Thread nD τ).loc main_arg2)) i) ((m ((c : Thread nD τ).loc main_arg3)) i))
      ∧ r.2.mem ((c : Thread nD τ).loc main_v0_2) = (fun i : S2048x320.Idx => adamM (total (R := 2048) (C := 320) (m ((c : Thread nD τ).loc main_arg0)) i) ((m ((c : Thread nD τ).loc main_arg2)) i))
      ∧ r.2.mem ((c : Thread nD τ).loc main_v0_3) = (fun i : S2048x320.Idx => adamV (total (R := 2048) (C := 320) (m ((c : Thread nD τ).loc main_arg0)) i) ((m ((c : Thread nD τ).loc main_arg3)) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2.1.trans (arr6 m c), (h c).2.2.2.1.trans (arr7 m c), (h c).2.2.2.2⟩)
    (Value.run_blocks m ρ)

end Cert.Kernel24Ideal.Adam

namespace Cert.Reference24Ideal.Adam

open Cert.Reference24Ideal Cert.Reference24Ideal.Gen Cert.Reference24Ideal.Read Cert.Proof
open Idealize.ShloMosaic Idealize.ShloMosaic.TcCoe Idealize.ShloMosaic.Tactic

variable (x0 : S8x2048x320.Idx → EReal) (x1 x2 x3 : S2048x320.Idx → EReal) (i : S2048x320.Idx)

theorem grad : val_main_v1 (F := Ideal) x0 i = total (R := 2048) (C := 320) x0 i := by
  obtain ⟨r, s, rfl⟩ : ∃ (r : Fin 2048) (s : Fin 320), i = ix2 r s := ⟨i 0, i 1, eq_ix2 i⟩
  pointwise [val_main_v1, val_main_v0, val_main_cst]
  rfl

theorem moment : val_main_v6 (F := Ideal) x0 x2 i = adamM (total (R := 2048) (C := 320) x0 i) (x2 i) :=
  congrArg (fun g => adamM g (x2 i)) (grad x0 i)

theorem square : val_main_v12 (F := Ideal) x0 x3 i = adamV (total (R := 2048) (C := 320) x0 i) (x3 i) :=
  congrArg (fun g => adamV g (x3 i)) (grad x0 i)

theorem change : val_main_v25 (F := Ideal) x0 x1 x2 x3 i = adamW (total (R := 2048) (C := 320) x0 i) (x1 i) (x2 i) (x3 i) :=
  congrArg (fun g => adamW g (x1 i) (x2 i) (x3 i)) (grad x0 i)

/-- The reference's results from arguments `p`, `w`, `a` and `b`: the same. -/
theorem values (m : (ℓ : Loc nD τ sig) → Buf (Elt Ideal) ℓ) (ρ : Dev nD → PrngReg) (p : Dev nD → S8x2048x320.Idx → EReal) (w a b : Dev nD → S2048x320.Idx → EReal)
    (E : ∀ c : Dev nD, m ((c.tc : Thread nD τ).loc main_arg0) = p c ∧ m ((c.tc : Thread nD τ).loc main_arg1) = w c
      ∧ m ((c.tc : Thread nD τ).loc main_arg2) = a c ∧ m ((c.tc : Thread nD τ).loc main_arg3) = b c) :
    θ_run defs (onTc (τ := τ) (main (F := Ideal))) ⟨m, fun _ => 0, ρ⟩ fun r => ∀ c : Dev nD,
      r.2.mem ((c.tc : Thread nD τ).loc main_v1) = (fun i : S2048x320.Idx => total (R := 2048) (C := 320) (p c) i)
      ∧ r.2.mem ((c.tc : Thread nD τ).loc main_v25) = (fun i : S2048x320.Idx => adamW (total (R := 2048) (C := 320) (p c) i) (w c i) (a c i) (b c i))
      ∧ r.2.mem ((c.tc : Thread nD τ).loc main_v6) = (fun i : S2048x320.Idx => adamM (total (R := 2048) (C := 320) (p c) i) (a c i))
      ∧ r.2.mem ((c.tc : Thread nD τ).loc main_v12) = (fun i : S2048x320.Idx => adamV (total (R := 2048) (C := 320) (p c) i) (b c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3⟩ := E c
  have h := h c
  rw [h0, h1, h2, h3] at h ⊢
  exact ⟨h.1.trans (funext (grad _)), h.2.1.trans (funext (change _ _ _ _)), h.2.2.1.trans (funext (moment _ _)),
    h.2.2.2.1.trans (funext (square _ _)), h.2.2.2.2⟩

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2.2.2, sem_eq_zero_of_no_sems (by decide) r.2⟩) (Value.run m ρ)

end Cert.Reference24Ideal.Adam

end
-- ==== Proof.Modulation.lean ====
/- The conditioning vector's modulation of the layers. -/
module

public import proofs.«01_k».proof.Proof.Gen.Kernel25Ideal.Value
public import proofs.«01_k».proof.Proof.Gen.Reference25Ideal.Read
public import proofs.«01_k».proof.Proof.Heads
public import Idealize.ShloMosaic.Lib.Pipeline.ValueKit

@[expose] public section

set_option maxRecDepth 16384

noncomputable section

namespace Cert.Proof

open Idealize.ShloMosaic

/-- An entry of a layer's modulation: the conditioning's silu times a column of the layer's weight, and the bias. -/
def modulation (c : (⟨2, ![8, 2048]⟩ : Shape).Idx → EReal) (w : (⟨3, ![2, 2048, 1536]⟩ : Shape).Idx → EReal) (b : (⟨3, ![2, 1, 1536]⟩ : Shape).Idx → EReal)
    (l : Fin 2) (r : Fin 8) (s : Fin 1536) : EReal :=
  (∑ k : Fin 2048, c (ix2 r k) * Ideal.logistic (c (ix2 r k)) * w (ix3 l k s)) + b (ix3 l 0 s)

end Cert.Proof

namespace Cert.Kernel25Ideal.Modulation

open Cert.Kernel25Ideal Cert.Kernel25Ideal.Gen Cert.Proof
open Idealize.ShloMosaic Idealize.ShloMosaic.TcCoe Idealize.ShloMosaic.Tactic

/-- A point's entry. -/
theorem entry (x0 : Vec Ideal S8x2048 .f32) (x1 : Vec Ideal S1x2048x512 .f32) (x2 : Vec Ideal S1x1x512 .f32) (r : Fin 8) (s : Fin 512) :
    k0_pay1 (F := Ideal) x0 x1 x2 (ix3 0 r s)
      = (∑ k : Fin 2048, x0 (ix2 r k) * Ideal.logistic (x0 (ix2 r k)) * x1 (ix3 0 k s)) + x2 (ix3 0 0 s) := by
  pointwise [k0_pay1]

theorem idx : ∀ t : Fin cfg0.N, win0_0.index t = ![0, 0] ∧ win0_1.index t = ![t.val / 3, 0, t.val % 3] ∧ win0_2.index t = ![t.val / 3, 0, t.val % 3]
    ∧ win0_3.index t = ![t.val / 3, 0, t.val % 3] :=
  (by decide +kernel : ∀ t : Fin grid0.N, _)

variable (m : (ℓ : Loc nD τ sig) → Buf (Elt Ideal) ℓ)

/-- A point's layer. -/
def layer (t : Fin cfg0.N) : Fin 2 := ⟨t.val / 3, by have := t.isLt; have : cfg0.N = 6 := N_0; omega⟩

/-- A point's column. -/
def col (t : Fin cfg0.N) (s : Fin 512) : Fin 1536 := ⟨t.val % 3 * 512 + s.val, by omega⟩

theorem blk0 (c : Dev nD) (t : Fin cfg0.N) (r : Fin 8) (k : Fin 2048) : iblk m c 0 t (ix2 r k) = m ((c : Thread nD τ).loc main_arg0) (ix2 r k) := by
  blk_ext! [iblk, V, idx t]

theorem blk1 (c : Dev nD) (t : Fin cfg0.N) (k : Fin 2048) (s : Fin 512) :
    iblk m c 1 t (ix3 0 k s) = m ((c : Thread nD τ).loc main_arg1) (ix3 (layer t) k (col t s)) := by
  unfold layer col
  blk_ext! [iblk, V, idx t]

theorem blk2 (c : Dev nD) (t : Fin cfg0.N) (s : Fin 512) : iblk m c 2 t (ix3 0 0 s) = m ((c : Thread nD τ).loc main_arg2) (ix3 (layer t) 0 (col t s)) := by
  unfold layer col
  blk_ext! [iblk, V, idx t]

/-- The result. -/
def out (c : Dev nD) (i : S2x8x1536.Idx) : EReal :=
  modulation (m ((c : Thread nD τ).loc main_arg0)) (m ((c : Thread nD τ).loc main_arg1)) (m ((c : Thread nD τ).loc main_arg2)) (i 0) (i 1) (i 2)

theorem arr3 (c : Dev nD) : (dats m 0 c).arrAt 3 cfg0.N = fun i : S2x8x1536.Idx => out m c i := by
  refine (dats m 0 c).arrAt_eq_of_covers 3 _ (by decide +kernel) fun t hf y => ?_
  obtain ⟨r, s, rfl⟩ : ∃ (r : Fin 8) (s : Fin 512), y = ix3 0 r s :=
    ⟨y 1, y 2, (eq_ix3 y).trans (congrArg (fun a => ix3 a (y 1) (y 2)) (Subsingleton.elim (α := Fin 1) (y 0) 0))⟩
  have e : (win0_3.blk t).view.emb (ix3 0 r s) = ix3 (layer t) r (col t s) := by
    unfold layer col
    blk_ext! [idx t]
  rw [e]
  blk_simp
  rw [after0_3]
  frame_out
  rw [entry]
  simp only [blk0, blk1, blk2]
  rfl

/-- The call's result. -/
theorem values (ρ : Dev nD → PrngReg) : θ_run defs (onTc (τ := τ) (main (F := Ideal))) ⟨m, fun _ => 0, ρ⟩ fun r => ∀ c : Dev nD,
      r.2.mem ((c : Thread nD τ).loc main_v0) = (fun i : S2x8x1536.Idx => out m c i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

end Cert.Kernel25Ideal.Modulation

namespace Cert.Reference25Ideal.Modulation

open Cert.Reference25Ideal Cert.Reference25Ideal.Gen Cert.Reference25Ideal.Read Cert.Proof
open Idealize.ShloMosaic Idealize.ShloMosaic.TcCoe Idealize.ShloMosaic.Tactic

variable (x0 : S8x2048.Idx → EReal) (x1 : S2x2048x1536.Idx → EReal) (x2 : S2x1x1536.Idx → EReal)

theorem v0 (r : Fin 8) (k : Fin 2048) : val_main_v0 (F := Ideal) x0 (ix2 r k) = x0 (ix2 r k) * Ideal.logistic (x0 (ix2 r k)) := by
  pointwise [val_main_v0, val_main_call0_v5, val_main_call0_v4, val_main_call0_v3, val_main_call0_v2, val_main_call0_v1, val_main_call0_v0, val_main_call0_cst,
    val_main_call0_cst_0]
  rfl

theorem v7 (r : Fin 8) (s : Fin 1536) : val_main_v7 (F := Ideal) x0 x1 x2 (ix2 r s) = modulation x0 x1 x2 0 r s := by
  pointwise [val_main_v7, val_main_v6, val_main_v5, val_main_v4, val_main_v3, val_main_v2, val_main_v1]
  simp only [v0]
  rfl

theorem v14 (r : Fin 8) (s : Fin 1536) : val_main_v14 (F := Ideal) x0 x1 x2 (ix2 r s) = modulation x0 x1 x2 1 r s := by
  pointwise [val_main_v14, val_main_v13, val_main_v12, val_main_v11, val_main_v10, val_main_v9, val_main_v8]
  simp only [v0]
  rfl

theorem v17 (l : Fin 2) (r : Fin 8) (s : Fin 1536) : val_main_v17 (F := Ideal) x0 x1 x2 (ix3 l r s) = modulation x0 x1 x2 l r s := by
  pointwise [val_main_v17, val_main_v16, val_main_v15]
  split_ifs with h
  · rw [v7, show l = 0 from Fin.ext (by show l.val = 0; omega)]
  · rw [v14, show l = 1 from Fin.ext (by show l.val = 1; omega)]

/-- The reference's result from arguments `u`, `w` and `b`: the same. -/
theorem values (m : (ℓ : Loc nD τ sig) → Buf (Elt Ideal) ℓ) (ρ : Dev nD → PrngReg) (u : Dev nD → S8x2048.Idx → EReal) (w : Dev nD → S2x2048x1536.Idx → EReal)
    (b : Dev nD → S2x1x1536.Idx → EReal)
    (E : ∀ c : Dev nD, m ((c.tc : Thread nD τ).loc main_arg0) = u c ∧ m ((c.tc : Thread nD τ).loc main_arg1) = w c
      ∧ m ((c.tc : Thread nD τ).loc main_arg2) = b c) :
    θ_run defs (onTc (τ := τ) (main (F := Ideal))) ⟨m, fun _ => 0, ρ⟩ fun r => ∀ c : Dev nD,
      r.2.mem ((c.tc : Thread nD τ).loc main_v17) = (fun i : S2x8x1536.Idx => modulation (u c) (w c) (b c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run m ρ)
  rw [(E c).1, (E c).2.1, (E c).2.2]
  show val_main_v17 (F := Ideal) (u c) (w c) (b c) = _
  funext i
  obtain ⟨l, r, s, rfl⟩ : ∃ (l : Fin 2) (r : Fin 8) (s : Fin 1536), i = ix3 l r s := ⟨i 0, i 1, i 2, eq_ix3 i⟩
  exact v17 _ _ _ l r s

/-- The reference ends, with its arguments as they were. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => (h c).2, sem_eq_zero_of_no_sems (by decide) r.2⟩) (Value.run m ρ)

end Cert.Reference25Ideal.Modulation

end
-- ==== Proof.lean ====
module

public import proofs.«01_k».proof.Defs
public import proofs.«01_k».proof.Proof.KernelFrame
public import proofs.«01_k».proof.Proof.KernelValue
public import proofs.«01_k».proof.Proof.Finite
public import proofs.«01_k».proof.Proof.RefRun
public import proofs.«01_k».proof.Proof.Mlp1Fwd
public import proofs.«01_k».proof.Proof.Gen.Kernel2.Frame
public import proofs.«01_k».proof.Proof.Mlp2Fwd
public import proofs.«01_k».proof.Proof.Gen.Kernel3.Frame
public import proofs.«01_k».proof.Proof.Mlp2Bwd
public import proofs.«01_k».proof.Proof.Gen.Kernel4.Frame
public import proofs.«01_k».proof.Proof.Mlp2Wgrad
public import proofs.«01_k».proof.Proof.Gen.Kernel5.Frame
public import proofs.«01_k».proof.Proof.Mlp1Bwd
public import proofs.«01_k».proof.Proof.Gen.Kernel6.Frame
public import proofs.«01_k».proof.Proof.Mlp1Wgrad
public import proofs.«01_k».proof.Proof.Gen.Kernel7.Frame
public import proofs.«01_k».proof.Proof.HgrnInFwd
public import proofs.«01_k».proof.Proof.Gen.Kernel8.Frame
public import proofs.«01_k».proof.Proof.MixOutFwd
public import proofs.«01_k».proof.Proof.Gen.Kernel9.Frame
public import proofs.«01_k».proof.Proof.MixOutBwd
public import proofs.«01_k».proof.Proof.Gen.Kernel10.Frame
public import proofs.«01_k».proof.Proof.MixOutWgrad
public import proofs.«01_k».proof.Proof.Gen.Kernel11.Frame
public import proofs.«01_k».proof.Proof.MixInBwd
public import proofs.«01_k».proof.Proof.Gen.Kernel12.Frame
public import proofs.«01_k».proof.Proof.MixInWgrad
public import proofs.«01_k».proof.Proof.Gen.Kernel13.Frame
public import proofs.«01_k».proof.Proof.NormFwd
public import proofs.«01_k».proof.Proof.Gen.Kernel14.Frame
public import proofs.«01_k».proof.Proof.NormBwd
public import proofs.«01_k».proof.Proof.NormBwdRef
public import proofs.«01_k».proof.Proof.Gen.Kernel15.Frame
public import proofs.«01_k».proof.Proof.AttnOutWgrad
public import proofs.«01_k».proof.Proof.Gen.Kernel16.Frame
public import proofs.«01_k».proof.Proof.AttnInBwd
public import proofs.«01_k».proof.Proof.Gen.Kernel17.Frame
public import proofs.«01_k».proof.Proof.AttnInWgrad
public import proofs.«01_k».proof.Proof.Gen.Kernel18.Frame
public import proofs.«01_k».proof.Proof.AttnOutFwd
public import proofs.«01_k».proof.Proof.Gen.Kernel19.Frame
public import proofs.«01_k».proof.Proof.AttnOutBwd
public import proofs.«01_k».proof.Proof.Gen.Kernel20.Frame
public import proofs.«01_k».proof.Proof.NormBottom
public import proofs.«01_k».proof.Proof.Gen.Kernel21.Frame
public import proofs.«01_k».proof.Proof.AdamOut
public import proofs.«01_k».proof.Proof.Gen.Kernel22.Frame
public import proofs.«01_k».proof.Proof.AdamHgrn
public import proofs.«01_k».proof.Proof.Gen.Kernel23.Frame
public import proofs.«01_k».proof.Proof.AdamAttn
public import proofs.«01_k».proof.Proof.Gen.Kernel24.Frame
public import proofs.«01_k».proof.Proof.Modulation
public import proofs.«01_k».proof.Proof.Gen.Kernel25.Frame
public import Idealize.ShloMosaic.Adequacy
public import Idealize.ShloMosaic.Init

@[expose] public section

noncomputable section

namespace Cert.Proof

open Idealize.ShloMosaic Idealize.SL.Sem

/-- The named constant of the kernel's mask is a word of the programs', and minus infinity over the extended reals. -/
theorem preserves : Cert.preserves_Kernel_KernelIdeal :=
  IdealRules.named_const.statement Cert.KernelIdeal.κ "mask" .f32 0xF149F2CA#32 ⊥ rfl

/-- From finite arguments the kernel and the reference end with the same six gradients. -/
theorem algebraic : Cert.algebraic_KernelIdeal_ReferenceIdeal_pre_finite (hPre_finite := finite_facts) := by
  intro m ρ m' ρ' P E
  have H := holds_of_finite m P
  have H' : ∀ c, Cert.ReferenceIdeal.Stage.Holds (Cert.ReferenceIdeal.Stage.memOf m' c) (args m c) := fun c =>
    { q := fun h s d => (congrFun (E c).1 _).trans ((H c).q h s d)
      k := fun h s d => (congrFun (E c).2.1 _).trans ((H c).k h s d)
      v := fun h s d => (congrFun (E c).2.2.1 _).trans ((H c).v h s d)
      o := fun h s d => (congrFun (E c).2.2.2.1 _).trans ((H c).o h s d)
      gq := fun d => (congrFun (E c).2.2.2.2.1 _).trans ((H c).gq d)
      gk := fun d => (congrFun (E c).2.2.2.2.2.1 _).trans ((H c).gk d)
      sk := fun h => (congrFun (E c).2.2.2.2.2.2 _).trans ((H c).sk h) }
  exact ⟨_, _, _, _, _, _, Cert.KernelIdeal.Region.values ρ (args m) H, Cert.ReferenceIdeal.Stage.values m' ρ' (args m) H'⟩

/-- The first product. -/
theorem algebraic2 : Cert.algebraic_Kernel2Ideal_Reference2Ideal :=
  fun m ρ m' ρ' _ E => ⟨_, _, Cert.Kernel2Ideal.Mlp.values m ρ, Cert.Reference2Ideal.Mlp.values m' ρ' _ _ E⟩

/-- The second product. -/
theorem algebraic3 : Cert.algebraic_Kernel3Ideal_Reference3Ideal :=
  fun m ρ m' ρ' _ E => ⟨_, _, Cert.Kernel3Ideal.Mlp.values m ρ, Cert.Reference3Ideal.Mlp.values m' ρ' _ _ _ _ E⟩

/-- The second product's cotangent. -/
theorem algebraic4 : Cert.algebraic_Kernel4Ideal_Reference4Ideal :=
  fun m ρ m' ρ' _ E => ⟨_, Cert.Kernel4Ideal.Mlp.values m ρ, Cert.Reference4Ideal.Mlp.values m' ρ' _ _ _ E⟩

/-- The second weight's gradient. -/
theorem algebraic5 : Cert.algebraic_Kernel5Ideal_Reference5Ideal :=
  fun m ρ m' ρ' _ E => ⟨_, Cert.Kernel5Ideal.Mlp.values m ρ, Cert.Reference5Ideal.Mlp.values m' ρ' _ _ E⟩

/-- The input's cotangent. -/
theorem algebraic6 : Cert.algebraic_Kernel6Ideal_Reference6Ideal :=
  fun m ρ m' ρ' _ E => ⟨_, Cert.Kernel6Ideal.Mlp.values m ρ, Cert.Reference6Ideal.Mlp.values m' ρ' _ _ E⟩

/-- The first weight's gradient. -/
theorem algebraic7 : Cert.algebraic_Kernel7Ideal_Reference7Ideal :=
  fun m ρ m' ρ' _ E => ⟨_, Cert.Kernel7Ideal.Mlp.values m ρ, Cert.Reference7Ideal.Mlp.values m' ρ' _ _ E⟩

/-- The HGRN2 mixer's projection. -/
theorem algebraic8 : Cert.algebraic_Kernel8Ideal_Reference8Ideal :=
  fun m ρ m' ρ' _ E => ⟨_, Cert.Kernel8Ideal.Mix.values m ρ, Cert.Reference8Ideal.Mix.values m' ρ' _ _ E⟩

/-- The mixer's output product. -/
theorem algebraic9 : Cert.algebraic_Kernel9Ideal_Reference9Ideal :=
  fun m ρ m' ρ' _ E => ⟨_, _, Cert.Kernel9Ideal.Mix.values m ρ, Cert.Reference9Ideal.Mix.values m' ρ' _ _ _ _ E⟩

/-- Its cotangent. -/
theorem algebraic10 : Cert.algebraic_Kernel10Ideal_Reference10Ideal :=
  fun m ρ m' ρ' _ E => ⟨_, Cert.Kernel10Ideal.Mix.values m ρ, Cert.Reference10Ideal.Mix.values m' ρ' _ _ E⟩

/-- Its weight's gradient. -/
theorem algebraic11 : Cert.algebraic_Kernel11Ideal_Reference11Ideal :=
  fun m ρ m' ρ' _ E => ⟨_, Cert.Kernel11Ideal.Mix.values m ρ, Cert.Reference11Ideal.Mix.values m' ρ' _ _ E⟩

/-- The cotangent of the mixer's input. -/
theorem algebraic12 : Cert.algebraic_Kernel12Ideal_Reference12Ideal :=
  fun m ρ m' ρ' _ E => ⟨_, Cert.Kernel12Ideal.Mix.values m ρ, Cert.Reference12Ideal.Mix.values m' ρ' _ _ E⟩

/-- The gradient of the mixer's input weights. -/
theorem algebraic13 : Cert.algebraic_Kernel13Ideal_Reference13Ideal :=
  fun m ρ m' ρ' _ E => ⟨_, Cert.Kernel13Ideal.Mix.values m ρ, Cert.Reference13Ideal.Mix.values m' ρ' _ _ E⟩

/-- The norm with its scale and shift. -/
theorem algebraic14 : Cert.algebraic_Kernel14Ideal_Reference14Ideal :=
  fun m ρ m' ρ' _ E => ⟨_, Cert.Kernel14Ideal.Norm.values m ρ, Cert.Reference14Ideal.Norm.values m' ρ' _ _ _ _ E⟩

/-- The norm's gradient. -/
theorem algebraic15 : Cert.algebraic_Kernel15Ideal_Reference15Ideal :=
  fun m ρ m' ρ' _ E => ⟨_, _, _, Cert.Kernel15Ideal.Norm.values m ρ, Cert.Reference15Ideal.Norm.values m' ρ' _ _ _ _ _ _ _ E⟩

/-- The gradient of the attention's output weight. -/
theorem algebraic16 : Cert.algebraic_Kernel16Ideal_Reference16Ideal :=
  fun m ρ m' ρ' _ E => ⟨_, Cert.Kernel16Ideal.Mix.values m ρ, Cert.Reference16Ideal.Mix.values m' ρ' _ _ E⟩

/-- The cotangent of the attention's input. -/
theorem algebraic17 : Cert.algebraic_Kernel17Ideal_Reference17Ideal :=
  fun m ρ m' ρ' _ E => ⟨_, Cert.Kernel17Ideal.Mix.values m ρ, Cert.Reference17Ideal.Mix.values m' ρ' _ _ E⟩

/-- The gradient of the attention's input weights. -/
theorem algebraic18 : Cert.algebraic_Kernel18Ideal_Reference18Ideal :=
  fun m ρ m' ρ' _ E => ⟨_, Cert.Kernel18Ideal.Mix.values m ρ, Cert.Reference18Ideal.Mix.values m' ρ' _ _ E⟩

/-- The attention's output product. -/
theorem algebraic19 : Cert.algebraic_Kernel19Ideal_Reference19Ideal :=
  fun m ρ m' ρ' _ E => ⟨_, _, Cert.Kernel19Ideal.Mix.values m ρ, Cert.Reference19Ideal.Mix.values m' ρ' _ _ _ _ E⟩

/-- Its cotangent, head by head. -/
theorem algebraic20 : Cert.algebraic_Kernel20Ideal_Reference20Ideal :=
  fun m ρ m' ρ' _ E => ⟨_, Cert.Kernel20Ideal.Mix.values m ρ, Cert.Reference20Ideal.Mix.values m' ρ' _ _ E⟩

/-- The pre-norm at the bottom, backward. -/
theorem algebraic21 : Cert.algebraic_Kernel21Ideal_Reference21Ideal :=
  fun m ρ m' ρ' _ E => ⟨_, _, Cert.Kernel21Ideal.Norm.values m ρ, Cert.Reference21Ideal.Norm.values m' ρ' _ _ _ _ _ E⟩

/-- AdamW of a mixer's output weight. -/
theorem algebraic22 : Cert.algebraic_Kernel22Ideal_Reference22Ideal :=
  fun m ρ m' ρ' _ E => ⟨_, _, _, _, Cert.Kernel22Ideal.Adam.values m ρ, Cert.Reference22Ideal.Adam.values m' ρ' _ _ _ _ E⟩

/-- AdamW of the HGRN2 mixer's input weight. -/
theorem algebraic23 : Cert.algebraic_Kernel23Ideal_Reference23Ideal :=
  fun m ρ m' ρ' _ E => ⟨_, _, _, _, Cert.Kernel23Ideal.Adam.values m ρ, Cert.Reference23Ideal.Adam.values m' ρ' _ _ _ _ E⟩

/-- AdamW of the attention's input weight. -/
theorem algebraic24 : Cert.algebraic_Kernel24Ideal_Reference24Ideal :=
  fun m ρ m' ρ' _ E => ⟨_, _, _, _, Cert.Kernel24Ideal.Adam.values m ρ, Cert.Reference24Ideal.Adam.values m' ρ' _ _ _ _ E⟩

/-- The conditioning vector's modulation. -/
theorem algebraic25 : Cert.algebraic_Kernel25Ideal_Reference25Ideal :=
  fun m ρ m' ρ' _ E => ⟨_, Cert.Kernel25Ideal.Modulation.values m ρ, Cert.Reference25Ideal.Modulation.values m' ρ' _ _ _ E⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts, finite_facts,
    kernel_frame, fun m ρ _ => Cert.KernelIdeal.Region.frame m ρ, fun m ρ _ => Cert.KernelIdeal.Region.frame m ρ,
    fun m ρ _ => Cert.ReferenceIdeal.Stage.frame m ρ, fun m ρ _ => Cert.ReferenceIdeal.Stage.frame m ρ,
    fun m ρ _ => Cert.Kernel2.Gen.frame m ρ, fun m ρ _ => Cert.Kernel2Ideal.Gen.frame m ρ, fun m ρ _ => Cert.Reference2Ideal.Mlp.frame m ρ,
    fun m ρ _ => Cert.Kernel3.Gen.frame m ρ, fun m ρ _ => Cert.Kernel3Ideal.Gen.frame m ρ, fun m ρ _ => Cert.Reference3Ideal.Mlp.frame m ρ,
    fun m ρ _ => Cert.Kernel4.Gen.frame m ρ, fun m ρ _ => Cert.Kernel4Ideal.Gen.frame m ρ, fun m ρ _ => Cert.Reference4Ideal.Mlp.frame m ρ,
    fun m ρ _ => Cert.Kernel5.Gen.frame m ρ, fun m ρ _ => Cert.Kernel5Ideal.Gen.frame m ρ, fun m ρ _ => Cert.Reference5Ideal.Mlp.frame m ρ,
    fun m ρ _ => Cert.Kernel6.Gen.frame m ρ, fun m ρ _ => Cert.Kernel6Ideal.Gen.frame m ρ, fun m ρ _ => Cert.Reference6Ideal.Mlp.frame m ρ,
    fun m ρ _ => Cert.Kernel7.Gen.frame m ρ, fun m ρ _ => Cert.Kernel7Ideal.Gen.frame m ρ, fun m ρ _ => Cert.Reference7Ideal.Mlp.frame m ρ,
    fun m ρ _ => Cert.Kernel8.Gen.frame m ρ, fun m ρ _ => Cert.Kernel8Ideal.Gen.frame m ρ, fun m ρ _ => Cert.Reference8Ideal.Mix.frame m ρ,
    fun m ρ _ => Cert.Kernel9.Gen.frame m ρ, fun m ρ _ => Cert.Kernel9Ideal.Gen.frame m ρ, fun m ρ _ => Cert.Reference9Ideal.Mix.frame m ρ,
    fun m ρ _ => Cert.Kernel10.Gen.frame m ρ, fun m ρ _ => Cert.Kernel10Ideal.Gen.frame m ρ, fun m ρ _ => Cert.Reference10Ideal.Mix.frame m ρ,
    fun m ρ _ => Cert.Kernel11.Gen.frame m ρ, fun m ρ _ => Cert.Kernel11Ideal.Gen.frame m ρ, fun m ρ _ => Cert.Reference11Ideal.Mix.frame m ρ,
    fun m ρ _ => Cert.Kernel12.Gen.frame m ρ, fun m ρ _ => Cert.Kernel12Ideal.Gen.frame m ρ, fun m ρ _ => Cert.Reference12Ideal.Mix.frame m ρ,
    fun m ρ _ => Cert.Kernel13.Gen.frame m ρ, fun m ρ _ => Cert.Kernel13Ideal.Gen.frame m ρ, fun m ρ _ => Cert.Reference13Ideal.Mix.frame m ρ,
    fun m ρ _ => Cert.Kernel14.Gen.frame m ρ, fun m ρ _ => Cert.Kernel14Ideal.Gen.frame m ρ, fun m ρ _ => Cert.Reference14Ideal.Norm.frame m ρ,
    fun m ρ _ => Cert.Kernel15.Gen.frame m ρ, fun m ρ _ => Cert.Kernel15Ideal.Gen.frame m ρ, fun m ρ _ => Cert.Reference15Ideal.Norm.frame m ρ,
    fun m ρ _ => Cert.Kernel16.Gen.frame m ρ, fun m ρ _ => Cert.Kernel16Ideal.Gen.frame m ρ, fun m ρ _ => Cert.Reference16Ideal.Mix.frame m ρ,
    fun m ρ _ => Cert.Kernel17.Gen.frame m ρ, fun m ρ _ => Cert.Kernel17Ideal.Gen.frame m ρ, fun m ρ _ => Cert.Reference17Ideal.Mix.frame m ρ,
    fun m ρ _ => Cert.Kernel18.Gen.frame m ρ, fun m ρ _ => Cert.Kernel18Ideal.Gen.frame m ρ, fun m ρ _ => Cert.Reference18Ideal.Mix.frame m ρ,
    fun m ρ _ => Cert.Kernel19.Gen.frame m ρ, fun m ρ _ => Cert.Kernel19Ideal.Gen.frame m ρ, fun m ρ _ => Cert.Reference19Ideal.Mix.frame m ρ,
    fun m ρ _ => Cert.Kernel20.Gen.frame m ρ, fun m ρ _ => Cert.Kernel20Ideal.Gen.frame m ρ, fun m ρ _ => Cert.Reference20Ideal.Mix.frame m ρ,
    fun m ρ _ => Cert.Kernel21.Gen.frame m ρ, fun m ρ _ => Cert.Kernel21Ideal.Gen.frame m ρ, fun m ρ _ => Cert.Reference21Ideal.Norm.frame m ρ,
    fun m ρ _ => Cert.Kernel22.Gen.frame m ρ, fun m ρ _ => Cert.Kernel22Ideal.Gen.frame m ρ, fun m ρ _ => Cert.Reference22Ideal.Adam.frame m ρ,
    fun m ρ _ => Cert.Kernel23.Gen.frame m ρ, fun m ρ _ => Cert.Kernel23Ideal.Gen.frame m ρ, fun m ρ _ => Cert.Reference23Ideal.Adam.frame m ρ,
    fun m ρ _ => Cert.Kernel24.Gen.frame m ρ, fun m ρ _ => Cert.Kernel24Ideal.Gen.frame m ρ, fun m ρ _ => Cert.Reference24Ideal.Adam.frame m ρ,
    fun m ρ _ => Cert.Kernel25.Gen.frame m ρ, fun m ρ _ => Cert.Kernel25Ideal.Gen.frame m ρ, fun m ρ _ => Cert.Reference25Ideal.Modulation.frame m ρ,
    preserves, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25⟩

end Cert.Proof

end
